-- ==== Defs.lean ====
def Pre_KernelMlp (m : (ℓ : Loc Cert.KernelMlp.nD Cert.KernelMlp.τ Cert.KernelMlp.sig) → Buf (Elt Bits) ℓ) : Prop :=
  True

def Pre_KernelMlpIdeal (m : (ℓ : Loc Cert.KernelMlpIdeal.nD Cert.KernelMlpIdeal.τ Cert.KernelMlpIdeal.sig) → Buf (Elt Ideal) ℓ) : Prop :=
  True

def Pre_ReferenceMlpIdeal (m : (ℓ : Loc Cert.ReferenceMlpIdeal.nD Cert.ReferenceMlpIdeal.τ Cert.ReferenceMlpIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelPle (m : (ℓ : Loc Cert.KernelPle.nD Cert.KernelPle.τ Cert.KernelPle.sig) → Buf (Elt Bits) ℓ) : Prop :=
  True

def Pre_KernelPleIdeal (m : (ℓ : Loc Cert.KernelPleIdeal.nD Cert.KernelPleIdeal.τ Cert.KernelPleIdeal.sig) → Buf (Elt Ideal) ℓ) : Prop :=
  True

def Pre_ReferencePleIdeal (m : (ℓ : Loc Cert.ReferencePleIdeal.nD Cert.ReferencePleIdeal.τ Cert.ReferencePleIdeal.sig) → Buf (Elt Ideal) ℓ) : Prop :=
  True

def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_KernelAttnIdeal_finite_qk [hPre_finite_qk : Cert.Pre_finite_qk.Facts] (m : (ℓ : Loc Cert.KernelAttnIdeal.nD Cert.KernelAttnIdeal.τ Cert.KernelAttnIdeal.sig) → Buf (Elt Ideal) ℓ) : Prop :=
  ∀ c : Dev Cert.KernelAttnIdeal.nD,
    (Cert.Pre_finite_qk.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2))) = (fun _ => 1#1)

def Pre_ReferenceAttnIdeal (m : (ℓ : Loc Cert.ReferenceAttnIdeal.nD Cert.ReferenceAttnIdeal.τ Cert.ReferenceAttnIdeal.sig) → Buf (Elt Ideal) ℓ) : Prop :=
  True

def Pre_ReferenceAttnIdeal_finite_qk [hPre_finite_qk : Cert.Pre_finite_qk.Facts] (m : (ℓ : Loc Cert.ReferenceAttnIdeal.nD Cert.ReferenceAttnIdeal.τ Cert.ReferenceAttnIdeal.sig) → Buf (Elt Ideal) ℓ) : Prop :=
  ∀ c : Dev Cert.ReferenceAttnIdeal.nD,
    (Cert.Pre_finite_qk.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2))) = (fun _ => 1#1)

def Pre_KernelPool (m : (ℓ : Loc Cert.KernelPool.nD Cert.KernelPool.τ Cert.KernelPool.sig) → Buf (Elt Bits) ℓ) : Prop :=
  True

def Pre_KernelPoolIdeal (m : (ℓ : Loc Cert.KernelPoolIdeal.nD Cert.KernelPoolIdeal.τ Cert.KernelPoolIdeal.sig) → Buf (Elt Ideal) ℓ) : Prop :=
  True

def Pre_KernelPoolIdeal_finite_u [hPre_finite_u : Cert.Pre_finite_u.Facts] (m : (ℓ : Loc Cert.KernelPoolIdeal.nD Cert.KernelPoolIdeal.τ Cert.KernelPoolIdeal.sig) → Buf (Elt Ideal) ℓ) : Prop :=
  ∀ c : Dev Cert.KernelPoolIdeal.nD,
    (Cert.Pre_finite_u.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2))) = (fun _ => 1#1)

def Pre_ReferencePoolIdeal (m : (ℓ : Loc Cert.ReferencePoolIdeal.nD Cert.ReferencePoolIdeal.τ Cert.ReferencePoolIdeal.sig) → Buf (Elt Ideal) ℓ) : Prop :=
  True

def Pre_ReferencePoolIdeal_finite_u [hPre_finite_u : Cert.Pre_finite_u.Facts] (m : (ℓ : Loc Cert.ReferencePoolIdeal.nD Cert.ReferencePoolIdeal.τ Cert.ReferencePoolIdeal.sig) → Buf (Elt Ideal) ℓ) : Prop :=
  ∀ c : Dev Cert.ReferencePoolIdeal.nD,
    (Cert.Pre_finite_u.fn (F := Ideal) (m ((c.tc : Thread Cert.ReferencePoolIdeal.nD Cert.ReferencePoolIdeal.τ).loc Cert.ReferencePoolIdeal.main_arg0)) (m ((c.tc : Thread Cert.ReferencePoolIdeal.nD Cert.ReferencePoolIdeal.τ).loc Cert.ReferencePoolIdeal.main_arg1)) (m ((c.tc : Thread Cert.ReferencePoolIdeal.nD Cert.ReferencePoolIdeal.τ).loc Cert.ReferencePoolIdeal.main_arg2))) = (fun _ => 1#1)

def Pre_KernelPoolS (m : (ℓ : Loc Cert.KernelPoolS.nD Cert.KernelPoolS.τ Cert.KernelPoolS.sig) → Buf (Elt Bits) ℓ) : Prop :=
  True

def Pre_KernelPoolSIdeal (m : (ℓ : Loc Cert.KernelPoolSIdeal.nD Cert.KernelPoolSIdeal.τ Cert.KernelPoolSIdeal.sig) → Buf (Elt Ideal) ℓ) : Prop :=
  True

def Pre_KernelPoolSIdeal_finite_u_prev [hPre_finite_u_prev : Cert.Pre_finite_u_prev.Facts] (m : (ℓ : Loc Cert.KernelPoolSIdeal.nD Cert.KernelPoolSIdeal.τ Cert.KernelPoolSIdeal.sig) → Buf (Elt Ideal) ℓ) : Prop :=
  ∀ c : Dev Cert.KernelPoolSIdeal.nD,
    (Cert.Pre_finite_u_prev.fn (F := Ideal) (m ((c.tc : Thread Cert.KernelPoolSIdeal.nD Cert.KernelPoolSIdeal.τ).loc Cert.KernelPoolSIdeal.main_arg0)) (m ((c.tc : Thread Cert.KernelPoolSIdeal.nD Cert.KernelPoolSIdeal.τ).loc Cert.KernelPoolSIdeal.main_arg1)) (m ((c.tc : Thread Cert.KernelPoolSIdeal.nD Cert.KernelPoolSIdeal.τ).loc Cert.KernelPoolSIdeal.main_arg2)) (m ((c.tc : Thread Cert.KernelPoolSIdeal.nD Cert.KernelPoolSIdeal.τ).loc Cert.KernelPoolSIdeal.main_arg3))) = (fun _ => 1#1)

def Pre_ReferencePoolSIdeal (m : (ℓ : Loc Cert.ReferencePoolSIdeal.nD Cert.ReferencePoolSIdeal.τ Cert.ReferencePoolSIdeal.sig) → Buf (Elt Ideal) ℓ) : Prop :=
  True

def Pre_ReferencePoolSIdeal_finite_u_prev [hPre_finite_u_prev : Cert.Pre_finite_u_prev.Facts] (m : (ℓ : Loc Cert.ReferencePoolSIdeal.nD Cert.ReferencePoolSIdeal.τ Cert.ReferencePoolSIdeal.sig) → Buf (Elt Ideal) ℓ) : Prop :=
  ∀ c : Dev Cert.ReferencePoolSIdeal.nD,
    (Cert.Pre_finite_u_prev.fn (F := Ideal) (m ((c.tc : Thread Cert.ReferencePoolSIdeal.nD Cert.ReferencePoolSIdeal.τ).loc Cert.ReferencePoolSIdeal.main_arg0)) (m ((c.tc : Thread Cert.ReferencePoolSIdeal.nD Cert.ReferencePoolSIdeal.τ).loc Cert.ReferencePoolSIdeal.main_arg1)) (m ((c.tc : Thread Cert.ReferencePoolSIdeal.nD Cert.ReferencePoolSIdeal.τ).loc Cert.ReferencePoolSIdeal.main_arg2)) (m ((c.tc : Thread Cert.ReferencePoolSIdeal.nD Cert.ReferencePoolSIdeal.τ).loc Cert.ReferencePoolSIdeal.main_arg3))) = (fun _ => 1#1)

def Pre_KernelInS (m : (ℓ : Loc Cert.KernelInS.nD Cert.KernelInS.τ Cert.KernelInS.sig) → Buf (Elt Bits) ℓ) : Prop :=
  True

def Pre_KernelInSIdeal (m : (ℓ : Loc Cert.KernelInSIdeal.nD Cert.KernelInSIdeal.τ Cert.KernelInSIdeal.sig) → Buf (Elt Ideal) ℓ) : Prop :=
  True

def Pre_ReferenceInSIdeal (m : (ℓ : Loc Cert.ReferenceInSIdeal.nD Cert.ReferenceInSIdeal.τ Cert.ReferenceInSIdeal.sig) → Buf (Elt Ideal) ℓ) : Prop :=
  True

def Pre_KernelPleS (m : (ℓ : Loc Cert.KernelPleS.nD Cert.KernelPleS.τ Cert.KernelPleS.sig) → Buf (Elt Bits) ℓ) : Prop :=
  True

def Pre_KernelPleSIdeal (m : (ℓ : Loc Cert.KernelPleSIdeal.nD Cert.KernelPleSIdeal.τ Cert.KernelPleSIdeal.sig) → Buf (Elt Ideal) ℓ) : Prop :=
  True

def Pre_ReferencePleSIdeal (m : (ℓ : Loc Cert.ReferencePleSIdeal.nD Cert.ReferencePleSIdeal.τ Cert.ReferencePleSIdeal.sig) → Buf (Elt Ideal) ℓ) : Prop :=
  True

def quiescent_KernelMlp [hKernelMlp : Cert.KernelMlp.Facts] : Prop :=
  ∀ (m : (ℓ : Loc Cert.KernelMlp.nD Cert.KernelMlp.τ Cert.KernelMlp.sig) → Buf (Elt Bits) ℓ) (g : Dev Cert.KernelMlp.nD → PrngReg), Pre_KernelMlp m →
    θ_run (Cert.KernelMlp.defs (F := Bits)) (onTc (τ := Cert.KernelMlp.τ) (Cert.KernelMlp.main (F := Bits))) ⟨m, fun _ => 0, g⟩ (fun r => (∀ c : Dev Cert.KernelMlp.nD,
      r.2.mem ((c.tc : Thread Cert.KernelMlp.nD Cert.KernelMlp.τ).loc Cert.KernelMlp.main_arg0) = m ((c.tc : Thread Cert.KernelMlp.nD Cert.KernelMlp.τ).loc Cert.KernelMlp.main_arg0)
      ∧ r.2.mem ((c.tc : Thread Cert.KernelMlp.nD Cert.KernelMlp.τ).loc Cert.KernelMlp.main_arg1) = m ((c.tc : Thread Cert.KernelMlp.nD Cert.KernelMlp.τ).loc Cert.KernelMlp.main_arg1)
      ∧ r.2.mem ((c.tc : Thread Cert.KernelMlp.nD Cert.KernelMlp.τ).loc Cert.KernelMlp.main_arg2) = m ((c.tc : Thread Cert.KernelMlp.nD Cert.KernelMlp.τ).loc Cert.KernelMlp.main_arg2)
      ∧ r.2.mem ((c.tc : Thread Cert.KernelMlp.nD Cert.KernelMlp.τ).loc Cert.KernelMlp.main_arg3) = m ((c.tc : Thread Cert.KernelMlp.nD Cert.KernelMlp.τ).loc Cert.KernelMlp.main_arg3))
      ∧ r.2.sem = fun _ => 0)

def quiescent_KernelMlpIdeal [hKernelMlpIdeal : Cert.KernelMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg), Pre_KernelMlpIdeal m →
    θ_run (Cert.KernelMlpIdeal.defs (F := Ideal)) (onTc (τ := Cert.KernelMlpIdeal.τ) (Cert.KernelMlpIdeal.main (F := Ideal))) ⟨m, fun _ => 0, g⟩ (fun r => (∀ c : Dev Cert.KernelMlpIdeal.nD,
      r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
      ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
      ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
      ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3))
      ∧ r.2.sem = fun _ => 0)

def quiescent_ReferenceMlpIdeal [hReferenceMlpIdeal : Cert.ReferenceMlpIdeal.Facts] : Prop :=
  ∀ (m : (ℓ : Loc Cert.ReferenceMlpIdeal.nD Cert.ReferenceMlpIdeal.τ Cert.ReferenceMlpIdeal.sig) → Buf (Elt Ideal) ℓ) (g : Dev Cert.ReferenceMlpIdeal.nD → PrngReg), Pre_ReferenceMlpIdeal m →
    θ_run (Cert.ReferenceMlpIdeal.defs (F := Ideal)) (onTc (τ := Cert.ReferenceMlpIdeal.τ) (Cert.ReferenceMlpIdeal.main (F := Ideal))) ⟨m, fun _ => 0, g⟩ (fun r => (∀ c : Dev Cert.ReferenceMlpIdeal.nD,
      r.2.mem ((c.tc : Thread Cert.ReferenceMlpIdeal.nD Cert.ReferenceMlpIdeal.τ).loc Cert.ReferenceMlpIdeal.main_arg0) = m ((c.tc : Thread Cert.ReferenceMlpIdeal.nD Cert.ReferenceMlpIdeal.τ).loc Cert.ReferenceMlpIdeal.main_arg0)
      ∧ r.2.mem ((c.tc : Thread Cert.ReferenceMlpIdeal.nD Cert.ReferenceMlpIdeal.τ).loc Cert.ReferenceMlpIdeal.main_arg1) = m ((c.tc : Thread Cert.ReferenceMlpIdeal.nD Cert.ReferenceMlpIdeal.τ).loc Cert.ReferenceMlpIdeal.main_arg1)
      ∧ r.2.mem ((c.tc : Thread Cert.ReferenceMlpIdeal.nD Cert.ReferenceMlpIdeal.τ).loc Cert.ReferenceMlpIdeal.main_arg2) = m ((c.tc : Thread Cert.ReferenceMlpIdeal.nD Cert.ReferenceMlpIdeal.τ).loc Cert.ReferenceMlpIdeal.main_arg2)
      ∧ r.2.mem ((c.tc : Thread Cert.ReferenceMlpIdeal.nD Cert.ReferenceMlpIdeal.τ).loc Cert.ReferenceMlpIdeal.main_arg3) = m ((c.tc : Thread Cert.ReferenceMlpIdeal.nD Cert.ReferenceMlpIdeal.τ).loc Cert.ReferenceMlpIdeal.main_arg3))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3))
      ∧ r.2.sem = fun _ => 0)

def quiescent_KernelPle [hKernelPle : Cert.KernelPle.Facts] : Prop :=
  ∀ (m : (ℓ : Loc Cert.KernelPle.nD Cert.KernelPle.τ Cert.KernelPle.sig) → Buf (Elt Bits) ℓ) (g : Dev Cert.KernelPle.nD → PrngReg), Pre_KernelPle m →
    θ_run (Cert.KernelPle.defs (F := Bits)) (onTc (τ := Cert.KernelPle.τ) (Cert.KernelPle.main (F := Bits))) ⟨m, fun _ => 0, g⟩ (fun r => (∀ c : Dev Cert.KernelPle.nD,
      r.2.mem ((c.tc : Thread Cert.KernelPle.nD Cert.KernelPle.τ).loc Cert.KernelPle.main_arg0) = m ((c.tc : Thread Cert.KernelPle.nD Cert.KernelPle.τ).loc Cert.KernelPle.main_arg0)
      ∧ r.2.mem ((c.tc : Thread Cert.KernelPle.nD Cert.KernelPle.τ).loc Cert.KernelPle.main_arg1) = m ((c.tc : Thread Cert.KernelPle.nD Cert.KernelPle.τ).loc Cert.KernelPle.main_arg1)
      ∧ r.2.mem ((c.tc : Thread Cert.KernelPle.nD Cert.KernelPle.τ).loc Cert.KernelPle.main_arg2) = m ((c.tc : Thread Cert.KernelPle.nD Cert.KernelPle.τ).loc Cert.KernelPle.main_arg2)
      ∧ r.2.mem ((c.tc : Thread Cert.KernelPle.nD Cert.KernelPle.τ).loc Cert.KernelPle.main_arg3) = m ((c.tc : Thread Cert.KernelPle.nD Cert.KernelPle.τ).loc Cert.KernelPle.main_arg3)
      ∧ r.2.mem ((c.tc : Thread Cert.KernelPle.nD Cert.KernelPle.τ).loc Cert.KernelPle.main_arg4) = m ((c.tc : Thread Cert.KernelPle.nD Cert.KernelPle.τ).loc Cert.KernelPle.main_arg4)
      ∧ r.2.mem ((c.tc : Thread Cert.KernelPle.nD Cert.KernelPle.τ).loc Cert.KernelPle.main_arg5) = m ((c.tc : Thread Cert.KernelPle.nD Cert.KernelPle.τ).loc Cert.KernelPle.main_arg5)
      ∧ r.2.mem ((c.tc : Thread Cert.KernelPle.nD Cert.KernelPle.τ).loc Cert.KernelPle.main_arg6) = m ((c.tc : Thread Cert.KernelPle.nD Cert.KernelPle.τ).loc Cert.KernelPle.main_arg6))
      ∧ r.2.sem = fun _ => 0)

def quiescent_KernelPleIdeal [hKernelPleIdeal : Cert.KernelPleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg), Pre_KernelPleIdeal m →
    θ_run (Cert.KernelPleIdeal.defs (F := Ideal)) (onTc (τ := Cert.KernelPleIdeal.τ) (Cert.KernelPleIdeal.main (F := Ideal))) ⟨m, fun _ => 0, g⟩ (fun r => (∀ c : Dev Cert.KernelPleIdeal.nD,
      r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
      ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
      ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
      ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
      ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4)
      ∧ r.2.mem ((c.tc : Thread Cert.KernelPleIdeal.nD Cert.KernelPleIdeal.τ).loc Cert.KernelPleIdeal.main_arg5) = m ((c.tc : Thread Cert.KernelPleIdeal.nD Cert.KernelPleIdeal.τ).loc Cert.KernelPleIdeal.main_arg5)
      ∧ r.2.mem ((c.tc : Thread Cert.KernelPleIdeal.nD Cert.KernelPleIdeal.τ).loc Cert.KernelPleIdeal.main_arg6) = m ((c.tc : Thread Cert.KernelPleIdeal.nD Cert.KernelPleIdeal.τ).loc Cert.KernelPleIdeal.main_arg6))
      ∧ r.2.sem = fun _ => 0)

def quiescent_ReferencePleIdeal [hReferencePleIdeal : Cert.ReferencePleIdeal.Facts] : Prop :=
  ∀ (m : (ℓ : Loc Cert.ReferencePleIdeal.nD Cert.ReferencePleIdeal.τ Cert.ReferencePleIdeal.sig) → Buf (Elt Ideal) ℓ) (g : Dev Cert.ReferencePleIdeal.nD → PrngReg), Pre_ReferencePleIdeal m →
    θ_run (Cert.ReferencePleIdeal.defs (F := Ideal)) (onTc (τ := Cert.ReferencePleIdeal.τ) (Cert.ReferencePleIdeal.main (F := Ideal))) ⟨m, fun _ => 0, g⟩ (fun r => (∀ c : Dev Cert.ReferencePleIdeal.nD,
      r.2.mem ((c.tc : Thread Cert.ReferencePleIdeal.nD Cert.ReferencePleIdeal.τ).loc Cert.ReferencePleIdeal.main_arg0) = m ((c.tc : Thread Cert.ReferencePleIdeal.nD Cert.ReferencePleIdeal.τ).loc Cert.ReferencePleIdeal.main_arg0)
      ∧ r.2.mem ((c.tc : Thread Cert.ReferencePleIdeal.nD Cert.ReferencePleIdeal.τ).loc Cert.ReferencePleIdeal.main_arg1) = m ((c.tc : Thread Cert.ReferencePleIdeal.nD Cert.ReferencePleIdeal.τ).loc Cert.ReferencePleIdeal.main_arg1)
      ∧ r.2.mem ((c.tc : Thread Cert.ReferencePleIdeal.nD Cert.ReferencePleIdeal.τ).loc Cert.ReferencePleIdeal.main_arg2) = m ((c.tc : Thread Cert.ReferencePleIdeal.nD Cert.ReferencePleIdeal.τ).loc Cert.ReferencePleIdeal.main_arg2)
      ∧ r.2.mem ((c.tc : Thread Cert.ReferencePleIdeal.nD Cert.ReferencePleIdeal.τ).loc Cert.ReferencePleIdeal.main_arg3) = m ((c.tc : Thread Cert.ReferencePleIdeal.nD Cert.ReferencePleIdeal.τ).loc Cert.ReferencePleIdeal.main_arg3)
      ∧ r.2.mem ((c.tc : Thread Cert.ReferencePleIdeal.nD Cert.ReferencePleIdeal.τ).loc Cert.ReferencePleIdeal.main_arg4) = m ((c.tc : Thread Cert.ReferencePleIdeal.nD Cert.ReferencePleIdeal.τ).loc Cert.ReferencePleIdeal.main_arg4)
      ∧ r.2.mem ((c.tc : Thread Cert.ReferencePleIdeal.nD Cert.ReferencePleIdeal.τ).loc Cert.ReferencePleIdeal.main_arg5) = m ((c.tc : Thread Cert.ReferencePleIdeal.nD Cert.ReferencePleIdeal.τ).loc Cert.ReferencePleIdeal.main_arg5)
      ∧ r.2.mem ((c.tc : Thread Cert.ReferencePleIdeal.nD Cert.ReferencePleIdeal.τ).loc Cert.ReferencePleIdeal.main_arg6) = m ((c.tc : Thread Cert.ReferencePleIdeal.nD Cert.ReferencePleIdeal.τ).loc Cert.ReferencePleIdeal.main_arg6))
      ∧ r.2.sem = fun _ => 0)

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1)
      ∧ r.2.mem ((c.tc : Thread Cert.KernelAttn.nD Cert.KernelAttn.τ).loc Cert.KernelAttn.main_arg2) = m ((c.tc : Thread Cert.KernelAttn.nD Cert.KernelAttn.τ).loc Cert.KernelAttn.main_arg2))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2))
      ∧ r.2.sem = fun _ => 0)

def quiescent_KernelAttnIdeal_pre_finite_qk [hKernelAttnIdeal : Cert.KernelAttnIdeal.Facts] [hPre_finite_qk : Cert.Pre_finite_qk.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal_finite_qk m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2))
      ∧ r.2.sem = fun _ => 0)

def quiescent_ReferenceAttnIdeal_pre_finite_qk [hReferenceAttnIdeal : Cert.ReferenceAttnIdeal.Facts] [hPre_finite_qk : Cert.Pre_finite_qk.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal_finite_qk m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2))
      ∧ r.2.sem = fun _ => 0)

def quiescent_KernelPool [hKernelPool : Cert.KernelPool.Facts] : Prop :=
  ∀ (m : (ℓ : Loc Cert.KernelPool.nD Cert.KernelPool.τ Cert.KernelPool.sig) → Buf (Elt Bits) ℓ) (g : Dev Cert.KernelPool.nD → PrngReg), Pre_KernelPool m →
    θ_run (Cert.KernelPool.defs (F := Bits)) (onTc (τ := Cert.KernelPool.τ) (Cert.KernelPool.main (F := Bits))) ⟨m, fun _ => 0, g⟩ (fun r => (∀ c : Dev Cert.KernelPool.nD,
      r.2.mem ((c.tc : Thread Cert.KernelPool.nD Cert.KernelPool.τ).loc Cert.KernelPool.main_arg0) = m ((c.tc : Thread Cert.KernelPool.nD Cert.KernelPool.τ).loc Cert.KernelPool.main_arg0)
      ∧ r.2.mem ((c.tc : Thread Cert.KernelPool.nD Cert.KernelPool.τ).loc Cert.KernelPool.main_arg1) = m ((c.tc : Thread Cert.KernelPool.nD Cert.KernelPool.τ).loc Cert.KernelPool.main_arg1)
      ∧ r.2.mem ((c.tc : Thread Cert.KernelPool.nD Cert.KernelPool.τ).loc Cert.KernelPool.main_arg2) = m ((c.tc : Thread Cert.KernelPool.nD Cert.KernelPool.τ).loc Cert.KernelPool.main_arg2))
      ∧ r.2.sem = fun _ => 0)

def quiescent_KernelPoolIdeal [hKernelPoolIdeal : Cert.KernelPoolIdeal.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
      ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2))
      ∧ r.2.sem = fun _ => 0)

def quiescent_KernelPoolIdeal_pre_finite_u [hKernelPoolIdeal : Cert.KernelPoolIdeal.Facts] [hPre_finite_u : Cert.Pre_finite_u.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal_finite_u m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
      ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2))
      ∧ r.2.sem = fun _ => 0)

def quiescent_ReferencePoolIdeal [hReferencePoolIdeal : Cert.ReferencePoolIdeal.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1)
      ∧ r.2.mem ((c.tc : Thread Cert.ReferencePoolIdeal.nD Cert.ReferencePoolIdeal.τ).loc Cert.ReferencePoolIdeal.main_arg2) = m ((c.tc : Thread Cert.ReferencePoolIdeal.nD Cert.ReferencePoolIdeal.τ).loc Cert.ReferencePoolIdeal.main_arg2))
      ∧ r.2.sem = fun _ => 0)

def quiescent_ReferencePoolIdeal_pre_finite_u [hReferencePoolIdeal : Cert.ReferencePoolIdeal.Facts] [hPre_finite_u : Cert.Pre_finite_u.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal_finite_u m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1)
      ∧ r.2.mem ((c.tc : Thread Cert.ReferencePoolIdeal.nD Cert.ReferencePoolIdeal.τ).loc Cert.ReferencePoolIdeal.main_arg2) = m ((c.tc : Thread Cert.ReferencePoolIdeal.nD Cert.ReferencePoolIdeal.τ).loc Cert.ReferencePoolIdeal.main_arg2))
      ∧ r.2.sem = fun _ => 0)

def quiescent_KernelPoolS [hKernelPoolS : Cert.KernelPoolS.Facts] : Prop :=
  ∀ (m : (ℓ : Loc Cert.KernelPoolS.nD Cert.KernelPoolS.τ Cert.KernelPoolS.sig) → Buf (Elt Bits) ℓ) (g : Dev Cert.KernelPoolS.nD → PrngReg), Pre_KernelPoolS m →
    θ_run (Cert.KernelPoolS.defs (F := Bits)) (onTc (τ := Cert.KernelPoolS.τ) (Cert.KernelPoolS.main (F := Bits))) ⟨m, fun _ => 0, g⟩ (fun r => (∀ c : Dev Cert.KernelPoolS.nD,
      r.2.mem ((c.tc : Thread Cert.KernelPoolS.nD Cert.KernelPoolS.τ).loc Cert.KernelPoolS.main_arg0) = m ((c.tc : Thread Cert.KernelPoolS.nD Cert.KernelPoolS.τ).loc Cert.KernelPoolS.main_arg0)
      ∧ r.2.mem ((c.tc : Thread Cert.KernelPoolS.nD Cert.KernelPoolS.τ).loc Cert.KernelPoolS.main_arg1) = m ((c.tc : Thread Cert.KernelPoolS.nD Cert.KernelPoolS.τ).loc Cert.KernelPoolS.main_arg1)
      ∧ r.2.mem ((c.tc : Thread Cert.KernelPoolS.nD Cert.KernelPoolS.τ).loc Cert.KernelPoolS.main_arg2) = m ((c.tc : Thread Cert.KernelPoolS.nD Cert.KernelPoolS.τ).loc Cert.KernelPoolS.main_arg2)
      ∧ r.2.mem ((c.tc : Thread Cert.KernelPoolS.nD Cert.KernelPoolS.τ).loc Cert.KernelPoolS.main_arg3) = m ((c.tc : Thread Cert.KernelPoolS.nD Cert.KernelPoolS.τ).loc Cert.KernelPoolS.main_arg3))
      ∧ r.2.sem = fun _ => 0)

def quiescent_KernelPoolSIdeal [hKernelPoolSIdeal : Cert.KernelPoolSIdeal.Facts] : Prop :=
  ∀ (m : (ℓ : Loc Cert.KernelPoolSIdeal.nD Cert.KernelPoolSIdeal.τ Cert.KernelPoolSIdeal.sig) → Buf (Elt Ideal) ℓ) (g : Dev Cert.KernelPoolSIdeal.nD → PrngReg), Pre_KernelPoolSIdeal m →
    θ_run (Cert.KernelPoolSIdeal.defs (F := Ideal)) (onTc (τ := Cert.KernelPoolSIdeal.τ) (Cert.KernelPoolSIdeal.main (F := Ideal))) ⟨m, fun _ => 0, g⟩ (fun r => (∀ c : Dev Cert.KernelPoolSIdeal.nD,
      r.2.mem ((c.tc : Thread Cert.KernelPoolSIdeal.nD Cert.KernelPoolSIdeal.τ).loc Cert.KernelPoolSIdeal.main_arg0) = m ((c.tc : Thread Cert.KernelPoolSIdeal.nD Cert.KernelPoolSIdeal.τ).loc Cert.KernelPoolSIdeal.main_arg0)
      ∧ r.2.mem ((c.tc : Thread Cert.KernelPoolSIdeal.nD Cert.KernelPoolSIdeal.τ).loc Cert.KernelPoolSIdeal.main_arg1) = m ((c.tc : Thread Cert.KernelPoolSIdeal.nD Cert.KernelPoolSIdeal.τ).loc Cert.KernelPoolSIdeal.main_arg1)
      ∧ r.2.mem ((c.tc : Thread Cert.KernelPoolSIdeal.nD Cert.KernelPoolSIdeal.τ).loc Cert.KernelPoolSIdeal.main_arg2) = m ((c.tc : Thread Cert.KernelPoolSIdeal.nD Cert.KernelPoolSIdeal.τ).loc Cert.KernelPoolSIdeal.main_arg2)
      ∧ r.2.mem ((c.tc : Thread Cert.KernelPoolSIdeal.nD Cert.KernelPoolSIdeal.τ).loc Cert.KernelPoolSIdeal.main_arg3) = m ((c.tc : Thread Cert.KernelPoolSIdeal.nD Cert.KernelPoolSIdeal.τ).loc Cert.KernelPoolSIdeal.main_arg3))
      ∧ r.2.sem = fun _ => 0)

def quiescent_KernelPoolSIdeal_pre_finite_u_prev [hKernelPoolSIdeal : Cert.KernelPoolSIdeal.Facts] [hPre_finite_u_prev : Cert.Pre_finite_u_prev.Facts] : Prop :=
  ∀ (m : (ℓ : Loc Cert.KernelPoolSIdeal.nD Cert.KernelPoolSIdeal.τ Cert.KernelPoolSIdeal.sig) → Buf (Elt Ideal) ℓ) (g : Dev Cert.KernelPoolSIdeal.nD → PrngReg), Pre_KernelPoolSIdeal_finite_u_prev m →
    θ_run (Cert.KernelPoolSIdeal.defs (F := Ideal)) (onTc (τ := Cert.KernelPoolSIdeal.τ) (Cert.KernelPoolSIdeal.main (F := Ideal))) ⟨m, fun _ => 0, g⟩ (fun r => (∀ c : Dev Cert.KernelPoolSIdeal.nD,
      r.2.mem ((c.tc : Thread Cert.KernelPoolSIdeal.nD Cert.KernelPoolSIdeal.τ).loc Cert.KernelPoolSIdeal.main_arg0) = m ((c.tc : Thread Cert.KernelPoolSIdeal.nD Cert.KernelPoolSIdeal.τ).loc Cert.KernelPoolSIdeal.main_arg0)
      ∧ r.2.mem ((c.tc : Thread Cert.KernelPoolSIdeal.nD Cert.KernelPoolSIdeal.τ).loc Cert.KernelPoolSIdeal.main_arg1) = m ((c.tc : Thread Cert.KernelPoolSIdeal.nD Cert.KernelPoolSIdeal.τ).loc Cert.KernelPoolSIdeal.main_arg1)
      ∧ r.2.mem ((c.tc : Thread Cert.KernelPoolSIdeal.nD Cert.KernelPoolSIdeal.τ).loc Cert.KernelPoolSIdeal.main_arg2) = m ((c.tc : Thread Cert.KernelPoolSIdeal.nD Cert.KernelPoolSIdeal.τ).loc Cert.KernelPoolSIdeal.main_arg2)
      ∧ r.2.mem ((c.tc : Thread Cert.KernelPoolSIdeal.nD Cert.KernelPoolSIdeal.τ).loc Cert.KernelPoolSIdeal.main_arg3) = m ((c.tc : Thread Cert.KernelPoolSIdeal.nD Cert.KernelPoolSIdeal.τ).loc Cert.KernelPoolSIdeal.main_arg3))
      ∧ r.2.sem = fun _ => 0)

def quiescent_ReferencePoolSIdeal [hReferencePoolSIdeal : Cert.ReferencePoolSIdeal.Facts] : Prop :=
  ∀ (m : (ℓ : Loc Cert.ReferencePoolSIdeal.nD Cert.ReferencePoolSIdeal.τ Cert.ReferencePoolSIdeal.sig) → Buf (Elt Ideal) ℓ) (g : Dev Cert.ReferencePoolSIdeal.nD → PrngReg), Pre_ReferencePoolSIdeal m →
    θ_run (Cert.ReferencePoolSIdeal.defs (F := Ideal)) (onTc (τ := Cert.ReferencePoolSIdeal.τ) (Cert.ReferencePoolSIdeal.main (F := Ideal))) ⟨m, fun _ => 0, g⟩ (fun r => (∀ c : Dev Cert.ReferencePoolSIdeal.nD,
      r.2.mem ((c.tc : Thread Cert.ReferencePoolSIdeal.nD Cert.ReferencePoolSIdeal.τ).loc Cert.ReferencePoolSIdeal.main_arg0) = m ((c.tc : Thread Cert.ReferencePoolSIdeal.nD Cert.ReferencePoolSIdeal.τ).loc Cert.ReferencePoolSIdeal.main_arg0)
      ∧ r.2.mem ((c.tc : Thread Cert.ReferencePoolSIdeal.nD Cert.ReferencePoolSIdeal.τ).loc Cert.ReferencePoolSIdeal.main_arg1) = m ((c.tc : Thread Cert.ReferencePoolSIdeal.nD Cert.ReferencePoolSIdeal.τ).loc Cert.ReferencePoolSIdeal.main_arg1)
      ∧ r.2.mem ((c.tc : Thread Cert.ReferencePoolSIdeal.nD Cert.ReferencePoolSIdeal.τ).loc Cert.ReferencePoolSIdeal.main_arg2) = m ((c.tc : Thread Cert.ReferencePoolSIdeal.nD Cert.ReferencePoolSIdeal.τ).loc Cert.ReferencePoolSIdeal.main_arg2)
      ∧ r.2.mem ((c.tc : Thread Cert.ReferencePoolSIdeal.nD Cert.ReferencePoolSIdeal.τ).loc Cert.ReferencePoolSIdeal.main_arg3) = m ((c.tc : Thread Cert.ReferencePoolSIdeal.nD Cert.ReferencePoolSIdeal.τ).loc Cert.ReferencePoolSIdeal.main_arg3))
      ∧ r.2.sem = fun _ => 0)

def quiescent_ReferencePoolSIdeal_pre_finite_u_prev [hReferencePoolSIdeal : Cert.ReferencePoolSIdeal.Facts] [hPre_finite_u_prev : Cert.Pre_finite_u_prev.Facts] : Prop :=
  ∀ (m : (ℓ : Loc Cert.ReferencePoolSIdeal.nD Cert.ReferencePoolSIdeal.τ Cert.ReferencePoolSIdeal.sig) → Buf (Elt Ideal) ℓ) (g : Dev Cert.ReferencePoolSIdeal.nD → PrngReg), Pre_ReferencePoolSIdeal_finite_u_prev m →
    θ_run (Cert.ReferencePoolSIdeal.defs (F := Ideal)) (onTc (τ := Cert.ReferencePoolSIdeal.τ) (Cert.ReferencePoolSIdeal.main (F := Ideal))) ⟨m, fun _ => 0, g⟩ (fun r => (∀ c : Dev Cert.ReferencePoolSIdeal.nD,
      r.2.mem ((c.tc : Thread Cert.ReferencePoolSIdeal.nD Cert.ReferencePoolSIdeal.τ).loc Cert.ReferencePoolSIdeal.main_arg0) = m ((c.tc : Thread Cert.ReferencePoolSIdeal.nD Cert.ReferencePoolSIdeal.τ).loc Cert.ReferencePoolSIdeal.main_arg0)
      ∧ r.2.mem ((c.tc : Thread Cert.ReferencePoolSIdeal.nD Cert.ReferencePoolSIdeal.τ).loc Cert.ReferencePoolSIdeal.main_arg1) = m ((c.tc : Thread Cert.ReferencePoolSIdeal.nD Cert.ReferencePoolSIdeal.τ).loc Cert.ReferencePoolSIdeal.main_arg1)
      ∧ r.2.mem ((c.tc : Thread Cert.ReferencePoolSIdeal.nD Cert.ReferencePoolSIdeal.τ).loc Cert.ReferencePoolSIdeal.main_arg2) = m ((c.tc : Thread Cert.ReferencePoolSIdeal.nD Cert.ReferencePoolSIdeal.τ).loc Cert.ReferencePoolSIdeal.main_arg2)
      ∧ r.2.mem ((c.tc : Thread Cert.ReferencePoolSIdeal.nD Cert.ReferencePoolSIdeal.τ).loc Cert.ReferencePoolSIdeal.main_arg3) = m ((c.tc : Thread Cert.ReferencePoolSIdeal.nD Cert.ReferencePoolSIdeal.τ).loc Cert.ReferencePoolSIdeal.main_arg3))
      ∧ r.2.sem = fun _ => 0)

def quiescent_KernelInS [hKernelInS : Cert.KernelInS.Facts] : Prop :=
  ∀ (m : (ℓ : Loc Cert.KernelInS.nD Cert.KernelInS.τ Cert.KernelInS.sig) → Buf (Elt Bits) ℓ) (g : Dev Cert.KernelInS.nD → PrngReg), Pre_KernelInS m →
    θ_run (Cert.KernelInS.defs (F := Bits)) (onTc (τ := Cert.KernelInS.τ) (Cert.KernelInS.main (F := Bits))) ⟨m, fun _ => 0, g⟩ (fun r => (∀ c : Dev Cert.KernelInS.nD,
      r.2.mem ((c.tc : Thread Cert.KernelInS.nD Cert.KernelInS.τ).loc Cert.KernelInS.main_arg0) = m ((c.tc : Thread Cert.KernelInS.nD Cert.KernelInS.τ).loc Cert.KernelInS.main_arg0)
      ∧ r.2.mem ((c.tc : Thread Cert.KernelInS.nD Cert.KernelInS.τ).loc Cert.KernelInS.main_arg1) = m ((c.tc : Thread Cert.KernelInS.nD Cert.KernelInS.τ).loc Cert.KernelInS.main_arg1)
      ∧ r.2.mem ((c.tc : Thread Cert.KernelInS.nD Cert.KernelInS.τ).loc Cert.KernelInS.main_arg2) = m ((c.tc : Thread Cert.KernelInS.nD Cert.KernelInS.τ).loc Cert.KernelInS.main_arg2)
      ∧ r.2.mem ((c.tc : Thread Cert.KernelInS.nD Cert.KernelInS.τ).loc Cert.KernelInS.main_arg3) = m ((c.tc : Thread Cert.KernelInS.nD Cert.KernelInS.τ).loc Cert.KernelInS.main_arg3))
      ∧ r.2.sem = fun _ => 0)

def quiescent_KernelInSIdeal [hKernelInSIdeal : Cert.KernelInSIdeal.Facts] : Prop :=
  ∀ (m : (ℓ : Loc Cert.KernelInSIdeal.nD Cert.KernelInSIdeal.τ Cert.KernelInSIdeal.sig) → Buf (Elt Ideal) ℓ) (g : Dev Cert.KernelInSIdeal.nD → PrngReg), Pre_KernelInSIdeal m →
    θ_run (Cert.KernelInSIdeal.defs (F := Ideal)) (onTc (τ := Cert.KernelInSIdeal.τ) (Cert.KernelInSIdeal.main (F := Ideal))) ⟨m, fun _ => 0, g⟩ (fun r => (∀ c : Dev Cert.KernelInSIdeal.nD,
      r.2.mem ((c.tc : Thread Cert.KernelInSIdeal.nD Cert.KernelInSIdeal.τ).loc Cert.KernelInSIdeal.main_arg0) = m ((c.tc : Thread Cert.KernelInSIdeal.nD Cert.KernelInSIdeal.τ).loc Cert.KernelInSIdeal.main_arg0)
      ∧ r.2.mem ((c.tc : Thread Cert.KernelInSIdeal.nD Cert.KernelInSIdeal.τ).loc Cert.KernelInSIdeal.main_arg1) = m ((c.tc : Thread Cert.KernelInSIdeal.nD Cert.KernelInSIdeal.τ).loc Cert.KernelInSIdeal.main_arg1)
      ∧ r.2.mem ((c.tc : Thread Cert.KernelInSIdeal.nD Cert.KernelInSIdeal.τ).loc Cert.KernelInSIdeal.main_arg2) = m ((c.tc : Thread Cert.KernelInSIdeal.nD Cert.KernelInSIdeal.τ).loc Cert.KernelInSIdeal.main_arg2)
      ∧ r.2.mem ((c.tc : Thread Cert.KernelInSIdeal.nD Cert.KernelInSIdeal.τ).loc Cert.KernelInSIdeal.main_arg3) = m ((c.tc : Thread Cert.KernelInSIdeal.nD Cert.KernelInSIdeal.τ).loc Cert.KernelInSIdeal.main_arg3))
      ∧ r.2.sem = fun _ => 0)

def quiescent_ReferenceInSIdeal [hReferenceInSIdeal : Cert.ReferenceInSIdeal.Facts] : Prop :=
  ∀ (m : (ℓ : Loc Cert.ReferenceInSIdeal.nD Cert.ReferenceInSIdeal.τ Cert.ReferenceInSIdeal.sig) → Buf (Elt Ideal) ℓ) (g : Dev Cert.ReferenceInSIdeal.nD → PrngReg), Pre_ReferenceInSIdeal m →
    θ_run (Cert.ReferenceInSIdeal.defs (F := Ideal)) (onTc (τ := Cert.ReferenceInSIdeal.τ) (Cert.ReferenceInSIdeal.main (F := Ideal))) ⟨m, fun _ => 0, g⟩ (fun r => (∀ c : Dev Cert.ReferenceInSIdeal.nD,
      r.2.mem ((c.tc : Thread Cert.ReferenceInSIdeal.nD Cert.ReferenceInSIdeal.τ).loc Cert.ReferenceInSIdeal.main_arg0) = m ((c.tc : Thread Cert.ReferenceInSIdeal.nD Cert.ReferenceInSIdeal.τ).loc Cert.ReferenceInSIdeal.main_arg0)
      ∧ r.2.mem ((c.tc : Thread Cert.ReferenceInSIdeal.nD Cert.ReferenceInSIdeal.τ).loc Cert.ReferenceInSIdeal.main_arg1) = m ((c.tc : Thread Cert.ReferenceInSIdeal.nD Cert.ReferenceInSIdeal.τ).loc Cert.ReferenceInSIdeal.main_arg1)
      ∧ r.2.mem ((c.tc : Thread Cert.ReferenceInSIdeal.nD Cert.ReferenceInSIdeal.τ).loc Cert.ReferenceInSIdeal.main_arg2) = m ((c.tc : Thread Cert.ReferenceInSIdeal.nD Cert.ReferenceInSIdeal.τ).loc Cert.ReferenceInSIdeal.main_arg2)
      ∧ r.2.mem ((c.tc : Thread Cert.ReferenceInSIdeal.nD Cert.ReferenceInSIdeal.τ).loc Cert.ReferenceInSIdeal.main_arg3) = m ((c.tc : Thread Cert.ReferenceInSIdeal.nD Cert.ReferenceInSIdeal.τ).loc Cert.ReferenceInSIdeal.main_arg3))
      ∧ r.2.sem = fun _ => 0)

def quiescent_KernelPleS [hKernelPleS : Cert.KernelPleS.Facts] : Prop :=
  ∀ (m : (ℓ : Loc Cert.KernelPleS.nD Cert.KernelPleS.τ Cert.KernelPleS.sig) → Buf (Elt Bits) ℓ) (g : Dev Cert.KernelPleS.nD → PrngReg), Pre_KernelPleS m →
    θ_run (Cert.KernelPleS.defs (F := Bits)) (onTc (τ := Cert.KernelPleS.τ) (Cert.KernelPleS.main (F := Bits))) ⟨m, fun _ => 0, g⟩ (fun r => (∀ c : Dev Cert.KernelPleS.nD,
      r.2.mem ((c.tc : Thread Cert.KernelPleS.nD Cert.KernelPleS.τ).loc Cert.KernelPleS.main_arg0) = m ((c.tc : Thread Cert.KernelPleS.nD Cert.KernelPleS.τ).loc Cert.KernelPleS.main_arg0)
      ∧ r.2.mem ((c.tc : Thread Cert.KernelPleS.nD Cert.KernelPleS.τ).loc Cert.KernelPleS.main_arg1) = m ((c.tc : Thread Cert.KernelPleS.nD Cert.KernelPleS.τ).loc Cert.KernelPleS.main_arg1)
      ∧ r.2.mem ((c.tc : Thread Cert.KernelPleS.nD Cert.KernelPleS.τ).loc Cert.KernelPleS.main_arg2) = m ((c.tc : Thread Cert.KernelPleS.nD Cert.KernelPleS.τ).loc Cert.KernelPleS.main_arg2)
      ∧ r.2.mem ((c.tc : Thread Cert.KernelPleS.nD Cert.KernelPleS.τ).loc Cert.KernelPleS.main_arg3) = m ((c.tc : Thread Cert.KernelPleS.nD Cert.KernelPleS.τ).loc Cert.KernelPleS.main_arg3)
      ∧ r.2.mem ((c.tc : Thread Cert.KernelPleS.nD Cert.KernelPleS.τ).loc Cert.KernelPleS.main_arg4) = m ((c.tc : Thread Cert.KernelPleS.nD Cert.KernelPleS.τ).loc Cert.KernelPleS.main_arg4)
      ∧ r.2.mem ((c.tc : Thread Cert.KernelPleS.nD Cert.KernelPleS.τ).loc Cert.KernelPleS.main_arg5) = m ((c.tc : Thread Cert.KernelPleS.nD Cert.KernelPleS.τ).loc Cert.KernelPleS.main_arg5)
      ∧ r.2.mem ((c.tc : Thread Cert.KernelPleS.nD Cert.KernelPleS.τ).loc Cert.KernelPleS.main_arg6) = m ((c.tc : Thread Cert.KernelPleS.nD Cert.KernelPleS.τ).loc Cert.KernelPleS.main_arg6))
      ∧ r.2.sem = fun _ => 0)

def quiescent_KernelPleSIdeal [hKernelPleSIdeal : Cert.KernelPleSIdeal.Facts] : Prop :=
  ∀ (m : (ℓ : Loc Cert.KernelPleSIdeal.nD Cert.KernelPleSIdeal.τ Cert.KernelPleSIdeal.sig) → Buf (Elt Ideal) ℓ) (g : Dev Cert.KernelPleSIdeal.nD → PrngReg), Pre_KernelPleSIdeal m →
    θ_run (Cert.KernelPleSIdeal.defs (F := Ideal)) (onTc (τ := Cert.KernelPleSIdeal.τ) (Cert.KernelPleSIdeal.main (F := Ideal))) ⟨m, fun _ => 0, g⟩ (fun r => (∀ c : Dev Cert.KernelPleSIdeal.nD,
      r.2.mem ((c.tc : Thread Cert.KernelPleSIdeal.nD Cert.KernelPleSIdeal.τ).loc Cert.KernelPleSIdeal.main_arg0) = m ((c.tc : Thread Cert.KernelPleSIdeal.nD Cert.KernelPleSIdeal.τ).loc Cert.KernelPleSIdeal.main_arg0)
      ∧ r.2.mem ((c.tc : Thread Cert.KernelPleSIdeal.nD Cert.KernelPleSIdeal.τ).loc Cert.KernelPleSIdeal.main_arg1) = m ((c.tc : Thread Cert.KernelPleSIdeal.nD Cert.KernelPleSIdeal.τ).loc Cert.KernelPleSIdeal.main_arg1)
      ∧ r.2.mem ((c.tc : Thread Cert.KernelPleSIdeal.nD Cert.KernelPleSIdeal.τ).loc Cert.KernelPleSIdeal.main_arg2) = m ((c.tc : Thread Cert.KernelPleSIdeal.nD Cert.KernelPleSIdeal.τ).loc Cert.KernelPleSIdeal.main_arg2)
      ∧ r.2.mem ((c.tc : Thread Cert.KernelPleSIdeal.nD Cert.KernelPleSIdeal.τ).loc Cert.KernelPleSIdeal.main_arg3) = m ((c.tc : Thread Cert.KernelPleSIdeal.nD Cert.KernelPleSIdeal.τ).loc Cert.KernelPleSIdeal.main_arg3)
      ∧ r.2.mem ((c.tc : Thread Cert.KernelPleSIdeal.nD Cert.KernelPleSIdeal.τ).loc Cert.KernelPleSIdeal.main_arg4) = m ((c.tc : Thread Cert.KernelPleSIdeal.nD Cert.KernelPleSIdeal.τ).loc Cert.KernelPleSIdeal.main_arg4)
      ∧ r.2.mem ((c.tc : Thread Cert.KernelPleSIdeal.nD Cert.KernelPleSIdeal.τ).loc Cert.KernelPleSIdeal.main_arg5) = m ((c.tc : Thread Cert.KernelPleSIdeal.nD Cert.KernelPleSIdeal.τ).loc Cert.KernelPleSIdeal.main_arg5)
      ∧ r.2.mem ((c.tc : Thread Cert.KernelPleSIdeal.nD Cert.KernelPleSIdeal.τ).loc Cert.KernelPleSIdeal.main_arg6) = m ((c.tc : Thread Cert.KernelPleSIdeal.nD Cert.KernelPleSIdeal.τ).loc Cert.KernelPleSIdeal.main_arg6))
      ∧ r.2.sem = fun _ => 0)

def quiescent_ReferencePleSIdeal [hReferencePleSIdeal : Cert.ReferencePleSIdeal.Facts] : Prop :=
  ∀ (m : (ℓ : Loc Cert.ReferencePleSIdeal.nD Cert.ReferencePleSIdeal.τ Cert.ReferencePleSIdeal.sig) → Buf (Elt Ideal) ℓ) (g : Dev Cert.ReferencePleSIdeal.nD → PrngReg), Pre_ReferencePleSIdeal m →
    θ_run (Cert.ReferencePleSIdeal.defs (F := Ideal)) (onTc (τ := Cert.ReferencePleSIdeal.τ) (Cert.ReferencePleSIdeal.main (F := Ideal))) ⟨m, fun _ => 0, g⟩ (fun r => (∀ c : Dev Cert.ReferencePleSIdeal.nD,
      r.2.mem ((c.tc : Thread Cert.ReferencePleSIdeal.nD Cert.ReferencePleSIdeal.τ).loc Cert.ReferencePleSIdeal.main_arg0) = m ((c.tc : Thread Cert.ReferencePleSIdeal.nD Cert.ReferencePleSIdeal.τ).loc Cert.ReferencePleSIdeal.main_arg0)
      ∧ r.2.mem ((c.tc : Thread Cert.ReferencePleSIdeal.nD Cert.ReferencePleSIdeal.τ).loc Cert.ReferencePleSIdeal.main_arg1) = m ((c.tc : Thread Cert.ReferencePleSIdeal.nD Cert.ReferencePleSIdeal.τ).loc Cert.ReferencePleSIdeal.main_arg1)
      ∧ r.2.mem ((c.tc : Thread Cert.ReferencePleSIdeal.nD Cert.ReferencePleSIdeal.τ).loc Cert.ReferencePleSIdeal.main_arg2) = m ((c.tc : Thread Cert.ReferencePleSIdeal.nD Cert.ReferencePleSIdeal.τ).loc Cert.ReferencePleSIdeal.main_arg2)
      ∧ r.2.mem ((c.tc : Thread Cert.ReferencePleSIdeal.nD Cert.ReferencePleSIdeal.τ).loc Cert.ReferencePleSIdeal.main_arg3) = m ((c.tc : Thread Cert.ReferencePleSIdeal.nD Cert.ReferencePleSIdeal.τ).loc Cert.ReferencePleSIdeal.main_arg3)
      ∧ r.2.mem ((c.tc : Thread Cert.ReferencePleSIdeal.nD Cert.ReferencePleSIdeal.τ).loc Cert.ReferencePleSIdeal.main_arg4) = m ((c.tc : Thread Cert.ReferencePleSIdeal.nD Cert.ReferencePleSIdeal.τ).loc Cert.ReferencePleSIdeal.main_arg4)
      ∧ r.2.mem ((c.tc : Thread Cert.ReferencePleSIdeal.nD Cert.ReferencePleSIdeal.τ).loc Cert.ReferencePleSIdeal.main_arg5) = m ((c.tc : Thread Cert.ReferencePleSIdeal.nD Cert.ReferencePleSIdeal.τ).loc Cert.ReferencePleSIdeal.main_arg5)
      ∧ r.2.mem ((c.tc : Thread Cert.ReferencePleSIdeal.nD Cert.ReferencePleSIdeal.τ).loc Cert.ReferencePleSIdeal.main_arg6) = m ((c.tc : Thread Cert.ReferencePleSIdeal.nD Cert.ReferencePleSIdeal.τ).loc Cert.ReferencePleSIdeal.main_arg6))
      ∧ r.2.sem = fun _ => 0)

def preserves_KernelMlp_KernelMlpIdeal : Prop :=
  True

def algebraic_KernelMlpIdeal_ReferenceMlpIdeal [hKernelMlpIdeal : Cert.KernelMlpIdeal.Facts] [hReferenceMlpIdeal : Cert.ReferenceMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg)
    (m' : (ℓ : Loc Cert.ReferenceMlpIdeal.nD Cert.ReferenceMlpIdeal.τ Cert.ReferenceMlpIdeal.sig) → Buf (Elt Ideal) ℓ) (g' : Dev Cert.ReferenceMlpIdeal.nD → PrngReg), Pre_KernelMlpIdeal m →
    (∀ c : Dev Cert.KernelMlpIdeal.nD,
      m' ((c.tc : Thread Cert.ReferenceMlpIdeal.nD Cert.ReferenceMlpIdeal.τ).loc Cert.ReferenceMlpIdeal.main_arg0) = m ((c.tc : Thread Cert.KernelMlpIdeal.nD Cert.KernelMlpIdeal.τ).loc Cert.KernelMlpIdeal.main_arg0)
      ∧ m' ((c.tc : Thread Cert.ReferenceMlpIdeal.nD Cert.ReferenceMlpIdeal.τ).loc Cert.ReferenceMlpIdeal.main_arg1) = m ((c.tc : Thread Cert.KernelMlpIdeal.nD Cert.KernelMlpIdeal.τ).loc Cert.KernelMlpIdeal.main_arg1)
      ∧ m' ((c.tc : Thread Cert.ReferenceMlpIdeal.nD Cert.ReferenceMlpIdeal.τ).loc Cert.ReferenceMlpIdeal.main_arg2) = m ((c.tc : Thread Cert.KernelMlpIdeal.nD Cert.KernelMlpIdeal.τ).loc Cert.KernelMlpIdeal.main_arg2)
      ∧ m' ((c.tc : Thread Cert.ReferenceMlpIdeal.nD Cert.ReferenceMlpIdeal.τ).loc Cert.ReferenceMlpIdeal.main_arg3) = m ((c.tc : Thread Cert.KernelMlpIdeal.nD Cert.KernelMlpIdeal.τ).loc Cert.KernelMlpIdeal.main_arg3)) →
    ∃ (v0 : (c : Dev Cert.KernelMlpIdeal.nD) → Buf (Elt Ideal) ((c.tc : Thread Cert.KernelMlpIdeal.nD Cert.KernelMlpIdeal.τ).loc Cert.KernelMlpIdeal.main_v3)),
      θ_run (Cert.KernelMlpIdeal.defs (F := Ideal)) (onTc (τ := Cert.KernelMlpIdeal.τ) (Cert.KernelMlpIdeal.main (F := Ideal))) ⟨m, fun _ => 0, g⟩ (fun r => ∀ c : Dev Cert.KernelMlpIdeal.nD,
          r.2.mem ((c.tc : Thread Cert.KernelMlpIdeal.nD Cert.KernelMlpIdeal.τ).loc Cert.KernelMlpIdeal.main_v3) = v0 c
          ∧ r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
          ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
          ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
          ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3))
      ∧ θ_run (Cert.ReferenceMlpIdeal.defs (F := Ideal)) (onTc (τ := Cert.ReferenceMlpIdeal.τ) (Cert.ReferenceMlpIdeal.main (F := Ideal))) ⟨m', fun _ => 0, g'⟩ (fun r => ∀ c : Dev Cert.ReferenceMlpIdeal.nD,
          r.2.mem ((c.tc : Thread Cert.ReferenceMlpIdeal.nD Cert.ReferenceMlpIdeal.τ).loc Cert.ReferenceMlpIdeal.main_v17) = v0 c
          ∧ r.2.mem ((c.tc : Thread Cert.ReferenceMlpIdeal.nD Cert.ReferenceMlpIdeal.τ).loc Cert.ReferenceMlpIdeal.main_arg0) = m' ((c.tc : Thread Cert.ReferenceMlpIdeal.nD Cert.ReferenceMlpIdeal.τ).loc Cert.ReferenceMlpIdeal.main_arg0)
          ∧ r.2.mem ((c.tc : Thread Cert.ReferenceMlpIdeal.nD Cert.ReferenceMlpIdeal.τ).loc Cert.ReferenceMlpIdeal.main_arg1) = m' ((c.tc : Thread Cert.ReferenceMlpIdeal.nD Cert.ReferenceMlpIdeal.τ).loc Cert.ReferenceMlpIdeal.main_arg1)
          ∧ r.2.mem ((c.tc : Thread Cert.ReferenceMlpIdeal.nD Cert.ReferenceMlpIdeal.τ).loc Cert.ReferenceMlpIdeal.main_arg2) = m' ((c.tc : Thread Cert.ReferenceMlpIdeal.nD Cert.ReferenceMlpIdeal.τ).loc Cert.ReferenceMlpIdeal.main_arg2)
          ∧ r.2.mem ((c.tc : Thread Cert.ReferenceMlpIdeal.nD Cert.ReferenceMlpIdeal.τ).loc Cert.ReferenceMlpIdeal.main_arg3) = m' ((c.tc : Thread Cert.ReferenceMlpIdeal.nD Cert.ReferenceMlpIdeal.τ).loc Cert.ReferenceMlpIdeal.main_arg3))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v2_0)) (v1 : (c : Dev Cert.KernelInIdeal.nD) → Buf (Elt Ideal) ((c.tc : Thread Cert.KernelInIdeal.nD Cert.KernelInIdeal.τ).loc Cert.KernelInIdeal.main_v2_1)) (v2 : (c : Dev Cert.KernelInIdeal.nD) → Buf (Elt Ideal) ((c.tc : Thread Cert.KernelInIdeal.nD Cert.KernelInIdeal.τ).loc Cert.KernelInIdeal.main_v2_2)) (v3 : (c : Dev Cert.KernelInIdeal.nD) → Buf (Elt Ideal) ((c.tc : Thread Cert.KernelInIdeal.nD Cert.KernelInIdeal.τ).loc Cert.KernelInIdeal.main_v2_3)) (v4 : (c : Dev Cert.KernelInIdeal.nD) → Buf (Elt Ideal) ((c.tc : Thread Cert.KernelInIdeal.nD Cert.KernelInIdeal.τ).loc Cert.KernelInIdeal.main_v4)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v2_0) = v0 c
          ∧ r.2.mem ((c.tc : Thread Cert.KernelInIdeal.nD Cert.KernelInIdeal.τ).loc Cert.KernelInIdeal.main_v2_1) = v1 c
          ∧ r.2.mem ((c.tc : Thread Cert.KernelInIdeal.nD Cert.KernelInIdeal.τ).loc Cert.KernelInIdeal.main_v2_2) = v2 c
          ∧ r.2.mem ((c.tc : Thread Cert.KernelInIdeal.nD Cert.KernelInIdeal.τ).loc Cert.KernelInIdeal.main_v2_3) = v3 c
          ∧ r.2.mem ((c.tc : Thread Cert.KernelInIdeal.nD Cert.KernelInIdeal.τ).loc Cert.KernelInIdeal.main_v4) = v4 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v15) = v0 c
          ∧ r.2.mem ((c.tc : Thread Cert.ReferenceInIdeal.nD Cert.ReferenceInIdeal.τ).loc Cert.ReferenceInIdeal.main_v16) = v1 c
          ∧ r.2.mem ((c.tc : Thread Cert.ReferenceInIdeal.nD Cert.ReferenceInIdeal.τ).loc Cert.ReferenceInIdeal.main_v17) = v2 c
          ∧ r.2.mem ((c.tc : Thread Cert.ReferenceInIdeal.nD Cert.ReferenceInIdeal.τ).loc Cert.ReferenceInIdeal.main_v14) = v3 c
          ∧ r.2.mem ((c.tc : Thread Cert.ReferenceInIdeal.nD Cert.ReferenceInIdeal.τ).loc Cert.ReferenceInIdeal.main_v19) = v4 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v1) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v4) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3))

def preserves_KernelPle_KernelPleIdeal : Prop :=
  True

def algebraic_KernelPleIdeal_ReferencePleIdeal [hKernelPleIdeal : Cert.KernelPleIdeal.Facts] [hReferencePleIdeal : Cert.ReferencePleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg)
    (m' : (ℓ : Loc Cert.ReferencePleIdeal.nD Cert.ReferencePleIdeal.τ Cert.ReferencePleIdeal.sig) → Buf (Elt Ideal) ℓ) (g' : Dev Cert.ReferencePleIdeal.nD → PrngReg), Pre_KernelPleIdeal m →
    (∀ c : Dev Cert.KernelPleIdeal.nD,
      m' ((c.tc : Thread Cert.ReferencePleIdeal.nD Cert.ReferencePleIdeal.τ).loc Cert.ReferencePleIdeal.main_arg0) = m ((c.tc : Thread Cert.KernelPleIdeal.nD Cert.KernelPleIdeal.τ).loc Cert.KernelPleIdeal.main_arg0)
      ∧ m' ((c.tc : Thread Cert.ReferencePleIdeal.nD Cert.ReferencePleIdeal.τ).loc Cert.ReferencePleIdeal.main_arg1) = m ((c.tc : Thread Cert.KernelPleIdeal.nD Cert.KernelPleIdeal.τ).loc Cert.KernelPleIdeal.main_arg1)
      ∧ m' ((c.tc : Thread Cert.ReferencePleIdeal.nD Cert.ReferencePleIdeal.τ).loc Cert.ReferencePleIdeal.main_arg2) = m ((c.tc : Thread Cert.KernelPleIdeal.nD Cert.KernelPleIdeal.τ).loc Cert.KernelPleIdeal.main_arg2)
      ∧ m' ((c.tc : Thread Cert.ReferencePleIdeal.nD Cert.ReferencePleIdeal.τ).loc Cert.ReferencePleIdeal.main_arg3) = m ((c.tc : Thread Cert.KernelPleIdeal.nD Cert.KernelPleIdeal.τ).loc Cert.KernelPleIdeal.main_arg3)
      ∧ m' ((c.tc : Thread Cert.ReferencePleIdeal.nD Cert.ReferencePleIdeal.τ).loc Cert.ReferencePleIdeal.main_arg4) = m ((c.tc : Thread Cert.KernelPleIdeal.nD Cert.KernelPleIdeal.τ).loc Cert.KernelPleIdeal.main_arg4)
      ∧ m' ((c.tc : Thread Cert.ReferencePleIdeal.nD Cert.ReferencePleIdeal.τ).loc Cert.ReferencePleIdeal.main_arg5) = m ((c.tc : Thread Cert.KernelPleIdeal.nD Cert.KernelPleIdeal.τ).loc Cert.KernelPleIdeal.main_arg5)
      ∧ m' ((c.tc : Thread Cert.ReferencePleIdeal.nD Cert.ReferencePleIdeal.τ).loc Cert.ReferencePleIdeal.main_arg6) = m ((c.tc : Thread Cert.KernelPleIdeal.nD Cert.KernelPleIdeal.τ).loc Cert.KernelPleIdeal.main_arg6)) →
    ∃ (v0 : (c : Dev Cert.KernelPleIdeal.nD) → Buf (Elt Ideal) ((c.tc : Thread Cert.KernelPleIdeal.nD Cert.KernelPleIdeal.τ).loc Cert.KernelPleIdeal.main_v5)),
      θ_run (Cert.KernelPleIdeal.defs (F := Ideal)) (onTc (τ := Cert.KernelPleIdeal.τ) (Cert.KernelPleIdeal.main (F := Ideal))) ⟨m, fun _ => 0, g⟩ (fun r => ∀ c : Dev Cert.KernelPleIdeal.nD,
          r.2.mem ((c.tc : Thread Cert.KernelPleIdeal.nD Cert.KernelPleIdeal.τ).loc Cert.KernelPleIdeal.main_v5) = v0 c
          ∧ r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
          ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
          ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
          ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
          ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4)
          ∧ r.2.mem ((c.tc : Thread Cert.KernelPleIdeal.nD Cert.KernelPleIdeal.τ).loc Cert.KernelPleIdeal.main_arg5) = m ((c.tc : Thread Cert.KernelPleIdeal.nD Cert.KernelPleIdeal.τ).loc Cert.KernelPleIdeal.main_arg5)
          ∧ r.2.mem ((c.tc : Thread Cert.KernelPleIdeal.nD Cert.KernelPleIdeal.τ).loc Cert.KernelPleIdeal.main_arg6) = m ((c.tc : Thread Cert.KernelPleIdeal.nD Cert.KernelPleIdeal.τ).loc Cert.KernelPleIdeal.main_arg6))
      ∧ θ_run (Cert.ReferencePleIdeal.defs (F := Ideal)) (onTc (τ := Cert.ReferencePleIdeal.τ) (Cert.ReferencePleIdeal.main (F := Ideal))) ⟨m', fun _ => 0, g'⟩ (fun r => ∀ c : Dev Cert.ReferencePleIdeal.nD,
          r.2.mem ((c.tc : Thread Cert.ReferencePleIdeal.nD Cert.ReferencePleIdeal.τ).loc Cert.ReferencePleIdeal.main_v40) = v0 c
          ∧ r.2.mem ((c.tc : Thread Cert.ReferencePleIdeal.nD Cert.ReferencePleIdeal.τ).loc Cert.ReferencePleIdeal.main_arg0) = m' ((c.tc : Thread Cert.ReferencePleIdeal.nD Cert.ReferencePleIdeal.τ).loc Cert.ReferencePleIdeal.main_arg0)
          ∧ r.2.mem ((c.tc : Thread Cert.ReferencePleIdeal.nD Cert.ReferencePleIdeal.τ).loc Cert.ReferencePleIdeal.main_arg1) = m' ((c.tc : Thread Cert.ReferencePleIdeal.nD Cert.ReferencePleIdeal.τ).loc Cert.ReferencePleIdeal.main_arg1)
          ∧ r.2.mem ((c.tc : Thread Cert.ReferencePleIdeal.nD Cert.ReferencePleIdeal.τ).loc Cert.ReferencePleIdeal.main_arg2) = m' ((c.tc : Thread Cert.ReferencePleIdeal.nD Cert.ReferencePleIdeal.τ).loc Cert.ReferencePleIdeal.main_arg2)
          ∧ r.2.mem ((c.tc : Thread Cert.ReferencePleIdeal.nD Cert.ReferencePleIdeal.τ).loc Cert.ReferencePleIdeal.main_arg3) = m' ((c.tc : Thread Cert.ReferencePleIdeal.nD Cert.ReferencePleIdeal.τ).loc Cert.ReferencePleIdeal.main_arg3)
          ∧ r.2.mem ((c.tc : Thread Cert.ReferencePleIdeal.nD Cert.ReferencePleIdeal.τ).loc Cert.ReferencePleIdeal.main_arg4) = m' ((c.tc : Thread Cert.ReferencePleIdeal.nD Cert.ReferencePleIdeal.τ).loc Cert.ReferencePleIdeal.main_arg4)
          ∧ r.2.mem ((c.tc : Thread Cert.ReferencePleIdeal.nD Cert.ReferencePleIdeal.τ).loc Cert.ReferencePleIdeal.main_arg5) = m' ((c.tc : Thread Cert.ReferencePleIdeal.nD Cert.ReferencePleIdeal.τ).loc Cert.ReferencePleIdeal.main_arg5)
          ∧ r.2.mem ((c.tc : Thread Cert.ReferencePleIdeal.nD Cert.ReferencePleIdeal.τ).loc Cert.ReferencePleIdeal.main_arg6) = m' ((c.tc : Thread Cert.ReferencePleIdeal.nD Cert.ReferencePleIdeal.τ).loc Cert.ReferencePleIdeal.main_arg6))

def preserves_KernelAttn_KernelAttnIdeal : Prop :=
  IdealRules.named_const.Statement Cert.KernelAttnIdeal.κ "exp2_scale" .f32 0x3E0293EE#32 (((Real.sqrt 128)⁻¹ * (Real.log 2)⁻¹ : ℝ) : EReal)

def algebraic_KernelAttnIdeal_ReferenceAttnIdeal_pre_finite_qk [hKernelAttnIdeal : Cert.KernelAttnIdeal.Facts] [hReferenceAttnIdeal : Cert.ReferenceAttnIdeal.Facts] [hPre_finite_qk : Cert.Pre_finite_qk.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal_finite_qk m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)
      ∧ m' ((c.tc : Thread Cert.ReferenceAttnIdeal.nD Cert.ReferenceAttnIdeal.τ).loc Cert.ReferenceAttnIdeal.main_arg2) = m ((c.tc : Thread Cert.KernelAttnIdeal.nD Cert.KernelAttnIdeal.τ).loc Cert.KernelAttnIdeal.main_arg2)) →
    ∃ (v0 : (c : Dev Cert.KernelAttnIdeal.nD) → Buf (Elt Ideal) ((c.tc : Thread Cert.KernelAttnIdeal.nD Cert.KernelAttnIdeal.τ).loc Cert.KernelAttnIdeal.main_v0)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v0) = v0 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
          ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v107) = v0 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1)
          ∧ r.2.mem ((c.tc : Thread Cert.ReferenceAttnIdeal.nD Cert.ReferenceAttnIdeal.τ).loc Cert.ReferenceAttnIdeal.main_arg2) = m' ((c.tc : Thread Cert.ReferenceAttnIdeal.nD Cert.ReferenceAttnIdeal.τ).loc Cert.ReferenceAttnIdeal.main_arg2))

def preserves_KernelPool_KernelPoolIdeal : Prop :=
  True

def algebraic_KernelPoolIdeal_ReferencePoolIdeal_pre_finite_u [hKernelPoolIdeal : Cert.KernelPoolIdeal.Facts] [hReferencePoolIdeal : Cert.ReferencePoolIdeal.Facts] [hPre_finite_u : Cert.Pre_finite_u.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg)
    (m' : (ℓ : Loc Cert.ReferencePoolIdeal.nD Cert.ReferencePoolIdeal.τ Cert.ReferencePoolIdeal.sig) → Buf (Elt Ideal) ℓ) (g' : Dev Cert.ReferencePoolIdeal.nD → PrngReg), Pre_KernelPoolIdeal_finite_u m →
    (∀ c : Dev Cert.KernelPoolIdeal.nD,
      m' ((c.tc : Thread Cert.ReferencePoolIdeal.nD Cert.ReferencePoolIdeal.τ).loc Cert.ReferencePoolIdeal.main_arg0) = m ((c.tc : Thread Cert.KernelPoolIdeal.nD Cert.KernelPoolIdeal.τ).loc Cert.KernelPoolIdeal.main_arg0)
      ∧ m' ((c.tc : Thread Cert.ReferencePoolIdeal.nD Cert.ReferencePoolIdeal.τ).loc Cert.ReferencePoolIdeal.main_arg1) = m ((c.tc : Thread Cert.KernelPoolIdeal.nD Cert.KernelPoolIdeal.τ).loc Cert.KernelPoolIdeal.main_arg1)
      ∧ m' ((c.tc : Thread Cert.ReferencePoolIdeal.nD Cert.ReferencePoolIdeal.τ).loc Cert.ReferencePoolIdeal.main_arg2) = m ((c.tc : Thread Cert.KernelPoolIdeal.nD Cert.KernelPoolIdeal.τ).loc Cert.KernelPoolIdeal.main_arg2)) →
    ∃ (v0 : (c : Dev Cert.KernelPoolIdeal.nD) → Buf (Elt Ideal) ((c.tc : Thread Cert.KernelPoolIdeal.nD Cert.KernelPoolIdeal.τ).loc Cert.KernelPoolIdeal.main_v2)),
      θ_run (Cert.KernelPoolIdeal.defs (F := Ideal)) (onTc (τ := Cert.KernelPoolIdeal.τ) (Cert.KernelPoolIdeal.main (F := Ideal))) ⟨m, fun _ => 0, g⟩ (fun r => ∀ c : Dev Cert.KernelPoolIdeal.nD,
          r.2.mem ((c.tc : Thread Cert.KernelPoolIdeal.nD Cert.KernelPoolIdeal.τ).loc Cert.KernelPoolIdeal.main_v2) = v0 c
          ∧ r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
          ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
          ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2))
      ∧ θ_run (Cert.ReferencePoolIdeal.defs (F := Ideal)) (onTc (τ := Cert.ReferencePoolIdeal.τ) (Cert.ReferencePoolIdeal.main (F := Ideal))) ⟨m', fun _ => 0, g'⟩ (fun r => ∀ c : Dev Cert.ReferencePoolIdeal.nD,
          r.2.mem ((c.tc : Thread Cert.ReferencePoolIdeal.nD Cert.ReferencePoolIdeal.τ).loc Cert.ReferencePoolIdeal.main_v70) = v0 c
          ∧ r.2.mem ((c.tc : Thread Cert.ReferencePoolIdeal.nD Cert.ReferencePoolIdeal.τ).loc Cert.ReferencePoolIdeal.main_arg0) = m' ((c.tc : Thread Cert.ReferencePoolIdeal.nD Cert.ReferencePoolIdeal.τ).loc Cert.ReferencePoolIdeal.main_arg0)
          ∧ r.2.mem ((c.tc : Thread Cert.ReferencePoolIdeal.nD Cert.ReferencePoolIdeal.τ).loc Cert.ReferencePoolIdeal.main_arg1) = m' ((c.tc : Thread Cert.ReferencePoolIdeal.nD Cert.ReferencePoolIdeal.τ).loc Cert.ReferencePoolIdeal.main_arg1)
          ∧ r.2.mem ((c.tc : Thread Cert.ReferencePoolIdeal.nD Cert.ReferencePoolIdeal.τ).loc Cert.ReferencePoolIdeal.main_arg2) = m' ((c.tc : Thread Cert.ReferencePoolIdeal.nD Cert.ReferencePoolIdeal.τ).loc Cert.ReferencePoolIdeal.main_arg2))

def preserves_KernelPoolS_KernelPoolSIdeal : Prop :=
  True

def algebraic_KernelPoolSIdeal_ReferencePoolSIdeal_pre_finite_u_prev [hKernelPoolSIdeal : Cert.KernelPoolSIdeal.Facts] [hReferencePoolSIdeal : Cert.ReferencePoolSIdeal.Facts] [hPre_finite_u_prev : Cert.Pre_finite_u_prev.Facts] : Prop :=
  ∀ (m : (ℓ : Loc Cert.KernelPoolSIdeal.nD Cert.KernelPoolSIdeal.τ Cert.KernelPoolSIdeal.sig) → Buf (Elt Ideal) ℓ) (g : Dev Cert.KernelPoolSIdeal.nD → PrngReg)
    (m' : (ℓ : Loc Cert.ReferencePoolSIdeal.nD Cert.ReferencePoolSIdeal.τ Cert.ReferencePoolSIdeal.sig) → Buf (Elt Ideal) ℓ) (g' : Dev Cert.ReferencePoolSIdeal.nD → PrngReg), Pre_KernelPoolSIdeal_finite_u_prev m →
    (∀ c : Dev Cert.KernelPoolSIdeal.nD,
      m' ((c.tc : Thread Cert.ReferencePoolSIdeal.nD Cert.ReferencePoolSIdeal.τ).loc Cert.ReferencePoolSIdeal.main_arg0) = m ((c.tc : Thread Cert.KernelPoolSIdeal.nD Cert.KernelPoolSIdeal.τ).loc Cert.KernelPoolSIdeal.main_arg0)
      ∧ m' ((c.tc : Thread Cert.ReferencePoolSIdeal.nD Cert.ReferencePoolSIdeal.τ).loc Cert.ReferencePoolSIdeal.main_arg1) = m ((c.tc : Thread Cert.KernelPoolSIdeal.nD Cert.KernelPoolSIdeal.τ).loc Cert.KernelPoolSIdeal.main_arg1)
      ∧ m' ((c.tc : Thread Cert.ReferencePoolSIdeal.nD Cert.ReferencePoolSIdeal.τ).loc Cert.ReferencePoolSIdeal.main_arg2) = m ((c.tc : Thread Cert.KernelPoolSIdeal.nD Cert.KernelPoolSIdeal.τ).loc Cert.KernelPoolSIdeal.main_arg2)
      ∧ m' ((c.tc : Thread Cert.ReferencePoolSIdeal.nD Cert.ReferencePoolSIdeal.τ).loc Cert.ReferencePoolSIdeal.main_arg3) = m ((c.tc : Thread Cert.KernelPoolSIdeal.nD Cert.KernelPoolSIdeal.τ).loc Cert.KernelPoolSIdeal.main_arg3)) →
    ∃ (v0 : (c : Dev Cert.KernelPoolSIdeal.nD) → Buf (Elt Ideal) ((c.tc : Thread Cert.KernelPoolSIdeal.nD Cert.KernelPoolSIdeal.τ).loc Cert.KernelPoolSIdeal.main_v5)),
      θ_run (Cert.KernelPoolSIdeal.defs (F := Ideal)) (onTc (τ := Cert.KernelPoolSIdeal.τ) (Cert.KernelPoolSIdeal.main (F := Ideal))) ⟨m, fun _ => 0, g⟩ (fun r => ∀ c : Dev Cert.KernelPoolSIdeal.nD,
          r.2.mem ((c.tc : Thread Cert.KernelPoolSIdeal.nD Cert.KernelPoolSIdeal.τ).loc Cert.KernelPoolSIdeal.main_v5) = v0 c
          ∧ r.2.mem ((c.tc : Thread Cert.KernelPoolSIdeal.nD Cert.KernelPoolSIdeal.τ).loc Cert.KernelPoolSIdeal.main_arg0) = m ((c.tc : Thread Cert.KernelPoolSIdeal.nD Cert.KernelPoolSIdeal.τ).loc Cert.KernelPoolSIdeal.main_arg0)
          ∧ r.2.mem ((c.tc : Thread Cert.KernelPoolSIdeal.nD Cert.KernelPoolSIdeal.τ).loc Cert.KernelPoolSIdeal.main_arg1) = m ((c.tc : Thread Cert.KernelPoolSIdeal.nD Cert.KernelPoolSIdeal.τ).loc Cert.KernelPoolSIdeal.main_arg1)
          ∧ r.2.mem ((c.tc : Thread Cert.KernelPoolSIdeal.nD Cert.KernelPoolSIdeal.τ).loc Cert.KernelPoolSIdeal.main_arg2) = m ((c.tc : Thread Cert.KernelPoolSIdeal.nD Cert.KernelPoolSIdeal.τ).loc Cert.KernelPoolSIdeal.main_arg2)
          ∧ r.2.mem ((c.tc : Thread Cert.KernelPoolSIdeal.nD Cert.KernelPoolSIdeal.τ).loc Cert.KernelPoolSIdeal.main_arg3) = m ((c.tc : Thread Cert.KernelPoolSIdeal.nD Cert.KernelPoolSIdeal.τ).loc Cert.KernelPoolSIdeal.main_arg3))
      ∧ θ_run (Cert.ReferencePoolSIdeal.defs (F := Ideal)) (onTc (τ := Cert.ReferencePoolSIdeal.τ) (Cert.ReferencePoolSIdeal.main (F := Ideal))) ⟨m', fun _ => 0, g'⟩ (fun r => ∀ c : Dev Cert.ReferencePoolSIdeal.nD,
          r.2.mem ((c.tc : Thread Cert.ReferencePoolSIdeal.nD Cert.ReferencePoolSIdeal.τ).loc Cert.ReferencePoolSIdeal.main_v77) = v0 c
          ∧ r.2.mem ((c.tc : Thread Cert.ReferencePoolSIdeal.nD Cert.ReferencePoolSIdeal.τ).loc Cert.ReferencePoolSIdeal.main_arg0) = m' ((c.tc : Thread Cert.ReferencePoolSIdeal.nD Cert.ReferencePoolSIdeal.τ).loc Cert.ReferencePoolSIdeal.main_arg0)
          ∧ r.2.mem ((c.tc : Thread Cert.ReferencePoolSIdeal.nD Cert.ReferencePoolSIdeal.τ).loc Cert.ReferencePoolSIdeal.main_arg1) = m' ((c.tc : Thread Cert.ReferencePoolSIdeal.nD Cert.ReferencePoolSIdeal.τ).loc Cert.ReferencePoolSIdeal.main_arg1)
          ∧ r.2.mem ((c.tc : Thread Cert.ReferencePoolSIdeal.nD Cert.ReferencePoolSIdeal.τ).loc Cert.ReferencePoolSIdeal.main_arg2) = m' ((c.tc : Thread Cert.ReferencePoolSIdeal.nD Cert.ReferencePoolSIdeal.τ).loc Cert.ReferencePoolSIdeal.main_arg2)
          ∧ r.2.mem ((c.tc : Thread Cert.ReferencePoolSIdeal.nD Cert.ReferencePoolSIdeal.τ).loc Cert.ReferencePoolSIdeal.main_arg3) = m' ((c.tc : Thread Cert.ReferencePoolSIdeal.nD Cert.ReferencePoolSIdeal.τ).loc Cert.ReferencePoolSIdeal.main_arg3))

def preserves_KernelInS_KernelInSIdeal : Prop :=
  True

def algebraic_KernelInSIdeal_ReferenceInSIdeal [hKernelInSIdeal : Cert.KernelInSIdeal.Facts] [hReferenceInSIdeal : Cert.ReferenceInSIdeal.Facts] : Prop :=
  ∀ (m : (ℓ : Loc Cert.KernelInSIdeal.nD Cert.KernelInSIdeal.τ Cert.KernelInSIdeal.sig) → Buf (Elt Ideal) ℓ) (g : Dev Cert.KernelInSIdeal.nD → PrngReg)
    (m' : (ℓ : Loc Cert.ReferenceInSIdeal.nD Cert.ReferenceInSIdeal.τ Cert.ReferenceInSIdeal.sig) → Buf (Elt Ideal) ℓ) (g' : Dev Cert.ReferenceInSIdeal.nD → PrngReg), Pre_KernelInSIdeal m →
    (∀ c : Dev Cert.KernelInSIdeal.nD,
      m' ((c.tc : Thread Cert.ReferenceInSIdeal.nD Cert.ReferenceInSIdeal.τ).loc Cert.ReferenceInSIdeal.main_arg0) = m ((c.tc : Thread Cert.KernelInSIdeal.nD Cert.KernelInSIdeal.τ).loc Cert.KernelInSIdeal.main_arg0)
      ∧ m' ((c.tc : Thread Cert.ReferenceInSIdeal.nD Cert.ReferenceInSIdeal.τ).loc Cert.ReferenceInSIdeal.main_arg1) = m ((c.tc : Thread Cert.KernelInSIdeal.nD Cert.KernelInSIdeal.τ).loc Cert.KernelInSIdeal.main_arg1)
      ∧ m' ((c.tc : Thread Cert.ReferenceInSIdeal.nD Cert.ReferenceInSIdeal.τ).loc Cert.ReferenceInSIdeal.main_arg2) = m ((c.tc : Thread Cert.KernelInSIdeal.nD Cert.KernelInSIdeal.τ).loc Cert.KernelInSIdeal.main_arg2)
      ∧ m' ((c.tc : Thread Cert.ReferenceInSIdeal.nD Cert.ReferenceInSIdeal.τ).loc Cert.ReferenceInSIdeal.main_arg3) = m ((c.tc : Thread Cert.KernelInSIdeal.nD Cert.KernelInSIdeal.τ).loc Cert.KernelInSIdeal.main_arg3)) →
    ∃ (v0 : (c : Dev Cert.KernelInSIdeal.nD) → Buf (Elt Ideal) ((c.tc : Thread Cert.KernelInSIdeal.nD Cert.KernelInSIdeal.τ).loc Cert.KernelInSIdeal.main_v2_0)) (v1 : (c : Dev Cert.KernelInSIdeal.nD) → Buf (Elt Ideal) ((c.tc : Thread Cert.KernelInSIdeal.nD Cert.KernelInSIdeal.τ).loc Cert.KernelInSIdeal.main_v2_1)) (v2 : (c : Dev Cert.KernelInSIdeal.nD) → Buf (Elt Ideal) ((c.tc : Thread Cert.KernelInSIdeal.nD Cert.KernelInSIdeal.τ).loc Cert.KernelInSIdeal.main_v2_2)) (v3 : (c : Dev Cert.KernelInSIdeal.nD) → Buf (Elt Ideal) ((c.tc : Thread Cert.KernelInSIdeal.nD Cert.KernelInSIdeal.τ).loc Cert.KernelInSIdeal.main_v2_3)) (v4 : (c : Dev Cert.KernelInSIdeal.nD) → Buf (Elt Ideal) ((c.tc : Thread Cert.KernelInSIdeal.nD Cert.KernelInSIdeal.τ).loc Cert.KernelInSIdeal.main_v5)),
      θ_run (Cert.KernelInSIdeal.defs (F := Ideal)) (onTc (τ := Cert.KernelInSIdeal.τ) (Cert.KernelInSIdeal.main (F := Ideal))) ⟨m, fun _ => 0, g⟩ (fun r => ∀ c : Dev Cert.KernelInSIdeal.nD,
          r.2.mem ((c.tc : Thread Cert.KernelInSIdeal.nD Cert.KernelInSIdeal.τ).loc Cert.KernelInSIdeal.main_v2_0) = v0 c
          ∧ r.2.mem ((c.tc : Thread Cert.KernelInSIdeal.nD Cert.KernelInSIdeal.τ).loc Cert.KernelInSIdeal.main_v2_1) = v1 c
          ∧ r.2.mem ((c.tc : Thread Cert.KernelInSIdeal.nD Cert.KernelInSIdeal.τ).loc Cert.KernelInSIdeal.main_v2_2) = v2 c
          ∧ r.2.mem ((c.tc : Thread Cert.KernelInSIdeal.nD Cert.KernelInSIdeal.τ).loc Cert.KernelInSIdeal.main_v2_3) = v3 c
          ∧ r.2.mem ((c.tc : Thread Cert.KernelInSIdeal.nD Cert.KernelInSIdeal.τ).loc Cert.KernelInSIdeal.main_v5) = v4 c
          ∧ r.2.mem ((c.tc : Thread Cert.KernelInSIdeal.nD Cert.KernelInSIdeal.τ).loc Cert.KernelInSIdeal.main_arg0) = m ((c.tc : Thread Cert.KernelInSIdeal.nD Cert.KernelInSIdeal.τ).loc Cert.KernelInSIdeal.main_arg0)
          ∧ r.2.mem ((c.tc : Thread Cert.KernelInSIdeal.nD Cert.KernelInSIdeal.τ).loc Cert.KernelInSIdeal.main_arg1) = m ((c.tc : Thread Cert.KernelInSIdeal.nD Cert.KernelInSIdeal.τ).loc Cert.KernelInSIdeal.main_arg1)
          ∧ r.2.mem ((c.tc : Thread Cert.KernelInSIdeal.nD Cert.KernelInSIdeal.τ).loc Cert.KernelInSIdeal.main_arg2) = m ((c.tc : Thread Cert.KernelInSIdeal.nD Cert.KernelInSIdeal.τ).loc Cert.KernelInSIdeal.main_arg2)
          ∧ r.2.mem ((c.tc : Thread Cert.KernelInSIdeal.nD Cert.KernelInSIdeal.τ).loc Cert.KernelInSIdeal.main_arg3) = m ((c.tc : Thread Cert.KernelInSIdeal.nD Cert.KernelInSIdeal.τ).loc Cert.KernelInSIdeal.main_arg3))
      ∧ θ_run (Cert.ReferenceInSIdeal.defs (F := Ideal)) (onTc (τ := Cert.ReferenceInSIdeal.τ) (Cert.ReferenceInSIdeal.main (F := Ideal))) ⟨m', fun _ => 0, g'⟩ (fun r => ∀ c : Dev Cert.ReferenceInSIdeal.nD,
          r.2.mem ((c.tc : Thread Cert.ReferenceInSIdeal.nD Cert.ReferenceInSIdeal.τ).loc Cert.ReferenceInSIdeal.main_v17) = v0 c
          ∧ r.2.mem ((c.tc : Thread Cert.ReferenceInSIdeal.nD Cert.ReferenceInSIdeal.τ).loc Cert.ReferenceInSIdeal.main_v18) = v1 c
          ∧ r.2.mem ((c.tc : Thread Cert.ReferenceInSIdeal.nD Cert.ReferenceInSIdeal.τ).loc Cert.ReferenceInSIdeal.main_v19) = v2 c
          ∧ r.2.mem ((c.tc : Thread Cert.ReferenceInSIdeal.nD Cert.ReferenceInSIdeal.τ).loc Cert.ReferenceInSIdeal.main_v14) = v3 c
          ∧ r.2.mem ((c.tc : Thread Cert.ReferenceInSIdeal.nD Cert.ReferenceInSIdeal.τ).loc Cert.ReferenceInSIdeal.main_v20) = v4 c
          ∧ r.2.mem ((c.tc : Thread Cert.ReferenceInSIdeal.nD Cert.ReferenceInSIdeal.τ).loc Cert.ReferenceInSIdeal.main_arg0) = m' ((c.tc : Thread Cert.ReferenceInSIdeal.nD Cert.ReferenceInSIdeal.τ).loc Cert.ReferenceInSIdeal.main_arg0)
          ∧ r.2.mem ((c.tc : Thread Cert.ReferenceInSIdeal.nD Cert.ReferenceInSIdeal.τ).loc Cert.ReferenceInSIdeal.main_arg1) = m' ((c.tc : Thread Cert.ReferenceInSIdeal.nD Cert.ReferenceInSIdeal.τ).loc Cert.ReferenceInSIdeal.main_arg1)
          ∧ r.2.mem ((c.tc : Thread Cert.ReferenceInSIdeal.nD Cert.ReferenceInSIdeal.τ).loc Cert.ReferenceInSIdeal.main_arg2) = m' ((c.tc : Thread Cert.ReferenceInSIdeal.nD Cert.ReferenceInSIdeal.τ).loc Cert.ReferenceInSIdeal.main_arg2)
          ∧ r.2.mem ((c.tc : Thread Cert.ReferenceInSIdeal.nD Cert.ReferenceInSIdeal.τ).loc Cert.ReferenceInSIdeal.main_arg3) = m' ((c.tc : Thread Cert.ReferenceInSIdeal.nD Cert.ReferenceInSIdeal.τ).loc Cert.ReferenceInSIdeal.main_arg3))

def preserves_KernelPleS_KernelPleSIdeal : Prop :=
  True

def algebraic_KernelPleSIdeal_ReferencePleSIdeal [hKernelPleSIdeal : Cert.KernelPleSIdeal.Facts] [hReferencePleSIdeal : Cert.ReferencePleSIdeal.Facts] : Prop :=
  ∀ (m : (ℓ : Loc Cert.KernelPleSIdeal.nD Cert.KernelPleSIdeal.τ Cert.KernelPleSIdeal.sig) → Buf (Elt Ideal) ℓ) (g : Dev Cert.KernelPleSIdeal.nD → PrngReg)
    (m' : (ℓ : Loc Cert.ReferencePleSIdeal.nD Cert.ReferencePleSIdeal.τ Cert.ReferencePleSIdeal.sig) → Buf (Elt Ideal) ℓ) (g' : Dev Cert.ReferencePleSIdeal.nD → PrngReg), Pre_KernelPleSIdeal m →
    (∀ c : Dev Cert.KernelPleSIdeal.nD,
      m' ((c.tc : Thread Cert.ReferencePleSIdeal.nD Cert.ReferencePleSIdeal.τ).loc Cert.ReferencePleSIdeal.main_arg0) = m ((c.tc : Thread Cert.KernelPleSIdeal.nD Cert.KernelPleSIdeal.τ).loc Cert.KernelPleSIdeal.main_arg0)
      ∧ m' ((c.tc : Thread Cert.ReferencePleSIdeal.nD Cert.ReferencePleSIdeal.τ).loc Cert.ReferencePleSIdeal.main_arg1) = m ((c.tc : Thread Cert.KernelPleSIdeal.nD Cert.KernelPleSIdeal.τ).loc Cert.KernelPleSIdeal.main_arg1)
      ∧ m' ((c.tc : Thread Cert.ReferencePleSIdeal.nD Cert.ReferencePleSIdeal.τ).loc Cert.ReferencePleSIdeal.main_arg2) = m ((c.tc : Thread Cert.KernelPleSIdeal.nD Cert.KernelPleSIdeal.τ).loc Cert.KernelPleSIdeal.main_arg2)
      ∧ m' ((c.tc : Thread Cert.ReferencePleSIdeal.nD Cert.ReferencePleSIdeal.τ).loc Cert.ReferencePleSIdeal.main_arg3) = m ((c.tc : Thread Cert.KernelPleSIdeal.nD Cert.KernelPleSIdeal.τ).loc Cert.KernelPleSIdeal.main_arg3)
      ∧ m' ((c.tc : Thread Cert.ReferencePleSIdeal.nD Cert.ReferencePleSIdeal.τ).loc Cert.ReferencePleSIdeal.main_arg4) = m ((c.tc : Thread Cert.KernelPleSIdeal.nD Cert.KernelPleSIdeal.τ).loc Cert.KernelPleSIdeal.main_arg4)
      ∧ m' ((c.tc : Thread Cert.ReferencePleSIdeal.nD Cert.ReferencePleSIdeal.τ).loc Cert.ReferencePleSIdeal.main_arg5) = m ((c.tc : Thread Cert.KernelPleSIdeal.nD Cert.KernelPleSIdeal.τ).loc Cert.KernelPleSIdeal.main_arg5)
      ∧ m' ((c.tc : Thread Cert.ReferencePleSIdeal.nD Cert.ReferencePleSIdeal.τ).loc Cert.ReferencePleSIdeal.main_arg6) = m ((c.tc : Thread Cert.KernelPleSIdeal.nD Cert.KernelPleSIdeal.τ).loc Cert.KernelPleSIdeal.main_arg6)) →
    ∃ (v0 : (c : Dev Cert.KernelPleSIdeal.nD) → Buf (Elt Ideal) ((c.tc : Thread Cert.KernelPleSIdeal.nD Cert.KernelPleSIdeal.τ).loc Cert.KernelPleSIdeal.main_v5)),
      θ_run (Cert.KernelPleSIdeal.defs (F := Ideal)) (onTc (τ := Cert.KernelPleSIdeal.τ) (Cert.KernelPleSIdeal.main (F := Ideal))) ⟨m, fun _ => 0, g⟩ (fun r => ∀ c : Dev Cert.KernelPleSIdeal.nD,
          r.2.mem ((c.tc : Thread Cert.KernelPleSIdeal.nD Cert.KernelPleSIdeal.τ).loc Cert.KernelPleSIdeal.main_v5) = v0 c
          ∧ r.2.mem ((c.tc : Thread Cert.KernelPleSIdeal.nD Cert.KernelPleSIdeal.τ).loc Cert.KernelPleSIdeal.main_arg0) = m ((c.tc : Thread Cert.KernelPleSIdeal.nD Cert.KernelPleSIdeal.τ).loc Cert.KernelPleSIdeal.main_arg0)
          ∧ r.2.mem ((c.tc : Thread Cert.KernelPleSIdeal.nD Cert.KernelPleSIdeal.τ).loc Cert.KernelPleSIdeal.main_arg1) = m ((c.tc : Thread Cert.KernelPleSIdeal.nD Cert.KernelPleSIdeal.τ).loc Cert.KernelPleSIdeal.main_arg1)
          ∧ r.2.mem ((c.tc : Thread Cert.KernelPleSIdeal.nD Cert.KernelPleSIdeal.τ).loc Cert.KernelPleSIdeal.main_arg2) = m ((c.tc : Thread Cert.KernelPleSIdeal.nD Cert.KernelPleSIdeal.τ).loc Cert.KernelPleSIdeal.main_arg2)
          ∧ r.2.mem ((c.tc : Thread Cert.KernelPleSIdeal.nD Cert.KernelPleSIdeal.τ).loc Cert.KernelPleSIdeal.main_arg3) = m ((c.tc : Thread Cert.KernelPleSIdeal.nD Cert.KernelPleSIdeal.τ).loc Cert.KernelPleSIdeal.main_arg3)
          ∧ r.2.mem ((c.tc : Thread Cert.KernelPleSIdeal.nD Cert.KernelPleSIdeal.τ).loc Cert.KernelPleSIdeal.main_arg4) = m ((c.tc : Thread Cert.KernelPleSIdeal.nD Cert.KernelPleSIdeal.τ).loc Cert.KernelPleSIdeal.main_arg4)
          ∧ r.2.mem ((c.tc : Thread Cert.KernelPleSIdeal.nD Cert.KernelPleSIdeal.τ).loc Cert.KernelPleSIdeal.main_arg5) = m ((c.tc : Thread Cert.KernelPleSIdeal.nD Cert.KernelPleSIdeal.τ).loc Cert.KernelPleSIdeal.main_arg5)
          ∧ r.2.mem ((c.tc : Thread Cert.KernelPleSIdeal.nD Cert.KernelPleSIdeal.τ).loc Cert.KernelPleSIdeal.main_arg6) = m ((c.tc : Thread Cert.KernelPleSIdeal.nD Cert.KernelPleSIdeal.τ).loc Cert.KernelPleSIdeal.main_arg6))
      ∧ θ_run (Cert.ReferencePleSIdeal.defs (F := Ideal)) (onTc (τ := Cert.ReferencePleSIdeal.τ) (Cert.ReferencePleSIdeal.main (F := Ideal))) ⟨m', fun _ => 0, g'⟩ (fun r => ∀ c : Dev Cert.ReferencePleSIdeal.nD,
          r.2.mem ((c.tc : Thread Cert.ReferencePleSIdeal.nD Cert.ReferencePleSIdeal.τ).loc Cert.ReferencePleSIdeal.main_v40) = v0 c
          ∧ r.2.mem ((c.tc : Thread Cert.ReferencePleSIdeal.nD Cert.ReferencePleSIdeal.τ).loc Cert.ReferencePleSIdeal.main_arg0) = m' ((c.tc : Thread Cert.ReferencePleSIdeal.nD Cert.ReferencePleSIdeal.τ).loc Cert.ReferencePleSIdeal.main_arg0)
          ∧ r.2.mem ((c.tc : Thread Cert.ReferencePleSIdeal.nD Cert.ReferencePleSIdeal.τ).loc Cert.ReferencePleSIdeal.main_arg1) = m' ((c.tc : Thread Cert.ReferencePleSIdeal.nD Cert.ReferencePleSIdeal.τ).loc Cert.ReferencePleSIdeal.main_arg1)
          ∧ r.2.mem ((c.tc : Thread Cert.ReferencePleSIdeal.nD Cert.ReferencePleSIdeal.τ).loc Cert.ReferencePleSIdeal.main_arg2) = m' ((c.tc : Thread Cert.ReferencePleSIdeal.nD Cert.ReferencePleSIdeal.τ).loc Cert.ReferencePleSIdeal.main_arg2)
          ∧ r.2.mem ((c.tc : Thread Cert.ReferencePleSIdeal.nD Cert.ReferencePleSIdeal.τ).loc Cert.ReferencePleSIdeal.main_arg3) = m' ((c.tc : Thread Cert.ReferencePleSIdeal.nD Cert.ReferencePleSIdeal.τ).loc Cert.ReferencePleSIdeal.main_arg3)
          ∧ r.2.mem ((c.tc : Thread Cert.ReferencePleSIdeal.nD Cert.ReferencePleSIdeal.τ).loc Cert.ReferencePleSIdeal.main_arg4) = m' ((c.tc : Thread Cert.ReferencePleSIdeal.nD Cert.ReferencePleSIdeal.τ).loc Cert.ReferencePleSIdeal.main_arg4)
          ∧ r.2.mem ((c.tc : Thread Cert.ReferencePleSIdeal.nD Cert.ReferencePleSIdeal.τ).loc Cert.ReferencePleSIdeal.main_arg5) = m' ((c.tc : Thread Cert.ReferencePleSIdeal.nD Cert.ReferencePleSIdeal.τ).loc Cert.ReferencePleSIdeal.main_arg5)
          ∧ r.2.mem ((c.tc : Thread Cert.ReferencePleSIdeal.nD Cert.ReferencePleSIdeal.τ).loc Cert.ReferencePleSIdeal.main_arg6) = m' ((c.tc : Thread Cert.ReferencePleSIdeal.nD Cert.ReferencePleSIdeal.τ).loc Cert.ReferencePleSIdeal.main_arg6))

def Claim : Prop :=
  ∃ (hKernelMlp : Cert.KernelMlp.Facts) (hKernelMlpIdeal : Cert.KernelMlpIdeal.Facts) (hReferenceMlpIdeal : Cert.ReferenceMlpIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelPle : Cert.KernelPle.Facts) (hKernelPleIdeal : Cert.KernelPleIdeal.Facts) (hReferencePleIdeal : Cert.ReferencePleIdeal.Facts) (hKernelAttn : Cert.KernelAttn.Facts) (hKernelAttnIdeal : Cert.KernelAttnIdeal.Facts) (hReferenceAttnIdeal : Cert.ReferenceAttnIdeal.Facts) (hKernelPool : Cert.KernelPool.Facts) (hKernelPoolIdeal : Cert.KernelPoolIdeal.Facts) (hReferencePoolIdeal : Cert.ReferencePoolIdeal.Facts) (hKernelPoolS : Cert.KernelPoolS.Facts) (hKernelPoolSIdeal : Cert.KernelPoolSIdeal.Facts) (hReferencePoolSIdeal : Cert.ReferencePoolSIdeal.Facts) (hKernelInS : Cert.KernelInS.Facts) (hKernelInSIdeal : Cert.KernelInSIdeal.Facts) (hReferenceInSIdeal : Cert.ReferenceInSIdeal.Facts) (hKernelPleS : Cert.KernelPleS.Facts) (hKernelPleSIdeal : Cert.KernelPleSIdeal.Facts) (hReferencePleSIdeal : Cert.ReferencePleSIdeal.Facts) (hPre_finite_qk : Cert.Pre_finite_qk.Facts) (hPre_finite_u : Cert.Pre_finite_u.Facts) (hPre_finite_u_prev : Cert.Pre_finite_u_prev.Facts),
    quiescent_KernelMlp (hKernelMlp := hKernelMlp)
    ∧ quiescent_KernelMlpIdeal (hKernelMlpIdeal := hKernelMlpIdeal)
    ∧ quiescent_ReferenceMlpIdeal (hReferenceMlpIdeal := hReferenceMlpIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelPle (hKernelPle := hKernelPle)
    ∧ quiescent_KernelPleIdeal (hKernelPleIdeal := hKernelPleIdeal)
    ∧ quiescent_ReferencePleIdeal (hReferencePleIdeal := hReferencePleIdeal)
    ∧ quiescent_KernelAttn (hKernelAttn := hKernelAttn)
    ∧ quiescent_KernelAttnIdeal (hKernelAttnIdeal := hKernelAttnIdeal)
    ∧ quiescent_KernelAttnIdeal_pre_finite_qk (hKernelAttnIdeal := hKernelAttnIdeal) (hPre_finite_qk := hPre_finite_qk)
    ∧ quiescent_ReferenceAttnIdeal (hReferenceAttnIdeal := hReferenceAttnIdeal)
    ∧ quiescent_ReferenceAttnIdeal_pre_finite_qk (hReferenceAttnIdeal := hReferenceAttnIdeal) (hPre_finite_qk := hPre_finite_qk)
    ∧ quiescent_KernelPool (hKernelPool := hKernelPool)
    ∧ quiescent_KernelPoolIdeal (hKernelPoolIdeal := hKernelPoolIdeal)
    ∧ quiescent_KernelPoolIdeal_pre_finite_u (hKernelPoolIdeal := hKernelPoolIdeal) (hPre_finite_u := hPre_finite_u)
    ∧ quiescent_ReferencePoolIdeal (hReferencePoolIdeal := hReferencePoolIdeal)
    ∧ quiescent_ReferencePoolIdeal_pre_finite_u (hReferencePoolIdeal := hReferencePoolIdeal) (hPre_finite_u := hPre_finite_u)
    ∧ quiescent_KernelPoolS (hKernelPoolS := hKernelPoolS)
    ∧ quiescent_KernelPoolSIdeal (hKernelPoolSIdeal := hKernelPoolSIdeal)
    ∧ quiescent_KernelPoolSIdeal_pre_finite_u_prev (hKernelPoolSIdeal := hKernelPoolSIdeal) (hPre_finite_u_prev := hPre_finite_u_prev)
    ∧ quiescent_ReferencePoolSIdeal (hReferencePoolSIdeal := hReferencePoolSIdeal)
    ∧ quiescent_ReferencePoolSIdeal_pre_finite_u_prev (hReferencePoolSIdeal := hReferencePoolSIdeal) (hPre_finite_u_prev := hPre_finite_u_prev)
    ∧ quiescent_KernelInS (hKernelInS := hKernelInS)
    ∧ quiescent_KernelInSIdeal (hKernelInSIdeal := hKernelInSIdeal)
    ∧ quiescent_ReferenceInSIdeal (hReferenceInSIdeal := hReferenceInSIdeal)
    ∧ quiescent_KernelPleS (hKernelPleS := hKernelPleS)
    ∧ quiescent_KernelPleSIdeal (hKernelPleSIdeal := hKernelPleSIdeal)
    ∧ quiescent_ReferencePleSIdeal (hReferencePleSIdeal := hReferencePleSIdeal)
    ∧ preserves_KernelMlp_KernelMlpIdeal
    ∧ algebraic_KernelMlpIdeal_ReferenceMlpIdeal (hKernelMlpIdeal := hKernelMlpIdeal) (hReferenceMlpIdeal := hReferenceMlpIdeal)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelPle_KernelPleIdeal
    ∧ algebraic_KernelPleIdeal_ReferencePleIdeal (hKernelPleIdeal := hKernelPleIdeal) (hReferencePleIdeal := hReferencePleIdeal)
    ∧ preserves_KernelAttn_KernelAttnIdeal
    ∧ algebraic_KernelAttnIdeal_ReferenceAttnIdeal_pre_finite_qk (hKernelAttnIdeal := hKernelAttnIdeal) (hReferenceAttnIdeal := hReferenceAttnIdeal) (hPre_finite_qk := hPre_finite_qk)
    ∧ preserves_KernelPool_KernelPoolIdeal
    ∧ algebraic_KernelPoolIdeal_ReferencePoolIdeal_pre_finite_u (hKernelPoolIdeal := hKernelPoolIdeal) (hReferencePoolIdeal := hReferencePoolIdeal) (hPre_finite_u := hPre_finite_u)
    ∧ preserves_KernelPoolS_KernelPoolSIdeal
    ∧ algebraic_KernelPoolSIdeal_ReferencePoolSIdeal_pre_finite_u_prev (hKernelPoolSIdeal := hKernelPoolSIdeal) (hReferencePoolSIdeal := hReferencePoolSIdeal) (hPre_finite_u_prev := hPre_finite_u_prev)
    ∧ preserves_KernelInS_KernelInSIdeal
    ∧ algebraic_KernelInSIdeal_ReferenceInSIdeal (hKernelInSIdeal := hKernelInSIdeal) (hReferenceInSIdeal := hReferenceInSIdeal)
    ∧ preserves_KernelPleS_KernelPleSIdeal
    ∧ algebraic_KernelPleSIdeal_ReferencePleSIdeal (hKernelPleSIdeal := hKernelPleSIdeal) (hReferencePleSIdeal := hReferencePleSIdeal)
-- ==== Pre_finite_qk.lean ====
abbrev S8x2048x1024 : Shape := ⟨3, ![8, 2048, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel

variable [Facts]

def fn {F : FTy → Type} [FloatOps F] (main_arg0 : FVec F S8x2048x1024 .f32) (main_arg1 : FVec F S8x2048x1024 .f32) (main_arg2 : FVec F S8x2048x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  main_v8
-- ==== Pre_finite_u.lean ====
abbrev S8x2048x1024 : Shape := ⟨3, ![8, 2048, 1024]⟩
abbrev S4x256x256 : Shape := ⟨3, ![4, 256, 256]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel

variable [Facts]

def fn {F : FTy → Type} [FloatOps F] (main_arg0 : FVec F S8x2048x1024 .f32) (main_arg1 : FVec F S4x256x256 .f32) (main_arg2 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  main_v3
-- ==== Pre_finite_u_prev.lean ====
abbrev S32x4x1024 : Shape := ⟨3, ![32, 4, 1024]⟩
abbrev S32x15x1024 : Shape := ⟨3, ![32, 15, 1024]⟩
abbrev S4x256x256 : Shape := ⟨3, ![4, 256, 256]⟩
abbrev S1024 : Shape := ⟨1, ![1024]⟩
abbrev S_ : Shape := ⟨0, ![]⟩

class Facts : Prop where
  bcast_S_S32x4x1024 : S_.BroadcastsInDim S32x4x1024 (![] : Fin 0 → Fin S32x4x1024.rank)
  reducesTo_S32x4x1024_S_d0_1_2 : S32x4x1024.ReducesTo [0, 1, 2] S_
  h_S_ : 0 < S_.numel
  bcast_S_S32x15x1024 : S_.BroadcastsInDim S32x15x1024 (![] : Fin 0 → Fin S32x15x1024.rank)
  reducesTo_S32x15x1024_S_d0_1_2 : S32x15x1024.ReducesTo [0, 1, 2] S_

variable [Facts]

def fn {F : FTy → Type} [FloatOps F] (main_arg0 : FVec F S32x4x1024 .f32) (main_arg1 : FVec F S32x15x1024 .f32) (main_arg2 : FVec F S4x256x256 .f32) (main_arg3 : FVec F S1024 .f32) : IVec S_ 1 :=
  let main_v0 : FVec F S32x4x1024 .f32 := Host.absf main_arg0
  let main_cst : FVec F S_ .f32 := constant S_ .f32 0x7F800000#32
  let main_v1 : FVec F S32x4x1024 .f32 := broadcastInDim S32x4x1024 ![] bcast_S_S32x4x1024 main_cst
  let main_v2 : IVec S32x4x1024 1 := cmpf .olt main_v0 main_v1
  let main_c : IVec S_ 1 := constantI S_ 1 1#1
  let main_v3 : IVec S_ 1 := (fun x v => Host.reduce IntOp.andi x v reducesTo_S32x4x1024_S_d0_1_2 h_S_) main_v2 main_c
  let main_v4 : FVec F S32x15x1024 .f32 := Host.absf main_arg1
  let main_cst_0 : FVec F S_ .f32 := constant S_ .f32 0x7F800000#32
  let main_v5 : FVec F S32x15x1024 .f32 := broadcastInDim S32x15x1024 ![] bcast_S_S32x15x1024 main_cst_0
  let main_v6 : IVec S32x15x1024 1 := cmpf .olt main_v4 main_v5
  let main_c_1 : IVec S_ 1 := constantI S_ 1 1#1
  let main_v7 : IVec S_ 1 := (fun x v => Host.reduce IntOp.andi x v reducesTo_S32x15x1024_S_d0_1_2 h_S_) main_v6 main_c_1
  let main_v8 : IVec S_ 1 := andi main_v3 main_v7
  main_v8
-- ==== KernelMlp.lean ====
abbrev S16384x2048 : Shape := ⟨2, ![16384, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S2048x8192, .bf16⟩
  | .hbm, ⟨5, _⟩ => ⟨S8192x2048, .bf16⟩
  | .hbm, ⟨6, _⟩ => ⟨S1x2048, .f32⟩
  | .hbm, ⟨7, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceMlpIdeal.lean ====
abbrev S16384x2048 : Shape := ⟨2, ![16384, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8192 : Shape := ⟨2, ![16384, 8192]⟩

abbrev nBuf : Space → Nat
  | .hbm => 27
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S16384x8192, .f32⟩
  | .hbm, ⟨21, _⟩ => ⟨S_, .f32⟩
  | .hbm, ⟨22, _⟩ => ⟨S16384x8192, .f32⟩
  | .hbm, ⟨23, _⟩ => ⟨S16384x8192, .f32⟩
  | .hbm, ⟨24, _⟩ => ⟨S16384x8192, .f32⟩
  | .hbm, ⟨25, _⟩ => ⟨S16384x2048, .f32⟩
  | .hbm, ⟨26, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== KernelIn.lean ====
abbrev S16384x2048 : Shape := ⟨2, ![16384, 2048]⟩
abbrev S2048 : Shape := ⟨1, ![2048]⟩
abbrev S2048x4096 : Shape := ⟨2, ![2048, 4096]⟩
abbrev S1x2048 : Shape := ⟨2, ![1, 2048]⟩
abbrev S16384x1024 : Shape := ⟨2, ![16384, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S2048x1024 : Shape := ⟨2, ![2048, 1024]⟩
abbrev S8x2048x1024 : Shape := ⟨3, ![8, 2048, 1024]⟩
abbrev S8x15x1024 : Shape := ⟨3, ![8, 15, 1024]⟩

abbrev nBuf : Space → Nat
  | .hbm => 11
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x4096, .f32⟩
  | .hbm, ⟨3, _⟩ => ⟨S2048x4096, .bf16⟩
  | .hbm, ⟨4, _⟩ => ⟨S1x2048, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S8x2048x1024, .f32⟩
  | .hbm, ⟨10, _⟩ => ⟨S8x15x1024, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x4096, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceInIdeal.lean ====
abbrev S16384x2048 : Shape := ⟨2, ![16384, 2048]⟩
abbrev S2048 : Shape := ⟨1, ![2048]⟩
abbrev S2048x4096 : Shape := ⟨2, ![2048, 4096]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x4096 : Shape := ⟨2, ![16384, 4096]⟩
abbrev S16384x1024 : Shape := ⟨2, ![16384, 1024]⟩
abbrev S8x2048x1024 : Shape := ⟨3, ![8, 2048, 1024]⟩
abbrev S8x15x1024 : Shape := ⟨3, ![8, 15, 1024]⟩

abbrev nBuf : Space → Nat
  | .hbm => 26
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x4096, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x4096, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S8x2048x1024, .f32⟩
  | .hbm, ⟨25, _⟩ => ⟨S8x15x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== KernelOut.lean ====
abbrev S16384x1024 : Shape := ⟨2, ![16384, 1024]⟩
abbrev S2048x2048 : Shape := ⟨2, ![2048, 2048]⟩
abbrev S16384x2048 : Shape := ⟨2, ![16384, 2048]⟩
abbrev S512x1024 : Shape := ⟨2, ![512, 1024]⟩
abbrev S512x2048 : Shape := ⟨2, ![512, 2048]⟩
abbrev S1024x2048 : Shape := ⟨2, ![1024, 2048]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S2048x2048, .bf16⟩
  | .hbm, ⟨5, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceOutIdeal.lean ====
abbrev S16384x1024 : Shape := ⟨2, ![16384, 1024]⟩
abbrev S2048x2048 : Shape := ⟨2, ![2048, 2048]⟩
abbrev S16384x2048 : Shape := ⟨2, ![16384, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S16384x1024, .f32⟩
  | .hbm, ⟨5, _⟩ => ⟨S16384x1024, .f32⟩
  | .hbm, ⟨6, _⟩ => ⟨S16384x2048, .f32⟩
  | .hbm, ⟨7, _⟩ => ⟨S16384x2048, .f32⟩
  | .hbm, ⟨8, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelPle.lean ====
abbrev S16384x2048 : Shape := ⟨2, ![16384, 2048]⟩
abbrev S2x16384x256 : Shape := ⟨3, ![2, 16384, 256]⟩
abbrev S2048 : Shape := ⟨1, ![2048]⟩
abbrev S2048x2048 : Shape := ⟨2, ![2048, 2048]⟩
abbrev S256x2048 : Shape := ⟨2, ![256, 2048]⟩
abbrev S1x2048 : Shape := ⟨2, ![1, 2048]⟩
abbrev S512x2048 : Shape := ⟨2, ![512, 2048]⟩
abbrev S1x512x256 : Shape := ⟨3, ![1, 512, 256]⟩
abbrev S512 : Shape := ⟨1, ![512]⟩
abbrev S512x1 : Shape := ⟨2, ![512, 1]⟩
abbrev S512x256 : Shape := ⟨2, ![512, 256]⟩

abbrev nBuf : Space → Nat
  | .hbm => 13
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2x16384x256, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S256x2048, .f32⟩
  | .hbm, ⟨6, _⟩ => ⟨S2048, .f32⟩
  | .hbm, ⟨7, _⟩ => ⟨S2048x2048, .bf16⟩
  | .hbm, ⟨8, _⟩ => ⟨S256x2048, .bf16⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x512x256, .f32⟩
  | .local _ .vmem, ⟨3, _⟩ => ⟨S1x512x256, .f32⟩
  | .local _ .vmem, ⟨4, _⟩ => ⟨S1x2048, .f32⟩
  | .local _ .vmem, ⟨5, _⟩ => ⟨S2048x2048, .bf16⟩
  | .local _ .vmem, ⟨6, _⟩ => ⟨S1x2048, .f32⟩
  | .local _ .vmem, ⟨7, _⟩ => ⟨S256x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferencePleIdeal.lean ====
abbrev S16384x2048 : Shape := ⟨2, ![16384, 2048]⟩
abbrev S2x16384x256 : Shape := ⟨3, ![2, 16384, 256]⟩
abbrev S2048 : Shape := ⟨1, ![2048]⟩
abbrev S2048x2048 : Shape := ⟨2, ![2048, 2048]⟩
abbrev S256x2048 : Shape := ⟨2, ![256, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x16384x256 : Shape := ⟨3, ![1, 16384, 256]⟩
abbrev S16384x256 : Shape := ⟨2, ![16384, 256]⟩

abbrev nBuf : Space → Nat
  | .hbm => 56
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x16384x256, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S256x2048, .f32⟩
  | .hbm, ⟨6, _⟩ => ⟨S2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S1x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384x2048, .f32⟩
  | .hbm, ⟨34, _⟩ => ⟨S16384x2048, .f32⟩
  | .hbm, ⟨35, _⟩ => ⟨S1x16384x256, .f32⟩
  | .hbm, ⟨36, _⟩ => ⟨S16384x256, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x2048, .f32⟩
  | .hbm, ⟨52, _⟩ => ⟨S16384x2048, .f32⟩
  | .hbm, ⟨53, _⟩ => ⟨S1x2048, .f32⟩
  | .hbm, ⟨54, _⟩ => ⟨S16384x2048, .f32⟩
  | .hbm, ⟨55, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== KernelAttn.lean ====
abbrev S8x2048x1024 : Shape := ⟨3, ![8, 2048, 1024]⟩
abbrev S1x2048x128 : Shape := ⟨3, ![1, 2048, 128]⟩
abbrev S2048x128 : Shape := ⟨2, ![2048, 128]⟩
abbrev S128x2048 : Shape := ⟨2, ![128, 2048]⟩
abbrev S8x128 : Shape := ⟨2, ![8, 128]⟩
abbrev S2x2048x256 : Shape := ⟨3, ![2, 2048, 256]⟩
abbrev S1x256x128 : Shape := ⟨3, ![1, 256, 128]⟩
abbrev S256x128 : Shape := ⟨2, ![256, 128]⟩
abbrev S128 : Shape := ⟨1, ![128]⟩
abbrev S1x128 : Shape := ⟨2, ![1, 128]⟩
abbrev S128x256 : Shape := ⟨2, ![128, 256]⟩
abbrev S8x256 : Shape := ⟨2, ![8, 256]⟩
abbrev S128x128 : Shape := ⟨2, ![128, 128]⟩
abbrev S1x128x256 : Shape := ⟨3, ![1, 128, 256]⟩
abbrev S256 : Shape := ⟨1, ![256]⟩
abbrev S1x256 : Shape := ⟨2, ![1, 256]⟩
abbrev S256x256 : Shape := ⟨2, ![256, 256]⟩

abbrev nBuf : Space → Nat
  | .hbm => 4
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x1024, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .bf16⟩
  | .local _ .vmem, ⟨7, _⟩ => ⟨S1x2048x128, .bf16⟩
  | .local _ .vmem, ⟨8, _⟩ => ⟨S2048x128, .bf16⟩
  | .local _ .vmem, ⟨9, _⟩ => ⟨S128x2048, .bf16⟩
  | .local _ .vmem, ⟨10, _⟩ => ⟨S8x128, .f32⟩
  | .local _ .vmem, ⟨11, _⟩ => ⟨S2x2048x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelAttnIdeal.lean ====
variable {F : FTy → Type} [FloatOps F] [Named F]
def κ : String → Option EReal := fun
  | "exp2_scale" => some (((Real.sqrt 128)⁻¹ * (Real.log 2)⁻¹ : ℝ) : EReal)
  | _ => none
-- ==== ReferenceAttnIdeal.lean ====
abbrev S8x2048x1024 : Shape := ⟨3, ![8, 2048, 1024]⟩
abbrev S8x2048x8x128 : Shape := ⟨4, ![8, 2048, 8, 128]⟩
abbrev S8x8x256x8x128 : Shape := ⟨5, ![8, 8, 256, 8, 128]⟩
abbrev S8x8x8x256x128 : Shape := ⟨5, ![8, 8, 8, 256, 128]⟩
abbrev S_ : Shape := ⟨0, ![]⟩
abbrev S8x8x8x128 : Shape := ⟨4, ![8, 8, 8, 128]⟩
abbrev S2048 : Shape := ⟨1, ![2048]⟩
abbrev S8 : Shape := ⟨1, ![8]⟩
abbrev S8x1x1x1 : Shape := ⟨4, ![8, 1, 1, 1]⟩
abbrev S1x8x1x1 : Shape := ⟨4, ![1, 8, 1, 1]⟩
abbrev S256 : Shape := ⟨1, ![256]⟩
abbrev S8x8x2048x8 : Shape := ⟨4, ![8, 8, 2048, 8]⟩
abbrev S1x8 : Shape := ⟨2, ![1, 8]⟩
abbrev S2048x1 : Shape := ⟨2, ![2048, 1]⟩
abbrev S2048x8 : Shape := ⟨2, ![2048, 8]⟩
abbrev S8x8x2048x3 : Shape := ⟨4, ![8, 8, 2048, 3]⟩
abbrev S1x1x2048x1 : Shape := ⟨4, ![1, 1, 2048, 1]⟩
abbrev S8x8x2048x1 : Shape := ⟨4, ![8, 8, 2048, 1]⟩
abbrev S8x8x2048x4 : Shape := ⟨4, ![8, 8, 2048, 4]⟩
abbrev S8x8x2048x4x1 : Shape := ⟨5, ![8, 8, 2048, 4, 1]⟩
abbrev S8x8x2048x4x3 : Shape := ⟨5, ![8, 8, 2048, 4, 3]⟩
abbrev S8x8x2048x4x256x128 : Shape := ⟨6, ![8, 8, 2048, 4, 256, 128]⟩
abbrev S8x8x2048x4x256 : Shape := ⟨5, ![8, 8, 2048, 4, 256]⟩
abbrev S1x1x1x1x256 : Shape := ⟨5, ![1, 1, 1, 1, 256]⟩
abbrev S1x1x2048x1x1 : Shape := ⟨5, ![1, 1, 2048, 1, 1]⟩
abbrev S8x8x2048x1024 : Shape := ⟨4, ![8, 8, 2048, 1024]⟩
abbrev S8x8x2048 : Shape := ⟨3, ![8, 8, 2048]⟩

abbrev nBuf : Space → Nat
  | .hbm => 157
  | .vmem => 0
  | .smem => 0
  | _ => 0

abbrev hbmTy0_0 (i : Nat) : BufTy := match i % 128 with
  | 0 => ⟨S8x2048x1024, .f32⟩
  | 1 => ⟨S8x2048x1024, .f32⟩
  | 2 => ⟨S8x2048x1024, .f32⟩
  | 3 => ⟨S8x2048x8x128, .f32⟩
  | 4 => ⟨S8x8x256x8x128, .f32⟩
  | 5 => ⟨S8x8x8x256x128, .f32⟩
  | 6 => ⟨S8x8x256x8x128, .f32⟩
  | 7 => ⟨S8x8x8x256x128, .f32⟩
  | 8 => ⟨S_, .f32⟩
  | 9 => ⟨S8x8x8x128, .f32⟩
  | 10 => ⟨S_, .f32⟩
  | 11 => ⟨S8x8x8x128, .f32⟩
  | 12 => ⟨S8x8x8x128, .f32⟩
  | 13 => ⟨S2048, .i32⟩
  | 14 => ⟨S8, .i32⟩
  | 15 => ⟨S8x1x1x1, .i32⟩
  | 16 => ⟨S8, .i32⟩
  | 17 => ⟨S1x8x1x1, .i32⟩
  | 18 => ⟨S8, .i32⟩
  | 19 => ⟨S256, .i32⟩
  | 20 => ⟨S_, .i32⟩
  | 21 => ⟨S_, .i32⟩
  | 22 => ⟨S2048, .i32⟩
  | 23 => ⟨S2048, .i32⟩
  | 24 => ⟨S2048, .i32⟩
  | 25 => ⟨S_, .i32⟩
  | 26 => ⟨S2048, .i32⟩
  | 27 => ⟨S2048, .i1⟩
  | 28 => ⟨S2048, .i32⟩
  | 29 => ⟨S2048, .i32⟩
  | 30 => ⟨S_, .i32⟩
  | 31 => ⟨S2048, .i32⟩
  | 32 => ⟨S2048, .i1⟩
  | 33 => ⟨S2048, .i1⟩
  | 34 => ⟨S_, .i32⟩
  | 35 => ⟨S2048, .i32⟩
  | 36 => ⟨S2048, .i32⟩
  | 37 => ⟨S2048, .i32⟩
  | 38 => ⟨S8x8x2048x8, .f32⟩
  | 39 => ⟨S1x8, .i32⟩
  | 40 => ⟨S2048x1, .i32⟩
  | 41 => ⟨S2048x8, .i32⟩
  | 42 => ⟨S2048x8, .i32⟩
  | 43 => ⟨S2048x8, .i1⟩
  | 44 => ⟨S_, .f32⟩
  | 45 => ⟨S_, .f32⟩
  | 46 => ⟨S8x8x2048x8, .i1⟩
  | 47 => ⟨S8x8x2048x8, .f32⟩
  | 48 => ⟨S8x8x2048x8, .f32⟩
  | 49 => ⟨S8x8x2048x3, .f32⟩
  | 50 => ⟨S8x8x2048x3, .i32⟩
  | 51 => ⟨S1x1x2048x1, .i32⟩
  | 52 => ⟨S8x8x2048x1, .i32⟩
  | 53 => ⟨S8x8x2048x4, .i32⟩
  | 54 => ⟨S8x8x2048x3, .i32⟩
  | 55 => ⟨S8x8x2048x3, .i1⟩
  | 56 => ⟨S_, .i1⟩
  | 57 => ⟨S8x8x2048x1, .i1⟩
  | 58 => ⟨S8x8x2048x4, .i1⟩
  | 59 => ⟨S_, .i32⟩
  | 60 => ⟨S8x1x1x1, .i32⟩
  | 61 => ⟨S8x1x1x1, .i1⟩
  | 62 => ⟨S_, .i32⟩
  | 63 => ⟨S8x1x1x1, .i32⟩
  | 64 => ⟨S8x1x1x1, .i32⟩
  | 65 => ⟨S8x1x1x1, .i32⟩
  | 66 => ⟨S_, .i32⟩
  | 67 => ⟨S1x8x1x1, .i32⟩
  | 68 => ⟨S1x8x1x1, .i1⟩
  | 69 => ⟨S_, .i32⟩
  | 70 => ⟨S1x8x1x1, .i32⟩
  | 71 => ⟨S1x8x1x1, .i32⟩
  | 72 => ⟨S1x8x1x1, .i32⟩
  | 73 => ⟨S_, .i32⟩
  | 74 => ⟨S8x8x2048x4, .i32⟩
  | 75 => ⟨S8x8x2048x4, .i1⟩
  | 76 => ⟨S_, .i32⟩
  | 77 => ⟨S8x8x2048x4, .i32⟩
  | 78 => ⟨S8x8x2048x4, .i32⟩
  | 79 => ⟨S8x8x2048x4, .i32⟩
  | 80 => ⟨S8x8x2048x4, .i32⟩
  | 81 => ⟨S8x8x2048x4, .i32⟩
  | 82 => ⟨S8x8x2048x4x1, .i32⟩
  | 83 => ⟨S8x8x2048x4x1, .i32⟩
  | 84 => ⟨S8x8x2048x4x1, .i32⟩
  | 85 => ⟨S8x8x2048x4x3, .i32⟩
  | 86 => ⟨S8x8x2048x4x256x128, .f32⟩
  | 87 => ⟨S_, .i32⟩
  | 88 => ⟨S8x1x1x1, .i32⟩
  | 89 => ⟨S8x1x1x1, .i1⟩
  | 90 => ⟨S_, .i32⟩
  | 91 => ⟨S8x1x1x1, .i32⟩
  | 92 => ⟨S8x1x1x1, .i32⟩
  | 93 => ⟨S8x1x1x1, .i32⟩
  | 94 => ⟨S_, .i32⟩
  | 95 => ⟨S1x8x1x1, .i32⟩
  | 96 => ⟨S1x8x1x1, .i1⟩
  | 97 => ⟨S_, .i32⟩
  | 98 => ⟨S1x8x1x1, .i32⟩
  | 99 => ⟨S1x8x1x1, .i32⟩
  | 100 => ⟨S1x8x1x1, .i32⟩
  | 101 => ⟨S_, .i32⟩
  | 102 => ⟨S8x8x2048x4, .i32⟩
  | 103 => ⟨S8x8x2048x4, .i1⟩
  | 104 => ⟨S_, .i32⟩
  | 105 => ⟨S8x8x2048x4, .i32⟩
  | 106 => ⟨S8x8x2048x4, .i32⟩
  | 107 => ⟨S8x8x2048x4, .i32⟩
  | 108 => ⟨S8x8x2048x4, .i32⟩
  | 109 => ⟨S8x8x2048x4, .i32⟩
  | 110 => ⟨S8x8x2048x4x1, .i32⟩
  | 111 => ⟨S8x8x2048x4x1, .i32⟩
  | 112 => ⟨S8x8x2048x4x1, .i32⟩
  | 113 => ⟨S8x8x2048x4x3, .i32⟩
  | 114 => ⟨S8x8x2048x4x256x128, .f32⟩
  | 115 => ⟨S8x8x2048x4x256, .f32⟩
  | 116 => ⟨S_, .f32⟩
  | 117 => ⟨S_, .f32⟩
  | 118 => ⟨S8x8x2048x4x256, .f32⟩
  | 119 => ⟨S8x8x2048x4x256, .f32⟩
  | 120 => ⟨S8x8x2048x4x1, .i32⟩
  | 121 => ⟨S_, .i32⟩
  | 122 => ⟨S8x8x2048x4x1, .i32⟩
  | 123 => ⟨S8x8x2048x4x1, .i32⟩
  | 124 => ⟨S1x1x1x1x256, .i32⟩
  | 125 => ⟨S8x8x2048x4x256, .i32⟩
  | 126 => ⟨S8x8x2048x4x256, .i32⟩
  | 127 => ⟨S8x8x2048x4x256, .i32⟩
  | _ => ⟨S8x2048x1024, .f32⟩

abbrev hbmTy0_1 (i : Nat) : BufTy := match i % 128 with
  | 0 => ⟨S8x8x2048x4x1, .i1⟩
  | 1 => ⟨S1x1x2048x1x1, .i32⟩
  | 2 => ⟨S8x8x2048x4x256, .i32⟩
  | 3 => ⟨S8x8x2048x4x256, .i1⟩
  | 4 => ⟨S8x8x2048x4x256, .i1⟩
  | 5 => ⟨S8x8x2048x4x256, .i1⟩
  | 6 => ⟨S_, .f32⟩
  | 7 => ⟨S_, .f32⟩
  | 8 => ⟨S8x8x2048x4x256, .f32⟩
  | 9 => ⟨S8x8x2048x4x256, .f32⟩
  | 10 => ⟨S8x8x2048x1024, .f32⟩
  | 11 => ⟨S_, .f32⟩
  | 12 => ⟨S8x8x2048, .f32⟩
  | 13 => ⟨S_, .f32⟩
  | 14 => ⟨S8x8x2048, .f32⟩
  | 15 => ⟨S8x8x2048, .f32⟩
  | 16 => ⟨S8x8x2048x1, .f32⟩
  | 17 => ⟨S8x8x2048x1024, .f32⟩
  | 18 => ⟨S8x8x2048x1024, .f32⟩
  | 19 => ⟨S8x8x2048x1024, .f32⟩
  | 20 => ⟨S_, .f32⟩
  | 21 => ⟨S8x8x2048, .f32⟩
  | 22 => ⟨S8x8x2048x1, .f32⟩
  | 23 => ⟨S8x8x2048x1024, .f32⟩
  | 24 => ⟨S8x8x2048x1024, .f32⟩
  | 25 => ⟨S8x8x2048x4x256, .f32⟩
  | 26 => ⟨S8x2048x8x128, .f32⟩
  | 27 => ⟨S8x2048x1024, .f32⟩
  | 28 => ⟨S8x2048x1024, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_1 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v22 : Ref sig .tc := ⟨.hbm, 48, rfl⟩
abbrev main_values : Ref sig .tc := ⟨.hbm, 49, rfl⟩
abbrev main_indices : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_2 : Ref sig .tc := ⟨.hbm, 56, rfl⟩
abbrev main_v28 : Ref sig .tc := ⟨.hbm, 57, rfl⟩
abbrev main_v29 : Ref sig .tc := ⟨.hbm, 58, rfl⟩
abbrev main_c_3 : Ref sig .tc := ⟨.hbm, 59, rfl⟩
abbrev main_v30 : Ref sig .tc := ⟨.hbm, 60, rfl⟩
abbrev main_v31 : Ref sig .tc := ⟨.hbm, 61, rfl⟩
abbrev main_c_4 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_c_5 : Ref sig .tc := ⟨.hbm, 66, rfl⟩
abbrev main_v35 : Ref sig .tc := ⟨.hbm, 67, rfl⟩
abbrev main_v36 : Ref sig .tc := ⟨.hbm, 68, rfl⟩
abbrev main_c_6 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_c_7 : Ref sig .tc := ⟨.hbm, 73, rfl⟩
abbrev main_v40 : Ref sig .tc := ⟨.hbm, 74, rfl⟩
abbrev main_v41 : Ref sig .tc := ⟨.hbm, 75, rfl⟩
abbrev main_c_8 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_9 : Ref sig .tc := ⟨.hbm, 87, rfl⟩
abbrev main_v52 : Ref sig .tc := ⟨.hbm, 88, rfl⟩
abbrev main_v53 : Ref sig .tc := ⟨.hbm, 89, rfl⟩
abbrev main_c_10 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_c_11 : Ref sig .tc := ⟨.hbm, 94, rfl⟩
abbrev main_v57 : Ref sig .tc := ⟨.hbm, 95, rfl⟩
abbrev main_v58 : Ref sig .tc := ⟨.hbm, 96, rfl⟩
abbrev main_c_12 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_c_13 : Ref sig .tc := ⟨.hbm, 101, rfl⟩
abbrev main_v62 : Ref sig .tc := ⟨.hbm, 102, rfl⟩
abbrev main_v63 : Ref sig .tc := ⟨.hbm, 103, rfl⟩
abbrev main_c_14 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_15 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_c_16 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_17 : Ref sig .tc := ⟨.hbm, 134, rfl⟩
abbrev main_call2_v0 : Ref sig .tc := ⟨.hbm, 135, rfl⟩
abbrev main_call2_v1 : Ref sig .tc := ⟨.hbm, 136, rfl⟩
abbrev main_v91 : Ref sig .tc := ⟨.hbm, 137, rfl⟩
abbrev main_v92 : Ref sig .tc := ⟨.hbm, 138, rfl⟩
abbrev main_cst_18 : Ref sig .tc := ⟨.hbm, 139, rfl⟩
abbrev main_v93 : Ref sig .tc := ⟨.hbm, 140, rfl⟩
abbrev main_cst_19 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_cst_20 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩

abbrev nD : Nat := 1
abbrev τ : Topo := Topo.v7x

variable {F : FTy → Type} [FloatOps F]
-- ==== KernelPool.lean ====
abbrev S8x2048x1024 : Shape := ⟨3, ![8, 2048, 1024]⟩
abbrev S4x256x256 : Shape := ⟨3, ![4, 256, 256]⟩
abbrev S1024 : Shape := ⟨1, ![1024]⟩
abbrev S1x1024 : Shape := ⟨2, ![1, 1024]⟩
abbrev S1x512x1024 : Shape := ⟨3, ![1, 512, 1024]⟩
abbrev S1x16x1024 : Shape := ⟨3, ![1, 16, 1024]⟩
abbrev S528x1024 : Shape := ⟨2, ![528, 1024]⟩
abbrev S16x1024 : Shape := ⟨2, ![16, 1024]⟩
abbrev S512x1024 : Shape := ⟨2, ![512, 1024]⟩
abbrev S512x1 : Shape := ⟨2, ![512, 1]⟩
abbrev S528x256 : Shape := ⟨2, ![528, 256]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩
abbrev S1x512x256 : Shape := ⟨3, ![1, 512, 256]⟩

abbrev nBuf : Space → Nat
  | .hbm => 6
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S4x256x256, .f32⟩
  | .hbm, ⟨2, _⟩ => ⟨S1024, .f32⟩
  | .hbm, ⟨3, _⟩ => ⟨S4x256x256, .bf16⟩
  | .hbm, ⟨4, _⟩ => ⟨S1x1024, .f32⟩
  | .hbm, ⟨5, _⟩ => ⟨S8x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S4x256x256, .bf16⟩
  | .local _ .vmem, ⟨5, _⟩ => ⟨S1x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S528x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferencePoolIdeal.lean ====
abbrev S8x2048x1024 : Shape := ⟨3, ![8, 2048, 1024]⟩
abbrev S4x256x256 : Shape := ⟨3, ![4, 256, 256]⟩
abbrev S1024 : Shape := ⟨1, ![1024]⟩
abbrev S_ : Shape := ⟨0, ![]⟩
abbrev S8x15x1024 : Shape := ⟨3, ![8, 15, 1024]⟩
abbrev S8x2063x1024 : Shape := ⟨3, ![8, 2063, 1024]⟩
abbrev S8x1x1024 : Shape := ⟨3, ![8, 1, 1024]⟩
abbrev S8x2064x1024 : Shape := ⟨3, ![8, 2064, 1024]⟩
abbrev S2048 : Shape := ⟨1, ![2048]⟩
abbrev S8x2048x256 : Shape := ⟨3, ![8, 2048, 256]⟩
abbrev S1x2048x1 : Shape := ⟨3, ![1, 2048, 1]⟩
abbrev S8x2048x1x256 : Shape := ⟨4, ![8, 2048, 1, 256]⟩
abbrev S8x2048x4x256 : Shape := ⟨4, ![8, 2048, 4, 256]⟩
abbrev S4x256x8x2048 : Shape := ⟨4, ![4, 256, 8, 2048]⟩
abbrev S1x1x1024 : Shape := ⟨3, ![1, 1, 1024]⟩

abbrev nBuf : Space → Nat
  | .hbm => 86
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x256x256, .f32⟩
  | .hbm, ⟨2, _⟩ => ⟨S1024, .f32⟩
  | .hbm, ⟨3, _⟩ => ⟨S_, .f32⟩
  | .hbm, ⟨4, _⟩ => ⟨S8x15x1024, .f32⟩
  | .hbm, ⟨5, _⟩ => ⟨S8x2063x1024, .f32⟩
  | .hbm, ⟨6, _⟩ => ⟨S_, .f32⟩
  | .hbm, ⟨7, _⟩ => ⟨S_, .f32⟩
  | .hbm, ⟨8, _⟩ => ⟨S8x2063x1024, .f32⟩
  | .hbm, ⟨9, _⟩ => ⟨S_, .f32⟩
  | .hbm, ⟨10, _⟩ => ⟨S8x1x1024, .f32⟩
  | .hbm, ⟨11, _⟩ => ⟨S8x2064x1024, .f32⟩
  | .hbm, ⟨12, _⟩ => ⟨S2048, .i32⟩
  | .hbm, ⟨13, _⟩ => ⟨S8x2048x1024, .f32⟩
  | .hbm, ⟨14, _⟩ => ⟨S8x2048x256, .f32⟩
  | .hbm, ⟨15, _⟩ => ⟨S_, .i32⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .f32⟩
  | .hbm, ⟨22, _⟩ => ⟨S8x2048x256, .f32⟩
  | .hbm, ⟨23, _⟩ => ⟨S8x2048x256, .f32⟩
  | .hbm, ⟨24, _⟩ => ⟨S1x2048x1, .f32⟩
  | .hbm, ⟨25, _⟩ => ⟨S8x2048x256, .f32⟩
  | .hbm, ⟨26, _⟩ => ⟨S8x2048x256, .f32⟩
  | .hbm, ⟨27, _⟩ => ⟨S8x2048x256, .f32⟩
  | .hbm, ⟨28, _⟩ => ⟨S8x2048x256, .f32⟩
  | .hbm, ⟨29, _⟩ => ⟨S8x2048x256, .f32⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i32⟩
  | .hbm, ⟨36, _⟩ => ⟨S2048, .f32⟩
  | .hbm, ⟨37, _⟩ => ⟨S8x2048x256, .f32⟩
  | .hbm, ⟨38, _⟩ => ⟨S8x2048x256, .f32⟩
  | .hbm, ⟨39, _⟩ => ⟨S1x2048x1, .f32⟩
  | .hbm, ⟨40, _⟩ => ⟨S8x2048x256, .f32⟩
  | .hbm, ⟨41, _⟩ => ⟨S8x2048x256, .f32⟩
  | .hbm, ⟨42, _⟩ => ⟨S8x2048x256, .f32⟩
  | .hbm, ⟨43, _⟩ => ⟨S8x2048x256, .f32⟩
  | .hbm, ⟨44, _⟩ => ⟨S8x2048x256, .f32⟩
  | .hbm, ⟨45, _⟩ => ⟨S_, .i32⟩
  | .hbm, ⟨46, _⟩ => ⟨S2048, .i32⟩
  | .hbm, ⟨47, _⟩ => ⟨S2048, .i32⟩
  | .hbm, ⟨48, _⟩ => ⟨S_, .i32⟩
  | .hbm, ⟨49, _⟩ => ⟨S2048, .i32⟩
  | .hbm, ⟨50, _⟩ => ⟨S2048, .i32⟩
  | .hbm, ⟨51, _⟩ => ⟨S2048, .f32⟩
  | .hbm, ⟨52, _⟩ => ⟨S8x2048x256, .f32⟩
  | .hbm, ⟨53, _⟩ => ⟨S8x2048x256, .f32⟩
  | .hbm, ⟨54, _⟩ => ⟨S1x2048x1, .f32⟩
  | .hbm, ⟨55, _⟩ => ⟨S8x2048x256, .f32⟩
  | .hbm, ⟨56, _⟩ => ⟨S8x2048x256, .f32⟩
  | .hbm, ⟨57, _⟩ => ⟨S8x2048x256, .f32⟩
  | .hbm, ⟨58, _⟩ => ⟨S8x2048x256, .f32⟩
  | .hbm, ⟨59, _⟩ => ⟨S8x2048x256, .f32⟩
  | .hbm, ⟨60, _⟩ => ⟨S_, .i32⟩
  | .hbm, ⟨61, _⟩ => ⟨S2048, .i32⟩
  | .hbm, ⟨62, _⟩ => ⟨S2048, .i32⟩
  | .hbm, ⟨63, _⟩ => ⟨S_, .i32⟩
  | .hbm, ⟨64, _⟩ => ⟨S2048, .i32⟩
  | .hbm, ⟨65, _⟩ => ⟨S2048, .i32⟩
  | .hbm, ⟨66, _⟩ => ⟨S2048, .f32⟩
  | .hbm, ⟨67, _⟩ => ⟨S8x2048x256, .f32⟩
  | .hbm, ⟨68, _⟩ => ⟨S8x2048x256, .f32⟩
  | .hbm, ⟨69, _⟩ => ⟨S1x2048x1, .f32⟩
  | .hbm, ⟨70, _⟩ => ⟨S8x2048x256, .f32⟩
  | .hbm, ⟨71, _⟩ => ⟨S8x2048x256, .f32⟩
  | .hbm, ⟨72, _⟩ => ⟨S8x2048x256, .f32⟩
  | .hbm, ⟨73, _⟩ => ⟨S8x2048x256, .f32⟩
  | .hbm, ⟨74, _⟩ => ⟨S8x2048x1x256, .f32⟩
  | .hbm, ⟨75, _⟩ => ⟨S8x2048x1x256, .f32⟩
  | .hbm, ⟨76, _⟩ => ⟨S8x2048x1x256, .f32⟩
  | .hbm, ⟨77, _⟩ => ⟨S8x2048x1x256, .f32⟩
  | .hbm, ⟨78, _⟩ => ⟨S8x2048x4x256, .f32⟩
  | .hbm, ⟨79, _⟩ => ⟨S4x256x8x2048, .f32⟩
  | .hbm, ⟨80, _⟩ => ⟨S8x2048x4x256, .f32⟩
  | .hbm, ⟨81, _⟩ => ⟨S8x2048x1024, .f32⟩
  | .hbm, ⟨82, _⟩ => ⟨S1x1x1024, .f32⟩
  | .hbm, ⟨83, _⟩ => ⟨S8x2048x1024, .f32⟩
  | .hbm, ⟨84, _⟩ => ⟨S8x2048x1024, .f32⟩
  | .hbm, ⟨85, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_call0_cst : Ref sig .tc := ⟨.hbm, 6, rfl⟩
abbrev main_call0_call0_v0 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_4 : Ref sig .tc := ⟨.hbm, 45, rfl⟩
abbrev main_v34 : Ref sig .tc := ⟨.hbm, 46, rfl⟩
abbrev main_v35 : Ref sig .tc := ⟨.hbm, 47, rfl⟩
abbrev main_c_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_6 : Ref sig .tc := ⟨.hbm, 60, rfl⟩
abbrev main_v47 : Ref sig .tc := ⟨.hbm, 61, rfl⟩
abbrev main_v48 : Ref sig .tc := ⟨.hbm, 62, rfl⟩
abbrev main_c_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩

abbrev nD : Nat := 1
abbrev τ : Topo := Topo.v7x

variable {F : FTy → Type} [FloatOps F]
-- ==== KernelPoolS.lean ====
abbrev S32x4x1024 : Shape := ⟨3, ![32, 4, 1024]⟩
abbrev S32x15x1024 : Shape := ⟨3, ![32, 15, 1024]⟩
abbrev S4x256x256 : Shape := ⟨3, ![4, 256, 256]⟩
abbrev S1024 : Shape := ⟨1, ![1024]⟩
abbrev S4x32x1024 : Shape := ⟨3, ![4, 32, 1024]⟩
abbrev S15x32x1024 : Shape := ⟨3, ![15, 32, 1024]⟩
abbrev S1x1024 : Shape := ⟨2, ![1, 1024]⟩
abbrev S1x32x256 : Shape := ⟨3, ![1, 32, 256]⟩
abbrev S32x256 : Shape := ⟨2, ![32, 256]⟩
abbrev S128x256 : Shape := ⟨2, ![128, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 10
  | .vmem => 5
  | .smem => 0
  | _ => 0

abbrev bufTy : (tb : Table) → Fin (tcTables nBuf tb) → BufTy
  | .hbm, ⟨0, _⟩ => ⟨S32x4x1024, .f32⟩
  | .hbm, ⟨1, _⟩ => ⟨S32x15x1024, .f32⟩
  | .hbm, ⟨2, _⟩ => ⟨S4x256x256, .f32⟩
  | .hbm, ⟨3, _⟩ => ⟨S1024, .f32⟩
  | .hbm, ⟨4, _⟩ => ⟨S4x32x1024, .f32⟩
  | .hbm, ⟨5, _⟩ => ⟨S15x32x1024, .f32⟩
  | .hbm, ⟨6, _⟩ => ⟨S4x256x256, .bf16⟩
  | .hbm, ⟨7, _⟩ => ⟨S1x1024, .f32⟩
  | .hbm, ⟨8, _⟩ => ⟨S4x32x1024, .bf16⟩
  | .hbm, ⟨9, _⟩ => ⟨S32x4x1024, .bf16⟩
  | .local _ .vmem, ⟨0, _⟩ => ⟨S15x32x1024, .f32⟩
  | .local _ .vmem, ⟨1, _⟩ => ⟨S4x32x1024, .f32⟩
  | .local _ .vmem, ⟨2, _⟩ => ⟨S4x256x256, .bf16⟩
  | .local _ .vmem, ⟨3, _⟩ => ⟨S1x1024, .f32⟩
  | .local _ .vmem, ⟨4, _⟩ => ⟨S4x32x1024, .bf16⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S15x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x32x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferencePoolSIdeal.lean ====
abbrev S32x4x1024 : Shape := ⟨3, ![32, 4, 1024]⟩
abbrev S32x15x1024 : Shape := ⟨3, ![32, 15, 1024]⟩
abbrev S4x256x256 : Shape := ⟨3, ![4, 256, 256]⟩
abbrev S1024 : Shape := ⟨1, ![1024]⟩
abbrev S32x19x1024 : Shape := ⟨3, ![32, 19, 1024]⟩
abbrev S_ : Shape := ⟨0, ![]⟩
abbrev S32x1x1024 : Shape := ⟨3, ![32, 1, 1024]⟩
abbrev S32x20x1024 : Shape := ⟨3, ![32, 20, 1024]⟩
abbrev S4 : Shape := ⟨1, ![4]⟩
abbrev S32x4x256 : Shape := ⟨3, ![32, 4, 256]⟩
abbrev S1x4x1 : Shape := ⟨3, ![1, 4, 1]⟩
abbrev S32x4x1x256 : Shape := ⟨4, ![32, 4, 1, 256]⟩
abbrev S32x4x4x256 : Shape := ⟨4, ![32, 4, 4, 256]⟩
abbrev S4x256x32x4 : Shape := ⟨4, ![4, 256, 32, 4]⟩
abbrev S1x1x1024 : Shape := ⟨3, ![1, 1, 1024]⟩

abbrev nBuf : Space → Nat
  | .hbm => 97
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x15x1024, .f32⟩
  | .hbm, ⟨2, _⟩ => ⟨S4x256x256, .f32⟩
  | .hbm, ⟨3, _⟩ => ⟨S1024, .f32⟩
  | .hbm, ⟨4, _⟩ => ⟨S32x19x1024, .f32⟩
  | .hbm, ⟨5, _⟩ => ⟨S_, .f32⟩
  | .hbm, ⟨6, _⟩ => ⟨S_, .f32⟩
  | .hbm, ⟨7, _⟩ => ⟨S32x19x1024, .f32⟩
  | .hbm, ⟨8, _⟩ => ⟨S_, .f32⟩
  | .hbm, ⟨9, _⟩ => ⟨S32x1x1024, .f32⟩
  | .hbm, ⟨10, _⟩ => ⟨S32x20x1024, .f32⟩
  | .hbm, ⟨11, _⟩ => ⟨S4, .i32⟩
  | .hbm, ⟨12, _⟩ => ⟨S32x4x1024, .f32⟩
  | .hbm, ⟨13, _⟩ => ⟨S32x4x256, .f32⟩
  | .hbm, ⟨14, _⟩ => ⟨S_, .i32⟩
  | .hbm, ⟨15, _⟩ => ⟨S4, .i32⟩
  | .hbm, ⟨16, _⟩ => ⟨S4, .i32⟩
  | .hbm, ⟨17, _⟩ => ⟨S_, .i32⟩
  | .hbm, ⟨18, _⟩ => ⟨S4, .i32⟩
  | .hbm, ⟨19, _⟩ => ⟨S4, .i32⟩
  | .hbm, ⟨20, _⟩ => ⟨S_, .i32⟩
  | .hbm, ⟨21, _⟩ => ⟨S4, .i32⟩
  | .hbm, ⟨22, _⟩ => ⟨S4, .i32⟩
  | .hbm, ⟨23, _⟩ => ⟨S4, .f32⟩
  | .hbm, ⟨24, _⟩ => ⟨S32x4x256, .f32⟩
  | .hbm, ⟨25, _⟩ => ⟨S32x4x256, .f32⟩
  | .hbm, ⟨26, _⟩ => ⟨S1x4x1, .f32⟩
  | .hbm, ⟨27, _⟩ => ⟨S32x4x256, .f32⟩
  | .hbm, ⟨28, _⟩ => ⟨S32x4x256, .f32⟩
  | .hbm, ⟨29, _⟩ => ⟨S32x4x256, .f32⟩
  | .hbm, ⟨30, _⟩ => ⟨S32x4x256, .f32⟩
  | .hbm, ⟨31, _⟩ => ⟨S32x4x256, .f32⟩
  | .hbm, ⟨32, _⟩ => ⟨S_, .i32⟩
  | .hbm, ⟨33, _⟩ => ⟨S4, .i32⟩
  | .hbm, ⟨34, _⟩ => ⟨S4, .i32⟩
  | .hbm, ⟨35, _⟩ => ⟨S_, .i32⟩
  | .hbm, ⟨36, _⟩ => ⟨S4, .i32⟩
  | .hbm, ⟨37, _⟩ => ⟨S4, .i32⟩
  | .hbm, ⟨38, _⟩ => ⟨S_, .i32⟩
  | .hbm, ⟨39, _⟩ => ⟨S4, .i32⟩
  | .hbm, ⟨40, _⟩ => ⟨S4, .i32⟩
  | .hbm, ⟨41, _⟩ => ⟨S4, .f32⟩
  | .hbm, ⟨42, _⟩ => ⟨S32x4x256, .f32⟩
  | .hbm, ⟨43, _⟩ => ⟨S32x4x256, .f32⟩
  | .hbm, ⟨44, _⟩ => ⟨S1x4x1, .f32⟩
  | .hbm, ⟨45, _⟩ => ⟨S32x4x256, .f32⟩
  | .hbm, ⟨46, _⟩ => ⟨S32x4x256, .f32⟩
  | .hbm, ⟨47, _⟩ => ⟨S32x4x256, .f32⟩
  | .hbm, ⟨48, _⟩ => ⟨S32x4x256, .f32⟩
  | .hbm, ⟨49, _⟩ => ⟨S32x4x256, .f32⟩
  | .hbm, ⟨50, _⟩ => ⟨S_, .i32⟩
  | .hbm, ⟨51, _⟩ => ⟨S4, .i32⟩
  | .hbm, ⟨52, _⟩ => ⟨S4, .i32⟩
  | .hbm, ⟨53, _⟩ => ⟨S_, .i32⟩
  | .hbm, ⟨54, _⟩ => ⟨S4, .i32⟩
  | .hbm, ⟨55, _⟩ => ⟨S4, .i32⟩
  | .hbm, ⟨56, _⟩ => ⟨S_, .i32⟩
  | .hbm, ⟨57, _⟩ => ⟨S4, .i32⟩
  | .hbm, ⟨58, _⟩ => ⟨S4, .i32⟩
  | .hbm, ⟨59, _⟩ => ⟨S4, .f32⟩
  | .hbm, ⟨60, _⟩ => ⟨S32x4x256, .f32⟩
  | .hbm, ⟨61, _⟩ => ⟨S32x4x256, .f32⟩
  | .hbm, ⟨62, _⟩ => ⟨S1x4x1, .f32⟩
  | .hbm, ⟨63, _⟩ => ⟨S32x4x256, .f32⟩
  | .hbm, ⟨64, _⟩ => ⟨S32x4x256, .f32⟩
  | .hbm, ⟨65, _⟩ => ⟨S32x4x256, .f32⟩
  | .hbm, ⟨66, _⟩ => ⟨S32x4x256, .f32⟩
  | .hbm, ⟨67, _⟩ => ⟨S32x4x256, .f32⟩
  | .hbm, ⟨68, _⟩ => ⟨S_, .i32⟩
  | .hbm, ⟨69, _⟩ => ⟨S4, .i32⟩
  | .hbm, ⟨70, _⟩ => ⟨S4, .i32⟩
  | .hbm, ⟨71, _⟩ => ⟨S_, .i32⟩
  | .hbm, ⟨72, _⟩ => ⟨S4, .i32⟩
  | .hbm, ⟨73, _⟩ => ⟨S4, .i32⟩
  | .hbm, ⟨74, _⟩ => ⟨S_, .i32⟩
  | .hbm, ⟨75, _⟩ => ⟨S4, .i32⟩
  | .hbm, ⟨76, _⟩ => ⟨S4, .i32⟩
  | .hbm, ⟨77, _⟩ => ⟨S4, .f32⟩
  | .hbm, ⟨78, _⟩ => ⟨S32x4x256, .f32⟩
  | .hbm, ⟨79, _⟩ => ⟨S32x4x256, .f32⟩
  | .hbm, ⟨80, _⟩ => ⟨S1x4x1, .f32⟩
  | .hbm, ⟨81, _⟩ => ⟨S32x4x256, .f32⟩
  | .hbm, ⟨82, _⟩ => ⟨S32x4x256, .f32⟩
  | .hbm, ⟨83, _⟩ => ⟨S32x4x256, .f32⟩
  | .hbm, ⟨84, _⟩ => ⟨S32x4x256, .f32⟩
  | .hbm, ⟨85, _⟩ => ⟨S32x4x1x256, .f32⟩
  | .hbm, ⟨86, _⟩ => ⟨S32x4x1x256, .f32⟩
  | .hbm, ⟨87, _⟩ => ⟨S32x4x1x256, .f32⟩
  | .hbm, ⟨88, _⟩ => ⟨S32x4x1x256, .f32⟩
  | .hbm, ⟨89, _⟩ => ⟨S32x4x4x256, .f32⟩
  | .hbm, ⟨90, _⟩ => ⟨S4x256x32x4, .f32⟩
  | .hbm, ⟨91, _⟩ => ⟨S32x4x4x256, .f32⟩
  | .hbm, ⟨92, _⟩ => ⟨S32x4x1024, .f32⟩
  | .hbm, ⟨93, _⟩ => ⟨S1x1x1024, .f32⟩
  | .hbm, ⟨94, _⟩ => ⟨S32x4x1024, .f32⟩
  | .hbm, ⟨95, _⟩ => ⟨S32x4x1024, .f32⟩
  | .hbm, ⟨96, _⟩ => ⟨S32x4x1024, .bf16⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_5 : Ref sig .tc := ⟨.hbm, 50, rfl⟩
abbrev main_v37 : Ref sig .tc := ⟨.hbm, 51, rfl⟩
abbrev main_v38 : Ref sig .tc := ⟨.hbm, 52, rfl⟩
abbrev main_c_6 : Ref sig .tc := ⟨.hbm, 53, rfl⟩
abbrev main_v39 : Ref sig .tc := ⟨.hbm, 54, rfl⟩
abbrev main_v40 : Ref sig .tc := ⟨.hbm, 55, rfl⟩
abbrev main_c_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_8 : Ref sig .tc := ⟨.hbm, 68, rfl⟩
abbrev main_v52 : Ref sig .tc := ⟨.hbm, 69, rfl⟩
abbrev main_v53 : Ref sig .tc := ⟨.hbm, 70, rfl⟩
abbrev main_c_9 : Ref sig .tc := ⟨.hbm, 71, rfl⟩
abbrev main_v54 : Ref sig .tc := ⟨.hbm, 72, rfl⟩
abbrev main_v55 : Ref sig .tc := ⟨.hbm, 73, rfl⟩
abbrev main_c_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩

abbrev nD : Nat := 1
abbrev τ : Topo := Topo.v7x

variable {F : FTy → Type} [FloatOps F]
-- ==== KernelInS.lean ====
abbrev S128x2048 : Shape := ⟨2, ![128, 2048]⟩
abbrev S2048 : Shape := ⟨1, ![2048]⟩
abbrev S2048x4096 : Shape := ⟨2, ![2048, 4096]⟩
abbrev S32x15x1024 : Shape := ⟨3, ![32, 15, 1024]⟩
abbrev S1x2048 : Shape := ⟨2, ![1, 2048]⟩
abbrev S128x1024 : Shape := ⟨2, ![128, 1024]⟩
abbrev S128 : Shape := ⟨1, ![128]⟩
abbrev S128x1 : Shape := ⟨2, ![128, 1]⟩
abbrev S2048x1024 : Shape := ⟨2, ![2048, 1024]⟩
abbrev S32x4x1024 : Shape := ⟨3, ![32, 4, 1024]⟩
abbrev S32x19x1024 : Shape := ⟨3, ![32, 19, 1024]⟩

abbrev nBuf : Space → Nat
  | .hbm => 13
  | .vmem => 7
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S2048x4096, .f32⟩
  | .hbm, ⟨3, _⟩ => ⟨S32x15x1024, .f32⟩
  | .hbm, ⟨4, _⟩ => ⟨S2048x4096, .bf16⟩
  | .hbm, ⟨5, _⟩ => ⟨S1x2048, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S32x4x1024, .f32⟩
  | .hbm, ⟨11, _⟩ => ⟨S32x19x1024, .f32⟩
  | .hbm, ⟨12, _⟩ => ⟨S32x15x1024, .f32⟩
  | .local _ .vmem, ⟨0, _⟩ => ⟨S128x2048, .f32⟩
  | .local _ .vmem, ⟨1, _⟩ => ⟨S1x2048, .f32⟩
  | .local _ .vmem, ⟨2, _⟩ => ⟨S2048x4096, .bf16⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceInSIdeal.lean ====
abbrev S128x2048 : Shape := ⟨2, ![128, 2048]⟩
abbrev S2048 : Shape := ⟨1, ![2048]⟩
abbrev S2048x4096 : Shape := ⟨2, ![2048, 4096]⟩
abbrev S32x15x1024 : Shape := ⟨3, ![32, 15, 1024]⟩
abbrev S_ : Shape := ⟨0, ![]⟩
abbrev S128 : Shape := ⟨1, ![128]⟩
abbrev S128x1 : Shape := ⟨2, ![128, 1]⟩
abbrev S1x2048 : Shape := ⟨2, ![1, 2048]⟩
abbrev S128x4096 : Shape := ⟨2, ![128, 4096]⟩
abbrev S128x1024 : Shape := ⟨2, ![128, 1024]⟩
abbrev S32x4x1024 : Shape := ⟨3, ![32, 4, 1024]⟩
abbrev S32x19x1024 : Shape := ⟨3, ![32, 19, 1024]⟩

abbrev nBuf : Space → Nat
  | .hbm => 28
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S2048x4096, .f32⟩
  | .hbm, ⟨3, _⟩ => ⟨S32x15x1024, .f32⟩
  | .hbm, ⟨4, _⟩ => ⟨S128x2048, .f32⟩
  | .hbm, ⟨5, _⟩ => ⟨S_, .f32⟩
  | .hbm, ⟨6, _⟩ => ⟨S128, .f32⟩
  | .hbm, ⟨7, _⟩ => ⟨S128x1, .f32⟩
  | .hbm, ⟨8, _⟩ => ⟨S_, .f32⟩
  | .hbm, ⟨9, _⟩ => ⟨S128x1, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S128x1, .f32⟩
  | .hbm, ⟨15, _⟩ => ⟨S128x2048, .f32⟩
  | .hbm, ⟨16, _⟩ => ⟨S128x2048, .f32⟩
  | .hbm, ⟨17, _⟩ => ⟨S1x2048, .f32⟩
  | .hbm, ⟨18, _⟩ => ⟨S128x2048, .f32⟩
  | .hbm, ⟨19, _⟩ => ⟨S128x2048, .f32⟩
  | .hbm, ⟨20, _⟩ => ⟨S128x4096, .f32⟩
  | .hbm, ⟨21, _⟩ => ⟨S128x1024, .f32⟩
  | .hbm, ⟨22, _⟩ => ⟨S32x4x1024, .f32⟩
  | .hbm, ⟨23, _⟩ => ⟨S32x19x1024, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S32x15x1024, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== KernelPleS.lean ====
abbrev S128x2048 : Shape := ⟨2, ![128, 2048]⟩
abbrev S2x128x256 : Shape := ⟨3, ![2, 128, 256]⟩
abbrev S2048 : Shape := ⟨1, ![2048]⟩
abbrev S2048x2048 : Shape := ⟨2, ![2048, 2048]⟩
abbrev S256x2048 : Shape := ⟨2, ![256, 2048]⟩
abbrev S1x2048 : Shape := ⟨2, ![1, 2048]⟩
abbrev S1x128x256 : Shape := ⟨3, ![1, 128, 256]⟩
abbrev S128 : Shape := ⟨1, ![128]⟩
abbrev S128x1 : Shape := ⟨2, ![128, 1]⟩
abbrev S128x256 : Shape := ⟨2, ![128, 256]⟩

abbrev nBuf : Space → Nat
  | .hbm => 13
  | .vmem => 8
  | .smem => 0
  | _ => 0

abbrev bufTy : (tb : Table) → Fin (tcTables nBuf tb) → BufTy
  | .hbm, ⟨0, _⟩ => ⟨S128x2048, .f32⟩
  | .hbm, ⟨1, _⟩ => ⟨S2x128x256, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S256x2048, .f32⟩
  | .hbm, ⟨6, _⟩ => ⟨S2048, .f32⟩
  | .hbm, ⟨7, _⟩ => ⟨S2048x2048, .bf16⟩
  | .hbm, ⟨8, _⟩ => ⟨S256x2048, .bf16⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S128x2048, .f32⟩
  | .local _ .vmem, ⟨0, _⟩ => ⟨S128x2048, .f32⟩
  | .local _ .vmem, ⟨1, _⟩ => ⟨S1x128x256, .f32⟩
  | .local _ .vmem, ⟨2, _⟩ => ⟨S1x2048, .f32⟩
  | .local _ .vmem, ⟨3, _⟩ => ⟨S2048x2048, .bf16⟩
  | .local _ .vmem, ⟨4, _⟩ => ⟨S1x2048, .f32⟩
  | .local _ .vmem, ⟨5, _⟩ => ⟨S256x2048, .bf16⟩
  | .local _ .vmem, ⟨6, _⟩ => ⟨S1x2048, .f32⟩
  | .local _ .vmem, ⟨7, _⟩ => ⟨S128x2048, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferencePleSIdeal.lean ====
abbrev S128x2048 : Shape := ⟨2, ![128, 2048]⟩
abbrev S2x128x256 : Shape := ⟨3, ![2, 128, 256]⟩
abbrev S2048 : Shape := ⟨1, ![2048]⟩
abbrev S2048x2048 : Shape := ⟨2, ![2048, 2048]⟩
abbrev S256x2048 : Shape := ⟨2, ![256, 2048]⟩
abbrev S_ : Shape := ⟨0, ![]⟩
abbrev S128 : Shape := ⟨1, ![128]⟩
abbrev S128x1 : Shape := ⟨2, ![128, 1]⟩
abbrev S1x2048 : Shape := ⟨2, ![1, 2048]⟩
abbrev S1x128x256 : Shape := ⟨3, ![1, 128, 256]⟩
abbrev S128x256 : Shape := ⟨2, ![128, 256]⟩

abbrev nBuf : Space → Nat
  | .hbm => 56
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2x128x256, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S256x2048, .f32⟩
  | .hbm, ⟨6, _⟩ => ⟨S2048, .f32⟩
  | .hbm, ⟨7, _⟩ => ⟨S128x2048, .f32⟩
  | .hbm, ⟨8, _⟩ => ⟨S_, .f32⟩
  | .hbm, ⟨9, _⟩ => ⟨S128, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .f32⟩
  | .hbm, ⟨17, _⟩ => ⟨S128x1, .f32⟩
  | .hbm, ⟨18, _⟩ => ⟨S128x2048, .f32⟩
  | .hbm, ⟨19, _⟩ => ⟨S128x2048, .f32⟩
  | .hbm, ⟨20, _⟩ => ⟨S1x2048, .f32⟩
  | .hbm, ⟨21, _⟩ => ⟨S128x2048, .f32⟩
  | .hbm, ⟨22, _⟩ => ⟨S128x2048, .f32⟩
  | .hbm, ⟨23, _⟩ => ⟨S128x2048, .f32⟩
  | .hbm, ⟨24, _⟩ => ⟨S1x2048, .f32⟩
  | .hbm, ⟨25, _⟩ => ⟨S128x2048, .f32⟩
  | .hbm, ⟨26, _⟩ => ⟨S128x2048, .f32⟩
  | .hbm, ⟨27, _⟩ => ⟨S128x2048, .f32⟩
  | .hbm, ⟨28, _⟩ => ⟨S128x2048, .f32⟩
  | .hbm, ⟨29, _⟩ => ⟨S_, .f32⟩
  | .hbm, ⟨30, _⟩ => ⟨S128x2048, .f32⟩
  | .hbm, ⟨31, _⟩ => ⟨S128x2048, .f32⟩
  | .hbm, ⟨32, _⟩ => ⟨S_, .f32⟩
  | .hbm, ⟨33, _⟩ => ⟨S128x2048, .f32⟩
  | .hbm, ⟨34, _⟩ => ⟨S128x2048, .f32⟩
  | .hbm, ⟨35, _⟩ => ⟨S1x128x256, .f32⟩
  | .hbm, ⟨36, _⟩ => ⟨S128x256, .f32⟩
  | .hbm, ⟨37, _⟩ => ⟨S128x2048, .f32⟩
  | .hbm, ⟨38, _⟩ => ⟨S128x2048, .f32⟩
  | .hbm, ⟨39, _⟩ => ⟨S128x2048, .f32⟩
  | .hbm, ⟨40, _⟩ => ⟨S128x2048, .f32⟩
  | .hbm, ⟨41, _⟩ => ⟨S_, .f32⟩
  | .hbm, ⟨42, _⟩ => ⟨S128, .f32⟩
  | .hbm, ⟨43, _⟩ => ⟨S128x1, .f32⟩
  | .hbm, ⟨44, _⟩ => ⟨S_, .f32⟩
  | .hbm, ⟨45, _⟩ => ⟨S128x1, .f32⟩
  | .hbm, ⟨46, _⟩ => ⟨S128x1, .f32⟩
  | .hbm, ⟨47, _⟩ => ⟨S_, .f32⟩
  | .hbm, ⟨48, _⟩ => ⟨S128x1, .f32⟩
  | .hbm, ⟨49, _⟩ => ⟨S128x1, .f32⟩
  | .hbm, ⟨50, _⟩ => ⟨S128x1, .f32⟩
  | .hbm, ⟨51, _⟩ => ⟨S128x2048, .f32⟩
  | .hbm, ⟨52, _⟩ => ⟨S128x2048, .f32⟩
  | .hbm, ⟨53, _⟩ => ⟨S1x2048, .f32⟩
  | .hbm, ⟨54, _⟩ => ⟨S128x2048, .f32⟩
  | .hbm, ⟨55, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Proof.Norm.lean ====
module
public import proofs.«01_k».proof.Proof.Gen.ReferenceInIdeal
public import proofs.«01_k».proof.Proof.Gen.ReferenceInSIdeal
public import Idealize.ShloMosaic.Lib.Pipeline.ValueKit
public import Idealize.ShloMosaic.Lib.Pointwise

/-!
The normalisation by the root of the mean square, as the references print it: one term shared by the input projection,
the feed-forward layer and the per-layer embedding.
-/

@[expose] public section

noncomputable section

open Idealize.ShloMosaic Idealize.ShloMosaic.TcCoe Idealize.SL.Sem
namespace Cert.Norm

section Prompt

open Cert.ReferenceInIdeal Cert.ReferenceInIdeal.Gen

/-- Every row of `x` divided by the root of its mean square plus `1e-6`, times the gain `g`. -/
abbrev rms (x : FVec Ideal S16384x2048 .f32) (g : FVec Ideal S2048 .f32) : FVec Ideal S16384x2048 .f32 :=
  mulf (mulf x (broadcastInDim S16384x2048 ![0, 1] bcast_S16384x1_S16384x2048_0_1 (Host.rsqrt (addf
      (Host.divf (broadcastInDim S16384x1 ![0] bcast_S16384_S16384x1_0
          (Host.reduceAdd (mulf x x) (constant S_ .f32 0x00000000#32) reducesTo_S16384x2048_S16384_d1 h_S_))
        (broadcastInDim S16384x1 ![] bcast_S_S16384x1 (constant S_ .f32 0x45000000#32)))
      (broadcastInDim S16384x1 ![] bcast_S_S16384x1 (constant S_ .f32 0x358637BD#32))))))
    (broadcastInDim S16384x2048 ![0, 1] bcast_S1x2048_S16384x2048_0_1
      (broadcastInDim S1x2048 ![1] bcast_S2048_S1x2048_1 g))

end Prompt

section Sample

open Cert.ReferenceInSIdeal Cert.ReferenceInSIdeal.Gen

/-- The same of the rows of the sample batch: every row of `x` divided by the root of its mean square plus `1e-6`, times the gain `g`. -/
abbrev rmsS (x : FVec Ideal S128x2048 .f32) (g : FVec Ideal S2048 .f32) : FVec Ideal S128x2048 .f32 :=
  mulf (mulf x (broadcastInDim S128x2048 ![0, 1] bcast_S128x1_S128x2048_0_1 (Host.rsqrt (addf
      (Host.divf (broadcastInDim S128x1 ![0] bcast_S128_S128x1_0
          (Host.reduceAdd (mulf x x) (constant S_ .f32 0x00000000#32) reducesTo_S128x2048_S128_d1 h_S_))
        (broadcastInDim S128x1 ![] bcast_S_S128x1 (constant S_ .f32 0x45000000#32)))
      (broadcastInDim S128x1 ![] bcast_S_S128x1 (constant S_ .f32 0x358637BD#32))))))
    (broadcastInDim S128x2048 ![0, 1] bcast_S1x2048_S128x2048_0_1
      (broadcastInDim S1x2048 ![1] bcast_S2048_S1x2048_1 g))

end Sample

end Cert.Norm

end

end
-- ==== Proof.MlpValue.lean ====
module
public import proofs.«01_k».proof.Proof.Gen.KernelMlpIdeal.Frame
public import proofs.«01_k».proof.Proof.Gen.ReferenceMlpIdeal
public import proofs.«01_k».proof.Proof.Norm
public import Idealize.ShloMosaic.Lib.Pipeline.ValueKit
public import Idealize.ShloMosaic.Lib.Pipeline.ReadBack
public import Idealize.ShloMosaic.Lib.Pointwise

/-!
The value of the feed-forward layer over the extended reals. The kernel walks, for each of 32 row blocks, 8 blocks of
1024 hidden units: the first point of a run stores the normalised rows in its scratch buffer and the residual stream in
the result block, and every point adds its hidden units' share. After the run the result block is the reference's.
-/

@[expose] public section
set_option maxRecDepth 16384

noncomputable section

open Idealize.ShloMosaic Idealize.ShloMosaic.TcCoe Idealize.SL.Sem
open Idealize.ShloMosaic.Pipeline (Dat)

namespace Cert.KernelMlpIdeal.Value

open Cert.KernelMlpIdeal Cert.KernelMlpIdeal.Gen
open Cert.Norm (rms)

variable (m : (ℓ : Loc nD τ sig) → Buf (Elt Ideal) ℓ)

/-- The hidden units of the reference: the positive part of the normalised rows times the first weights. -/
abbrev REFU (h : FVec Ideal Cert.ReferenceMlpIdeal.S16384x2048 .f32) (g : FVec Ideal Cert.ReferenceMlpIdeal.S2048 .f32)
    (u : FVec Ideal Cert.ReferenceMlpIdeal.S2048x8192 .f32) : FVec Ideal Cert.ReferenceMlpIdeal.S16384x8192 .f32 :=
  maximumf
    (Host.dotGeneral Cert.ReferenceMlpIdeal.dot_S16384x2048_S2048x8192_S16384x8192_1_0_0_1_n_n none (rms h g) u)
    (broadcastInDim Cert.ReferenceMlpIdeal.S16384x8192 ![] Cert.ReferenceMlpIdeal.Gen.bcast_S_S16384x8192
      (constant Cert.ReferenceMlpIdeal.S_ .f32 0x00000000#32))

/-- The reference's result as a term over the call's own arguments. -/
abbrev REF (h : FVec Ideal Cert.ReferenceMlpIdeal.S16384x2048 .f32) (g : FVec Ideal Cert.ReferenceMlpIdeal.S2048 .f32)
    (u : FVec Ideal Cert.ReferenceMlpIdeal.S2048x8192 .f32) (d : FVec Ideal Cert.ReferenceMlpIdeal.S8192x2048 .f32) :
    FVec Ideal Cert.ReferenceMlpIdeal.S16384x2048 .f32 :=
  addf h (Host.dotGeneral Cert.ReferenceMlpIdeal.dot_S16384x8192_S8192x2048_S16384x2048_1_0_0_1_n_n none
    (mulf (REFU h g u) (REFU h g u)) d)

/-- The block every window stands at, at every grid point. -/
theorem idx_val : ∀ t : Fin cfg0.N, win0_0.index t = ![t.val / 8, 0]
    ∧ win0_1.index t = ![0, 0]
    ∧ win0_2.index t = ![0, t.val % 8]
    ∧ win0_3.index t = ![t.val % 8, 0]
    ∧ win0_4.index t = ![t.val / 8, 0] :=
  (by decide +kernel : ∀ t : Fin grid0.N, _)

/-- The normalised rows of a point's row block. -/
abbrev rowsAt (c : Dev nD) (t : Fin cfg0.N) : FVec Ideal S512x2048 .bf16 := k0_pay1 (iblk m c 0 t) (iblk m c 1 t)

/-- The row block does not change inside a run, and neither do its normalised rows. -/
theorem rowsAt_pred (c : Dev nD) (t : Fin cfg0.N) (h : ¬t.val % 8 = 0) :
    rowsAt m c ⟨t.val - 1, Nat.lt_of_le_of_lt (Nat.sub_le _ _) t.isLt⟩ = rowsAt m c t := by
  have e0 : (iblk m c 0 ⟨t.val - 1, Nat.lt_of_le_of_lt (Nat.sub_le _ _) t.isLt⟩ : FVec Ideal S512x2048 .f32)
      = iblk m c 0 t := by
    blk_ext! [iblk, V, idx_val t, idx_val ⟨t.val - 1, Nat.lt_of_le_of_lt (Nat.sub_le _ _) t.isLt⟩]
  have e1 : (iblk m c 1 ⟨t.val - 1, Nat.lt_of_le_of_lt (Nat.sub_le _ _) t.isLt⟩ : FVec Ideal S1x2048 .f32)
      = iblk m c 1 t := by
    blk_ext! [iblk, idx_val t, idx_val ⟨t.val - 1, Nat.lt_of_le_of_lt (Nat.sub_le _ _) t.isLt⟩]
  rw [rowsAt, rowsAt, e0, e1]

/-- The scratch buffer holds, at every point of a run, the normalised rows of the run's row block. -/
theorem scratch (c : Dev nD) : ∀ (n : ℕ) (hn : n < cfg0.N), (outsAt0 m c n hn).2 = rowsAt m c ⟨n, hn⟩ := by
  intro n
  induction n with
  | zero =>
    intro hn
    refine (congrArg Prod.snd (outsAt0_A m c ⟨0, hn⟩ rfl)).trans ?_
    frame_out
  | succ n ih =>
    intro hn
    by_cases h : (n + 1) % 8 = 0
    · refine (congrArg Prod.snd (outsAt0_A m c ⟨n + 1, hn⟩ h)).trans ?_
      frame_out
    · refine (congrArg Prod.snd (outsAt0_B m c ⟨n + 1, hn⟩ h)).trans ?_
      exact (ih (Nat.lt_of_succ_lt hn)).trans (rowsAt_pred m c ⟨n + 1, hn⟩ h)

/-- A point's share of the result block: its 1024 hidden units, squared, times their rows of the second weights. -/
abbrev part (a : FVec Ideal S512x2048 .bf16) (u : FVec Ideal S2048x1024 .bf16) (d : FVec Ideal S1024x2048 .bf16)
    (y : S512x2048.Idx) : EReal :=
  ∑ k : Fin 1024, max (∑ l : Fin 2048, a (ix2 (y 0) l) * u (ix2 l k)) 0
      * max (∑ l : Fin 2048, a (ix2 (y 0) l) * u (ix2 l k)) 0 * d (ix2 k (y 1))

/-- The accumulating payload adds the point's share to what the block held. -/
theorem pay2_apply (a : FVec Ideal S512x2048 .bf16) (u : FVec Ideal S2048x1024 .bf16) (acc : FVec Ideal S512x2048 .f32)
    (d : FVec Ideal S1024x2048 .bf16) (y) :
    k0_pay2 (F := Ideal) a u acc d y = acc y + part a u d y := by
  pointwise [k0_pay2]

/-- What a point adds: its share, and at the first point of a run also the residual stream. -/
abbrev added (c : Dev nD) (t : Fin cfg0.N) (y : S512x2048.Idx) : EReal :=
  (if t.val % 8 = 0 then (show FVec Ideal S512x2048 .f32 from iblk m c 0 t) y else 0)
    + part (rowsAt m c t) (iblk m c 2 t) (iblk m c 3 t) y

/-- The first point of a run leaves the residual stream plus its share. -/
theorem first (c : Dev nD) (t : Fin cfg0.N) (h : t.val % 8 = 0) (y) :
    (outsAt0 m c t.val t.isLt).1 y = 0 + added m c t y := by
  rw [outsAt0_A m c t h]
  frame_out
  rw [pay2_apply, added, if_pos h, zero_add]

/-- Every other point of a run adds its share to what the point before left. -/
theorem step (c : Dev nD) (t : Fin cfg0.N) (h : ¬t.val % 8 = 0) (y) :
    (outsAt0 m c t.val t.isLt).1 y
      = (outsAt0 m c (t.val - 1) (Nat.lt_of_le_of_lt (Nat.sub_le _ _) t.isLt)).1 y + added m c t y := by
  rw [outsAt0_B m c t h, scratch, rowsAt_pred m c t h]
  frame_out
  rw [read_unread_whole, pay2_apply, added, if_neg h, zero_add]

/-- Over a run the points add the residual stream once and the eight shares. -/
theorem sum_added (c : Dev nD) (t : Fin cfg0.N) (h : t.val % 8 = 8 - 1) (y : S512x2048.Idx) :
    ∑ s : Fin 8, added m c ⟨8 * (t.val / 8) + s.val, Pipeline.run_point_lt_of_flush t h s⟩ y
      = (show FVec Ideal S512x2048 .f32 from iblk m c 0 t) y
        + ∑ s : Fin 8, part (rowsAt m c ⟨8 * (t.val / 8) + s.val, Pipeline.run_point_lt_of_flush t h s⟩)
            (iblk m c 2 ⟨8 * (t.val / 8) + s.val, Pipeline.run_point_lt_of_flush t h s⟩)
            (iblk m c 3 ⟨8 * (t.val / 8) + s.val, Pipeline.run_point_lt_of_flush t h s⟩) y := by
  simp only [added]
  rw [Finset.sum_add_distrib]
  congr 1
  rw [Finset.sum_eq_single (0 : Fin 8) (fun s _ hs => if_neg (by have : s.val ≠ 0 := fun e => hs (Fin.ext e); omega))
    (fun h0 => absurd (Finset.mem_univ _) h0), if_pos (by simp)]
  blk_ext [iblk, V, idx_val t, idx_val ⟨8 * (t.val / 8) + (0 : Fin 8).val, Pipeline.run_point_lt_of_flush t h 0⟩]

/-- The kernel's result array after the run is the reference's result. -/
theorem final (c : Dev nD) : (dats m 0 c).arrAt 4 (cfgs 0).N
    = REF (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4, Pipeline.eq_sum_fin_of_reset_step_apply_of_flush (fun n h => (outsAt0 m c n h).1) 8 (fun _ => 0)
    (added m c) (first m c) (step m c) t ((flush0_4 t).mp hf) _, zero_add]
  refine (sum_added m c t ((flush0_4 t).mp hf) y).trans ?_
  pointwise [REF, REFU, rms, rowsAt, part, k0_pay1]
  refine congrArg₂ (· + ·) ?_ (Fin.sum_mul_add_congr fun s k hl => ?_)
  · blk_point [iblk, V, idx_val t]
  · blk_point [iblk, V, idx_val t, idx_val ⟨_, Pipeline.run_point_lt_of_flush t ((flush0_4 t).mp hf) s⟩]

end Cert.KernelMlpIdeal.Value

end

end
-- ==== Proof.InValue.lean ====
module
public import proofs.«01_k».proof.Proof.Gen.KernelInIdeal.Frame
public import proofs.«01_k».proof.Proof.Gen.ReferenceInIdeal
public import proofs.«01_k».proof.Proof.Norm
public import Idealize.ShloMosaic.Lib.Pipeline.ValueKit
public import Idealize.ShloMosaic.Lib.Pointwise
public import Idealize.ShloMosaic.Lib.StableHlo.RunRead
public import Idealize.ShloMosaic.Lib.StableHlo.ReadAt

/-!
The value of the input projection over the extended reals: after its 32 points the kernel's four result arrays are the
four column blocks of the normalised rows times the projection's weights.
-/

@[expose] public section
set_option maxRecDepth 16384

noncomputable section

open Idealize.ShloMosaic Idealize.ShloMosaic.TcCoe Idealize.SL.Sem
open Idealize.ShloMosaic.Pipeline (Dat)

namespace Cert.KernelInIdeal.Value

open Cert.KernelInIdeal Cert.KernelInIdeal.Gen
open Cert.Norm (rms)

variable (m : (ℓ : Loc nD τ sig) → Buf (Elt Ideal) ℓ)

/-- The whole projection of the reference, before it is cut into four. -/
abbrev REFZ (h : FVec Ideal Cert.ReferenceInIdeal.S16384x2048 .f32) (g : FVec Ideal Cert.ReferenceInIdeal.S2048 .f32)
    (w : FVec Ideal Cert.ReferenceInIdeal.S2048x4096 .f32) : FVec Ideal Cert.ReferenceInIdeal.S16384x4096 .f32 :=
  Host.dotGeneral Cert.ReferenceInIdeal.dot_S16384x2048_S2048x4096_S16384x4096_1_0_0_1_n_n none (rms h g) w

/-- The block every window stands at, at every grid point. -/
theorem idx_val : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-- The gain, whole at every point. -/
theorem block_gain (c : Dev nD) (t : Fin cfg0.N) (x : Fin 2048) :
    (iblk m c 1 t (ix2 0 x) : EReal) = m ((c : Thread nD τ).loc main_arg1) (ix1 x) := by
  have e : V m c main_v1 (ix2 0 x) = m ((c : Thread nD τ).loc main_arg1) (ix1 x) := by
    after_reads_at
  refine Eq.trans ?_ e
  blk_point [iblk, idx_val t]

/-- The queries: column block 0 of the reference's projection. -/
abbrev REF_3 (h : FVec Ideal Cert.ReferenceInIdeal.S16384x2048 .f32) (g : FVec Ideal Cert.ReferenceInIdeal.S2048 .f32)
    (w : FVec Ideal Cert.ReferenceInIdeal.S2048x4096 .f32) : FVec Ideal Cert.ReferenceInIdeal.S16384x1024 .f32 :=
  extractStridedSlice Cert.ReferenceInIdeal.S16384x1024 ![0, 0] (REFZ h g w)
    Cert.ReferenceInIdeal.Gen.slices_S16384x4096_S16384x1024_0_0

/-- What one point stores in the queries is the reference's at the rows of that point. -/
theorem point_3 (c : Dev nD) (t : Fin cfg0.N) (y) :
    k0_pay2 (iblk m c 0 t) (iblk m c 1 t) (View.ld (iblk m c 2 t) r0_2) y
      = REF_3 (m ((c : Thread nD τ).loc main_arg0)) (m ((c : Thread nD τ).loc main_arg1))
          (m ((c : Thread nD τ).loc main_arg2)) (((cfg0.win 3).blk t).view.emb y) := by
  pointwise [k0_pay2, k0_pay1, REF_3, REFZ, rms]
  blk_point [iblk, V, idx_val t]
  exact block_gain m c t _

/-- The array of the queries after the run. -/
theorem final_3 (c : Dev nD) : (dats m 0 c).arrAt 3 (cfgs 0).N
    = REF_3 (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp; rw [after0_3]; frame_out
  exact point_3 m c t y

/-- The keys: column block 1 of the reference's projection. -/
abbrev REF_4 (h : FVec Ideal Cert.ReferenceInIdeal.S16384x2048 .f32) (g : FVec Ideal Cert.ReferenceInIdeal.S2048 .f32)
    (w : FVec Ideal Cert.ReferenceInIdeal.S2048x4096 .f32) : FVec Ideal Cert.ReferenceInIdeal.S16384x1024 .f32 :=
  extractStridedSlice Cert.ReferenceInIdeal.S16384x1024 ![0, 1024] (REFZ h g w)
    Cert.ReferenceInIdeal.Gen.slices_S16384x4096_S16384x1024_0_1024

/-- What one point stores in the keys is the reference's at the rows of that point. -/
theorem point_4 (c : Dev nD) (t : Fin cfg0.N) (y) :
    k0_pay3 (iblk m c 0 t) (iblk m c 1 t) (View.ld (iblk m c 2 t) r0_4) y
      = REF_4 (m ((c : Thread nD τ).loc main_arg0)) (m ((c : Thread nD τ).loc main_arg1))
          (m ((c : Thread nD τ).loc main_arg2)) (((cfg0.win 4).blk t).view.emb y) := by
  pointwise [k0_pay3, k0_pay1, REF_4, REFZ, rms]
  blk_point [iblk, V, idx_val t]
  exact block_gain m c t _

/-- The array of the keys after the run. -/
theorem final_4 (c : Dev nD) : (dats m 0 c).arrAt 4 (cfgs 0).N
    = REF_4 (m ((c : Thread nD τ).loc main_arg0)) (m ((c : Thread nD τ).loc main_arg1))
        (m ((c : Thread nD τ).loc main_arg2)) := by
  refine (dats m 0 c).arrAt_eq_of_covers 4 _ (by decide +kernel) fun t hf y => ?_
  blk_simp; rw [after0_4]; frame_out
  exact point_4 m c t y

/-- The values: column block 2 of the reference's projection. -/
abbrev REF_5 (h : FVec Ideal Cert.ReferenceInIdeal.S16384x2048 .f32) (g : FVec Ideal Cert.ReferenceInIdeal.S2048 .f32)
    (w : FVec Ideal Cert.ReferenceInIdeal.S2048x4096 .f32) : FVec Ideal Cert.ReferenceInIdeal.S16384x1024 .f32 :=
  extractStridedSlice Cert.ReferenceInIdeal.S16384x1024 ![0, 2048] (REFZ h g w)
    Cert.ReferenceInIdeal.Gen.slices_S16384x4096_S16384x1024_0_2048

/-- What one point stores in the values is the reference's at the rows of that point. -/
theorem point_5 (c : Dev nD) (t : Fin cfg0.N) (y) :
    k0_pay4 (iblk m c 0 t) (iblk m c 1 t) (View.ld (iblk m c 2 t) r0_5) y
      = REF_5 (m ((c : Thread nD τ).loc main_arg0)) (m ((c : Thread nD τ).loc main_arg1))
          (m ((c : Thread nD τ).loc main_arg2)) (((cfg0.win 5).blk t).view.emb y) := by
  pointwise [k0_pay4, k0_pay1, REF_5, REFZ, rms]
  blk_point [iblk, V, idx_val t]
  exact block_gain m c t _

/-- The array of the values after the run. -/
theorem final_5 (c : Dev nD) : (dats m 0 c).arrAt 5 (cfgs 0).N
    = REF_5 (m ((c : Thread nD τ).loc main_arg0)) (m ((c : Thread nD τ).loc main_arg1))
        (m ((c : Thread nD τ).loc main_arg2)) := by
  refine (dats m 0 c).arrAt_eq_of_covers 5 _ (by decide +kernel) fun t hf y => ?_
  blk_simp; rw [after0_5]; frame_out
  exact point_5 m c t y

/-- The mixing inputs: column block 3 of the reference's projection. -/
abbrev REF_6 (h : FVec Ideal Cert.ReferenceInIdeal.S16384x2048 .f32) (g : FVec Ideal Cert.ReferenceInIdeal.S2048 .f32)
    (w : FVec Ideal Cert.ReferenceInIdeal.S2048x4096 .f32) : FVec Ideal Cert.ReferenceInIdeal.S16384x1024 .f32 :=
  extractStridedSlice Cert.ReferenceInIdeal.S16384x1024 ![0, 3072] (REFZ h g w)
    Cert.ReferenceInIdeal.Gen.slices_S16384x4096_S16384x1024_0_3072

/-- What one point stores in the mixing inputs is the reference's at the rows of that point. -/
theorem point_6 (c : Dev nD) (t : Fin cfg0.N) (y) :
    k0_pay5 (iblk m c 0 t) (iblk m c 1 t) (View.ld (iblk m c 2 t) r0_6) y
      = REF_6 (m ((c : Thread nD τ).loc main_arg0)) (m ((c : Thread nD τ).loc main_arg1))
          (m ((c : Thread nD τ).loc main_arg2)) (((cfg0.win 6).blk t).view.emb y) := by
  pointwise [k0_pay5, k0_pay1, REF_6, REFZ, rms]
  blk_point [iblk, V, idx_val t]
  exact block_gain m c t _

/-- The array of the mixing inputs after the run. -/
theorem final_6 (c : Dev nD) : (dats m 0 c).arrAt 6 (cfgs 0).N
    = REF_6 (m ((c : Thread nD τ).loc main_arg0)) (m ((c : Thread nD τ).loc main_arg1))
        (m ((c : Thread nD τ).loc main_arg2)) := by
  refine (dats m 0 c).arrAt_eq_of_covers 6 _ (by decide +kernel) fun t hf y => ?_
  blk_simp; rw [after0_6]; frame_out
  exact point_6 m c t y

/-- The pooling state the projection leaves: the last fifteen mixing inputs of every sequence. -/
theorem final_state (c : Dev nD) :
    (Pipeline.afterTail₀ cfgs (dats m) 0 (V0 m) [hostOps1] c main_v4 : FVec Ideal S8x15x1024 .f32)
      = extractStridedSlice Cert.ReferenceInIdeal.S8x15x1024 ![0, 2033, 0]
          (shapeCast Cert.ReferenceInIdeal.S8x2048x1024
            (REF_6 (m ((c : Thread nD τ).loc main_arg0)) (m ((c : Thread nD τ).loc main_arg1))
              (m ((c : Thread nD τ).loc main_arg2)))
            Cert.ReferenceInIdeal.Gen.shapeCasts_S16384x1024_S8x2048x1024)
          Cert.ReferenceInIdeal.Gen.slices_S8x2048x1024_S8x15x1024_0_2033_0 := by
  have e : Pipeline.withArrays (cfgs 0).spec c (V0 m c) (fun w => (dats m 0 c).arrAt w (cfgs 0).N) (Proc.devRef .tc main_v2_3)
      = REF_6 (m ((c : Thread nD τ).loc main_arg0)) (m ((c : Thread nD τ).loc main_arg1))
          (m ((c : Thread nD τ).loc main_arg2)) :=
    (Pipeline.withArrays_arr (cfgs 0).spec (by decide +kernel) c (V0 m c) _ 6).trans (final_6 m c)
  unfold Pipeline.afterTail₀
  obtain ⟨X, hX⟩ : ∃ X, X = Pipeline.withArrays (cfgs 0).spec c (V0 m c) fun w => (dats m 0 c).arrAt w (cfgs 0).N := ⟨_, rfl⟩
  rw [← hX] at e ⊢
  have t : (StableHlo.after [hostOps1].flatten X (Proc.devRef .tc main_v4) : FVec Ideal S8x15x1024 .f32)
      = extractStridedSlice S8x15x1024 ![0, 2033, 0]
          (shapeCast S8x2048x1024 (X (Proc.devRef .tc main_v2_3)) shapeCasts_S16384x1024_S8x2048x1024)
          slices_S8x2048x1024_S8x15x1024_0_2033_0 := by
    after_reads_simp
    rfl
  rw [t, e]

end Cert.KernelInIdeal.Value

end

end
-- ==== Proof.OutValue.lean ====
module
public import proofs.«01_k».proof.Proof.Gen.KernelOutIdeal.Frame
public import proofs.«01_k».proof.Proof.Gen.ReferenceOutIdeal
public import Idealize.ShloMosaic.Lib.Pipeline.ValueKit
public import Idealize.ShloMosaic.Lib.Pointwise

/-!
The value of the output projection over the extended reals: after the kernel has run its 32 points, its result array
is the residual stream plus the two mixed halves, side by side, times the projection's weights.
-/

@[expose] public section
set_option maxRecDepth 16384

noncomputable section

open Idealize.ShloMosaic Idealize.ShloMosaic.TcCoe Idealize.SL.Sem
open Idealize.ShloMosaic.Pipeline (Dat)

namespace Cert.KernelOutIdeal.Value

open Cert.KernelOutIdeal Cert.KernelOutIdeal.Gen

variable (m : (ℓ : Loc nD τ sig) → Buf (Elt Ideal) ℓ)

/-- The reference's result as a term over the call's own arguments. -/
abbrev REF (att pool : FVec Ideal Cert.ReferenceOutIdeal.S16384x1024 .bf16)
    (w : FVec Ideal Cert.ReferenceOutIdeal.S2048x2048 .f32) (h : FVec Ideal Cert.ReferenceOutIdeal.S16384x2048 .f32) :
    FVec Ideal Cert.ReferenceOutIdeal.S16384x2048 .f32 :=
  addf h (Host.dotGeneral Cert.ReferenceOutIdeal.dot_S16384x2048_S2048x2048_S16384x2048_1_0_0_1_n_n none
    (concatenate Cert.ReferenceOutIdeal.S16384x2048 1
      [⟨Cert.ReferenceOutIdeal.S16384x1024, extf .f32 att Cert.ReferenceOutIdeal.Gen.bitsLt_bf16_f32⟩,
       ⟨Cert.ReferenceOutIdeal.S16384x1024, extf .f32 pool Cert.ReferenceOutIdeal.Gen.bitsLt_bf16_f32⟩]
      Cert.ReferenceOutIdeal.Gen.concatenates_S16384x1024_S16384x1024_S16384x2048_d1) w)

/-- The block every window stands at, at every grid point. -/
theorem idx_val : ∀ t : Fin cfg0.N, win0_0.index t = ![t.val, 0]
    ∧ win0_1.index t = ![t.val, 0]
    ∧ win0_2.index t = ![0, 0]
    ∧ win0_3.index t = ![t.val, 0]
    ∧ win0_4.index t = ![t.val, 0] :=
  (by decide +kernel : ∀ t : Fin grid0.N, _)

/-- What one point stores is the reference's result at the rows of that point. -/
theorem point (c : Dev nD) (t : Fin cfg0.N) (y) :
    k0_pay1 (iblk m c 3 t) (iblk m c 0 t) (View.ld (iblk m c 2 t) r0_2) (iblk m c 1 t) (View.ld (iblk m c 2 t) r0_3) y
      = REF (m ((c : Thread nD τ).loc main_arg0)) (m ((c : Thread nD τ).loc main_arg1))
          (m ((c : Thread nD τ).loc main_arg2)) (m ((c : Thread nD τ).loc main_arg3))
          (((cfg0.win 4).blk t).view.emb y) := by
  pointwise [k0_pay1, REF]
  rw [add_assoc]
  blk_point [iblk, V, idx_val t]

/-- The kernel's result array after the run is the reference's result. -/
theorem final (c : Dev nD) : (dats m 0 c).arrAt 4 (cfgs 0).N
    = REF (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp; rw [after0_4]; frame_out
  exact point m c t y

end Cert.KernelOutIdeal.Value

end

end
-- ==== Proof.PleValue.lean ====
module
public import proofs.«01_k».proof.Proof.Gen.KernelPleIdeal.Frame
public import proofs.«01_k».proof.Proof.Gen.ReferencePleIdeal
public import proofs.«01_k».proof.Proof.Norm
public import Idealize.ShloMosaic.Lib.Pipeline.ValueKit
public import Idealize.ShloMosaic.Lib.Pointwise

/-!
The value of the per-layer embedding over the extended reals: after its 32 points the kernel's result array is the
residual stream plus the gated embedding, normalised.
-/

@[expose] public section
set_option maxRecDepth 16384

noncomputable section

open Idealize.ShloMosaic Idealize.ShloMosaic.TcCoe Idealize.SL.Sem
open Idealize.ShloMosaic.Pipeline (Dat)

namespace Cert.KernelPleIdeal.Value

open Cert.KernelPleIdeal Cert.KernelPleIdeal.Gen
open Cert.Norm (rms)

variable (m : (ℓ : Loc nD τ sig) → Buf (Elt Ideal) ℓ)

/-- The residual stream plus the layer's embedding, each entry weighted by its gate. -/
abbrev REFH (h : FVec Ideal Cert.ReferencePleIdeal.S16384x2048 .f32)
    (p : FVec Ideal Cert.ReferencePleIdeal.S2x16384x256 .f32) (g : FVec Ideal Cert.ReferencePleIdeal.S2048 .f32)
    (wg : FVec Ideal Cert.ReferencePleIdeal.S2048x2048 .f32) (b : FVec Ideal Cert.ReferencePleIdeal.S2048 .f32)
    (we : FVec Ideal Cert.ReferencePleIdeal.S256x2048 .f32) : FVec Ideal Cert.ReferencePleIdeal.S16384x2048 .f32 :=
  addf h (mulf
    (Host.dotGeneral Cert.ReferencePleIdeal.dot_S16384x256_S256x2048_S16384x2048_1_0_0_1_n_n none
      (shapeCast Cert.ReferencePleIdeal.S16384x256
        (extractStridedSlice Cert.ReferencePleIdeal.S1x16384x256 ![1, 0, 0] p
          Cert.ReferencePleIdeal.Gen.slices_S2x16384x256_S1x16384x256_1_0_0)
        Cert.ReferencePleIdeal.Gen.shapeCasts_S1x16384x256_S16384x256) we)
    (Host.divf
      (broadcastInDim Cert.ReferencePleIdeal.S16384x2048 ![] Cert.ReferencePleIdeal.Gen.bcast_S_S16384x2048
        (constant Cert.ReferencePleIdeal.S_ .f32 0x3F800000#32))
      (addf (broadcastInDim Cert.ReferencePleIdeal.S16384x2048 ![] Cert.ReferencePleIdeal.Gen.bcast_S_S16384x2048
          (constant Cert.ReferencePleIdeal.S_ .f32 0x3F800000#32))
        (Host.exp (Host.negf (addf
          (Host.dotGeneral Cert.ReferencePleIdeal.dot_S16384x2048_S2048x2048_S16384x2048_1_0_0_1_n_n none (rms h g) wg)
          (broadcastInDim Cert.ReferencePleIdeal.S16384x2048 ![0, 1]
            Cert.ReferencePleIdeal.Gen.bcast_S1x2048_S16384x2048_0_1
            (broadcastInDim Cert.ReferencePleIdeal.S1x2048 ![1] Cert.ReferencePleIdeal.Gen.bcast_S2048_S1x2048_1 b))))))))

/-- The reference's result as a term over the call's own arguments. -/
abbrev REF (h : FVec Ideal Cert.ReferencePleIdeal.S16384x2048 .f32)
    (p : FVec Ideal Cert.ReferencePleIdeal.S2x16384x256 .f32) (g : FVec Ideal Cert.ReferencePleIdeal.S2048 .f32)
    (wg : FVec Ideal Cert.ReferencePleIdeal.S2048x2048 .f32) (b : FVec Ideal Cert.ReferencePleIdeal.S2048 .f32)
    (we : FVec Ideal Cert.ReferencePleIdeal.S256x2048 .f32) (gf : FVec Ideal Cert.ReferencePleIdeal.S2048 .f32) :
    FVec Ideal Cert.ReferencePleIdeal.S16384x2048 .f32 :=
  rms (REFH h p g wg b we) gf

/-- The block every window stands at, at every grid point. -/
theorem idx_val : ∀ t : Fin cfg0.N, win0_0.index t = ![t.val, 0]
    ∧ win0_1.index t = ![1, t.val, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![t.val, 0] :=
  (by decide +kernel : ∀ t : Fin grid0.N, _)

/-- What one point stores is the reference's result at the rows of that point. -/
theorem point (c : Dev nD) (t : Fin cfg0.N) (y) :
    k0_pay1 (k0_pay2 (iblk m c 0 t) (iblk m c 2 t) (iblk m c 3 t) (iblk m c 4 t) (iblk m c 1 t) (iblk m c 5 t))
        (k0_pay3 (iblk m c 6 t))
        (k0_pay4 (iblk m c 0 t) (iblk m c 2 t) (iblk m c 3 t) (iblk m c 4 t) (iblk m c 1 t) (iblk m c 5 t))
        (Scalar.ofBits .f32 0x45000000#32) y
      = REF (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (((cfg0.win 7).blk t).view.emb y) := by
  pointwise [k0_pay1, k0_pay2, k0_pay3, k0_pay4, REF, REFH, rms]
  simp only [Ideal.logistic]
  blk_point [iblk, V, idx_val t]

/-- The kernel's result array after the run is the reference's result. -/
theorem final (c : Dev nD) : (dats m 0 c).arrAt 7 (cfgs 0).N
    = REF (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) := by
  refine (dats m 0 c).arrAt_eq_of_covers 7 _ (by decide +kernel) fun t hf y => ?_
  blk_simp; rw [after0_7]; frame_out
  exact point m c t y

end Cert.KernelPleIdeal.Value

end

end
-- ==== Proof.AttnSpec.lean ====
module

public import Idealize.ShloMosaic.Lib.Pointwise

/-!
What block-sparse attention computes for one head, over plain numbers.

Keys and queries are real tables, values may be any extended reals. A query at position `r` sees the keys of its own
block up to itself, and every key of the (at most three) earlier blocks whose mean key scores highest, a tie going to
the earlier block. Nothing here mentions either program.
-/

@[expose] public section

noncomputable section

namespace Cert.Attn

open Finset

variable (K Q : ℕ → ℕ → ℝ) (V : ℕ → ℕ → EReal)

/-- The inner product of the key at `s` and the query at `r`. -/
def dot (s r : ℕ) : ℝ := ∑ d ∈ range 128, K s d * Q r d

/-- The mean key of block `n`. -/
def kmean (n d : ℕ) : ℝ := (∑ o ∈ range 256, K (256 * n + o) d) / 256

/-- The score of block `n` for the query at `r`. -/
def bscore (n r : ℕ) : ℝ := ∑ d ∈ range 128, kmean K n d * Q r d

/-- Block `m` comes before block `n` in the query's order: a higher score, or the same score and an earlier place. -/
def before (r m n : ℕ) : Prop :=
  bscore K Q n r < bscore K Q m r ∨ (bscore K Q m r = bscore K Q n r ∧ m < n)

open Classical in
/-- How many of the earlier blocks come before block `n`. -/
def rank (r n : ℕ) : ℕ := #{m ∈ range (r / 256) | before K Q r m n}

/-- The query at `r` sees the key at `s`. -/
def sees (s r : ℕ) : Prop := s ≤ r ∧ (s / 256 = r / 256 ∨ rank K Q r (s / 256) < 3)

open Classical in
/-- The unnormalised weight of the key at `s`. -/
def weight (s r : ℕ) : ℝ := if sees K Q s r then Real.exp (dot K Q s r / √128) else 0

/-- The result at query `r`, feature `d`. -/
def result (r d : ℕ) : EReal :=
  ∑ s ∈ range 2048, ((weight K Q s r / ∑ s' ∈ range 2048, weight K Q s' r : ℝ) : EReal) * V s d

theorem weight_nonneg (s r : ℕ) : 0 ≤ weight K Q s r := by
  unfold weight; split_ifs; exacts [(Real.exp_pos _).le, le_rfl]

theorem sees_self (r : ℕ) : sees K Q r r := ⟨le_rfl, Or.inl rfl⟩

theorem weight_sum_pos {r : ℕ} (hr : r < 2048) : 0 < ∑ s ∈ range 2048, weight K Q s r := by
  refine sum_pos' (fun s _ => weight_nonneg K Q s r) ⟨r, mem_range.2 hr, ?_⟩
  rw [weight, if_pos (sees_self K Q r)]; exact Real.exp_pos _

/-- A block is never before itself, so with at most three earlier blocks every one of them is seen. -/
theorem rank_lt_of_le {r n : ℕ} (hn : n < r / 256) (hr : r / 256 ≤ 3) : rank K Q r n < 3 := by
  classical
  unfold rank
  refine lt_of_lt_of_le (card_lt_card (t := range (r / 256)) ?_) (by simpa using hr)
  refine Finset.ssubset_iff_subset_ne.2 ⟨filter_subset _ _, fun h => ?_⟩
  have := (mem_filter.1 (h.symm.subset (mem_range.2 hn))).2
  simp [before] at this

/-- A long sum of blocks of 256. -/
theorem sum_blocks {M : Type*} [AddCommMonoid M] (f : ℕ → M) (n : ℕ) :
    ∑ s ∈ range (256 * n), f s = ∑ b ∈ range n, ∑ o ∈ range 256, f (256 * b + o) := by
  induction n with
  | zero => simp
  | succ n ih => rw [sum_range_succ, ← ih, Nat.mul_succ, sum_range_add]

/-- A sum over the keys of the blocks up to the query's own is the sum over all keys when later keys count nothing. -/
theorem sum_blocks_upto {M : Type*} [AddCommMonoid M] (f : ℕ → M) {n : ℕ} (hn : n ≤ 8)
    (h : ∀ s, 256 * n ≤ s → f s = 0) :
    ∑ b ∈ range n, ∑ o ∈ range 256, f (256 * b + o) = ∑ s ∈ range 2048, f s := by
  rw [← sum_blocks]
  exact sum_subset (range_subset_range.2 (by omega)) fun s _ hs => h s (by simpa using hs)

/-- Sums of real numbers, taken in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A nonnegative real factor moves into a sum of extended reals. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [sum_insert ha, sum_insert ha, ← ih]
    exact EReal.right_distrib_of_nonneg_of_ne_top (by exact_mod_cast hc) (EReal.coe_ne_top _) _ _

open Classical in
/-- The weight after a shift of the exponent by `μ`, as a program that subtracts some real number from every score
    computes it. -/
def shifted (μ : ℝ) (s r : ℕ) : ℝ := if sees K Q s r then Real.exp ((dot K Q s r - μ) / √128) else 0

theorem shifted_eq (μ : ℝ) (s r : ℕ) : shifted K Q μ s r = weight K Q s r * Real.exp (-μ / √128) := by
  unfold shifted weight
  split_ifs
  · rw [← Real.exp_add]; congr 1; ring
  · simp

/-- The shift cancels: the shifted weights, normalised by their own sum, are the weights normalised. -/
theorem shifted_div (μ : ℝ) (s r : ℕ) :
    shifted K Q μ s r / ∑ s' ∈ range 2048, shifted K Q μ s' r
      = weight K Q s r / ∑ s' ∈ range 2048, weight K Q s' r := by
  simp only [shifted_eq, ← sum_mul]
  exact mul_div_mul_right _ _ (Real.exp_pos _).ne'

theorem shifted_sum_pos (μ : ℝ) {r : ℕ} (hr : r < 2048) : 0 < ∑ s ∈ range 2048, shifted K Q μ s r := by
  simp only [shifted_eq, ← sum_mul]
  exact mul_pos (weight_sum_pos K Q hr) (Real.exp_pos _)

theorem shifted_eq_zero (μ : ℝ) {s r : ℕ} (h : r < s) : shifted K Q μ s r = 0 :=
  if_neg fun hs => absurd hs.1 (by omega)

/-- A sum of weighted values divided once at the end is the result. -/
theorem result_of_shifted (μ : ℝ) {r d : ℕ} (hr : r < 2048) :
    (∑ s ∈ range 2048, V s d * ((shifted K Q μ s r : ℝ) : EReal))
        * (((∑ s ∈ range 2048, shifted K Q μ s r)⁻¹ : ℝ) : EReal) = result K Q V r d := by
  rw [sum_mul_coe _ _ (inv_nonneg.2 (shifted_sum_pos K Q μ hr).le), result]
  refine sum_congr rfl fun s _ => ?_
  rw [mul_assoc, ← EReal.coe_mul, ← div_eq_mul_inv, shifted_div, mul_comm]

end Cert.Attn

end

end
-- ==== Proof.AttnOps.lean ====
module

public import proofs.«01_k».proof.Proof.Gen.KernelAttnIdeal.Skeleton
public import proofs.«01_k».proof.Proof.AttnSpec
public import Idealize.ShloMosaic.Lib.Pipeline.ValueKit
public import Idealize.ShloMosaic.Lib.Pointwise
public import Idealize.ShloMosaic.Lib.WordCmp

/-!
The steps of the attention kernel over the extended reals, each stated once for any block of queries and any tile of keys.
-/

@[expose] public section
set_option maxRecDepth 16384

noncomputable section

open Idealize.ShloMosaic Idealize.ShloMosaic.TcCoe Idealize.SL.Sem

namespace Cert.KernelAttnIdeal.Value

open Cert.KernelAttnIdeal Cert.KernelAttnIdeal.Gen Cert.Attn

/-- The pattern of minus infinity denotes the bottom. -/
theorem ofBits_bot : Ideal.ofBits .f32 0xFF800000#32 = ⊥ := by
  simp [Ideal.ofBits, Ideal.ieee]

/-- The pattern of one half. -/
theorem ofBits_half : Ideal.ofBits .f32 0x3F000000#32 = ((1 / 2 : ℝ) : EReal) := by
  simp [Ideal.ofBits, Ideal.ieee, -EReal.coe_mul]; norm_num

/-- The pattern of three. -/
theorem ofBits_three : Ideal.ofBits .f32 0x40400000#32 = ((3 : ℝ) : EReal) := by
  simp [Ideal.ofBits, Ideal.ieee, -EReal.coe_mul]; norm_num

/-- The pattern of one over 256. -/
theorem ofBits_256th : Ideal.ofBits .f32 0x3B800000#32 = ((1 / 256 : ℝ) : EReal) := by
  simp [Ideal.ofBits, Ideal.ieee, -EReal.coe_mul]; norm_num

/-- The pattern of 256. -/
theorem ofBits_256 : Ideal.ofBits .f32 0x43800000#32 = ((256 : ℝ) : EReal) := by
  simp [Ideal.ofBits, Ideal.ieee, -EReal.coe_mul]; norm_num

/-- The pattern of 128. -/
theorem ofBits_128 : Ideal.ofBits .f32 0x43000000#32 = ((128 : ℝ) : EReal) := by
  simp [Ideal.ofBits, Ideal.ieee, -EReal.coe_mul]; norm_num

/-- Choosing by two decided propositions. -/
theorem select_and {α : Type} (p q : Prop) [Decidable p] [Decidable q] (x y : α) :
    Scalar.select (IntOp.andi (BitVec.ofBool (decide p)) (BitVec.ofBool (decide q))) x y = if p ∧ q then x else y := by
  by_cases h : p <;> by_cases h' : q <;> simp [h, h', Scalar.select, IntOp.andi]

/-- Choosing by one proposition or two others. -/
theorem select_or_and {α : Type} (a p q : Prop) [Decidable a] [Decidable p] [Decidable q] (x y : α) :
    Scalar.select (IntOp.ori (BitVec.ofBool (decide a)) (IntOp.andi (BitVec.ofBool (decide p)) (BitVec.ofBool (decide q)))) x y
      = if a ∨ (p ∧ q) then x else y := by
  by_cases h'' : a <;> by_cases h : p <;> by_cases h' : q <;> simp [h, h', h'', Scalar.select, IntOp.andi, IntOp.ori]

variable (K Q : ℕ → ℕ → ℝ)

open Classical in
/-- The scores of tile `c` of 128 keys against block `qi` of 256 queries, unseen keys at the bottom. -/
def score (qi c : ℕ) : FVec Ideal S128x256 .f32 := fun i =>
  if sees K Q (128 * c + (i 0 : ℕ)) (256 * qi + (i 1 : ℕ)) then
    ((dot K Q (128 * c + (i 0 : ℕ)) (256 * qi + (i 1 : ℕ)) : ℝ) : EReal) else ⊥

/-- The product of a tile of keys and a block of queries, over the reals. -/
theorem mm_apply {K Q : ℕ → ℕ → ℝ} {qi c : ℕ} {kv : FVec Ideal S128x128 .bf16} {qv : FVec Ideal S256x128 .bf16}
    (hk : ∀ (o d : Fin 128), kv (ix2 o d) = ((K (128 * c + o) d : ℝ) : EReal))
    (hq : ∀ (r : Fin 256) (d : Fin 128), qv (ix2 r d) = ((Q (256 * qi + r) d : ℝ) : EReal))
    (o : Fin 128) (r : Fin 256) :
    matmul dot_S128x128_S256x128_S128x256_1_1_0_0_n_n none kv qv (constant S128x256 .f32 0x00000000#32) (ix2 o r)
      = ((dot K Q (128 * c + o) (256 * qi + r) : ℝ) : EReal) := by
  have h : matmul dot_S128x128_S256x128_S128x256_1_1_0_0_n_n none kv qv (constant S128x256 .f32 0x00000000#32) (ix2 o r)
      = ∑ d : Fin 128, kv (ix2 o d) * qv (ix2 r d) := by pointwise
  rw [h, dot, coe_sum, Finset.sum_range]
  simp only [hk, hq, EReal.coe_mul]

theorem score_ext {K Q : ℕ → ℕ → ℝ} {qi c : ℕ} {x : FVec Ideal S128x256 .f32}
    (h : ∀ (o : Fin 128) (r : Fin 256), x (ix2 o r) = score K Q qi c (ix2 o r)) : x = score K Q qi c := by
  funext i; idx_vars i; exact h _ _

open Classical in
theorem score_ix (qi c : ℕ) (o : Fin 128) (r : Fin 256) : score K Q qi c (ix2 o r)
    = if sees K Q (128 * c + o) (256 * qi + r) then ((dot K Q (128 * c + o) (256 * qi + r) : ℝ) : EReal) else ⊥ := rfl

/-- A tile of an earlier block when all earlier blocks are seen. -/
theorem score_plain {K Q : ℕ → ℕ → ℝ} {qi c : ℕ} (hc : c / 2 < qi) (hqi : qi ≤ 3)
    {kv : FVec Ideal S128x128 .bf16} {qv : FVec Ideal S256x128 .bf16}
    (hk : ∀ (o d : Fin 128), kv (ix2 o d) = ((K (128 * c + o) d : ℝ) : EReal))
    (hq : ∀ (r : Fin 256) (d : Fin 128), qv (ix2 r d) = ((Q (256 * qi + r) d : ℝ) : EReal)) :
    matmul dot_S128x128_S256x128_S128x256_1_1_0_0_n_n none kv qv (constant S128x256 .f32 0x00000000#32)
      = score K Q qi c := by
  refine score_ext fun o r => ?_
  rw [mm_apply hk hq, score_ix, if_pos]
  exact ⟨by omega, Or.inr (rank_lt_of_le K Q (by omega) (by omega))⟩

/-- A tile of the queries' own block: keys after the query are masked. -/
theorem score_own {K Q : ℕ → ℕ → ℝ} {qi c e : ℕ} (hc : c = 2 * qi + e) (he : e < 2) (p : BitVec 32)
    (hp : p = BitVec.ofNat 32 (128 * e))
    {kv : FVec Ideal S128x128 .bf16} {qv : FVec Ideal S256x128 .bf16}
    (hk : ∀ (o d : Fin 128), kv (ix2 o d) = ((K (128 * c + o) d : ℝ) : EReal))
    (hq : ∀ (r : Fin 256) (d : Fin 128), qv (ix2 r d) = ((Q (256 * qi + r) d : ℝ) : EReal)) :
    select (cmpi .sle (addi (iota Kind.tc S128x256 32 [0] iota_S128x256_d0_w32) (broadcast S128x256 p))
        (iota Kind.tc S128x256 32 [1] iota_S128x256_d1_w32))
      (matmul dot_S128x128_S256x128_S128x256_1_1_0_0_n_n none kv qv (constant S128x256 .f32 0x00000000#32))
      (broadcast S128x256 (Scalar.ofBits .f32 0xFF800000#32 : Ideal .f32)) = score K Q qi c := by
  refine score_ext fun o r => ?_
  have hm := mm_apply hk hq o r
  generalize matmul dot_S128x128_S256x128_S128x256_1_1_0_0_n_n none kv qv (constant S128x256 .f32 0x00000000#32) = x at hm ⊢
  pointwise [ofBits_bot]
  rw [score_ix, hm]
  have hb : IntOp.cmpi .sle (IntOp.addi (BitVec.ofNat 32 (o : ℕ)) p) (BitVec.ofNat 32 (r : ℕ))
      = BitVec.ofBool (decide (128 * e + (o : ℕ) ≤ r)) := by
    rw [hp, show IntOp.addi (BitVec.ofNat 32 (o : ℕ)) (BitVec.ofNat 32 (128 * e)) = BitVec.ofNat 32 (128 * e + o) by
      rw [Nat.add_comm]; simp [IntOp.addi, BitVec.ofNat_add]]
    have : 128 * e + (o : ℕ) < 2 ^ 31 := by omega
    word_cmp
  rw [hb, WordCmp.select_decide]
  by_cases h : 128 * e + (o : ℕ) ≤ r
  · rw [if_pos (by simpa using h), if_pos ⟨by omega, Or.inl (by omega)⟩]
  · rw [if_neg (by simpa using h), if_neg fun hs => h (by have := hs.1; omega)]

/-- A tile of an earlier block `n` of which `selv` says for every query whether it is seen. -/
theorem score_sel {K Q : ℕ → ℕ → ℝ} {qi c : ℕ} (n : Fin 8) (hn : c / 2 = n) (hqi : (n : ℕ) < qi)
    {kv : FVec Ideal S128x128 .bf16} {qv : FVec Ideal S256x128 .bf16} (row : FVec Ideal S1x256 .f32)
    (hk : ∀ (o d : Fin 128), kv (ix2 o d) = ((K (128 * c + o) d : ℝ) : EReal))
    (hq : ∀ (r : Fin 256) (d : Fin 128), qv (ix2 r d) = ((Q (256 * qi + r) d : ℝ) : EReal))
    (hs : ∀ r : Fin 256, row (ix2 0 r) = open Classical in if rank K Q (256 * qi + r) n < 3 then 1 else 0) :
    select (broadcastTo S128x256 (shapeCast S1x256 (cmpf .ogt row
        (broadcast S1x256 (Scalar.ofBits .f32 0x3F000000#32 : Ideal .f32))) shapeCasts_S1x256_S1x256) broadcasts_S1x256_S128x256)
      (matmul dot_S128x128_S256x128_S128x256_1_1_0_0_n_n none kv qv (constant S128x256 .f32 0x00000000#32))
      (broadcast S128x256 (Scalar.ofBits .f32 0xFF800000#32 : Ideal .f32)) = score K Q qi c := by
  refine score_ext fun o r => ?_
  have hm := mm_apply hk hq o r
  generalize matmul dot_S128x128_S256x128_S128x256_1_1_0_0_n_n none kv qv (constant S128x256 .f32 0x00000000#32) = x at hm ⊢
  pointwise [ofBits_bot, ofBits_half]
  rw [score_ix, hm, hs r]
  have e1 : (128 * c + (o : ℕ)) / 256 = n := by omega
  have e2 : (256 * qi + (r : ℕ)) / 256 = qi := by omega
  by_cases h : rank K Q (256 * qi + r) n < 3
  · rw [if_pos h, if_pos (by norm_cast; norm_num), if_pos ⟨by omega, Or.inr (by rwa [e1])⟩]
  · rw [if_neg h, if_neg (by norm_cast; norm_num), if_neg]
    rintro ⟨-, h' | h'⟩
    · omega
    · rw [e1] at h'; exact h h'

/-- The mean keys against a block of queries. -/
theorem km_apply {K Q : ℕ → ℕ → ℝ} {qi : ℕ} {km : FVec Ideal S8x128 .f32} {qv : FVec Ideal S256x128 .f32}
    (hk : ∀ (n : Fin 8) (d : Fin 128), km (ix2 n d) = ((kmean K n d : ℝ) : EReal))
    (hq : ∀ (r : Fin 256) (d : Fin 128), qv (ix2 r d) = ((Q (256 * qi + r) d : ℝ) : EReal))
    (n : Fin 8) (r : Fin 256) :
    matmul dot_S8x128_S256x128_S8x256_1_1_0_0_n_n (some .fp32) km qv (constant S8x256 .f32 0x00000000#32) (ix2 n r)
      = ((bscore K Q n (256 * qi + r) : ℝ) : EReal) := by
  have h : matmul dot_S8x128_S256x128_S8x256_1_1_0_0_n_n (some .fp32) km qv (constant S8x256 .f32 0x00000000#32) (ix2 n r)
      = ∑ d : Fin 128, km (ix2 n d) * qv (ix2 r d) := by pointwise
  rw [h, bscore, coe_sum, Finset.sum_range]
  simp only [hk, hq, EReal.coe_mul]

/-- The block scores with the blocks from the queries' own on masked. -/
def IsScores (qi : ℕ) (sb : FVec Ideal S8x256 .f32) : Prop := ∀ (n : Fin 8) (r : Fin 256),
  sb (ix2 n r) = if (n : ℕ) < qi then ((bscore K Q n (256 * qi + r) : ℝ) : EReal) else ⊥

theorem scores_mask {K Q : ℕ → ℕ → ℝ} {qi : ℕ} (p : BitVec 32) (hqi : qi < 8) (hp : p = BitVec.ofNat 32 qi)
    {km : FVec Ideal S8x128 .f32} {qv : FVec Ideal S256x128 .f32}
    (hk : ∀ (n : Fin 8) (d : Fin 128), km (ix2 n d) = ((kmean K n d : ℝ) : EReal))
    (hq : ∀ (r : Fin 256) (d : Fin 128), qv (ix2 r d) = ((Q (256 * qi + r) d : ℝ) : EReal)) :
    IsScores K Q qi (select (cmpi .slt (iota Kind.tc S8x256 32 [0] iota_S8x256_d0_w32) (broadcast S8x256 p))
      (matmul dot_S8x128_S256x128_S8x256_1_1_0_0_n_n (some .fp32) km qv (constant S8x256 .f32 0x00000000#32))
      (broadcast S8x256 (Scalar.ofBits .f32 0xFF800000#32 : Ideal .f32))) := by
  intro n r
  have hm := km_apply hk hq n r
  generalize matmul dot_S8x128_S256x128_S8x256_1_1_0_0_n_n (some .fp32) km qv (constant S8x256 .f32 0x00000000#32) = x at hm ⊢
  pointwise [ofBits_bot]
  rw [hm, hp, show IntOp.cmpi .slt (BitVec.ofNat 32 (n : ℕ)) (BitVec.ofNat 32 qi) = BitVec.ofBool (decide ((n : ℕ) < qi)) by
    word_cmp, WordCmp.select_decide]

open Classical in
/-- How many of the first `m` blocks come before block `n`. -/
def count (r n m : ℕ) : ℕ := (Finset.range m).filter (fun k => before K Q r k n) |>.card

theorem count_succ (r n m : ℕ) : count K Q r n (m + 1) = count K Q r n m + open Classical in if before K Q r m n then 1 else 0 := by
  classical
  unfold count
  rw [Finset.range_add_one, Finset.filter_insert]
  split_ifs with h
  · rw [Finset.card_insert_of_notMem (by simp)]
  · rfl

/-- `acc` holds for every earlier block the number of the first `m` blocks coming before it. -/
def IsCount (qi m : ℕ) (acc : FVec Ideal S8x256 .f32) : Prop := ∀ (n : Fin 8) (r : Fin 256), (n : ℕ) < qi →
  acc (ix2 n r) = (((count K Q (256 * qi + r) n m : ℕ) : ℝ) : EReal)

theorem count_zero (qi : ℕ) : IsCount K Q qi 0 (broadcast S8x256 (Scalar.ofBits .f32 0x00000000#32 : Ideal .f32)) := by
  intro n r _
  pointwise
  simp [count]

/-- One step of the count: block `m` is compared with every block. -/
theorem count_step {K Q : ℕ → ℕ → ℝ} {qi : ℕ} (m : Fin 8) (hm : (m : ℕ) < qi) (p : BitVec 32) (hp : p = BitVec.ofNat 32 m)
    {sb acc : FVec Ideal S8x256 .f32} (row : FVec Ideal S1x256 .f32) (hs : IsScores K Q qi sb) (ha : IsCount K Q qi m acc)
    (hr : ∀ r : Fin 256, row (ix2 0 r) = sb (ix2 m r)) :
    IsCount K Q qi (m + 1) (addf acc (select (ori (cmpf .ogt (broadcastTo S8x256 row broadcasts_S1x256_S8x256) sb)
      (andi (cmpf .oeq (broadcastTo S8x256 row broadcasts_S1x256_S8x256) sb)
        (cmpi .sgt (iota Kind.tc S8x256 32 [0] iota_S8x256_d0_w32) (broadcast S8x256 p))))
      (broadcast S8x256 (Scalar.ofBits .f32 0x3F800000#32 : Ideal .f32))
      (broadcast S8x256 (Scalar.ofBits .f32 0x00000000#32 : Ideal .f32)))) := by
  intro n r hn
  pointwise
  rw [hr, hs n r, hs m r, if_pos hn, if_pos hm, ha n r hn, count_succ, hp,
    show IntOp.cmpi .sgt (BitVec.ofNat 32 (n : ℕ)) (BitVec.ofNat 32 (m : ℕ)) = BitVec.ofBool (decide ((m : ℕ) < n)) by
      word_cmp, select_or_and]
  simp only [EReal.coe_lt_coe_iff, EReal.coe_eq_coe_iff]
  by_cases h : before K Q (256 * qi + r) m n
  · rw [if_pos h, if_pos (by exact h)]; push_cast; rfl
  · rw [if_neg h, if_neg (by exact h)]; simp

/-- The selection: an earlier block with fewer than three blocks before it. -/
theorem sel_apply {K Q : ℕ → ℕ → ℝ} {qi : ℕ} (hqi : qi < 8) (p : BitVec 32) (hp : p = BitVec.ofNat 32 qi)
    {acc : FVec Ideal S8x256 .f32} (ha : IsCount K Q qi qi acc) (n : Fin 8) (r : Fin 256) (hn : (n : ℕ) < qi) :
    select (andi (cmpi .slt (iota Kind.tc S8x256 32 [0] iota_S8x256_d0_w32) (broadcast S8x256 p))
        (cmpf .olt acc (broadcast S8x256 (Scalar.ofBits .f32 0x40400000#32 : Ideal .f32))))
      (broadcast S8x256 (Scalar.ofBits .f32 0x3F800000#32 : Ideal .f32))
      (broadcast S8x256 (Scalar.ofBits .f32 0x00000000#32 : Ideal .f32)) (ix2 n r)
      = open Classical in if rank K Q (256 * qi + r) n < 3 then 1 else 0 := by
  pointwise [ofBits_three]
  rw [ha n r hn, hp, show IntOp.cmpi .slt (BitVec.ofNat 32 (n : ℕ)) (BitVec.ofNat 32 qi) = BitVec.ofBool (decide ((n : ℕ) < qi)) by
    word_cmp, select_and]
  have e2 : (256 * qi + (r : ℕ)) / 256 = qi := by omega
  have hc : rank K Q (256 * qi + r) n = count K Q (256 * qi + r) n qi := by rw [rank, e2]; rfl
  rw [hc]
  by_cases h : count K Q (256 * qi + r) n qi < 3
  · rw [if_pos h, if_pos ⟨hn, by exact_mod_cast h⟩]
  · rw [if_neg h, if_neg fun h' => h (by exact_mod_cast h'.2)]

/-- One row of the block scores or of the selection. -/
theorem row_apply (m : Fin 8) (x : FVec Ideal S8x256 .f32) (h) (r : Fin 256) :
    extractStridedSlice S1x256 ![(m : ℕ), 0] x h (ix2 0 r) = x (ix2 m r) := by
  pointwise

/-- No entry is the top. -/
def NotTop {s : Shape} (x : FVec Ideal s .f32) : Prop := ∀ i, x i ≠ ⊤

/-- Every entry of a row is a real number. -/
def IsReal (x : FVec Ideal S1x256 .f32) : Prop := ∀ r : Fin 256, ∃ μ : ℝ, x (ix2 0 r) = (μ : EReal)

/-- The greatest entry of every column. -/
abbrev colmax (x : FVec Ideal S128x256 .f32) : FVec Ideal S1x256 .f32 :=
  shapeCast S1x256 (multiReduction .maximumf [0] S256 x 0xFF800000#32 reduces_S128x256_S256 (.inl rfl) rfl) shapeCasts_S256_S1x256

theorem colmax_apply (x : FVec Ideal S128x256 .f32) (r : Fin 256) :
    colmax x (ix2 0 r) = Finset.univ.fold max ⊥ fun o : Fin 128 => x (ix2 o r) := by
  pointwise [ofBits_bot]

theorem colmax_notTop {x : FVec Ideal S128x256 .f32} (h : NotTop x) : NotTop (colmax x) := by
  intro i
  idx_vars i
  rw [show i0 = 0 from Subsingleton.elim _ _, colmax_apply]
  exact ((Finset.fold_max_lt _).2 ⟨bot_lt_top, fun o _ => lt_top_iff_ne_top.2 (h _)⟩).ne

/-- A column holding one real number and no top has a real greatest entry. -/
theorem colmax_real {x : FVec Ideal S128x256 .f32} (h : NotTop x) (o : Fin 128)
    (ho : ∀ r : Fin 256, ∃ μ : ℝ, x (ix2 o r) = (μ : EReal)) : IsReal (colmax x) := by
  intro r
  obtain ⟨μ, hμ⟩ := ho r
  have h1 := colmax_notTop h (ix2 0 r)
  have h2 : (μ : EReal) ≤ colmax x (ix2 0 r) := by
    rw [colmax_apply]; exact (Finset.le_fold_max _).2 (Or.inr ⟨o, Finset.mem_univ _, hμ.ge⟩)
  exact ⟨_, (EReal.coe_toReal h1 (ne_of_gt (lt_of_lt_of_le (EReal.bot_lt_coe μ) h2))).symm⟩

theorem max_notTop {x y : FVec Ideal S1x256 .f32} (hx : NotTop x) (hy : NotTop y) : NotTop (maximumf x y) := fun i =>
  (max_lt (lt_top_iff_ne_top.2 (hx i)) (lt_top_iff_ne_top.2 (hy i))).ne

theorem max_real_left {x y : FVec Ideal S1x256 .f32} (hx : IsReal x) (hy : NotTop y) : IsReal (maximumf x y) := fun r => by
  obtain ⟨μ, h⟩ := hx r
  have h1 : max (x (ix2 0 r)) (y (ix2 0 r)) ≠ ⊤ :=
    (max_lt (by rw [h]; exact EReal.coe_lt_top μ) (lt_top_iff_ne_top.2 (hy _))).ne
  have h2 : (μ : EReal) ≤ max (x (ix2 0 r)) (y (ix2 0 r)) := h ▸ le_max_left _ _
  exact ⟨_, (EReal.coe_toReal h1 (ne_of_gt (lt_of_lt_of_le (EReal.bot_lt_coe μ) h2))).symm⟩

theorem max_comm' (x y : FVec Ideal S1x256 .f32) : maximumf x y = maximumf y x := funext fun i => max_comm (x i) (y i)

theorem max_real_right {x y : FVec Ideal S1x256 .f32} (hx : NotTop x) (hy : IsReal y) : IsReal (maximumf x y) :=
  max_comm' y x ▸ max_real_left hy hx

theorem IsReal.notTop {x : FVec Ideal S1x256 .f32} (h : IsReal x) : NotTop x := by
  intro i
  idx_vars i
  obtain ⟨μ, h⟩ := h i1
  rw [show i0 = 0 from Subsingleton.elim _ _, h]; exact EReal.coe_ne_top μ

theorem score_notTop (qi c : ℕ) : NotTop (score K Q qi c) := by
  intro i
  unfold score
  split_ifs
  exacts [EReal.coe_ne_top _, bot_ne_top]

/-- The first key of the queries' own block is seen by all of them. -/
theorem score_real (qi : ℕ) : IsReal (colmax (score K Q qi (2 * qi))) :=
  colmax_real (score_notTop K Q qi _) 0 fun r => ⟨_, by
    rw [score_ix, if_pos]; exact ⟨by simp; omega, Or.inl (by simp; omega)⟩⟩

/-- The greatest entries of a tile of scores are not the top. -/
theorem colmax_nt {K Q : ℕ → ℕ → ℝ} {qi c : ℕ} {x : FVec Ideal S128x256 .f32} (h : x = score K Q qi c) : NotTop (colmax x) :=
  h ▸ colmax_notTop (score_notTop K Q qi c)

/-- The greatest entries of the first tile of the queries' own block are real. -/
theorem colmax_real_of {K Q : ℕ → ℕ → ℝ} {qi c : ℕ} {x : FVec Ideal S128x256 .f32} (h : x = score K Q qi c)
    (hc : c = 2 * qi := by rfl) : IsReal (colmax x) := by
  subst hc; exact h ▸ score_real K Q qi

/-- A tile of scores as it lies in the scratch memory. -/
abbrev stored (x : FVec Ideal S128x256 .f32) : FVec Ideal S1x128x256 .f32 := shapeCast S1x128x256 x shapeCasts_S128x256_S1x128x256

/-- The shifted exponentials of a stored tile. -/
abbrev pexp (m : FVec Ideal S1x256 .f32) (ld : FVec Ideal S1x128x256 .f32) : FVec Ideal S128x256 .f32 :=
  exp2 (mulf (subf (shapeCast S128x256 ld shapeCasts_S1x128x256_S128x256) (broadcastTo S128x256 m broadcasts_S1x256_S128x256))
    (broadcast S128x256 (Named.named κ "exp2_scale" 0x3E0293EE#32)))

/-- The scale of the exponent. -/
theorem named_scale : (Named.named κ "exp2_scale" 0x3E0293EE#32 : Ideal .f32) = (((Real.sqrt 128)⁻¹ * (Real.log 2)⁻¹ : ℝ) : EReal) :=
  IdealRules.named_const.ideal_named_scalar _ _ _ _ rfl

theorem pexp_apply {K Q : ℕ → ℕ → ℝ} {qi c : ℕ} {m : FVec Ideal S1x256 .f32} {μ : ℝ} (o : Fin 128) (r : Fin 256)
    (hm : m (ix2 0 r) = (μ : EReal)) :
    pexp m (stored (score K Q qi c)) (ix2 o r) = ((shifted K Q μ (128 * c + o) (256 * qi + r) : ℝ) : EReal) := by
  have h : pexp m (stored (score K Q qi c)) (ix2 o r)
      = Ideal.exp2 ((score K Q qi c (ix2 o r) - m (ix2 0 r)) * (Named.named κ "exp2_scale" 0x3E0293EE#32 : Ideal .f32)) := by
    generalize score K Q qi c = x
    pointwise
    rfl
  rw [h, hm, named_scale, score_ix, shifted]
  split_ifs with hs
  · rw [← EReal.coe_sub, ← EReal.coe_mul, Ideal.exp2_coe]
    congr 1
    refine (Real.rpow_def_of_pos (by norm_num) _).trans ?_
    congr 1
    have : Real.log 2 ≠ 0 := (Real.log_pos (by norm_num)).ne'
    field_simp
  · rw [EReal.bot_sub, EReal.bot_mul_coe_of_pos (mul_pos (inv_pos.2 (Real.sqrt_pos.2 (by norm_num))) (inv_pos.2 (Real.log_pos (by norm_num))))]
    simp

/-- The sum of every column. -/
abbrev colsum (x : FVec Ideal S128x256 .f32) : FVec Ideal S1x256 .f32 :=
  shapeCast S1x256 (multiReduction .add [0] S256 x 0x00000000#32 reduces_S128x256_S256 (.inl rfl) rfl) shapeCasts_S256_S1x256

theorem colsum_apply (x : FVec Ideal S128x256 .f32) (r : Fin 256) : colsum x (ix2 0 r) = ∑ o : Fin 128, x (ix2 o r) := by
  pointwise

/-- The running sum of the weights after `n` tiles. -/
def lsum (m : FVec Ideal S1x256 .f32) (ld : ℕ → FVec Ideal S1x128x256 .f32) : ℕ → FVec Ideal S1x256 .f32
  | 0 => broadcast S1x256 (Scalar.ofBits .f32 0x00000000#32)
  | n + 1 => addf (lsum m ld n) (colsum (pexp m (ld n)))

/-- One tile of weights above another. -/
def stack (x y : FVec Ideal S128x256 .bf16) : FVec Ideal S256x256 .bf16 :=
  concatenate S256x256 0 [⟨S128x256, x⟩, ⟨S128x256, y⟩] concatenates_S128x256_S128x256_S256x256_d0

theorem stack_eq (x y : FVec Ideal S128x256 .bf16) :
    concatenate S256x256 0 [⟨S128x256, x⟩, ⟨S128x256, y⟩] concatenates_S128x256_S128x256_S256x256_d0 = stack x y := rfl

/-- Two tiles of weights against one block of values. -/
abbrev pv (vt : FVec Ideal S128x256 .bf16) (x y : FVec Ideal S128x256 .f32) : FVec Ideal S128x256 .f32 :=
  matmul dot_S128x256_S256x256_S128x256_1_0_0_1_n_n none vt
    (stack (truncf .bf16 x bitsLt_bf16_f32) (truncf .bf16 y bitsLt_bf16_f32)) (constant S128x256 .f32 0x00000000#32)

/-- The running sum of the weighted values after `n` blocks. -/
def osum (m : FVec Ideal S1x256 .f32) (ld : ℕ → FVec Ideal S1x128x256 .f32) (vt : ℕ → FVec Ideal S128x256 .bf16) :
    ℕ → FVec Ideal S128x256 .f32
  | 0 => broadcast S128x256 (Scalar.ofBits .f32 0x00000000#32)
  | n + 1 => addf (osum m ld vt n) (pv (vt n) (pexp m (ld (2 * n))) (pexp m (ld (2 * n + 1))))

/-- The weighted values divided by the sum of the weights, in the layout of the result. -/
abbrev finish (o : FVec Ideal S128x256 .f32) (l : FVec Ideal S1x256 .f32) : FVec Ideal S1x256x128 .bf16 :=
  shapeCast S1x256x128 (truncf .bf16 (transpose S256x128 [1, 0] (mulf o (broadcastTo S128x256
    (divf (broadcast S1x256 (Scalar.ofBits .f32 0x3F800000#32)) l) broadcasts_S1x256_S128x256))
    transposes_S128x256_p1_0_S256x128) bitsLt_bf16_f32) shapeCasts_S256x128_S1x256x128

theorem lsum_apply {K Q : ℕ → ℕ → ℝ} {qi : ℕ} {m : FVec Ideal S1x256 .f32} {μ : ℝ} (r : Fin 256)
    (hm : m (ix2 0 r) = (μ : EReal)) {ld : ℕ → FVec Ideal S1x128x256 .f32} (n : ℕ)
    (hl : ∀ c < n, ld c = stored (score K Q qi c)) :
    lsum m ld n (ix2 0 r) = ((∑ s ∈ Finset.range (128 * n), shifted K Q μ s (256 * qi + r) : ℝ) : EReal) := by
  induction n with
  | zero => rw [lsum]; pointwise; simp
  | succ n ih =>
    rw [lsum, show addf (lsum m ld n) (colsum (pexp m (ld n))) (ix2 0 r)
      = lsum m ld n (ix2 0 r) + colsum (pexp m (ld n)) (ix2 0 r) from rfl,
      ih fun c hc => hl c (by omega), colsum_apply, hl n (by omega), Nat.mul_succ, Finset.sum_range_add, EReal.coe_add,
      coe_sum (Finset.range 128), Finset.sum_range (n := 128)]
    simp only [pexp_apply _ _ hm]

theorem pv_apply (vt : FVec Ideal S128x256 .bf16) (x y : FVec Ideal S128x256 .f32) (d : Fin 128) (r : Fin 256) :
    pv vt x y (ix2 d r) = ∑ o : Fin 256, vt (ix2 d o) * (if h : (o : ℕ) < 128 then x (ix2 ⟨o, h⟩ r) else y (ix2 ⟨o - 128, by omega⟩ r)) := by
  unfold pv stack
  pointwise

theorem osum_apply {K Q : ℕ → ℕ → ℝ} {V : ℕ → ℕ → EReal} {qi : ℕ} {m : FVec Ideal S1x256 .f32} {μ : ℝ} (r : Fin 256)
    (d : Fin 128) (hm : m (ix2 0 r) = (μ : EReal)) {ld : ℕ → FVec Ideal S1x128x256 .f32}
    {vt : ℕ → FVec Ideal S128x256 .bf16} (n : ℕ) (hl : ∀ c < 2 * n, ld c = stored (score K Q qi c))
    (hv : ∀ b < n, ∀ (d : Fin 128) (o : Fin 256), vt b (ix2 d o) = V (256 * b + o) d) :
    osum m ld vt n (ix2 d r)
      = ∑ s ∈ Finset.range (256 * n), V s d * ((shifted K Q μ s (256 * qi + r) : ℝ) : EReal) := by
  induction n with
  | zero => rw [osum]; pointwise; simp
  | succ n ih =>
    rw [osum, show addf (osum m ld vt n) (pv (vt n) (pexp m (ld (2 * n))) (pexp m (ld (2 * n + 1)))) (ix2 d r)
      = osum m ld vt n (ix2 d r) + pv (vt n) (pexp m (ld (2 * n))) (pexp m (ld (2 * n + 1))) (ix2 d r) from rfl,
      ih (fun c hc => hl c (by omega)) (fun b hb => hv b (by omega)), pv_apply, hl (2 * n) (by omega),
      hl (2 * n + 1) (by omega), Nat.mul_succ, Finset.sum_range_add, Finset.sum_range (n := 256)]
    congr 1
    refine Finset.sum_congr rfl fun o _ => ?_
    rw [hv n (by omega)]
    congr 1
    split_ifs with h
    · rw [pexp_apply _ _ hm]
      rw [show 128 * (2 * n) + ((⟨o, h⟩ : Fin 128) : ℕ) = 256 * n + o by simp only []; omega]
    · rw [pexp_apply _ _ hm]
      rw [show 128 * (2 * n + 1) + ((⟨o - 128, by omega⟩ : Fin 128) : ℕ) = 256 * n + o by simp only []; omega]

theorem finish_apply (o : FVec Ideal S128x256 .f32) (l : FVec Ideal S1x256 .f32) (r : Fin 256) (d : Fin 128) :
    finish o l (ix3 0 r d) = o (ix2 d r) * Ideal.div 1 (l (ix2 0 r)) := by
  pointwise

/-- A block of queries after all its tiles holds the attention result, whatever real number was subtracted. -/
theorem tile_apply {K Q : ℕ → ℕ → ℝ} {V : ℕ → ℕ → EReal} {qi : ℕ} (hqi : qi < 8) {m : FVec Ideal S1x256 .f32}
    (hm : IsReal m) {ld : ℕ → FVec Ideal S1x128x256 .f32} {vt : ℕ → FVec Ideal S128x256 .bf16}
    (hl : ∀ c < 2 * (qi + 1), ld c = stored (score K Q qi c))
    (hv : ∀ b < qi + 1, ∀ (d : Fin 128) (o : Fin 256), vt b (ix2 d o) = V (256 * b + o) d) (r : Fin 256) (d : Fin 128) :
    finish (osum m ld vt (qi + 1)) (lsum m ld (2 * (qi + 1))) (ix3 0 r d) = result K Q V (256 * qi + r) d := by
  obtain ⟨μ, h⟩ := hm r
  have hr : 256 * qi + (r : ℕ) < 2048 := by omega
  have z : ∀ s, 256 * (qi + 1) ≤ s → shifted K Q μ s (256 * qi + r) = 0 := fun s hs =>
    shifted_eq_zero K Q μ (by omega)
  rw [finish_apply, osum_apply r d h _ hl hv, lsum_apply r h _ hl, show 128 * (2 * (qi + 1)) = 256 * (qi + 1) by ring,
    sum_blocks, sum_blocks, sum_blocks_upto _ (by omega) z,
    sum_blocks_upto (fun s => V s d * ((shifted K Q μ s (256 * qi + r) : ℝ) : EReal)) (by omega) (fun s hs => by
      simp only [z s hs, EReal.coe_zero, mul_zero]),
    Ideal.div_coe (shifted_sum_pos K Q μ hr).ne', one_mul, one_div]
  exact result_of_shifted K Q V μ hr

end Cert.KernelAttnIdeal.Value

end

end
-- ==== Proof.AttnLoads.lean ====
module

public import proofs.«01_k».proof.Proof.Gen.KernelAttnIdeal.Frame
public import proofs.«01_k».proof.Proof.AttnOps
public import Idealize.ShloMosaic.Lib.Pipeline.ReadBack

/-!
What the attention kernel loads from its operands and from the copies it keeps of them: queries, tiles of keys, blocks
of values and the mean keys.
-/

@[expose] public section
set_option maxRecDepth 16384

noncomputable section

open Idealize.ShloMosaic Idealize.ShloMosaic.TcCoe Idealize.SL.Sem
open Idealize.ShloMosaic.Pipeline

namespace Cert.KernelAttnIdeal.Value

open Cert.KernelAttnIdeal Cert.KernelAttnIdeal.Gen Cert.Attn

/-- One grid point of the kernel: its buffers, the blocks of the operands, and the tables they hold. -/
structure Point where
  K : ℕ → ℕ → ℝ
  Q : ℕ → ℕ → ℝ
  V : ℕ → ℕ → EReal
  c : Dev nD
  arg2 : Memref sig .tc .vmem S1x2048x128 .f32
  harg2 : arg2.IsWhole
  arg3 : Memref sig .tc .vmem S1x2048x128 .f32
  harg3 : arg3.IsWhole
  arg4 : Memref sig .tc .vmem S1x2048x128 .f32
  harg4 : arg4.IsWhole
  arg6 : Memref sig .tc .vmem S2048x128 .bf16
  arg7 : Memref sig .tc .vmem S128x2048 .bf16
  arg8 : Memref sig .tc .vmem S8x128 .f32
  arg9 : Memref sig .tc .vmem S2x2048x256 .f32
  x0 : Vec Ideal S1x2048x128 .f32
  x1 : Vec Ideal S1x2048x128 .f32
  x2 : Vec Ideal S1x2048x128 .f32
  hq : ∀ (s : Fin 2048) (d : Fin 128), x0 (ix3 0 s d) = ((Q s d : ℝ) : EReal)
  hk : ∀ (s : Fin 2048) (d : Fin 128), x1 (ix3 0 s d) = ((K s d : ℝ) : EReal)
  hv : ∀ (s : Fin 2048) (d : Fin 128), x2 (ix3 0 s d) = V s d

/-- A load from an operand's buffer reads the operand's block. -/
theorem readAt_whole {s : Shape} {e : EltTy} {a : Memref sig .tc .vmem s e} (h : a.IsWhole) (x : Vec Ideal s e) (r : Rect s) :
    View.readAt (Elt Ideal) a.view r (h.unread x) = View.ld x r := by
  rw [View.readAt_eq_ld, Memref.IsWhole.read_unread]

variable (E : Point)

/-- Block 0 of the queries, at full width. -/
theorem qf_0 (r : Fin 256) (d : Fin 128) :
    (shapeCast S256x128 (View.readAt (Elt Ideal) E.arg2.view (Rect.unit (s := S1x2048x128) ![0, 0, 0] S1x256x128.size
      inb_S1x2048x128_S1x256x128_0_0_0).toLoadRect (E.harg2.unread E.x0)) shapeCasts_S1x256x128_S256x128
      : FVec Ideal S256x128 .f32) (ix2 r d) = ((E.Q (256 * 0 + r) d : ℝ) : EReal) := by
  rw [readAt_whole]
  refine Eq.trans ?_ (E.hq ⟨0 + r, by omega⟩ d)
  pointwise

/-- Block 1 of the queries, at full width. -/
theorem qf_1 (r : Fin 256) (d : Fin 128) :
    (shapeCast S256x128 (View.readAt (Elt Ideal) E.arg2.view (Rect.unit (s := S1x2048x128) ![0, 256, 0] S1x256x128.size
      inb_S1x2048x128_S1x256x128_0_256_0).toLoadRect (E.harg2.unread E.x0)) shapeCasts_S1x256x128_S256x128
      : FVec Ideal S256x128 .f32) (ix2 r d) = ((E.Q (256 * 1 + r) d : ℝ) : EReal) := by
  rw [readAt_whole]
  refine Eq.trans ?_ (E.hq ⟨256 + r, by omega⟩ d)
  pointwise

/-- Block 2 of the queries, at full width. -/
theorem qf_2 (r : Fin 256) (d : Fin 128) :
    (shapeCast S256x128 (View.readAt (Elt Ideal) E.arg2.view (Rect.unit (s := S1x2048x128) ![0, 512, 0] S1x256x128.size
      inb_S1x2048x128_S1x256x128_0_512_0).toLoadRect (E.harg2.unread E.x0)) shapeCasts_S1x256x128_S256x128
      : FVec Ideal S256x128 .f32) (ix2 r d) = ((E.Q (256 * 2 + r) d : ℝ) : EReal) := by
  rw [readAt_whole]
  refine Eq.trans ?_ (E.hq ⟨512 + r, by omega⟩ d)
  pointwise

/-- Block 3 of the queries, at full width. -/
theorem qf_3 (r : Fin 256) (d : Fin 128) :
    (shapeCast S256x128 (View.readAt (Elt Ideal) E.arg2.view (Rect.unit (s := S1x2048x128) ![0, 768, 0] S1x256x128.size
      inb_S1x2048x128_S1x256x128_0_768_0).toLoadRect (E.harg2.unread E.x0)) shapeCasts_S1x256x128_S256x128
      : FVec Ideal S256x128 .f32) (ix2 r d) = ((E.Q (256 * 3 + r) d : ℝ) : EReal) := by
  rw [readAt_whole]
  refine Eq.trans ?_ (E.hq ⟨768 + r, by omega⟩ d)
  pointwise

/-- Block 4 of the queries, at full width. -/
theorem qf_4 (r : Fin 256) (d : Fin 128) :
    (shapeCast S256x128 (View.readAt (Elt Ideal) E.arg2.view (Rect.unit (s := S1x2048x128) ![0, 1024, 0] S1x256x128.size
      inb_S1x2048x128_S1x256x128_0_1024_0).toLoadRect (E.harg2.unread E.x0)) shapeCasts_S1x256x128_S256x128
      : FVec Ideal S256x128 .f32) (ix2 r d) = ((E.Q (256 * 4 + r) d : ℝ) : EReal) := by
  rw [readAt_whole]
  refine Eq.trans ?_ (E.hq ⟨1024 + r, by omega⟩ d)
  pointwise

/-- Block 5 of the queries, at full width. -/
theorem qf_5 (r : Fin 256) (d : Fin 128) :
    (shapeCast S256x128 (View.readAt (Elt Ideal) E.arg2.view (Rect.unit (s := S1x2048x128) ![0, 1280, 0] S1x256x128.size
      inb_S1x2048x128_S1x256x128_0_1280_0).toLoadRect (E.harg2.unread E.x0)) shapeCasts_S1x256x128_S256x128
      : FVec Ideal S256x128 .f32) (ix2 r d) = ((E.Q (256 * 5 + r) d : ℝ) : EReal) := by
  rw [readAt_whole]
  refine Eq.trans ?_ (E.hq ⟨1280 + r, by omega⟩ d)
  pointwise

/-- Block 6 of the queries, at full width. -/
theorem qf_6 (r : Fin 256) (d : Fin 128) :
    (shapeCast S256x128 (View.readAt (Elt Ideal) E.arg2.view (Rect.unit (s := S1x2048x128) ![0, 1536, 0] S1x256x128.size
      inb_S1x2048x128_S1x256x128_0_1536_0).toLoadRect (E.harg2.unread E.x0)) shapeCasts_S1x256x128_S256x128
      : FVec Ideal S256x128 .f32) (ix2 r d) = ((E.Q (256 * 6 + r) d : ℝ) : EReal) := by
  rw [readAt_whole]
  refine Eq.trans ?_ (E.hq ⟨1536 + r, by omega⟩ d)
  pointwise

/-- Block 7 of the queries, at full width. -/
theorem qf_7 (r : Fin 256) (d : Fin 128) :
    (shapeCast S256x128 (View.readAt (Elt Ideal) E.arg2.view (Rect.unit (s := S1x2048x128) ![0, 1792, 0] S1x256x128.size
      inb_S1x2048x128_S1x256x128_0_1792_0).toLoadRect (E.harg2.unread E.x0)) shapeCasts_S1x256x128_S256x128
      : FVec Ideal S256x128 .f32) (ix2 r d) = ((E.Q (256 * 7 + r) d : ℝ) : EReal) := by
  rw [readAt_whole]
  refine Eq.trans ?_ (E.hq ⟨1792 + r, by omega⟩ d)
  pointwise

/-- Block 0 of the queries, narrowed. -/
theorem qb_0 (r : Fin 256) (d : Fin 128) :
    (truncf .bf16 (shapeCast S256x128 (View.readAt (Elt Ideal) E.arg2.view (Rect.unit (s := S1x2048x128) ![0, 0, 0] S1x256x128.size
      inb_S1x2048x128_S1x256x128_0_0_0).toLoadRect (E.harg2.unread E.x0)) shapeCasts_S1x256x128_S256x128 : FVec Ideal S256x128 .f32)
      bitsLt_bf16_f32 : FVec Ideal S256x128 .bf16) (ix2 r d) = ((E.Q (256 * 0 + r) d : ℝ) : EReal) := qf_0 E r d

/-- Block 1 of the queries, narrowed. -/
theorem qb_1 (r : Fin 256) (d : Fin 128) :
    (truncf .bf16 (shapeCast S256x128 (View.readAt (Elt Ideal) E.arg2.view (Rect.unit (s := S1x2048x128) ![0, 256, 0] S1x256x128.size
      inb_S1x2048x128_S1x256x128_0_256_0).toLoadRect (E.harg2.unread E.x0)) shapeCasts_S1x256x128_S256x128 : FVec Ideal S256x128 .f32)
      bitsLt_bf16_f32 : FVec Ideal S256x128 .bf16) (ix2 r d) = ((E.Q (256 * 1 + r) d : ℝ) : EReal) := qf_1 E r d

/-- Block 2 of the queries, narrowed. -/
theorem qb_2 (r : Fin 256) (d : Fin 128) :
    (truncf .bf16 (shapeCast S256x128 (View.readAt (Elt Ideal) E.arg2.view (Rect.unit (s := S1x2048x128) ![0, 512, 0] S1x256x128.size
      inb_S1x2048x128_S1x256x128_0_512_0).toLoadRect (E.harg2.unread E.x0)) shapeCasts_S1x256x128_S256x128 : FVec Ideal S256x128 .f32)
      bitsLt_bf16_f32 : FVec Ideal S256x128 .bf16) (ix2 r d) = ((E.Q (256 * 2 + r) d : ℝ) : EReal) := qf_2 E r d

/-- Block 3 of the queries, narrowed. -/
theorem qb_3 (r : Fin 256) (d : Fin 128) :
    (truncf .bf16 (shapeCast S256x128 (View.readAt (Elt Ideal) E.arg2.view (Rect.unit (s := S1x2048x128) ![0, 768, 0] S1x256x128.size
      inb_S1x2048x128_S1x256x128_0_768_0).toLoadRect (E.harg2.unread E.x0)) shapeCasts_S1x256x128_S256x128 : FVec Ideal S256x128 .f32)
      bitsLt_bf16_f32 : FVec Ideal S256x128 .bf16) (ix2 r d) = ((E.Q (256 * 3 + r) d : ℝ) : EReal) := qf_3 E r d

/-- Block 4 of the queries, narrowed. -/
theorem qb_4 (r : Fin 256) (d : Fin 128) :
    (truncf .bf16 (shapeCast S256x128 (View.readAt (Elt Ideal) E.arg2.view (Rect.unit (s := S1x2048x128) ![0, 1024, 0] S1x256x128.size
      inb_S1x2048x128_S1x256x128_0_1024_0).toLoadRect (E.harg2.unread E.x0)) shapeCasts_S1x256x128_S256x128 : FVec Ideal S256x128 .f32)
      bitsLt_bf16_f32 : FVec Ideal S256x128 .bf16) (ix2 r d) = ((E.Q (256 * 4 + r) d : ℝ) : EReal) := qf_4 E r d

/-- Block 5 of the queries, narrowed. -/
theorem qb_5 (r : Fin 256) (d : Fin 128) :
    (truncf .bf16 (shapeCast S256x128 (View.readAt (Elt Ideal) E.arg2.view (Rect.unit (s := S1x2048x128) ![0, 1280, 0] S1x256x128.size
      inb_S1x2048x128_S1x256x128_0_1280_0).toLoadRect (E.harg2.unread E.x0)) shapeCasts_S1x256x128_S256x128 : FVec Ideal S256x128 .f32)
      bitsLt_bf16_f32 : FVec Ideal S256x128 .bf16) (ix2 r d) = ((E.Q (256 * 5 + r) d : ℝ) : EReal) := qf_5 E r d

/-- Block 6 of the queries, narrowed. -/
theorem qb_6 (r : Fin 256) (d : Fin 128) :
    (truncf .bf16 (shapeCast S256x128 (View.readAt (Elt Ideal) E.arg2.view (Rect.unit (s := S1x2048x128) ![0, 1536, 0] S1x256x128.size
      inb_S1x2048x128_S1x256x128_0_1536_0).toLoadRect (E.harg2.unread E.x0)) shapeCasts_S1x256x128_S256x128 : FVec Ideal S256x128 .f32)
      bitsLt_bf16_f32 : FVec Ideal S256x128 .bf16) (ix2 r d) = ((E.Q (256 * 6 + r) d : ℝ) : EReal) := qf_6 E r d

/-- Block 7 of the queries, narrowed. -/
theorem qb_7 (r : Fin 256) (d : Fin 128) :
    (truncf .bf16 (shapeCast S256x128 (View.readAt (Elt Ideal) E.arg2.view (Rect.unit (s := S1x2048x128) ![0, 1792, 0] S1x256x128.size
      inb_S1x2048x128_S1x256x128_0_1792_0).toLoadRect (E.harg2.unread E.x0)) shapeCasts_S1x256x128_S256x128 : FVec Ideal S256x128 .f32)
      bitsLt_bf16_f32 : FVec Ideal S256x128 .bf16) (ix2 r d) = ((E.Q (256 * 7 + r) d : ℝ) : EReal) := qf_7 E r d

/-- Tile 0 of the keys. -/
theorem kb_0 (o d : Fin 128) : kernelRun0_A.sl.v95 E.c E.arg3 E.harg3 E.arg6 E.x1 (ix2 o d) = ((E.K (128 * 0 + o) d : ℝ) : EReal) := by
  rw [kernelRun0_A.sl.v95, kernelRun0_A.sl.HS0_1, View.readCov_fill _ _ _ _ _ (by decide), kernelRun0_A.sl.v5, kernelRun0_A.sl.v2, kernelRun0_A.sl.v1, readAt_whole]
  refine Eq.trans ?_ (E.hk ⟨0 + o, by omega⟩ d)
  pointwise

/-- Tile 1 of the keys. -/
theorem kb_1 (o d : Fin 128) : kernelRun0_A.sl.v107 E.c E.arg3 E.harg3 E.arg6 E.x1 (ix2 o d) = ((E.K (128 * 1 + o) d : ℝ) : EReal) := by
  rw [kernelRun0_A.sl.v107, kernelRun0_A.sl.HS0_1, View.readCov_fill _ _ _ _ _ (by decide), kernelRun0_A.sl.v5, kernelRun0_A.sl.v2, kernelRun0_A.sl.v1, readAt_whole]
  refine Eq.trans ?_ (E.hk ⟨128 + o, by omega⟩ d)
  pointwise

/-- Tile 2 of the keys. -/
theorem kb_2 (o d : Fin 128) : kernelRun0_A.sl.v138 E.c E.arg3 E.harg3 E.arg6 E.x1 (ix2 o d) = ((E.K (128 * 2 + o) d : ℝ) : EReal) := by
  rw [kernelRun0_A.sl.v138, kernelRun0_A.sl.HS0_1, View.readCov_fill _ _ _ _ _ (by decide), kernelRun0_A.sl.v5, kernelRun0_A.sl.v2, kernelRun0_A.sl.v1, readAt_whole]
  refine Eq.trans ?_ (E.hk ⟨256 + o, by omega⟩ d)
  pointwise

/-- Tile 3 of the keys. -/
theorem kb_3 (o d : Fin 128) : kernelRun0_A.sl.v151 E.c E.arg3 E.harg3 E.arg6 E.x1 (ix2 o d) = ((E.K (128 * 3 + o) d : ℝ) : EReal) := by
  rw [kernelRun0_A.sl.v151, kernelRun0_A.sl.HS0_1, View.readCov_fill _ _ _ _ _ (by decide), kernelRun0_A.sl.v5, kernelRun0_A.sl.v2, kernelRun0_A.sl.v1, readAt_whole]
  refine Eq.trans ?_ (E.hk ⟨384 + o, by omega⟩ d)
  pointwise

/-- Tile 4 of the keys. -/
theorem kb_4 (o d : Fin 128) : kernelRun0_A.sl.v235 E.c E.arg3 E.harg3 E.arg6 E.x1 (ix2 o d) = ((E.K (128 * 4 + o) d : ℝ) : EReal) := by
  rw [kernelRun0_A.sl.v235, kernelRun0_A.sl.HS0_1, View.readCov_fill _ _ _ _ _ (by decide), kernelRun0_A.sl.v5, kernelRun0_A.sl.v2, kernelRun0_A.sl.v1, readAt_whole]
  refine Eq.trans ?_ (E.hk ⟨512 + o, by omega⟩ d)
  pointwise

/-- Tile 5 of the keys. -/
theorem kb_5 (o d : Fin 128) : kernelRun0_A.sl.v248 E.c E.arg3 E.harg3 E.arg6 E.x1 (ix2 o d) = ((E.K (128 * 5 + o) d : ℝ) : EReal) := by
  rw [kernelRun0_A.sl.v248, kernelRun0_A.sl.HS0_1, View.readCov_fill _ _ _ _ _ (by decide), kernelRun0_A.sl.v5, kernelRun0_A.sl.v2, kernelRun0_A.sl.v1, readAt_whole]
  refine Eq.trans ?_ (E.hk ⟨640 + o, by omega⟩ d)
  pointwise

/-- Tile 6 of the keys. -/
theorem kb_6 (o d : Fin 128) : kernelRun0_A.sl.v374 E.c E.arg3 E.harg3 E.arg6 E.x1 (ix2 o d) = ((E.K (128 * 6 + o) d : ℝ) : EReal) := by
  rw [kernelRun0_A.sl.v374, kernelRun0_A.sl.HS0_1, View.readCov_fill _ _ _ _ _ (by decide), kernelRun0_A.sl.v5, kernelRun0_A.sl.v2, kernelRun0_A.sl.v1, readAt_whole]
  refine Eq.trans ?_ (E.hk ⟨768 + o, by omega⟩ d)
  pointwise

/-- Tile 7 of the keys. -/
theorem kb_7 (o d : Fin 128) : kernelRun0_A.sl.v387 E.c E.arg3 E.harg3 E.arg6 E.x1 (ix2 o d) = ((E.K (128 * 7 + o) d : ℝ) : EReal) := by
  rw [kernelRun0_A.sl.v387, kernelRun0_A.sl.HS0_1, View.readCov_fill _ _ _ _ _ (by decide), kernelRun0_A.sl.v5, kernelRun0_A.sl.v2, kernelRun0_A.sl.v1, readAt_whole]
  refine Eq.trans ?_ (E.hk ⟨896 + o, by omega⟩ d)
  pointwise

/-- Tile 8 of the keys. -/
theorem kb_8 (o d : Fin 128) : kernelRun0_A.sl.v676 E.c E.arg3 E.harg3 E.arg6 E.x1 (ix2 o d) = ((E.K (128 * 8 + o) d : ℝ) : EReal) := by
  rw [kernelRun0_A.sl.v676, kernelRun0_A.sl.HS0_1, View.readCov_fill _ _ _ _ _ (by decide), kernelRun0_A.sl.v5, kernelRun0_A.sl.v2, kernelRun0_A.sl.v1, readAt_whole]
  refine Eq.trans ?_ (E.hk ⟨1024 + o, by omega⟩ d)
  pointwise

/-- Tile 9 of the keys. -/
theorem kb_9 (o d : Fin 128) : kernelRun0_A.sl.v689 E.c E.arg3 E.harg3 E.arg6 E.x1 (ix2 o d) = ((E.K (128 * 9 + o) d : ℝ) : EReal) := by
  rw [kernelRun0_A.sl.v689, kernelRun0_A.sl.HS0_1, View.readCov_fill _ _ _ _ _ (by decide), kernelRun0_A.sl.v5, kernelRun0_A.sl.v2, kernelRun0_A.sl.v1, readAt_whole]
  refine Eq.trans ?_ (E.hk ⟨1152 + o, by omega⟩ d)
  pointwise

/-- Tile 10 of the keys. -/
theorem kb_10 (o d : Fin 128) : kernelRun0_A.sl.v1047 E.c E.arg3 E.harg3 E.arg6 E.x1 (ix2 o d) = ((E.K (128 * 10 + o) d : ℝ) : EReal) := by
  rw [kernelRun0_A.sl.v1047, kernelRun0_A.sl.HS0_1, View.readCov_fill _ _ _ _ _ (by decide), kernelRun0_A.sl.v5, kernelRun0_A.sl.v2, kernelRun0_A.sl.v1, readAt_whole]
  refine Eq.trans ?_ (E.hk ⟨1280 + o, by omega⟩ d)
  pointwise

/-- Tile 11 of the keys. -/
theorem kb_11 (o d : Fin 128) : kernelRun0_A.sl.v1060 E.c E.arg3 E.harg3 E.arg6 E.x1 (ix2 o d) = ((E.K (128 * 11 + o) d : ℝ) : EReal) := by
  rw [kernelRun0_A.sl.v1060, kernelRun0_A.sl.HS0_1, View.readCov_fill _ _ _ _ _ (by decide), kernelRun0_A.sl.v5, kernelRun0_A.sl.v2, kernelRun0_A.sl.v1, readAt_whole]
  refine Eq.trans ?_ (E.hk ⟨1408 + o, by omega⟩ d)
  pointwise

/-- Tile 12 of the keys. -/
theorem kb_12 (o d : Fin 128) : kernelRun0_A.sl.v1487 E.c E.arg3 E.harg3 E.arg6 E.x1 (ix2 o d) = ((E.K (128 * 12 + o) d : ℝ) : EReal) := by
  rw [kernelRun0_A.sl.v1487, kernelRun0_A.sl.HS0_1, View.readCov_fill _ _ _ _ _ (by decide), kernelRun0_A.sl.v5, kernelRun0_A.sl.v2, kernelRun0_A.sl.v1, readAt_whole]
  refine Eq.trans ?_ (E.hk ⟨1536 + o, by omega⟩ d)
  pointwise

/-- Tile 13 of the keys. -/
theorem kb_13 (o d : Fin 128) : kernelRun0_A.sl.v1500 E.c E.arg3 E.harg3 E.arg6 E.x1 (ix2 o d) = ((E.K (128 * 13 + o) d : ℝ) : EReal) := by
  rw [kernelRun0_A.sl.v1500, kernelRun0_A.sl.HS0_1, View.readCov_fill _ _ _ _ _ (by decide), kernelRun0_A.sl.v5, kernelRun0_A.sl.v2, kernelRun0_A.sl.v1, readAt_whole]
  refine Eq.trans ?_ (E.hk ⟨1664 + o, by omega⟩ d)
  pointwise

/-- Tile 14 of the keys. -/
theorem kb_14 (o d : Fin 128) : kernelRun0_A.sl.v1996 E.c E.arg3 E.harg3 E.arg6 E.x1 (ix2 o d) = ((E.K (128 * 14 + o) d : ℝ) : EReal) := by
  rw [kernelRun0_A.sl.v1996, kernelRun0_A.sl.HS0_1, View.readCov_fill _ _ _ _ _ (by decide), kernelRun0_A.sl.v5, kernelRun0_A.sl.v2, kernelRun0_A.sl.v1, readAt_whole]
  refine Eq.trans ?_ (E.hk ⟨1792 + o, by omega⟩ d)
  pointwise

/-- Tile 15 of the keys. -/
theorem kb_15 (o d : Fin 128) : kernelRun0_A.sl.v2009 E.c E.arg3 E.harg3 E.arg6 E.x1 (ix2 o d) = ((E.K (128 * 15 + o) d : ℝ) : EReal) := by
  rw [kernelRun0_A.sl.v2009, kernelRun0_A.sl.HS0_1, View.readCov_fill _ _ _ _ _ (by decide), kernelRun0_A.sl.v5, kernelRun0_A.sl.v2, kernelRun0_A.sl.v1, readAt_whole]
  refine Eq.trans ?_ (E.hk ⟨1920 + o, by omega⟩ d)
  pointwise

/-- Tile 0 of the keys, loaded again. -/
theorem kb_0_again (o d : Fin 128) : kernelRun0_A.sl.v327 E.c E.arg3 E.harg3 E.arg6 E.x1 (ix2 o d) = ((E.K (128 * 0 + o) d : ℝ) : EReal) := by
  rw [kernelRun0_A.sl.v327, kernelRun0_A.sl.HS0_1, View.readCov_fill _ _ _ _ _ (by decide), kernelRun0_A.sl.v5, kernelRun0_A.sl.v2, kernelRun0_A.sl.v1, readAt_whole]
  refine Eq.trans ?_ (E.hk ⟨0 + o, by omega⟩ d)
  pointwise

/-- Tile 1 of the keys, loaded again. -/
theorem kb_1_again (o d : Fin 128) : kernelRun0_A.sl.v334 E.c E.arg3 E.harg3 E.arg6 E.x1 (ix2 o d) = ((E.K (128 * 1 + o) d : ℝ) : EReal) := by
  rw [kernelRun0_A.sl.v334, kernelRun0_A.sl.HS0_1, View.readCov_fill _ _ _ _ _ (by decide), kernelRun0_A.sl.v5, kernelRun0_A.sl.v2, kernelRun0_A.sl.v1, readAt_whole]
  refine Eq.trans ?_ (E.hk ⟨128 + o, by omega⟩ d)
  pointwise

/-- Block `b` of the values, transposed. -/
def vtile (b : ℕ) : FVec Ideal S128x256 .bf16 := fun i => E.V (256 * b + (i 1 : ℕ)) (i 0 : ℕ)

/-- Block 0 of the values. -/
theorem vt_0 : kernelRun0_A.sl.v188 E.c E.arg4 E.harg4 E.arg7 E.x2 = vtile E 0 := by
  funext i
  idx_vars i
  rw [kernelRun0_A.sl.v188, kernelRun0_A.sl.HS1_1, View.readCov_fill _ _ _ _ _ (by decide), kernelRun0_A.sl.v12, kernelRun0_A.sl.v9, kernelRun0_A.sl.v8, kernelRun0_A.sl.v7, readAt_whole]
  refine Eq.trans ?_ (E.hv ⟨0 + i1, by omega⟩ i0)
  pointwise

/-- Block 1 of the values. -/
theorem vt_1 : kernelRun0_A.sl.v311 E.c E.arg4 E.harg4 E.arg7 E.x2 = vtile E 1 := by
  funext i
  idx_vars i
  rw [kernelRun0_A.sl.v311, kernelRun0_A.sl.HS1_1, View.readCov_fill _ _ _ _ _ (by decide), kernelRun0_A.sl.v12, kernelRun0_A.sl.v9, kernelRun0_A.sl.v8, kernelRun0_A.sl.v7, readAt_whole]
  refine Eq.trans ?_ (E.hv ⟨256 + i1, by omega⟩ i0)
  pointwise

/-- Block 2 of the values. -/
theorem vt_2 : kernelRun0_A.sl.v476 E.c E.arg4 E.harg4 E.arg7 E.x2 = vtile E 2 := by
  funext i
  idx_vars i
  rw [kernelRun0_A.sl.v476, kernelRun0_A.sl.HS1_1, View.readCov_fill _ _ _ _ _ (by decide), kernelRun0_A.sl.v12, kernelRun0_A.sl.v9, kernelRun0_A.sl.v8, kernelRun0_A.sl.v7, readAt_whole]
  refine Eq.trans ?_ (E.hv ⟨512 + i1, by omega⟩ i0)
  pointwise

/-- Block 3 of the values. -/
theorem vt_3 : kernelRun0_A.sl.v804 E.c E.arg4 E.harg4 E.arg7 E.x2 = vtile E 3 := by
  funext i
  idx_vars i
  rw [kernelRun0_A.sl.v804, kernelRun0_A.sl.HS1_1, View.readCov_fill _ _ _ _ _ (by decide), kernelRun0_A.sl.v12, kernelRun0_A.sl.v9, kernelRun0_A.sl.v8, kernelRun0_A.sl.v7, readAt_whole]
  refine Eq.trans ?_ (E.hv ⟨768 + i1, by omega⟩ i0)
  pointwise

/-- Block 4 of the values. -/
theorem vt_4 : kernelRun0_A.sl.v1201 E.c E.arg4 E.harg4 E.arg7 E.x2 = vtile E 4 := by
  funext i
  idx_vars i
  rw [kernelRun0_A.sl.v1201, kernelRun0_A.sl.HS1_1, View.readCov_fill _ _ _ _ _ (by decide), kernelRun0_A.sl.v12, kernelRun0_A.sl.v9, kernelRun0_A.sl.v8, kernelRun0_A.sl.v7, readAt_whole]
  refine Eq.trans ?_ (E.hv ⟨1024 + i1, by omega⟩ i0)
  pointwise

/-- Block 5 of the values. -/
theorem vt_5 : kernelRun0_A.sl.v1667 E.c E.arg4 E.harg4 E.arg7 E.x2 = vtile E 5 := by
  funext i
  idx_vars i
  rw [kernelRun0_A.sl.v1667, kernelRun0_A.sl.HS1_1, View.readCov_fill _ _ _ _ _ (by decide), kernelRun0_A.sl.v12, kernelRun0_A.sl.v9, kernelRun0_A.sl.v8, kernelRun0_A.sl.v7, readAt_whole]
  refine Eq.trans ?_ (E.hv ⟨1280 + i1, by omega⟩ i0)
  pointwise

/-- Block 6 of the values. -/
theorem vt_6 : kernelRun0_A.sl.v2202 E.c E.arg4 E.harg4 E.arg7 E.x2 = vtile E 6 := by
  funext i
  idx_vars i
  rw [kernelRun0_A.sl.v2202, kernelRun0_A.sl.HS1_1, View.readCov_fill _ _ _ _ _ (by decide), kernelRun0_A.sl.v12, kernelRun0_A.sl.v9, kernelRun0_A.sl.v8, kernelRun0_A.sl.v7, readAt_whole]
  refine Eq.trans ?_ (E.hv ⟨1536 + i1, by omega⟩ i0)
  pointwise

/-- Block 7 of the values. -/
theorem vt_7 : kernelRun0_A.sl.v2421 E.c E.arg4 E.harg4 E.arg7 E.x2 = vtile E 7 := by
  funext i
  idx_vars i
  rw [kernelRun0_A.sl.v2421, kernelRun0_A.sl.HS1_1, View.readCov_fill _ _ _ _ _ (by decide), kernelRun0_A.sl.v12, kernelRun0_A.sl.v9, kernelRun0_A.sl.v8, kernelRun0_A.sl.v7, readAt_whole]
  refine Eq.trans ?_ (E.hv ⟨1792 + i1, by omega⟩ i0)
  pointwise

/-- The mean key of block 0. -/
theorem kmrow_0 (d : Fin 128) : kernelRun0_A.sl.v25 E.c E.arg3 E.harg3 E.x1 (ix2 0 d) = ((kmean E.K 0 d : ℝ) : EReal) := by
  have h : kernelRun0_A.sl.v25 E.c E.arg3 E.harg3 E.x1 (ix2 0 d)
      = (∑ o : Fin 256, E.x1 (ix3 0 ⟨0 + o, by omega⟩ d)) * Ideal.ofBits .f32 0x3B800000#32 := by
    simp only [kernelRun0_A.sl.v25, kernelRun0_A.sl.v22, kernelRun0_A.sl.v20, kernelRun0_A.sl.v19, kernelRun0_A.sl.v18, kernelRun0_A.sl.v21, kernelRun0_A.sl.cst_15, readAt_whole]
    pointwise
  rw [h, ofBits_256th, kmean, Finset.sum_range]
  simp only [E.hk]
  rw [← coe_sum, ← EReal.coe_mul]
  exact congrArg _ (mul_one_div _ _)

/-- The mean key of block 1. -/
theorem kmrow_1 (d : Fin 128) : kernelRun0_A.sl.v34 E.c E.arg3 E.harg3 E.x1 (ix2 0 d) = ((kmean E.K 1 d : ℝ) : EReal) := by
  have h : kernelRun0_A.sl.v34 E.c E.arg3 E.harg3 E.x1 (ix2 0 d)
      = (∑ o : Fin 256, E.x1 (ix3 0 ⟨256 + o, by omega⟩ d)) * Ideal.ofBits .f32 0x3B800000#32 := by
    simp only [kernelRun0_A.sl.v34, kernelRun0_A.sl.v31, kernelRun0_A.sl.v29, kernelRun0_A.sl.v28, kernelRun0_A.sl.v27, kernelRun0_A.sl.v21, kernelRun0_A.sl.cst_15, readAt_whole]
    pointwise
  rw [h, ofBits_256th, kmean, Finset.sum_range]
  simp only [E.hk]
  rw [← coe_sum, ← EReal.coe_mul]
  exact congrArg _ (mul_one_div _ _)

/-- The mean key of block 2. -/
theorem kmrow_2 (d : Fin 128) : kernelRun0_A.sl.v43 E.c E.arg3 E.harg3 E.x1 (ix2 0 d) = ((kmean E.K 2 d : ℝ) : EReal) := by
  have h : kernelRun0_A.sl.v43 E.c E.arg3 E.harg3 E.x1 (ix2 0 d)
      = (∑ o : Fin 256, E.x1 (ix3 0 ⟨512 + o, by omega⟩ d)) * Ideal.ofBits .f32 0x3B800000#32 := by
    simp only [kernelRun0_A.sl.v43, kernelRun0_A.sl.v40, kernelRun0_A.sl.v38, kernelRun0_A.sl.v37, kernelRun0_A.sl.v36, kernelRun0_A.sl.v21, kernelRun0_A.sl.cst_15, readAt_whole]
    pointwise
  rw [h, ofBits_256th, kmean, Finset.sum_range]
  simp only [E.hk]
  rw [← coe_sum, ← EReal.coe_mul]
  exact congrArg _ (mul_one_div _ _)

/-- The mean key of block 3. -/
theorem kmrow_3 (d : Fin 128) : kernelRun0_A.sl.v52 E.c E.arg3 E.harg3 E.x1 (ix2 0 d) = ((kmean E.K 3 d : ℝ) : EReal) := by
  have h : kernelRun0_A.sl.v52 E.c E.arg3 E.harg3 E.x1 (ix2 0 d)
      = (∑ o : Fin 256, E.x1 (ix3 0 ⟨768 + o, by omega⟩ d)) * Ideal.ofBits .f32 0x3B800000#32 := by
    simp only [kernelRun0_A.sl.v52, kernelRun0_A.sl.v49, kernelRun0_A.sl.v47, kernelRun0_A.sl.v46, kernelRun0_A.sl.v45, kernelRun0_A.sl.v21, kernelRun0_A.sl.cst_15, readAt_whole]
    pointwise
  rw [h, ofBits_256th, kmean, Finset.sum_range]
  simp only [E.hk]
  rw [← coe_sum, ← EReal.coe_mul]
  exact congrArg _ (mul_one_div _ _)

/-- The mean key of block 4. -/
theorem kmrow_4 (d : Fin 128) : kernelRun0_A.sl.v61 E.c E.arg3 E.harg3 E.x1 (ix2 0 d) = ((kmean E.K 4 d : ℝ) : EReal) := by
  have h : kernelRun0_A.sl.v61 E.c E.arg3 E.harg3 E.x1 (ix2 0 d)
      = (∑ o : Fin 256, E.x1 (ix3 0 ⟨1024 + o, by omega⟩ d)) * Ideal.ofBits .f32 0x3B800000#32 := by
    simp only [kernelRun0_A.sl.v61, kernelRun0_A.sl.v58, kernelRun0_A.sl.v56, kernelRun0_A.sl.v55, kernelRun0_A.sl.v54, kernelRun0_A.sl.v21, kernelRun0_A.sl.cst_15, readAt_whole]
    pointwise
  rw [h, ofBits_256th, kmean, Finset.sum_range]
  simp only [E.hk]
  rw [← coe_sum, ← EReal.coe_mul]
  exact congrArg _ (mul_one_div _ _)

/-- The mean key of block 5. -/
theorem kmrow_5 (d : Fin 128) : kernelRun0_A.sl.v70 E.c E.arg3 E.harg3 E.x1 (ix2 0 d) = ((kmean E.K 5 d : ℝ) : EReal) := by
  have h : kernelRun0_A.sl.v70 E.c E.arg3 E.harg3 E.x1 (ix2 0 d)
      = (∑ o : Fin 256, E.x1 (ix3 0 ⟨1280 + o, by omega⟩ d)) * Ideal.ofBits .f32 0x3B800000#32 := by
    simp only [kernelRun0_A.sl.v70, kernelRun0_A.sl.v67, kernelRun0_A.sl.v65, kernelRun0_A.sl.v64, kernelRun0_A.sl.v63, kernelRun0_A.sl.v21, kernelRun0_A.sl.cst_15, readAt_whole]
    pointwise
  rw [h, ofBits_256th, kmean, Finset.sum_range]
  simp only [E.hk]
  rw [← coe_sum, ← EReal.coe_mul]
  exact congrArg _ (mul_one_div _ _)

/-- The mean key of block 6. -/
theorem kmrow_6 (d : Fin 128) : kernelRun0_A.sl.v79 E.c E.arg3 E.harg3 E.x1 (ix2 0 d) = ((kmean E.K 6 d : ℝ) : EReal) := by
  have h : kernelRun0_A.sl.v79 E.c E.arg3 E.harg3 E.x1 (ix2 0 d)
      = (∑ o : Fin 256, E.x1 (ix3 0 ⟨1536 + o, by omega⟩ d)) * Ideal.ofBits .f32 0x3B800000#32 := by
    simp only [kernelRun0_A.sl.v79, kernelRun0_A.sl.v76, kernelRun0_A.sl.v74, kernelRun0_A.sl.v73, kernelRun0_A.sl.v72, kernelRun0_A.sl.v21, kernelRun0_A.sl.cst_15, readAt_whole]
    pointwise
  rw [h, ofBits_256th, kmean, Finset.sum_range]
  simp only [E.hk]
  rw [← coe_sum, ← EReal.coe_mul]
  exact congrArg _ (mul_one_div _ _)

/-- The mean key of block 7. -/
theorem kmrow_7 (d : Fin 128) : kernelRun0_A.sl.v88 E.c E.arg3 E.harg3 E.x1 (ix2 0 d) = ((kmean E.K 7 d : ℝ) : EReal) := by
  have h : kernelRun0_A.sl.v88 E.c E.arg3 E.harg3 E.x1 (ix2 0 d)
      = (∑ o : Fin 256, E.x1 (ix3 0 ⟨1792 + o, by omega⟩ d)) * Ideal.ofBits .f32 0x3B800000#32 := by
    simp only [kernelRun0_A.sl.v88, kernelRun0_A.sl.v85, kernelRun0_A.sl.v83, kernelRun0_A.sl.v82, kernelRun0_A.sl.v81, kernelRun0_A.sl.v21, kernelRun0_A.sl.cst_15, readAt_whole]
    pointwise
  rw [h, ofBits_256th, kmean, Finset.sum_range]
  simp only [E.hk]
  rw [← coe_sum, ← EReal.coe_mul]
  exact congrArg _ (mul_one_div _ _)

/-- The table of mean keys as an array. -/
def kmtab : FVec Ideal S8x128 .f32 := fun i => ((kmean E.K (i 0 : ℕ) (i 1 : ℕ) : ℝ) : EReal)

/-- The eight stored rows, last first. -/
def kmrows : List (View.Piece (Elt Ideal) S8x128 .f32) := [⟨Rect.unit (s := S8x128) ![7, 0] S1x128.size inb_S8x128_S1x128_7_0, kernelRun0_A.sl.v88 E.c E.arg3 E.harg3 E.x1⟩, ⟨Rect.unit (s := S8x128) ![6, 0] S1x128.size inb_S8x128_S1x128_6_0, kernelRun0_A.sl.v79 E.c E.arg3 E.harg3 E.x1⟩, ⟨Rect.unit (s := S8x128) ![5, 0] S1x128.size inb_S8x128_S1x128_5_0, kernelRun0_A.sl.v70 E.c E.arg3 E.harg3 E.x1⟩, ⟨Rect.unit (s := S8x128) ![4, 0] S1x128.size inb_S8x128_S1x128_4_0, kernelRun0_A.sl.v61 E.c E.arg3 E.harg3 E.x1⟩, ⟨Rect.unit (s := S8x128) ![3, 0] S1x128.size inb_S8x128_S1x128_3_0, kernelRun0_A.sl.v52 E.c E.arg3 E.harg3 E.x1⟩, ⟨Rect.unit (s := S8x128) ![2, 0] S1x128.size inb_S8x128_S1x128_2_0, kernelRun0_A.sl.v43 E.c E.arg3 E.harg3 E.x1⟩, ⟨Rect.unit (s := S8x128) ![1, 0] S1x128.size inb_S8x128_S1x128_1_0, kernelRun0_A.sl.v34 E.c E.arg3 E.harg3 E.x1⟩, ⟨Rect.unit (s := S8x128) ![0, 0] S1x128.size inb_S8x128_S1x128_0_0, kernelRun0_A.sl.v25 E.c E.arg3 E.harg3 E.x1⟩]

/-- The mean keys, read back from the eight rows stored over a fill. -/
theorem km_at (n : Fin 8) (d : Fin 128) : kernelRun0_A.sl.v492 E.c E.arg3 E.harg3 E.arg8 E.x1 (ix2 n d) = ((kmean E.K n d : ℝ) : EReal) := by
  have h := View.canon_append_of_piecesOf (kmtab E) kernelRun0_A.sl.HS2_1 (kmrows E)
    ⟨fun (x : S1x128.Idx) => by idx_vars x; rw [Subsingleton.elim x0 0]; exact (kmrow_7 E x1).trans (congrArg (fun e : ℕ => ((kmean E.K 7 e : ℝ) : EReal)) (show (x1 : ℕ) = 0 + 1 * x1 by omega)), fun (x : S1x128.Idx) => by idx_vars x; rw [Subsingleton.elim x0 0]; exact (kmrow_6 E x1).trans (congrArg (fun e : ℕ => ((kmean E.K 6 e : ℝ) : EReal)) (show (x1 : ℕ) = 0 + 1 * x1 by omega)), fun (x : S1x128.Idx) => by idx_vars x; rw [Subsingleton.elim x0 0]; exact (kmrow_5 E x1).trans (congrArg (fun e : ℕ => ((kmean E.K 5 e : ℝ) : EReal)) (show (x1 : ℕ) = 0 + 1 * x1 by omega)), fun (x : S1x128.Idx) => by idx_vars x; rw [Subsingleton.elim x0 0]; exact (kmrow_4 E x1).trans (congrArg (fun e : ℕ => ((kmean E.K 4 e : ℝ) : EReal)) (show (x1 : ℕ) = 0 + 1 * x1 by omega)), fun (x : S1x128.Idx) => by idx_vars x; rw [Subsingleton.elim x0 0]; exact (kmrow_3 E x1).trans (congrArg (fun e : ℕ => ((kmean E.K 3 e : ℝ) : EReal)) (show (x1 : ℕ) = 0 + 1 * x1 by omega)), fun (x : S1x128.Idx) => by idx_vars x; rw [Subsingleton.elim x0 0]; exact (kmrow_2 E x1).trans (congrArg (fun e : ℕ => ((kmean E.K 2 e : ℝ) : EReal)) (show (x1 : ℕ) = 0 + 1 * x1 by omega)), fun (x : S1x128.Idx) => by idx_vars x; rw [Subsingleton.elim x0 0]; exact (kmrow_1 E x1).trans (congrArg (fun e : ℕ => ((kmean E.K 1 e : ℝ) : EReal)) (show (x1 : ℕ) = 0 + 1 * x1 by omega)), fun (x : S1x128.Idx) => by idx_vars x; rw [Subsingleton.elim x0 0]; exact (kmrow_0 E x1).trans (congrArg (fun e : ℕ => ((kmean E.K 0 e : ℝ) : EReal)) (show (x1 : ℕ) = 0 + 1 * x1 by omega)), trivial⟩
    (ix2 n d) (View.cover_of_tiledL (kmrows E) S1x128.size (by sl_kernel_rfl) _)
  rw [kernelRun0_A.sl.v492, View.readCov_eq_canon']
  refine Eq.trans ?_ h
  refine congrArg (View.canon (kmrows E ++ kernelRun0_A.sl.HS2_1)) (?_ : (Rect.unit (s := S8x128) ![0, 0] S8x128.size inb_S8x128_S8x128_0_0).toLoadRect.idx (ix2 n d) = ix2 n d)
  funext a
  refine Fin.ext ?_
  match a with
  | ⟨0, _⟩ => exact (show 0 + 1 * (n : ℕ) = n by omega)
  | ⟨1, _⟩ => exact (show 0 + 1 * (d : ℕ) = d by omega)

end Cert.KernelAttnIdeal.Value

end

end
-- ==== Proof.AttnTilesA.lean ====
module

public import proofs.«01_k».proof.Proof.Gen.KernelAttnIdeal.Frame
public import proofs.«01_k».proof.Proof.AttnLoads
public import Idealize.ShloMosaic.Lib.Pipeline.ReadBack

/-!
The attention kernel at query blocks 0,1,2,3: the scores it stores are the masked scores, the maxima it subtracts are real, and
the output block is the quotient of the running sums.
-/

@[expose] public section
set_option maxRecDepth 16384

noncomputable section

open Idealize.ShloMosaic Idealize.ShloMosaic.TcCoe Idealize.SL.Sem
open Idealize.ShloMosaic.Pipeline

namespace Cert.KernelAttnIdeal.Value

open Cert.KernelAttnIdeal Cert.KernelAttnIdeal.Gen Cert.Attn

variable (E : Point)

/-- The scores of tile 0 against query block 0, read back. -/
theorem ld_0_0 : kernelRun0_A.sl.v166 E.c E.arg2 E.harg2 E.arg3 E.harg3 E.arg6 E.arg9 E.x0 E.x1 = stored (score E.K E.Q 0 0) := by
  simp (disch := decide) only [kernelRun0_A.sl.v166, kernelRun0_A.sl.HS3_6, ↓ View.readCov_skip, ↓ View.readCov_cons_toLoadRect]
  exact congrArg stored (score_own (qi := 0) (c := 0) (e := 0) rfl (by decide) 0#32 rfl (kb_0 E) (qb_0 E))

/-- The scores of tile 1 against query block 0, read back. -/
theorem ld_0_1 : kernelRun0_A.sl.v177 E.c E.arg2 E.harg2 E.arg3 E.harg3 E.arg6 E.arg9 E.x0 E.x1 = stored (score E.K E.Q 0 1) := by
  simp (disch := decide) only [kernelRun0_A.sl.v177, kernelRun0_A.sl.HS3_6, ↓ View.readCov_skip, ↓ View.readCov_cons_toLoadRect]
  exact congrArg stored (score_own (qi := 0) (c := 1) (e := 1) rfl (by decide) 128#32 rfl (kb_1 E) (qb_0 E))

/-- The maximum subtracted for query block 0 is real. -/
theorem max_0 : IsReal (kernelRun0_A.sl.v119 E.c E.arg2 E.harg2 E.arg3 E.harg3 E.arg6 E.x0 E.x1) :=
  max_real_left (colmax_real_of (score_own (qi := 0) (c := 0) (e := 0) rfl (by decide) 0#32 rfl (kb_0 E) (qb_0 E))) (colmax_nt (score_own (qi := 0) (c := 1) (e := 1) rfl (by decide) 128#32 rfl (kb_1 E) (qb_0 E)))

/-- The output block 0 as the quotient of the running sums. -/
theorem tile_0 : (kernelRun0_A.sl.v200 E.c E.arg2 E.harg2 E.arg3 E.harg3 E.arg4 E.harg4 E.arg6 E.arg7 E.arg9 E.x0 E.x1 E.x2 : FVec Ideal S1x256x128 .bf16)
    = finish (osum (kernelRun0_A.sl.v119 E.c E.arg2 E.harg2 E.arg3 E.harg3 E.arg6 E.x0 E.x1) (fun c => stored (score E.K E.Q 0 c)) (vtile E) 1)
        (lsum (kernelRun0_A.sl.v119 E.c E.arg2 E.harg2 E.arg3 E.harg3 E.arg6 E.x0 E.x1) (fun c => stored (score E.K E.Q 0 c)) 2) := by
  simp only [osum, lsum, Nat.reduceMul, Nat.reduceAdd]
  simp only [kernelRun0_A.sl.v200, kernelRun0_A.sl.r_1, k0_pay31,
    stack_eq, ld_0_0 E, ld_0_1 E, vt_0 E]
  try rfl

/-- The scores of tile 0 against query block 1, read back. -/
theorem ld_1_0 : kernelRun0_A.sl.v263 E.c E.arg2 E.harg2 E.arg3 E.harg3 E.arg6 E.arg9 E.x0 E.x1 = stored (score E.K E.Q 1 0) := by
  simp (disch := decide) only [kernelRun0_A.sl.v263, kernelRun0_A.sl.HS3_12, kernelRun0_A.sl.HS3_7, kernelRun0_A.sl.HS3_6, ↓ View.readCov_skip, ↓ View.readCov_cons_toLoadRect]
  exact congrArg stored (score_plain (qi := 1) (c := 0) (by decide) (by decide) (kb_0 E) (qb_1 E))

/-- The scores of tile 1 against query block 1, read back. -/
theorem ld_1_1 : kernelRun0_A.sl.v274 E.c E.arg2 E.harg2 E.arg3 E.harg3 E.arg6 E.arg9 E.x0 E.x1 = stored (score E.K E.Q 1 1) := by
  simp (disch := decide) only [kernelRun0_A.sl.v274, kernelRun0_A.sl.HS3_12, kernelRun0_A.sl.HS3_7, kernelRun0_A.sl.HS3_6, ↓ View.readCov_skip, ↓ View.readCov_cons_toLoadRect]
  exact congrArg stored (score_plain (qi := 1) (c := 1) (by decide) (by decide) (kb_1 E) (qb_1 E))

/-- The scores of tile 2 against query block 1, read back. -/
theorem ld_1_2 : kernelRun0_A.sl.v289 E.c E.arg2 E.harg2 E.arg3 E.harg3 E.arg6 E.arg9 E.x0 E.x1 = stored (score E.K E.Q 1 2) := by
  simp (disch := decide) only [kernelRun0_A.sl.v289, kernelRun0_A.sl.HS3_12, kernelRun0_A.sl.HS3_7, kernelRun0_A.sl.HS3_6, ↓ View.readCov_skip, ↓ View.readCov_cons_toLoadRect]
  exact congrArg stored (score_own (qi := 1) (c := 2) (e := 0) rfl (by decide) 0#32 rfl (kb_2 E) (qb_1 E))

/-- The scores of tile 3 against query block 1, read back. -/
theorem ld_1_3 : kernelRun0_A.sl.v300 E.c E.arg2 E.harg2 E.arg3 E.harg3 E.arg6 E.arg9 E.x0 E.x1 = stored (score E.K E.Q 1 3) := by
  simp (disch := decide) only [kernelRun0_A.sl.v300, kernelRun0_A.sl.HS3_12, kernelRun0_A.sl.HS3_7, kernelRun0_A.sl.HS3_6, ↓ View.readCov_skip, ↓ View.readCov_cons_toLoadRect]
  exact congrArg stored (score_own (qi := 1) (c := 3) (e := 1) rfl (by decide) 128#32 rfl (kb_3 E) (qb_1 E))

/-- The maximum subtracted for query block 1 is real. -/
theorem max_1 : IsReal (kernelRun0_A.sl.r E.c E.arg2 E.harg2 E.arg3 E.harg3 E.arg6 E.x0 E.x1) :=
  max_real_left (max_real_right (max_notTop (colmax_nt (score_plain (qi := 1) (c := 0) (by decide) (by decide) (kb_0 E) (qb_1 E)))
    (colmax_nt (score_plain (qi := 1) (c := 1) (by decide) (by decide) (kb_1 E) (qb_1 E))))
    (colmax_real_of (score_own (qi := 1) (c := 2) (e := 0) rfl (by decide) 0#32 rfl (kb_2 E) (qb_1 E))))
    (colmax_nt (score_own (qi := 1) (c := 3) (e := 1) rfl (by decide) 128#32 rfl (kb_3 E) (qb_1 E)))

/-- The output block 1 as the quotient of the running sums. -/
theorem tile_1 : (k0_pay54 (kernelRun0_A.sl.r E.c E.arg2 E.harg2 E.arg3 E.harg3 E.arg6 E.x0 E.x1) (kernelRun0_A.sl.r_2 E.c E.arg2 E.harg2 E.arg3 E.harg3 E.arg4 E.harg4 E.arg6 E.arg7 E.arg9 E.x0 E.x1 E.x2) (kernelRun0_A.sl.r_3 E.c E.arg2 E.harg2 E.arg3 E.harg3 E.arg6 E.arg9 E.x0 E.x1) (kernelRun0_A.sl.r_4 E.c E.arg2 E.harg2 E.arg3 E.harg3 E.arg6 E.arg9 E.x0 E.x1) (kernelRun0_A.sl.v300 E.c E.arg2 E.harg2 E.arg3 E.harg3 E.arg6 E.arg9 E.x0 E.x1) (kernelRun0_A.sl.v311 E.c E.arg4 E.harg4 E.arg7 E.x2) : FVec Ideal S1x256x128 .bf16)
    = finish (osum (kernelRun0_A.sl.r E.c E.arg2 E.harg2 E.arg3 E.harg3 E.arg6 E.x0 E.x1) (fun c => stored (score E.K E.Q 1 c)) (vtile E) 2)
        (lsum (kernelRun0_A.sl.r E.c E.arg2 E.harg2 E.arg3 E.harg3 E.arg6 E.x0 E.x1) (fun c => stored (score E.K E.Q 1 c)) 4) := by
  simp only [osum, lsum, Nat.reduceMul, Nat.reduceAdd]
  simp only [kernelRun0_A.sl.r_4, kernelRun0_A.sl.r_3, kernelRun0_A.sl.r_2, k0_pay50, k0_pay49, k0_pay48, k0_pay52, k0_pay51, k0_pay53, k0_pay54,
    stack_eq, ld_1_0 E, ld_1_1 E, ld_1_2 E, ld_1_3 E, vt_0 E, vt_1 E]
  try rfl

/-- The scores of tile 0 against query block 2, read back. -/
theorem ld_2_0 : kernelRun0_A.sl.v402 E.c E.arg2 E.harg2 E.arg3 E.harg3 E.arg6 E.arg9 E.x0 E.x1 = stored (score E.K E.Q 2 0) := by
  simp (disch := decide) only [kernelRun0_A.sl.v402, kernelRun0_A.sl.HS3_20, kernelRun0_A.sl.HS3_15, kernelRun0_A.sl.HS3_14, kernelRun0_A.sl.HS3_13, kernelRun0_A.sl.HS3_12, kernelRun0_A.sl.HS3_7, ↓ View.readCov_skip, ↓ View.readCov_cons_toLoadRect]
  exact congrArg stored (score_plain (qi := 2) (c := 0) (by decide) (by decide) (kb_0 E) (qb_2 E))

/-- The scores of tile 1 against query block 2, read back. -/
theorem ld_2_1 : kernelRun0_A.sl.v413 E.c E.arg2 E.harg2 E.arg3 E.harg3 E.arg6 E.arg9 E.x0 E.x1 = stored (score E.K E.Q 2 1) := by
  simp (disch := decide) only [kernelRun0_A.sl.v413, kernelRun0_A.sl.HS3_20, kernelRun0_A.sl.HS3_15, kernelRun0_A.sl.HS3_14, kernelRun0_A.sl.HS3_13, kernelRun0_A.sl.HS3_12, ↓ View.readCov_skip, ↓ View.readCov_cons_toLoadRect]
  exact congrArg stored (score_plain (qi := 2) (c := 1) (by decide) (by decide) (kb_1 E) (qb_2 E))

/-- The scores of tile 2 against query block 2, read back. -/
theorem ld_2_2 : kernelRun0_A.sl.v428 E.c E.arg2 E.harg2 E.arg3 E.harg3 E.arg6 E.arg9 E.x0 E.x1 = stored (score E.K E.Q 2 2) := by
  simp (disch := decide) only [kernelRun0_A.sl.v428, kernelRun0_A.sl.HS3_20, kernelRun0_A.sl.HS3_15, kernelRun0_A.sl.HS3_14, kernelRun0_A.sl.HS3_13, kernelRun0_A.sl.HS3_12, ↓ View.readCov_skip, ↓ View.readCov_cons_toLoadRect]
  exact congrArg stored (score_plain (qi := 2) (c := 2) (by decide) (by decide) (kb_2 E) (qb_2 E))

/-- The scores of tile 3 against query block 2, read back. -/
theorem ld_2_3 : kernelRun0_A.sl.v439 E.c E.arg2 E.harg2 E.arg3 E.harg3 E.arg6 E.arg9 E.x0 E.x1 = stored (score E.K E.Q 2 3) := by
  simp (disch := decide) only [kernelRun0_A.sl.v439, kernelRun0_A.sl.HS3_20, kernelRun0_A.sl.HS3_15, kernelRun0_A.sl.HS3_14, kernelRun0_A.sl.HS3_13, kernelRun0_A.sl.HS3_12, ↓ View.readCov_skip, ↓ View.readCov_cons_toLoadRect]
  exact congrArg stored (score_plain (qi := 2) (c := 3) (by decide) (by decide) (kb_3 E) (qb_2 E))

/-- The scores of tile 4 against query block 2, read back. -/
theorem ld_2_4 : kernelRun0_A.sl.v454 E.c E.arg2 E.harg2 E.arg3 E.harg3 E.arg6 E.arg9 E.x0 E.x1 = stored (score E.K E.Q 2 4) := by
  simp (disch := decide) only [kernelRun0_A.sl.v454, kernelRun0_A.sl.HS3_20, kernelRun0_A.sl.HS3_15, kernelRun0_A.sl.HS3_14, kernelRun0_A.sl.HS3_13, kernelRun0_A.sl.HS3_12, ↓ View.readCov_skip, ↓ View.readCov_cons_toLoadRect]
  exact congrArg stored (score_own (qi := 2) (c := 4) (e := 0) rfl (by decide) 0#32 rfl (kb_4 E) (qb_2 E))

/-- The scores of tile 5 against query block 2, read back. -/
theorem ld_2_5 : kernelRun0_A.sl.v465 E.c E.arg2 E.harg2 E.arg3 E.harg3 E.arg6 E.arg9 E.x0 E.x1 = stored (score E.K E.Q 2 5) := by
  simp (disch := decide) only [kernelRun0_A.sl.v465, kernelRun0_A.sl.HS3_20, kernelRun0_A.sl.HS3_15, kernelRun0_A.sl.HS3_14, kernelRun0_A.sl.HS3_13, kernelRun0_A.sl.HS3_12, ↓ View.readCov_skip, ↓ View.readCov_cons_toLoadRect]
  exact congrArg stored (score_own (qi := 2) (c := 5) (e := 1) rfl (by decide) 128#32 rfl (kb_5 E) (qb_2 E))

/-- The maximum subtracted for query block 2 is real. -/
theorem max_2 : IsReal (kernelRun0_A.sl.v260 E.c E.arg2 E.harg2 E.arg3 E.harg3 E.arg6 E.x0 E.x1) :=
  max_real_left (max_real_right (max_notTop (max_notTop (max_notTop (colmax_nt (score_plain (qi := 2) (c := 0) (by decide) (by decide) (kb_0 E) (qb_2 E)))
    (colmax_nt (score_plain (qi := 2) (c := 1) (by decide) (by decide) (kb_1 E) (qb_2 E))))
    (colmax_nt (score_plain (qi := 2) (c := 2) (by decide) (by decide) (kb_2 E) (qb_2 E))))
    (colmax_nt (score_plain (qi := 2) (c := 3) (by decide) (by decide) (kb_3 E) (qb_2 E))))
    (colmax_real_of (score_own (qi := 2) (c := 4) (e := 0) rfl (by decide) 0#32 rfl (kb_4 E) (qb_2 E))))
    (colmax_nt (score_own (qi := 2) (c := 5) (e := 1) rfl (by decide) 128#32 rfl (kb_5 E) (qb_2 E)))

/-- The output block 2 as the quotient of the running sums. -/
theorem tile_2 : (kernelRun0_A.sl.v488 E.c E.arg2 E.harg2 E.arg3 E.harg3 E.arg4 E.harg4 E.arg6 E.arg7 E.arg9 E.x0 E.x1 E.x2 : FVec Ideal S1x256x128 .bf16)
    = finish (osum (kernelRun0_A.sl.v260 E.c E.arg2 E.harg2 E.arg3 E.harg3 E.arg6 E.x0 E.x1) (fun c => stored (score E.K E.Q 2 c)) (vtile E) 3)
        (lsum (kernelRun0_A.sl.v260 E.c E.arg2 E.harg2 E.arg3 E.harg3 E.arg6 E.x0 E.x1) (fun c => stored (score E.K E.Q 2 c)) 6) := by
  simp only [osum, lsum, Nat.reduceMul, Nat.reduceAdd]
  simp only [kernelRun0_A.sl.v488, kernelRun0_A.sl.v485, kernelRun0_A.sl.v484, kernelRun0_A.sl.v483, kernelRun0_A.sl.v482, kernelRun0_A.sl.v481, kernelRun0_A.sl.r_14, kernelRun0_A.sl.r_11, kernelRun0_A.sl.r_8, kernelRun0_A.sl.v480, kernelRun0_A.sl.cst_307, kernelRun0_A.sl.v479, kernelRun0_A.sl.v478, kernelRun0_A.sl.cst_58, kernelRun0_A.sl.v477, kernelRun0_A.sl.r_15, kernelRun0_A.sl.r_13, kernelRun0_A.sl.r_12, kernelRun0_A.sl.r_10, kernelRun0_A.sl.r_9, k0_pay80, k0_pay78, k0_pay77, k0_pay81, k0_pay84, k0_pay83, k0_pay86, k0_pay85, k0_pay89, k0_pay87, k0_pay79, k0_pay82, k0_pay88,
    stack_eq, ld_2_0 E, ld_2_1 E, ld_2_2 E, ld_2_3 E, ld_2_4 E, ld_2_5 E, vt_0 E, vt_1 E, vt_2 E]
  try rfl

/-- The scores of tile 0 against query block 3, read back. -/
theorem ld_3_0 : kernelRun0_A.sl.v704 E.c E.arg2 E.harg2 E.arg3 E.harg3 E.arg6 E.arg8 E.arg9 E.x0 E.x1 = stored (score E.K E.Q 3 0) := by
  simp (disch := decide) only [kernelRun0_A.sl.v704, kernelRun0_A.sl.HS3_30, kernelRun0_A.sl.HS3_25, kernelRun0_A.sl.HS3_24, kernelRun0_A.sl.HS3_23, kernelRun0_A.sl.HS3_22, kernelRun0_A.sl.HS3_21, kernelRun0_A.sl.HS3_20, kernelRun0_A.sl.HS3_15, kernelRun0_A.sl.HS3_14, kernelRun0_A.sl.HS3_13, ↓ View.readCov_skip, ↓ View.readCov_cons_toLoadRect]
  exact congrArg stored (score_plain (qi := 3) (c := 0) (by decide) (by decide) (kb_0_again E) (qb_3 E))

/-- The scores of tile 1 against query block 3, read back. -/
theorem ld_3_1 : kernelRun0_A.sl.v715 E.c E.arg2 E.harg2 E.arg3 E.harg3 E.arg6 E.arg8 E.arg9 E.x0 E.x1 = stored (score E.K E.Q 3 1) := by
  simp (disch := decide) only [kernelRun0_A.sl.v715, kernelRun0_A.sl.HS3_30, kernelRun0_A.sl.HS3_25, kernelRun0_A.sl.HS3_24, kernelRun0_A.sl.HS3_23, kernelRun0_A.sl.HS3_22, kernelRun0_A.sl.HS3_21, kernelRun0_A.sl.HS3_20, kernelRun0_A.sl.HS3_15, kernelRun0_A.sl.HS3_14, ↓ View.readCov_skip, ↓ View.readCov_cons_toLoadRect]
  exact congrArg stored (score_plain (qi := 3) (c := 1) (by decide) (by decide) (kb_1_again E) (qb_3 E))

/-- The scores of tile 2 against query block 3, read back. -/
theorem ld_3_2 : kernelRun0_A.sl.v730 E.c E.arg2 E.harg2 E.arg3 E.harg3 E.arg6 E.arg8 E.arg9 E.x0 E.x1 = stored (score E.K E.Q 3 2) := by
  simp (disch := decide) only [kernelRun0_A.sl.v730, kernelRun0_A.sl.HS3_30, kernelRun0_A.sl.HS3_25, kernelRun0_A.sl.HS3_24, kernelRun0_A.sl.HS3_23, kernelRun0_A.sl.HS3_22, kernelRun0_A.sl.HS3_21, kernelRun0_A.sl.HS3_20, kernelRun0_A.sl.HS3_15, ↓ View.readCov_skip, ↓ View.readCov_cons_toLoadRect]
  exact congrArg stored (score_plain (qi := 3) (c := 2) (by decide) (by decide) (kb_2 E) (qb_3 E))

/-- The scores of tile 3 against query block 3, read back. -/
theorem ld_3_3 : kernelRun0_A.sl.v741 E.c E.arg2 E.harg2 E.arg3 E.harg3 E.arg6 E.arg8 E.arg9 E.x0 E.x1 = stored (score E.K E.Q 3 3) := by
  simp (disch := decide) only [kernelRun0_A.sl.v741, kernelRun0_A.sl.HS3_30, kernelRun0_A.sl.HS3_25, kernelRun0_A.sl.HS3_24, kernelRun0_A.sl.HS3_23, kernelRun0_A.sl.HS3_22, kernelRun0_A.sl.HS3_21, kernelRun0_A.sl.HS3_20, ↓ View.readCov_skip, ↓ View.readCov_cons_toLoadRect]
  exact congrArg stored (score_plain (qi := 3) (c := 3) (by decide) (by decide) (kb_3 E) (qb_3 E))

/-- The scores of tile 4 against query block 3, read back. -/
theorem ld_3_4 : kernelRun0_A.sl.v756 E.c E.arg2 E.harg2 E.arg3 E.harg3 E.arg6 E.arg8 E.arg9 E.x0 E.x1 = stored (score E.K E.Q 3 4) := by
  simp (disch := decide) only [kernelRun0_A.sl.v756, kernelRun0_A.sl.HS3_30, kernelRun0_A.sl.HS3_25, kernelRun0_A.sl.HS3_24, kernelRun0_A.sl.HS3_23, kernelRun0_A.sl.HS3_22, kernelRun0_A.sl.HS3_21, kernelRun0_A.sl.HS3_20, ↓ View.readCov_skip, ↓ View.readCov_cons_toLoadRect]
  exact congrArg stored (score_plain (qi := 3) (c := 4) (by decide) (by decide) (kb_4 E) (qb_3 E))

/-- The scores of tile 5 against query block 3, read back. -/
theorem ld_3_5 : kernelRun0_A.sl.v767 E.c E.arg2 E.harg2 E.arg3 E.harg3 E.arg6 E.arg8 E.arg9 E.x0 E.x1 = stored (score E.K E.Q 3 5) := by
  simp (disch := decide) only [kernelRun0_A.sl.v767, kernelRun0_A.sl.HS3_30, kernelRun0_A.sl.HS3_25, kernelRun0_A.sl.HS3_24, kernelRun0_A.sl.HS3_23, kernelRun0_A.sl.HS3_22, kernelRun0_A.sl.HS3_21, kernelRun0_A.sl.HS3_20, ↓ View.readCov_skip, ↓ View.readCov_cons_toLoadRect]
  exact congrArg stored (score_plain (qi := 3) (c := 5) (by decide) (by decide) (kb_5 E) (qb_3 E))

/-- The scores of tile 6 against query block 3, read back. -/
theorem ld_3_6 : kernelRun0_A.sl.v782 E.c E.arg2 E.harg2 E.arg3 E.harg3 E.arg6 E.arg8 E.arg9 E.x0 E.x1 = stored (score E.K E.Q 3 6) := by
  simp (disch := decide) only [kernelRun0_A.sl.v782, kernelRun0_A.sl.HS3_30, kernelRun0_A.sl.HS3_25, kernelRun0_A.sl.HS3_24, kernelRun0_A.sl.HS3_23, kernelRun0_A.sl.HS3_22, kernelRun0_A.sl.HS3_21, kernelRun0_A.sl.HS3_20, ↓ View.readCov_skip, ↓ View.readCov_cons_toLoadRect]
  exact congrArg stored (score_own (qi := 3) (c := 6) (e := 0) rfl (by decide) 0#32 rfl (kb_6 E) (qb_3 E))

/-- The scores of tile 7 against query block 3, read back. -/
theorem ld_3_7 : kernelRun0_A.sl.v793 E.c E.arg2 E.harg2 E.arg3 E.harg3 E.arg6 E.arg8 E.arg9 E.x0 E.x1 = stored (score E.K E.Q 3 7) := by
  simp (disch := decide) only [kernelRun0_A.sl.v793, kernelRun0_A.sl.HS3_30, kernelRun0_A.sl.HS3_25, kernelRun0_A.sl.HS3_24, kernelRun0_A.sl.HS3_23, kernelRun0_A.sl.HS3_22, kernelRun0_A.sl.HS3_21, kernelRun0_A.sl.HS3_20, ↓ View.readCov_skip, ↓ View.readCov_cons_toLoadRect]
  exact congrArg stored (score_own (qi := 3) (c := 7) (e := 1) rfl (by decide) 128#32 rfl (kb_7 E) (qb_3 E))

/-- The first maximum of query block 3 is not above the reals. -/
theorem first_3 : NotTop (kernelRun0_A.sl.r_6 E.c E.arg2 E.harg2 E.arg3 E.harg3 E.arg6 E.x0 E.x1) := by
  delta kernelRun0_A.sl.r_6 k0_pay58 k0_pay56 k0_pay55
  exact colmax_nt (score_plain (qi := 3) (c := 0) (by decide) (by decide) (kb_0_again E) (qb_3 E))

/-- The maximum subtracted for query block 3 is real. -/
theorem max_3 : IsReal (kernelRun0_A.sl.r_7 E.c E.arg2 E.harg2 E.arg3 E.harg3 E.arg6 E.x0 E.x1) := by
  delta kernelRun0_A.sl.r_7 kernelRun0_A.sl.v386 kernelRun0_A.sl.v373 kernelRun0_A.sl.v365 kernelRun0_A.sl.v357 kernelRun0_A.sl.v349 kernelRun0_A.sl.v341
  refine max_real_left (max_real_right (max_notTop (max_notTop (max_notTop (max_notTop (max_notTop (first_3 E)
    (colmax_nt (score_plain (qi := 3) (c := 1) (by decide) (by decide) (kb_1_again E) (qb_3 E))))
    (colmax_nt (score_plain (qi := 3) (c := 2) (by decide) (by decide) (kb_2 E) (qb_3 E))))
    (colmax_nt (score_plain (qi := 3) (c := 3) (by decide) (by decide) (kb_3 E) (qb_3 E))))
    (colmax_nt (score_plain (qi := 3) (c := 4) (by decide) (by decide) (kb_4 E) (qb_3 E))))
    (colmax_nt (score_plain (qi := 3) (c := 5) (by decide) (by decide) (kb_5 E) (qb_3 E))))
    (colmax_real_of (score_own (qi := 3) (c := 6) (e := 0) rfl (by decide) 0#32 rfl (kb_6 E) (qb_3 E))))
    (colmax_nt (score_own (qi := 3) (c := 7) (e := 1) rfl (by decide) 128#32 rfl (kb_7 E) (qb_3 E)))

/-- The output block 3 as the quotient of the running sums. -/
theorem tile_3 : (k0_pay144 (kernelRun0_A.sl.r_7 E.c E.arg2 E.harg2 E.arg3 E.harg3 E.arg6 E.x0 E.x1) (kernelRun0_A.sl.r_21 E.c E.arg2 E.harg2 E.arg3 E.harg3 E.arg6 E.arg8 E.arg9 E.x0 E.x1) (kernelRun0_A.sl.r_22 E.c E.arg2 E.harg2 E.arg3 E.harg3 E.arg4 E.harg4 E.arg6 E.arg7 E.arg8 E.arg9 E.x0 E.x1 E.x2) (kernelRun0_A.sl.v782 E.c E.arg2 E.harg2 E.arg3 E.harg3 E.arg6 E.arg8 E.arg9 E.x0 E.x1) (kernelRun0_A.sl.v793 E.c E.arg2 E.harg2 E.arg3 E.harg3 E.arg6 E.arg8 E.arg9 E.x0 E.x1) (kernelRun0_A.sl.v804 E.c E.arg4 E.harg4 E.arg7 E.x2) : FVec Ideal S1x256x128 .bf16)
    = finish (osum (kernelRun0_A.sl.r_7 E.c E.arg2 E.harg2 E.arg3 E.harg3 E.arg6 E.x0 E.x1) (fun c => stored (score E.K E.Q 3 c)) (vtile E) 4)
        (lsum (kernelRun0_A.sl.r_7 E.c E.arg2 E.harg2 E.arg3 E.harg3 E.arg6 E.x0 E.x1) (fun c => stored (score E.K E.Q 3 c)) 8) := by
  simp only [osum, lsum, Nat.reduceMul, Nat.reduceAdd]
  simp only [kernelRun0_A.sl.r_22, kernelRun0_A.sl.r_20, kernelRun0_A.sl.r_19, kernelRun0_A.sl.r_18, kernelRun0_A.sl.r_16, kernelRun0_A.sl.v703, kernelRun0_A.sl.cst, kernelRun0_A.sl.r_21, kernelRun0_A.sl.r_17, kernelRun0_A.sl.v702, k0_pay135, k0_pay134, k0_pay132, k0_pay131, k0_pay142, k0_pay141, k0_pay140, k0_pay139, k0_pay133, k0_pay136, k0_pay137, k0_pay138, k0_pay143, k0_pay144,
    stack_eq, ld_3_0 E, ld_3_1 E, ld_3_2 E, ld_3_3 E, ld_3_4 E, ld_3_5 E, ld_3_6 E, ld_3_7 E, vt_0 E, vt_1 E, vt_2 E, vt_3 E]
  try rfl

end Cert.KernelAttnIdeal.Value

end

end
-- ==== Proof.AttnTiles4.lean ====
module

public import proofs.«01_k».proof.Proof.Gen.KernelAttnIdeal.Frame
public import proofs.«01_k».proof.Proof.AttnLoads
public import Idealize.ShloMosaic.Lib.Pipeline.ReadBack

/-!
The attention kernel at query blocks 4: the scores it stores are the masked scores, the maxima it subtracts are real, and
the output block is the quotient of the running sums.
-/

@[expose] public section
set_option maxRecDepth 16384

noncomputable section

open Idealize.ShloMosaic Idealize.ShloMosaic.TcCoe Idealize.SL.Sem
open Idealize.ShloMosaic.Pipeline

namespace Cert.KernelAttnIdeal.Value

open Cert.KernelAttnIdeal Cert.KernelAttnIdeal.Gen Cert.Attn

variable (E : Point)

/-- The block scores of query block 4. -/
theorem scores_4 : IsScores E.K E.Q 4 (kernelRun0_A.sl.v497 E.c E.arg2 E.harg2 E.arg3 E.harg3 E.arg8 E.x0 E.x1) :=
  scores_mask 4#32 (by decide) rfl (km_at E) (qf_4 E)

open Classical in
/-- The selection for query block 4. -/
theorem sel_4 (n : Fin 8) (r : Fin 256) (hn : (n : ℕ) < 4) : (kernelRun0_A.sl.v556 E.c E.arg2 E.harg2 E.arg3 E.harg3 E.arg8 E.x0 E.x1 : FVec Ideal S8x256 .f32) (ix2 n r)
    = if rank E.K E.Q (256 * 4 + r) n < 3 then 1 else 0 :=
  sel_apply (by decide) 4#32 rfl (count_step 3 (by decide) 3#32 rfl _ (scores_4 E) (count_step 2 (by decide) 2#32 rfl _ (scores_4 E) (count_step 1 (by decide) 1#32 rfl _ (scores_4 E) (count_step 0 (by decide) 0#32 rfl _ (scores_4 E) (count_zero E.K E.Q 4) (fun r => row_apply 0 _ _ r)) (fun r => row_apply 1 _ _ r)) (fun r => row_apply 2 _ _ r)) (fun r => row_apply 3 _ _ r)) n r hn

/-- The scores of tile 0 against query block 4, read back. -/
theorem ld_4_0 : kernelRun0_A.sl.v1075 E.c E.arg2 E.harg2 E.arg3 E.harg3 E.arg6 E.arg8 E.arg9 E.x0 E.x1 = stored (score E.K E.Q 4 0) := by
  simp (disch := decide) only [kernelRun0_A.sl.v1075, kernelRun0_A.sl.HS3_42, kernelRun0_A.sl.HS3_37, kernelRun0_A.sl.HS3_36, kernelRun0_A.sl.HS3_35, kernelRun0_A.sl.HS3_34, kernelRun0_A.sl.HS3_33, kernelRun0_A.sl.HS3_32, kernelRun0_A.sl.HS3_31, kernelRun0_A.sl.HS3_30, kernelRun0_A.sl.HS3_25, kernelRun0_A.sl.HS3_24, kernelRun0_A.sl.HS3_23, kernelRun0_A.sl.HS3_22, kernelRun0_A.sl.HS3_21, ↓ View.readCov_skip, ↓ View.readCov_cons_toLoadRect]
  exact congrArg stored (score_sel (qi := 4) (c := 0) 0 rfl (by decide) _ (kb_0 E) (qb_4 E) fun r => (row_apply 0 _ _ r).trans (sel_4 E 0 r (by decide)))

/-- The scores of tile 1 against query block 4, read back. -/
theorem ld_4_1 : kernelRun0_A.sl.v1086 E.c E.arg2 E.harg2 E.arg3 E.harg3 E.arg6 E.arg8 E.arg9 E.x0 E.x1 = stored (score E.K E.Q 4 1) := by
  simp (disch := decide) only [kernelRun0_A.sl.v1086, kernelRun0_A.sl.HS3_42, kernelRun0_A.sl.HS3_37, kernelRun0_A.sl.HS3_36, kernelRun0_A.sl.HS3_35, kernelRun0_A.sl.HS3_34, kernelRun0_A.sl.HS3_33, kernelRun0_A.sl.HS3_32, kernelRun0_A.sl.HS3_31, kernelRun0_A.sl.HS3_30, kernelRun0_A.sl.HS3_25, kernelRun0_A.sl.HS3_24, kernelRun0_A.sl.HS3_23, kernelRun0_A.sl.HS3_22, ↓ View.readCov_skip, ↓ View.readCov_cons_toLoadRect]
  exact congrArg stored (score_sel (qi := 4) (c := 1) 0 rfl (by decide) _ (kb_1 E) (qb_4 E) fun r => (row_apply 0 _ _ r).trans (sel_4 E 0 r (by decide)))

/-- The scores of tile 2 against query block 4, read back. -/
theorem ld_4_2 : kernelRun0_A.sl.v1101 E.c E.arg2 E.harg2 E.arg3 E.harg3 E.arg6 E.arg8 E.arg9 E.x0 E.x1 = stored (score E.K E.Q 4 2) := by
  simp (disch := decide) only [kernelRun0_A.sl.v1101, kernelRun0_A.sl.HS3_42, kernelRun0_A.sl.HS3_37, kernelRun0_A.sl.HS3_36, kernelRun0_A.sl.HS3_35, kernelRun0_A.sl.HS3_34, kernelRun0_A.sl.HS3_33, kernelRun0_A.sl.HS3_32, kernelRun0_A.sl.HS3_31, kernelRun0_A.sl.HS3_30, kernelRun0_A.sl.HS3_25, kernelRun0_A.sl.HS3_24, kernelRun0_A.sl.HS3_23, ↓ View.readCov_skip, ↓ View.readCov_cons_toLoadRect]
  exact congrArg stored (score_sel (qi := 4) (c := 2) 1 rfl (by decide) _ (kb_2 E) (qb_4 E) fun r => (row_apply 1 _ _ r).trans (sel_4 E 1 r (by decide)))

/-- The scores of tile 3 against query block 4, read back. -/
theorem ld_4_3 : kernelRun0_A.sl.v1112 E.c E.arg2 E.harg2 E.arg3 E.harg3 E.arg6 E.arg8 E.arg9 E.x0 E.x1 = stored (score E.K E.Q 4 3) := by
  simp (disch := decide) only [kernelRun0_A.sl.v1112, kernelRun0_A.sl.HS3_42, kernelRun0_A.sl.HS3_37, kernelRun0_A.sl.HS3_36, kernelRun0_A.sl.HS3_35, kernelRun0_A.sl.HS3_34, kernelRun0_A.sl.HS3_33, kernelRun0_A.sl.HS3_32, kernelRun0_A.sl.HS3_31, kernelRun0_A.sl.HS3_30, kernelRun0_A.sl.HS3_25, kernelRun0_A.sl.HS3_24, ↓ View.readCov_skip, ↓ View.readCov_cons_toLoadRect]
  exact congrArg stored (score_sel (qi := 4) (c := 3) 1 rfl (by decide) _ (kb_3 E) (qb_4 E) fun r => (row_apply 1 _ _ r).trans (sel_4 E 1 r (by decide)))

/-- The scores of tile 4 against query block 4, read back. -/
theorem ld_4_4 : kernelRun0_A.sl.v1127 E.c E.arg2 E.harg2 E.arg3 E.harg3 E.arg6 E.arg8 E.arg9 E.x0 E.x1 = stored (score E.K E.Q 4 4) := by
  simp (disch := decide) only [kernelRun0_A.sl.v1127, kernelRun0_A.sl.HS3_42, kernelRun0_A.sl.HS3_37, kernelRun0_A.sl.HS3_36, kernelRun0_A.sl.HS3_35, kernelRun0_A.sl.HS3_34, kernelRun0_A.sl.HS3_33, kernelRun0_A.sl.HS3_32, kernelRun0_A.sl.HS3_31, kernelRun0_A.sl.HS3_30, kernelRun0_A.sl.HS3_25, ↓ View.readCov_skip, ↓ View.readCov_cons_toLoadRect]
  exact congrArg stored (score_sel (qi := 4) (c := 4) 2 rfl (by decide) _ (kb_4 E) (qb_4 E) fun r => (row_apply 2 _ _ r).trans (sel_4 E 2 r (by decide)))

/-- The scores of tile 5 against query block 4, read back. -/
theorem ld_4_5 : kernelRun0_A.sl.v1138 E.c E.arg2 E.harg2 E.arg3 E.harg3 E.arg6 E.arg8 E.arg9 E.x0 E.x1 = stored (score E.K E.Q 4 5) := by
  simp (disch := decide) only [kernelRun0_A.sl.v1138, kernelRun0_A.sl.HS3_42, kernelRun0_A.sl.HS3_37, kernelRun0_A.sl.HS3_36, kernelRun0_A.sl.HS3_35, kernelRun0_A.sl.HS3_34, kernelRun0_A.sl.HS3_33, kernelRun0_A.sl.HS3_32, kernelRun0_A.sl.HS3_31, kernelRun0_A.sl.HS3_30, ↓ View.readCov_skip, ↓ View.readCov_cons_toLoadRect]
  exact congrArg stored (score_sel (qi := 4) (c := 5) 2 rfl (by decide) _ (kb_5 E) (qb_4 E) fun r => (row_apply 2 _ _ r).trans (sel_4 E 2 r (by decide)))

/-- The scores of tile 6 against query block 4, read back. -/
theorem ld_4_6 : kernelRun0_A.sl.v1153 E.c E.arg2 E.harg2 E.arg3 E.harg3 E.arg6 E.arg8 E.arg9 E.x0 E.x1 = stored (score E.K E.Q 4 6) := by
  simp (disch := decide) only [kernelRun0_A.sl.v1153, kernelRun0_A.sl.HS3_42, kernelRun0_A.sl.HS3_37, kernelRun0_A.sl.HS3_36, kernelRun0_A.sl.HS3_35, kernelRun0_A.sl.HS3_34, kernelRun0_A.sl.HS3_33, kernelRun0_A.sl.HS3_32, kernelRun0_A.sl.HS3_31, kernelRun0_A.sl.HS3_30, ↓ View.readCov_skip, ↓ View.readCov_cons_toLoadRect]
  exact congrArg stored (score_sel (qi := 4) (c := 6) 3 rfl (by decide) _ (kb_6 E) (qb_4 E) fun r => (row_apply 3 _ _ r).trans (sel_4 E 3 r (by decide)))

/-- The scores of tile 7 against query block 4, read back. -/
theorem ld_4_7 : kernelRun0_A.sl.v1164 E.c E.arg2 E.harg2 E.arg3 E.harg3 E.arg6 E.arg8 E.arg9 E.x0 E.x1 = stored (score E.K E.Q 4 7) := by
  simp (disch := decide) only [kernelRun0_A.sl.v1164, kernelRun0_A.sl.HS3_42, kernelRun0_A.sl.HS3_37, kernelRun0_A.sl.HS3_36, kernelRun0_A.sl.HS3_35, kernelRun0_A.sl.HS3_34, kernelRun0_A.sl.HS3_33, kernelRun0_A.sl.HS3_32, kernelRun0_A.sl.HS3_31, kernelRun0_A.sl.HS3_30, ↓ View.readCov_skip, ↓ View.readCov_cons_toLoadRect]
  exact congrArg stored (score_sel (qi := 4) (c := 7) 3 rfl (by decide) _ (kb_7 E) (qb_4 E) fun r => (row_apply 3 _ _ r).trans (sel_4 E 3 r (by decide)))

/-- The scores of tile 8 against query block 4, read back. -/
theorem ld_4_8 : kernelRun0_A.sl.v1179 E.c E.arg2 E.harg2 E.arg3 E.harg3 E.arg6 E.arg8 E.arg9 E.x0 E.x1 = stored (score E.K E.Q 4 8) := by
  simp (disch := decide) only [kernelRun0_A.sl.v1179, kernelRun0_A.sl.HS3_42, kernelRun0_A.sl.HS3_37, kernelRun0_A.sl.HS3_36, kernelRun0_A.sl.HS3_35, kernelRun0_A.sl.HS3_34, kernelRun0_A.sl.HS3_33, kernelRun0_A.sl.HS3_32, kernelRun0_A.sl.HS3_31, kernelRun0_A.sl.HS3_30, ↓ View.readCov_skip, ↓ View.readCov_cons_toLoadRect]
  exact congrArg stored (score_own (qi := 4) (c := 8) (e := 0) rfl (by decide) 0#32 rfl (kb_8 E) (qb_4 E))

/-- The scores of tile 9 against query block 4, read back. -/
theorem ld_4_9 : kernelRun0_A.sl.v1190 E.c E.arg2 E.harg2 E.arg3 E.harg3 E.arg6 E.arg8 E.arg9 E.x0 E.x1 = stored (score E.K E.Q 4 9) := by
  simp (disch := decide) only [kernelRun0_A.sl.v1190, kernelRun0_A.sl.HS3_42, kernelRun0_A.sl.HS3_37, kernelRun0_A.sl.HS3_36, kernelRun0_A.sl.HS3_35, kernelRun0_A.sl.HS3_34, kernelRun0_A.sl.HS3_33, kernelRun0_A.sl.HS3_32, kernelRun0_A.sl.HS3_31, kernelRun0_A.sl.HS3_30, ↓ View.readCov_skip, ↓ View.readCov_cons_toLoadRect]
  exact congrArg stored (score_own (qi := 4) (c := 9) (e := 1) rfl (by decide) 128#32 rfl (kb_9 E) (qb_4 E))

/-- The maximum subtracted for query block 4 is real. -/
theorem max_4 : IsReal (kernelRun0_A.sl.v701 E.c E.arg2 E.harg2 E.arg3 E.harg3 E.arg6 E.arg8 E.x0 E.x1) :=
  max_real_left (max_real_right (max_notTop (max_notTop (max_notTop (max_notTop (max_notTop (max_notTop (max_notTop (colmax_nt (score_sel (qi := 4) (c := 0) 0 rfl (by decide) _ (kb_0 E) (qb_4 E) fun r => (row_apply 0 _ _ r).trans (sel_4 E 0 r (by decide))))
    (colmax_nt (score_sel (qi := 4) (c := 1) 0 rfl (by decide) _ (kb_1 E) (qb_4 E) fun r => (row_apply 0 _ _ r).trans (sel_4 E 0 r (by decide)))))
    (colmax_nt (score_sel (qi := 4) (c := 2) 1 rfl (by decide) _ (kb_2 E) (qb_4 E) fun r => (row_apply 1 _ _ r).trans (sel_4 E 1 r (by decide)))))
    (colmax_nt (score_sel (qi := 4) (c := 3) 1 rfl (by decide) _ (kb_3 E) (qb_4 E) fun r => (row_apply 1 _ _ r).trans (sel_4 E 1 r (by decide)))))
    (colmax_nt (score_sel (qi := 4) (c := 4) 2 rfl (by decide) _ (kb_4 E) (qb_4 E) fun r => (row_apply 2 _ _ r).trans (sel_4 E 2 r (by decide)))))
    (colmax_nt (score_sel (qi := 4) (c := 5) 2 rfl (by decide) _ (kb_5 E) (qb_4 E) fun r => (row_apply 2 _ _ r).trans (sel_4 E 2 r (by decide)))))
    (colmax_nt (score_sel (qi := 4) (c := 6) 3 rfl (by decide) _ (kb_6 E) (qb_4 E) fun r => (row_apply 3 _ _ r).trans (sel_4 E 3 r (by decide)))))
    (colmax_nt (score_sel (qi := 4) (c := 7) 3 rfl (by decide) _ (kb_7 E) (qb_4 E) fun r => (row_apply 3 _ _ r).trans (sel_4 E 3 r (by decide)))))
    (colmax_real_of (score_own (qi := 4) (c := 8) (e := 0) rfl (by decide) 0#32 rfl (kb_8 E) (qb_4 E))))
    (colmax_nt (score_own (qi := 4) (c := 9) (e := 1) rfl (by decide) 128#32 rfl (kb_9 E) (qb_4 E)))

/-- The output block 4 as the quotient of the running sums. -/
theorem tile_4 : (kernelRun0_A.sl.v1213 E.c E.arg2 E.harg2 E.arg3 E.harg3 E.arg4 E.harg4 E.arg6 E.arg7 E.arg8 E.arg9 E.x0 E.x1 E.x2 : FVec Ideal S1x256x128 .bf16)
    = finish (osum (kernelRun0_A.sl.v701 E.c E.arg2 E.harg2 E.arg3 E.harg3 E.arg6 E.arg8 E.x0 E.x1) (fun c => stored (score E.K E.Q 4 c)) (vtile E) 5)
        (lsum (kernelRun0_A.sl.v701 E.c E.arg2 E.harg2 E.arg3 E.harg3 E.arg6 E.arg8 E.x0 E.x1) (fun c => stored (score E.K E.Q 4 c)) 10) := by
  simp only [osum, lsum, Nat.reduceMul, Nat.reduceAdd]
  simp only [kernelRun0_A.sl.v1213, kernelRun0_A.sl.r_37, kernelRun0_A.sl.r_36, kernelRun0_A.sl.r_35, kernelRun0_A.sl.r_34, kernelRun0_A.sl.r_32, kernelRun0_A.sl.r_31, kernelRun0_A.sl.r_29, kernelRun0_A.sl.cst_621, kernelRun0_A.sl.r_28, kernelRun0_A.sl.r_26, kernelRun0_A.sl.r_33, kernelRun0_A.sl.r_30, kernelRun0_A.sl.r_27, k0_pay190, k0_pay188, k0_pay187, k0_pay196, k0_pay194, k0_pay193, k0_pay192, k0_pay201, k0_pay200, k0_pay199, k0_pay189, k0_pay191, k0_pay195, k0_pay197, k0_pay198, k0_pay203, k0_pay202, k0_pay204, k0_pay205, k0_pay206,
    stack_eq, ld_4_0 E, ld_4_1 E, ld_4_2 E, ld_4_3 E, ld_4_4 E, ld_4_5 E, ld_4_6 E, ld_4_7 E, ld_4_8 E, ld_4_9 E, vt_0 E, vt_1 E, vt_2 E, vt_3 E, vt_4 E]
  try rfl

end Cert.KernelAttnIdeal.Value

end

end
-- ==== Proof.AttnTiles5.lean ====
module

public import proofs.«01_k».proof.Proof.Gen.KernelAttnIdeal.Frame
public import proofs.«01_k».proof.Proof.AttnLoads
public import Idealize.ShloMosaic.Lib.Pipeline.ReadBack

/-!
The attention kernel at query blocks 5: the scores it stores are the masked scores, the maxima it subtracts are real, and
the output block is the quotient of the running sums.
-/

@[expose] public section
set_option maxRecDepth 16384

noncomputable section

open Idealize.ShloMosaic Idealize.ShloMosaic.TcCoe Idealize.SL.Sem
open Idealize.ShloMosaic.Pipeline

namespace Cert.KernelAttnIdeal.Value

open Cert.KernelAttnIdeal Cert.KernelAttnIdeal.Gen Cert.Attn

variable (E : Point)

/-- The block scores of query block 5. -/
theorem scores_5 : IsScores E.K E.Q 5 (kernelRun0_A.sl.v825 E.c E.arg2 E.harg2 E.arg3 E.harg3 E.arg8 E.x0 E.x1) :=
  scores_mask 5#32 (by decide) rfl (km_at E) (qf_5 E)

open Classical in
/-- The selection for query block 5. -/
theorem sel_5 (n : Fin 8) (r : Fin 256) (hn : (n : ℕ) < 5) : (kernelRun0_A.sl.v897 E.c E.arg2 E.harg2 E.arg3 E.harg3 E.arg8 E.x0 E.x1 : FVec Ideal S8x256 .f32) (ix2 n r)
    = if rank E.K E.Q (256 * 5 + r) n < 3 then 1 else 0 :=
  sel_apply (by decide) 5#32 rfl (count_step 4 (by decide) 4#32 rfl _ (scores_5 E) (count_step 3 (by decide) 3#32 rfl _ (scores_5 E) (count_step 2 (by decide) 2#32 rfl _ (scores_5 E) (count_step 1 (by decide) 1#32 rfl _ (scores_5 E) (count_step 0 (by decide) 0#32 rfl _ (scores_5 E) (count_zero E.K E.Q 5) (fun r => row_apply 0 _ _ r)) (fun r => row_apply 1 _ _ r)) (fun r => row_apply 2 _ _ r)) (fun r => row_apply 3 _ _ r)) (fun r => row_apply 4 _ _ r)) n r hn

/-- The scores of tile 0 against query block 5, read back. -/
theorem ld_5_0 : kernelRun0_A.sl.v1515 E.c E.arg2 E.harg2 E.arg3 E.harg3 E.arg6 E.arg8 E.arg9 E.x0 E.x1 = stored (score E.K E.Q 5 0) := by
  simp (disch := decide) only [kernelRun0_A.sl.v1515, kernelRun0_A.sl.HS3_56, kernelRun0_A.sl.HS3_51, kernelRun0_A.sl.HS3_50, kernelRun0_A.sl.HS3_49, kernelRun0_A.sl.HS3_48, kernelRun0_A.sl.HS3_47, kernelRun0_A.sl.HS3_46, kernelRun0_A.sl.HS3_45, kernelRun0_A.sl.HS3_44, kernelRun0_A.sl.HS3_43, kernelRun0_A.sl.HS3_42, kernelRun0_A.sl.HS3_37, kernelRun0_A.sl.HS3_36, kernelRun0_A.sl.HS3_35, kernelRun0_A.sl.HS3_34, kernelRun0_A.sl.HS3_33, kernelRun0_A.sl.HS3_32, kernelRun0_A.sl.HS3_31, ↓ View.readCov_skip, ↓ View.readCov_cons_toLoadRect]
  exact congrArg stored (score_sel (qi := 5) (c := 0) 0 rfl (by decide) _ (kb_0 E) (qb_5 E) fun r => (row_apply 0 _ _ r).trans (sel_5 E 0 r (by decide)))

/-- The scores of tile 1 against query block 5, read back. -/
theorem ld_5_1 : kernelRun0_A.sl.v1526 E.c E.arg2 E.harg2 E.arg3 E.harg3 E.arg6 E.arg8 E.arg9 E.x0 E.x1 = stored (score E.K E.Q 5 1) := by
  simp (disch := decide) only [kernelRun0_A.sl.v1526, kernelRun0_A.sl.HS3_56, kernelRun0_A.sl.HS3_51, kernelRun0_A.sl.HS3_50, kernelRun0_A.sl.HS3_49, kernelRun0_A.sl.HS3_48, kernelRun0_A.sl.HS3_47, kernelRun0_A.sl.HS3_46, kernelRun0_A.sl.HS3_45, kernelRun0_A.sl.HS3_44, kernelRun0_A.sl.HS3_43, kernelRun0_A.sl.HS3_42, kernelRun0_A.sl.HS3_37, kernelRun0_A.sl.HS3_36, kernelRun0_A.sl.HS3_35, kernelRun0_A.sl.HS3_34, kernelRun0_A.sl.HS3_33, kernelRun0_A.sl.HS3_32, ↓ View.readCov_skip, ↓ View.readCov_cons_toLoadRect]
  exact congrArg stored (score_sel (qi := 5) (c := 1) 0 rfl (by decide) _ (kb_1 E) (qb_5 E) fun r => (row_apply 0 _ _ r).trans (sel_5 E 0 r (by decide)))

/-- The scores of tile 2 against query block 5, read back. -/
theorem ld_5_2 : kernelRun0_A.sl.v1541 E.c E.arg2 E.harg2 E.arg3 E.harg3 E.arg6 E.arg8 E.arg9 E.x0 E.x1 = stored (score E.K E.Q 5 2) := by
  simp (disch := decide) only [kernelRun0_A.sl.v1541, kernelRun0_A.sl.HS3_56, kernelRun0_A.sl.HS3_51, kernelRun0_A.sl.HS3_50, kernelRun0_A.sl.HS3_49, kernelRun0_A.sl.HS3_48, kernelRun0_A.sl.HS3_47, kernelRun0_A.sl.HS3_46, kernelRun0_A.sl.HS3_45, kernelRun0_A.sl.HS3_44, kernelRun0_A.sl.HS3_43, kernelRun0_A.sl.HS3_42, kernelRun0_A.sl.HS3_37, kernelRun0_A.sl.HS3_36, kernelRun0_A.sl.HS3_35, kernelRun0_A.sl.HS3_34, kernelRun0_A.sl.HS3_33, ↓ View.readCov_skip, ↓ View.readCov_cons_toLoadRect]
  exact congrArg stored (score_sel (qi := 5) (c := 2) 1 rfl (by decide) _ (kb_2 E) (qb_5 E) fun r => (row_apply 1 _ _ r).trans (sel_5 E 1 r (by decide)))

/-- The scores of tile 3 against query block 5, read back. -/
theorem ld_5_3 : kernelRun0_A.sl.v1552 E.c E.arg2 E.harg2 E.arg3 E.harg3 E.arg6 E.arg8 E.arg9 E.x0 E.x1 = stored (score E.K E.Q 5 3) := by
  simp (disch := decide) only [kernelRun0_A.sl.v1552, kernelRun0_A.sl.HS3_56, kernelRun0_A.sl.HS3_51, kernelRun0_A.sl.HS3_50, kernelRun0_A.sl.HS3_49, kernelRun0_A.sl.HS3_48, kernelRun0_A.sl.HS3_47, kernelRun0_A.sl.HS3_46, kernelRun0_A.sl.HS3_45, kernelRun0_A.sl.HS3_44, kernelRun0_A.sl.HS3_43, kernelRun0_A.sl.HS3_42, kernelRun0_A.sl.HS3_37, kernelRun0_A.sl.HS3_36, kernelRun0_A.sl.HS3_35, kernelRun0_A.sl.HS3_34, ↓ View.readCov_skip, ↓ View.readCov_cons_toLoadRect]
  exact congrArg stored (score_sel (qi := 5) (c := 3) 1 rfl (by decide) _ (kb_3 E) (qb_5 E) fun r => (row_apply 1 _ _ r).trans (sel_5 E 1 r (by decide)))

/-- The scores of tile 4 against query block 5, read back. -/
theorem ld_5_4 : kernelRun0_A.sl.v1567 E.c E.arg2 E.harg2 E.arg3 E.harg3 E.arg6 E.arg8 E.arg9 E.x0 E.x1 = stored (score E.K E.Q 5 4) := by
  simp (disch := decide) only [kernelRun0_A.sl.v1567, kernelRun0_A.sl.HS3_56, kernelRun0_A.sl.HS3_51, kernelRun0_A.sl.HS3_50, kernelRun0_A.sl.HS3_49, kernelRun0_A.sl.HS3_48, kernelRun0_A.sl.HS3_47, kernelRun0_A.sl.HS3_46, kernelRun0_A.sl.HS3_45, kernelRun0_A.sl.HS3_44, kernelRun0_A.sl.HS3_43, kernelRun0_A.sl.HS3_42, kernelRun0_A.sl.HS3_37, kernelRun0_A.sl.HS3_36, kernelRun0_A.sl.HS3_35, ↓ View.readCov_skip, ↓ View.readCov_cons_toLoadRect]
  exact congrArg stored (score_sel (qi := 5) (c := 4) 2 rfl (by decide) _ (kb_4 E) (qb_5 E) fun r => (row_apply 2 _ _ r).trans (sel_5 E 2 r (by decide)))

/-- The scores of tile 5 against query block 5, read back. -/
theorem ld_5_5 : kernelRun0_A.sl.v1578 E.c E.arg2 E.harg2 E.arg3 E.harg3 E.arg6 E.arg8 E.arg9 E.x0 E.x1 = stored (score E.K E.Q 5 5) := by
  simp (disch := decide) only [kernelRun0_A.sl.v1578, kernelRun0_A.sl.HS3_56, kernelRun0_A.sl.HS3_51, kernelRun0_A.sl.HS3_50, kernelRun0_A.sl.HS3_49, kernelRun0_A.sl.HS3_48, kernelRun0_A.sl.HS3_47, kernelRun0_A.sl.HS3_46, kernelRun0_A.sl.HS3_45, kernelRun0_A.sl.HS3_44, kernelRun0_A.sl.HS3_43, kernelRun0_A.sl.HS3_42, kernelRun0_A.sl.HS3_37, kernelRun0_A.sl.HS3_36, ↓ View.readCov_skip, ↓ View.readCov_cons_toLoadRect]
  exact congrArg stored (score_sel (qi := 5) (c := 5) 2 rfl (by decide) _ (kb_5 E) (qb_5 E) fun r => (row_apply 2 _ _ r).trans (sel_5 E 2 r (by decide)))

/-- The scores of tile 6 against query block 5, read back. -/
theorem ld_5_6 : kernelRun0_A.sl.v1593 E.c E.arg2 E.harg2 E.arg3 E.harg3 E.arg6 E.arg8 E.arg9 E.x0 E.x1 = stored (score E.K E.Q 5 6) := by
  simp (disch := decide) only [kernelRun0_A.sl.v1593, kernelRun0_A.sl.HS3_56, kernelRun0_A.sl.HS3_51, kernelRun0_A.sl.HS3_50, kernelRun0_A.sl.HS3_49, kernelRun0_A.sl.HS3_48, kernelRun0_A.sl.HS3_47, kernelRun0_A.sl.HS3_46, kernelRun0_A.sl.HS3_45, kernelRun0_A.sl.HS3_44, kernelRun0_A.sl.HS3_43, kernelRun0_A.sl.HS3_42, kernelRun0_A.sl.HS3_37, ↓ View.readCov_skip, ↓ View.readCov_cons_toLoadRect]
  exact congrArg stored (score_sel (qi := 5) (c := 6) 3 rfl (by decide) _ (kb_6 E) (qb_5 E) fun r => (row_apply 3 _ _ r).trans (sel_5 E 3 r (by decide)))

/-- The scores of tile 7 against query block 5, read back. -/
theorem ld_5_7 : kernelRun0_A.sl.v1604 E.c E.arg2 E.harg2 E.arg3 E.harg3 E.arg6 E.arg8 E.arg9 E.x0 E.x1 = stored (score E.K E.Q 5 7) := by
  simp (disch := decide) only [kernelRun0_A.sl.v1604, kernelRun0_A.sl.HS3_56, kernelRun0_A.sl.HS3_51, kernelRun0_A.sl.HS3_50, kernelRun0_A.sl.HS3_49, kernelRun0_A.sl.HS3_48, kernelRun0_A.sl.HS3_47, kernelRun0_A.sl.HS3_46, kernelRun0_A.sl.HS3_45, kernelRun0_A.sl.HS3_44, kernelRun0_A.sl.HS3_43, kernelRun0_A.sl.HS3_42, ↓ View.readCov_skip, ↓ View.readCov_cons_toLoadRect]
  exact congrArg stored (score_sel (qi := 5) (c := 7) 3 rfl (by decide) _ (kb_7 E) (qb_5 E) fun r => (row_apply 3 _ _ r).trans (sel_5 E 3 r (by decide)))

/-- The scores of tile 8 against query block 5, read back. -/
theorem ld_5_8 : kernelRun0_A.sl.v1619 E.c E.arg2 E.harg2 E.arg3 E.harg3 E.arg6 E.arg8 E.arg9 E.x0 E.x1 = stored (score E.K E.Q 5 8) := by
  simp (disch := decide) only [kernelRun0_A.sl.v1619, kernelRun0_A.sl.HS3_56, kernelRun0_A.sl.HS3_51, kernelRun0_A.sl.HS3_50, kernelRun0_A.sl.HS3_49, kernelRun0_A.sl.HS3_48, kernelRun0_A.sl.HS3_47, kernelRun0_A.sl.HS3_46, kernelRun0_A.sl.HS3_45, kernelRun0_A.sl.HS3_44, kernelRun0_A.sl.HS3_43, kernelRun0_A.sl.HS3_42, ↓ View.readCov_skip, ↓ View.readCov_cons_toLoadRect]
  exact congrArg stored (score_sel (qi := 5) (c := 8) 4 rfl (by decide) _ (kb_8 E) (qb_5 E) fun r => (row_apply 4 _ _ r).trans (sel_5 E 4 r (by decide)))

/-- The scores of tile 9 against query block 5, read back. -/
theorem ld_5_9 : kernelRun0_A.sl.v1630 E.c E.arg2 E.harg2 E.arg3 E.harg3 E.arg6 E.arg8 E.arg9 E.x0 E.x1 = stored (score E.K E.Q 5 9) := by
  simp (disch := decide) only [kernelRun0_A.sl.v1630, kernelRun0_A.sl.HS3_56, kernelRun0_A.sl.HS3_51, kernelRun0_A.sl.HS3_50, kernelRun0_A.sl.HS3_49, kernelRun0_A.sl.HS3_48, kernelRun0_A.sl.HS3_47, kernelRun0_A.sl.HS3_46, kernelRun0_A.sl.HS3_45, kernelRun0_A.sl.HS3_44, kernelRun0_A.sl.HS3_43, kernelRun0_A.sl.HS3_42, ↓ View.readCov_skip, ↓ View.readCov_cons_toLoadRect]
  exact congrArg stored (score_sel (qi := 5) (c := 9) 4 rfl (by decide) _ (kb_9 E) (qb_5 E) fun r => (row_apply 4 _ _ r).trans (sel_5 E 4 r (by decide)))

/-- The scores of tile 10 against query block 5, read back. -/
theorem ld_5_10 : kernelRun0_A.sl.v1645 E.c E.arg2 E.harg2 E.arg3 E.harg3 E.arg6 E.arg8 E.arg9 E.x0 E.x1 = stored (score E.K E.Q 5 10) := by
  simp (disch := decide) only [kernelRun0_A.sl.v1645, kernelRun0_A.sl.HS3_56, kernelRun0_A.sl.HS3_51, kernelRun0_A.sl.HS3_50, kernelRun0_A.sl.HS3_49, kernelRun0_A.sl.HS3_48, kernelRun0_A.sl.HS3_47, kernelRun0_A.sl.HS3_46, kernelRun0_A.sl.HS3_45, kernelRun0_A.sl.HS3_44, kernelRun0_A.sl.HS3_43, kernelRun0_A.sl.HS3_42, ↓ View.readCov_skip, ↓ View.readCov_cons_toLoadRect]
  exact congrArg stored (score_own (qi := 5) (c := 10) (e := 0) rfl (by decide) 0#32 rfl (kb_10 E) (qb_5 E))

/-- The scores of tile 11 against query block 5, read back. -/
theorem ld_5_11 : kernelRun0_A.sl.v1656 E.c E.arg2 E.harg2 E.arg3 E.harg3 E.arg6 E.arg8 E.arg9 E.x0 E.x1 = stored (score E.K E.Q 5 11) := by
  simp (disch := decide) only [kernelRun0_A.sl.v1656, kernelRun0_A.sl.HS3_56, kernelRun0_A.sl.HS3_51, kernelRun0_A.sl.HS3_50, kernelRun0_A.sl.HS3_49, kernelRun0_A.sl.HS3_48, kernelRun0_A.sl.HS3_47, kernelRun0_A.sl.HS3_46, kernelRun0_A.sl.HS3_45, kernelRun0_A.sl.HS3_44, kernelRun0_A.sl.HS3_43, kernelRun0_A.sl.HS3_42, ↓ View.readCov_skip, ↓ View.readCov_cons_toLoadRect]
  exact congrArg stored (score_own (qi := 5) (c := 11) (e := 1) rfl (by decide) 128#32 rfl (kb_11 E) (qb_5 E))

/-- The maximum subtracted for query block 5 is real. -/
theorem max_5 : IsReal (kernelRun0_A.sl.r_25 E.c E.arg2 E.harg2 E.arg3 E.harg3 E.arg6 E.arg8 E.x0 E.x1) :=
  max_real_left (max_real_right (max_notTop (max_notTop (max_notTop (max_notTop (max_notTop (max_notTop (max_notTop (max_notTop (max_notTop (colmax_nt (score_sel (qi := 5) (c := 0) 0 rfl (by decide) _ (kb_0 E) (qb_5 E) fun r => (row_apply 0 _ _ r).trans (sel_5 E 0 r (by decide))))
    (colmax_nt (score_sel (qi := 5) (c := 1) 0 rfl (by decide) _ (kb_1 E) (qb_5 E) fun r => (row_apply 0 _ _ r).trans (sel_5 E 0 r (by decide)))))
    (colmax_nt (score_sel (qi := 5) (c := 2) 1 rfl (by decide) _ (kb_2 E) (qb_5 E) fun r => (row_apply 1 _ _ r).trans (sel_5 E 1 r (by decide)))))
    (colmax_nt (score_sel (qi := 5) (c := 3) 1 rfl (by decide) _ (kb_3 E) (qb_5 E) fun r => (row_apply 1 _ _ r).trans (sel_5 E 1 r (by decide)))))
    (colmax_nt (score_sel (qi := 5) (c := 4) 2 rfl (by decide) _ (kb_4 E) (qb_5 E) fun r => (row_apply 2 _ _ r).trans (sel_5 E 2 r (by decide)))))
    (colmax_nt (score_sel (qi := 5) (c := 5) 2 rfl (by decide) _ (kb_5 E) (qb_5 E) fun r => (row_apply 2 _ _ r).trans (sel_5 E 2 r (by decide)))))
    (colmax_nt (score_sel (qi := 5) (c := 6) 3 rfl (by decide) _ (kb_6 E) (qb_5 E) fun r => (row_apply 3 _ _ r).trans (sel_5 E 3 r (by decide)))))
    (colmax_nt (score_sel (qi := 5) (c := 7) 3 rfl (by decide) _ (kb_7 E) (qb_5 E) fun r => (row_apply 3 _ _ r).trans (sel_5 E 3 r (by decide)))))
    (colmax_nt (score_sel (qi := 5) (c := 8) 4 rfl (by decide) _ (kb_8 E) (qb_5 E) fun r => (row_apply 4 _ _ r).trans (sel_5 E 4 r (by decide)))))
    (colmax_nt (score_sel (qi := 5) (c := 9) 4 rfl (by decide) _ (kb_9 E) (qb_5 E) fun r => (row_apply 4 _ _ r).trans (sel_5 E 4 r (by decide)))))
    (colmax_real_of (score_own (qi := 5) (c := 10) (e := 0) rfl (by decide) 0#32 rfl (kb_10 E) (qb_5 E))))
    (colmax_nt (score_own (qi := 5) (c := 11) (e := 1) rfl (by decide) 128#32 rfl (kb_11 E) (qb_5 E)))

/-- The output block 5 as the quotient of the running sums. -/
theorem tile_5 : (kernelRun0_A.sl.v1679 E.c E.arg2 E.harg2 E.arg3 E.harg3 E.arg4 E.harg4 E.arg6 E.arg7 E.arg8 E.arg9 E.x0 E.x1 E.x2 : FVec Ideal S1x256x128 .bf16)
    = finish (osum (kernelRun0_A.sl.r_25 E.c E.arg2 E.harg2 E.arg3 E.harg3 E.arg6 E.arg8 E.x0 E.x1) (fun c => stored (score E.K E.Q 5 c)) (vtile E) 6)
        (lsum (kernelRun0_A.sl.r_25 E.c E.arg2 E.harg2 E.arg3 E.harg3 E.arg6 E.arg8 E.x0 E.x1) (fun c => stored (score E.K E.Q 5 c)) 12) := by
  simp only [osum, lsum, Nat.reduceMul, Nat.reduceAdd]
  simp only [kernelRun0_A.sl.v1679, kernelRun0_A.sl.r_49, kernelRun0_A.sl.r_48, kernelRun0_A.sl.r_47, kernelRun0_A.sl.r_46, kernelRun0_A.sl.r_44, kernelRun0_A.sl.r_42, kernelRun0_A.sl.r_41, kernelRun0_A.sl.r_39, kernelRun0_A.sl.v702, kernelRun0_A.sl.cst, kernelRun0_A.sl.r_45, kernelRun0_A.sl.r_43, kernelRun0_A.sl.r_40, kernelRun0_A.sl.r_38, kernelRun0_A.sl.v703, k0_pay260, k0_pay259, k0_pay258, k0_pay263, k0_pay261, k0_pay269, k0_pay267, k0_pay266, k0_pay265, k0_pay273, k0_pay272, k0_pay271, k0_pay262, k0_pay264, k0_pay268, k0_pay270, k0_pay275, k0_pay274, k0_pay276, k0_pay277, k0_pay278,
    stack_eq, ld_5_0 E, ld_5_1 E, ld_5_2 E, ld_5_3 E, ld_5_4 E, ld_5_5 E, ld_5_6 E, ld_5_7 E, ld_5_8 E, ld_5_9 E, ld_5_10 E, ld_5_11 E, vt_0 E, vt_1 E, vt_2 E, vt_3 E, vt_4 E, vt_5 E]
  try rfl

end Cert.KernelAttnIdeal.Value

end

end
-- ==== Proof.AttnTiles6.lean ====
module

public import proofs.«01_k».proof.Proof.Gen.KernelAttnIdeal.Frame
public import proofs.«01_k».proof.Proof.AttnLoads
public import Idealize.ShloMosaic.Lib.Pipeline.ReadBack

/-!
The attention kernel at query blocks 6: the scores it stores are the masked scores, the maxima it subtracts are real, and
the output block is the quotient of the running sums.
-/

@[expose] public section
set_option maxRecDepth 16384

noncomputable section

open Idealize.ShloMosaic Idealize.ShloMosaic.TcCoe Idealize.SL.Sem
open Idealize.ShloMosaic.Pipeline

namespace Cert.KernelAttnIdeal.Value

open Cert.KernelAttnIdeal Cert.KernelAttnIdeal.Gen Cert.Attn

variable (E : Point)

/-- The block scores of query block 6. -/
theorem scores_6 : IsScores E.K E.Q 6 (kernelRun0_A.sl.v1222 E.c E.arg2 E.harg2 E.arg3 E.harg3 E.arg8 E.x0 E.x1) :=
  scores_mask 6#32 (by decide) rfl (km_at E) (qf_6 E)

open Classical in
/-- The selection for query block 6. -/
theorem sel_6 (n : Fin 8) (r : Fin 256) (hn : (n : ℕ) < 6) : (kernelRun0_A.sl.v1307 E.c E.arg2 E.harg2 E.arg3 E.harg3 E.arg8 E.x0 E.x1 : FVec Ideal S8x256 .f32) (ix2 n r)
    = if rank E.K E.Q (256 * 6 + r) n < 3 then 1 else 0 :=
  sel_apply (by decide) 6#32 rfl (count_step 5 (by decide) 5#32 rfl _ (scores_6 E) (count_step 4 (by decide) 4#32 rfl _ (scores_6 E) (count_step 3 (by decide) 3#32 rfl _ (scores_6 E) (count_step 2 (by decide) 2#32 rfl _ (scores_6 E) (count_step 1 (by decide) 1#32 rfl _ (scores_6 E) (count_step 0 (by decide) 0#32 rfl _ (scores_6 E) (count_zero E.K E.Q 6) (fun r => row_apply 0 _ _ r)) (fun r => row_apply 1 _ _ r)) (fun r => row_apply 2 _ _ r)) (fun r => row_apply 3 _ _ r)) (fun r => row_apply 4 _ _ r)) (fun r => row_apply 5 _ _ r)) n r hn

/-- The scores of tile 0 against query block 6, read back. -/
theorem ld_6_0 : kernelRun0_A.sl.v2024 E.c E.arg2 E.harg2 E.arg3 E.harg3 E.arg6 E.arg8 E.arg9 E.x0 E.x1 = stored (score E.K E.Q 6 0) := by
  simp (disch := decide) only [kernelRun0_A.sl.v2024, kernelRun0_A.sl.HS3_72, kernelRun0_A.sl.HS3_67, kernelRun0_A.sl.HS3_66, kernelRun0_A.sl.HS3_65, kernelRun0_A.sl.HS3_64, kernelRun0_A.sl.HS3_63, kernelRun0_A.sl.HS3_62, kernelRun0_A.sl.HS3_61, kernelRun0_A.sl.HS3_60, kernelRun0_A.sl.HS3_59, kernelRun0_A.sl.HS3_58, kernelRun0_A.sl.HS3_57, kernelRun0_A.sl.HS3_56, kernelRun0_A.sl.HS3_51, kernelRun0_A.sl.HS3_50, kernelRun0_A.sl.HS3_49, kernelRun0_A.sl.HS3_48, kernelRun0_A.sl.HS3_47, kernelRun0_A.sl.HS3_46, kernelRun0_A.sl.HS3_45, kernelRun0_A.sl.HS3_44, kernelRun0_A.sl.HS3_43, ↓ View.readCov_skip, ↓ View.readCov_cons_toLoadRect]
  exact congrArg stored (score_sel (qi := 6) (c := 0) 0 rfl (by decide) _ (kb_0 E) (qb_6 E) fun r => (row_apply 0 _ _ r).trans (sel_6 E 0 r (by decide)))

/-- The scores of tile 1 against query block 6, read back. -/
theorem ld_6_1 : kernelRun0_A.sl.v2035 E.c E.arg2 E.harg2 E.arg3 E.harg3 E.arg6 E.arg8 E.arg9 E.x0 E.x1 = stored (score E.K E.Q 6 1) := by
  simp (disch := decide) only [kernelRun0_A.sl.v2035, kernelRun0_A.sl.HS3_72, kernelRun0_A.sl.HS3_67, kernelRun0_A.sl.HS3_66, kernelRun0_A.sl.HS3_65, kernelRun0_A.sl.HS3_64, kernelRun0_A.sl.HS3_63, kernelRun0_A.sl.HS3_62, kernelRun0_A.sl.HS3_61, kernelRun0_A.sl.HS3_60, kernelRun0_A.sl.HS3_59, kernelRun0_A.sl.HS3_58, kernelRun0_A.sl.HS3_57, kernelRun0_A.sl.HS3_56, kernelRun0_A.sl.HS3_51, kernelRun0_A.sl.HS3_50, kernelRun0_A.sl.HS3_49, kernelRun0_A.sl.HS3_48, kernelRun0_A.sl.HS3_47, kernelRun0_A.sl.HS3_46, kernelRun0_A.sl.HS3_45, kernelRun0_A.sl.HS3_44, ↓ View.readCov_skip, ↓ View.readCov_cons_toLoadRect]
  exact congrArg stored (score_sel (qi := 6) (c := 1) 0 rfl (by decide) _ (kb_1 E) (qb_6 E) fun r => (row_apply 0 _ _ r).trans (sel_6 E 0 r (by decide)))

/-- The scores of tile 2 against query block 6, read back. -/
theorem ld_6_2 : kernelRun0_A.sl.v2050 E.c E.arg2 E.harg2 E.arg3 E.harg3 E.arg6 E.arg8 E.arg9 E.x0 E.x1 = stored (score E.K E.Q 6 2) := by
  simp (disch := decide) only [kernelRun0_A.sl.v2050, kernelRun0_A.sl.HS3_72, kernelRun0_A.sl.HS3_67, kernelRun0_A.sl.HS3_66, kernelRun0_A.sl.HS3_65, kernelRun0_A.sl.HS3_64, kernelRun0_A.sl.HS3_63, kernelRun0_A.sl.HS3_62, kernelRun0_A.sl.HS3_61, kernelRun0_A.sl.HS3_60, kernelRun0_A.sl.HS3_59, kernelRun0_A.sl.HS3_58, kernelRun0_A.sl.HS3_57, kernelRun0_A.sl.HS3_56, kernelRun0_A.sl.HS3_51, kernelRun0_A.sl.HS3_50, kernelRun0_A.sl.HS3_49, kernelRun0_A.sl.HS3_48, kernelRun0_A.sl.HS3_47, kernelRun0_A.sl.HS3_46, kernelRun0_A.sl.HS3_45, ↓ View.readCov_skip, ↓ View.readCov_cons_toLoadRect]
  exact congrArg stored (score_sel (qi := 6) (c := 2) 1 rfl (by decide) _ (kb_2 E) (qb_6 E) fun r => (row_apply 1 _ _ r).trans (sel_6 E 1 r (by decide)))

/-- The scores of tile 3 against query block 6, read back. -/
theorem ld_6_3 : kernelRun0_A.sl.v2061 E.c E.arg2 E.harg2 E.arg3 E.harg3 E.arg6 E.arg8 E.arg9 E.x0 E.x1 = stored (score E.K E.Q 6 3) := by
  simp (disch := decide) only [kernelRun0_A.sl.v2061, kernelRun0_A.sl.HS3_72, kernelRun0_A.sl.HS3_67, kernelRun0_A.sl.HS3_66, kernelRun0_A.sl.HS3_65, kernelRun0_A.sl.HS3_64, kernelRun0_A.sl.HS3_63, kernelRun0_A.sl.HS3_62, kernelRun0_A.sl.HS3_61, kernelRun0_A.sl.HS3_60, kernelRun0_A.sl.HS3_59, kernelRun0_A.sl.HS3_58, kernelRun0_A.sl.HS3_57, kernelRun0_A.sl.HS3_56, kernelRun0_A.sl.HS3_51, kernelRun0_A.sl.HS3_50, kernelRun0_A.sl.HS3_49, kernelRun0_A.sl.HS3_48, kernelRun0_A.sl.HS3_47, kernelRun0_A.sl.HS3_46, ↓ View.readCov_skip, ↓ View.readCov_cons_toLoadRect]
  exact congrArg stored (score_sel (qi := 6) (c := 3) 1 rfl (by decide) _ (kb_3 E) (qb_6 E) fun r => (row_apply 1 _ _ r).trans (sel_6 E 1 r (by decide)))

/-- The scores of tile 4 against query block 6, read back. -/
theorem ld_6_4 : kernelRun0_A.sl.v2076 E.c E.arg2 E.harg2 E.arg3 E.harg3 E.arg6 E.arg8 E.arg9 E.x0 E.x1 = stored (score E.K E.Q 6 4) := by
  simp (disch := decide) only [kernelRun0_A.sl.v2076, kernelRun0_A.sl.HS3_72, kernelRun0_A.sl.HS3_67, kernelRun0_A.sl.HS3_66, kernelRun0_A.sl.HS3_65, kernelRun0_A.sl.HS3_64, kernelRun0_A.sl.HS3_63, kernelRun0_A.sl.HS3_62, kernelRun0_A.sl.HS3_61, kernelRun0_A.sl.HS3_60, kernelRun0_A.sl.HS3_59, kernelRun0_A.sl.HS3_58, kernelRun0_A.sl.HS3_57, kernelRun0_A.sl.HS3_56, kernelRun0_A.sl.HS3_51, kernelRun0_A.sl.HS3_50, kernelRun0_A.sl.HS3_49, kernelRun0_A.sl.HS3_48, kernelRun0_A.sl.HS3_47, ↓ View.readCov_skip, ↓ View.readCov_cons_toLoadRect]
  exact congrArg stored (score_sel (qi := 6) (c := 4) 2 rfl (by decide) _ (kb_4 E) (qb_6 E) fun r => (row_apply 2 _ _ r).trans (sel_6 E 2 r (by decide)))

/-- The scores of tile 5 against query block 6, read back. -/
theorem ld_6_5 : kernelRun0_A.sl.v2087 E.c E.arg2 E.harg2 E.arg3 E.harg3 E.arg6 E.arg8 E.arg9 E.x0 E.x1 = stored (score E.K E.Q 6 5) := by
  simp (disch := decide) only [kernelRun0_A.sl.v2087, kernelRun0_A.sl.HS3_72, kernelRun0_A.sl.HS3_67, kernelRun0_A.sl.HS3_66, kernelRun0_A.sl.HS3_65, kernelRun0_A.sl.HS3_64, kernelRun0_A.sl.HS3_63, kernelRun0_A.sl.HS3_62, kernelRun0_A.sl.HS3_61, kernelRun0_A.sl.HS3_60, kernelRun0_A.sl.HS3_59, kernelRun0_A.sl.HS3_58, kernelRun0_A.sl.HS3_57, kernelRun0_A.sl.HS3_56, kernelRun0_A.sl.HS3_51, kernelRun0_A.sl.HS3_50, kernelRun0_A.sl.HS3_49, kernelRun0_A.sl.HS3_48, ↓ View.readCov_skip, ↓ View.readCov_cons_toLoadRect]
  exact congrArg stored (score_sel (qi := 6) (c := 5) 2 rfl (by decide) _ (kb_5 E) (qb_6 E) fun r => (row_apply 2 _ _ r).trans (sel_6 E 2 r (by decide)))

/-- The scores of tile 6 against query block 6, read back. -/
theorem ld_6_6 : kernelRun0_A.sl.v2102 E.c E.arg2 E.harg2 E.arg3 E.harg3 E.arg6 E.arg8 E.arg9 E.x0 E.x1 = stored (score E.K E.Q 6 6) := by
  simp (disch := decide) only [kernelRun0_A.sl.v2102, kernelRun0_A.sl.HS3_72, kernelRun0_A.sl.HS3_67, kernelRun0_A.sl.HS3_66, kernelRun0_A.sl.HS3_65, kernelRun0_A.sl.HS3_64, kernelRun0_A.sl.HS3_63, kernelRun0_A.sl.HS3_62, kernelRun0_A.sl.HS3_61, kernelRun0_A.sl.HS3_60, kernelRun0_A.sl.HS3_59, kernelRun0_A.sl.HS3_58, kernelRun0_A.sl.HS3_57, kernelRun0_A.sl.HS3_56, kernelRun0_A.sl.HS3_51, kernelRun0_A.sl.HS3_50, kernelRun0_A.sl.HS3_49, ↓ View.readCov_skip, ↓ View.readCov_cons_toLoadRect]
  exact congrArg stored (score_sel (qi := 6) (c := 6) 3 rfl (by decide) _ (kb_6 E) (qb_6 E) fun r => (row_apply 3 _ _ r).trans (sel_6 E 3 r (by decide)))

/-- The scores of tile 7 against query block 6, read back. -/
theorem ld_6_7 : kernelRun0_A.sl.v2113 E.c E.arg2 E.harg2 E.arg3 E.harg3 E.arg6 E.arg8 E.arg9 E.x0 E.x1 = stored (score E.K E.Q 6 7) := by
  simp (disch := decide) only [kernelRun0_A.sl.v2113, kernelRun0_A.sl.HS3_72, kernelRun0_A.sl.HS3_67, kernelRun0_A.sl.HS3_66, kernelRun0_A.sl.HS3_65, kernelRun0_A.sl.HS3_64, kernelRun0_A.sl.HS3_63, kernelRun0_A.sl.HS3_62, kernelRun0_A.sl.HS3_61, kernelRun0_A.sl.HS3_60, kernelRun0_A.sl.HS3_59, kernelRun0_A.sl.HS3_58, kernelRun0_A.sl.HS3_57, kernelRun0_A.sl.HS3_56, kernelRun0_A.sl.HS3_51, kernelRun0_A.sl.HS3_50, ↓ View.readCov_skip, ↓ View.readCov_cons_toLoadRect]
  exact congrArg stored (score_sel (qi := 6) (c := 7) 3 rfl (by decide) _ (kb_7 E) (qb_6 E) fun r => (row_apply 3 _ _ r).trans (sel_6 E 3 r (by decide)))

/-- The scores of tile 8 against query block 6, read back. -/
theorem ld_6_8 : kernelRun0_A.sl.v2128 E.c E.arg2 E.harg2 E.arg3 E.harg3 E.arg6 E.arg8 E.arg9 E.x0 E.x1 = stored (score E.K E.Q 6 8) := by
  simp (disch := decide) only [kernelRun0_A.sl.v2128, kernelRun0_A.sl.HS3_72, kernelRun0_A.sl.HS3_67, kernelRun0_A.sl.HS3_66, kernelRun0_A.sl.HS3_65, kernelRun0_A.sl.HS3_64, kernelRun0_A.sl.HS3_63, kernelRun0_A.sl.HS3_62, kernelRun0_A.sl.HS3_61, kernelRun0_A.sl.HS3_60, kernelRun0_A.sl.HS3_59, kernelRun0_A.sl.HS3_58, kernelRun0_A.sl.HS3_57, kernelRun0_A.sl.HS3_56, kernelRun0_A.sl.HS3_51, ↓ View.readCov_skip, ↓ View.readCov_cons_toLoadRect]
  exact congrArg stored (score_sel (qi := 6) (c := 8) 4 rfl (by decide) _ (kb_8 E) (qb_6 E) fun r => (row_apply 4 _ _ r).trans (sel_6 E 4 r (by decide)))

/-- The scores of tile 9 against query block 6, read back. -/
theorem ld_6_9 : kernelRun0_A.sl.v2139 E.c E.arg2 E.harg2 E.arg3 E.harg3 E.arg6 E.arg8 E.arg9 E.x0 E.x1 = stored (score E.K E.Q 6 9) := by
  simp (disch := decide) only [kernelRun0_A.sl.v2139, kernelRun0_A.sl.HS3_72, kernelRun0_A.sl.HS3_67, kernelRun0_A.sl.HS3_66, kernelRun0_A.sl.HS3_65, kernelRun0_A.sl.HS3_64, kernelRun0_A.sl.HS3_63, kernelRun0_A.sl.HS3_62, kernelRun0_A.sl.HS3_61, kernelRun0_A.sl.HS3_60, kernelRun0_A.sl.HS3_59, kernelRun0_A.sl.HS3_58, kernelRun0_A.sl.HS3_57, kernelRun0_A.sl.HS3_56, ↓ View.readCov_skip, ↓ View.readCov_cons_toLoadRect]
  exact congrArg stored (score_sel (qi := 6) (c := 9) 4 rfl (by decide) _ (kb_9 E) (qb_6 E) fun r => (row_apply 4 _ _ r).trans (sel_6 E 4 r (by decide)))

/-- The scores of tile 10 against query block 6, read back. -/
theorem ld_6_10 : kernelRun0_A.sl.v2154 E.c E.arg2 E.harg2 E.arg3 E.harg3 E.arg6 E.arg8 E.arg9 E.x0 E.x1 = stored (score E.K E.Q 6 10) := by
  simp (disch := decide) only [kernelRun0_A.sl.v2154, kernelRun0_A.sl.HS3_72, kernelRun0_A.sl.HS3_67, kernelRun0_A.sl.HS3_66, kernelRun0_A.sl.HS3_65, kernelRun0_A.sl.HS3_64, kernelRun0_A.sl.HS3_63, kernelRun0_A.sl.HS3_62, kernelRun0_A.sl.HS3_61, kernelRun0_A.sl.HS3_60, kernelRun0_A.sl.HS3_59, kernelRun0_A.sl.HS3_58, kernelRun0_A.sl.HS3_57, kernelRun0_A.sl.HS3_56, ↓ View.readCov_skip, ↓ View.readCov_cons_toLoadRect]
  exact congrArg stored (score_sel (qi := 6) (c := 10) 5 rfl (by decide) _ (kb_10 E) (qb_6 E) fun r => (row_apply 5 _ _ r).trans (sel_6 E 5 r (by decide)))

/-- The scores of tile 11 against query block 6, read back. -/
theorem ld_6_11 : kernelRun0_A.sl.v2165 E.c E.arg2 E.harg2 E.arg3 E.harg3 E.arg6 E.arg8 E.arg9 E.x0 E.x1 = stored (score E.K E.Q 6 11) := by
  simp (disch := decide) only [kernelRun0_A.sl.v2165, kernelRun0_A.sl.HS3_72, kernelRun0_A.sl.HS3_67, kernelRun0_A.sl.HS3_66, kernelRun0_A.sl.HS3_65, kernelRun0_A.sl.HS3_64, kernelRun0_A.sl.HS3_63, kernelRun0_A.sl.HS3_62, kernelRun0_A.sl.HS3_61, kernelRun0_A.sl.HS3_60, kernelRun0_A.sl.HS3_59, kernelRun0_A.sl.HS3_58, kernelRun0_A.sl.HS3_57, kernelRun0_A.sl.HS3_56, ↓ View.readCov_skip, ↓ View.readCov_cons_toLoadRect]
  exact congrArg stored (score_sel (qi := 6) (c := 11) 5 rfl (by decide) _ (kb_11 E) (qb_6 E) fun r => (row_apply 5 _ _ r).trans (sel_6 E 5 r (by decide)))

/-- The scores of tile 12 against query block 6, read back. -/
theorem ld_6_12 : kernelRun0_A.sl.v2180 E.c E.arg2 E.harg2 E.arg3 E.harg3 E.arg6 E.arg8 E.arg9 E.x0 E.x1 = stored (score E.K E.Q 6 12) := by
  simp (disch := decide) only [kernelRun0_A.sl.v2180, kernelRun0_A.sl.HS3_72, kernelRun0_A.sl.HS3_67, kernelRun0_A.sl.HS3_66, kernelRun0_A.sl.HS3_65, kernelRun0_A.sl.HS3_64, kernelRun0_A.sl.HS3_63, kernelRun0_A.sl.HS3_62, kernelRun0_A.sl.HS3_61, kernelRun0_A.sl.HS3_60, kernelRun0_A.sl.HS3_59, kernelRun0_A.sl.HS3_58, kernelRun0_A.sl.HS3_57, kernelRun0_A.sl.HS3_56, ↓ View.readCov_skip, ↓ View.readCov_cons_toLoadRect]
  exact congrArg stored (score_own (qi := 6) (c := 12) (e := 0) rfl (by decide) 0#32 rfl (kb_12 E) (qb_6 E))

/-- The scores of tile 13 against query block 6, read back. -/
theorem ld_6_13 : kernelRun0_A.sl.v2191 E.c E.arg2 E.harg2 E.arg3 E.harg3 E.arg6 E.arg8 E.arg9 E.x0 E.x1 = stored (score E.K E.Q 6 13) := by
  simp (disch := decide) only [kernelRun0_A.sl.v2191, kernelRun0_A.sl.HS3_72, kernelRun0_A.sl.HS3_67, kernelRun0_A.sl.HS3_66, kernelRun0_A.sl.HS3_65, kernelRun0_A.sl.HS3_64, kernelRun0_A.sl.HS3_63, kernelRun0_A.sl.HS3_62, kernelRun0_A.sl.HS3_61, kernelRun0_A.sl.HS3_60, kernelRun0_A.sl.HS3_59, kernelRun0_A.sl.HS3_58, kernelRun0_A.sl.HS3_57, kernelRun0_A.sl.HS3_56, ↓ View.readCov_skip, ↓ View.readCov_cons_toLoadRect]
  exact congrArg stored (score_own (qi := 6) (c := 13) (e := 1) rfl (by decide) 128#32 rfl (kb_13 E) (qb_6 E))

/-- The maximum subtracted for query block 6 is real. -/
theorem max_6 : IsReal (kernelRun0_A.sl.v1512 E.c E.arg2 E.harg2 E.arg3 E.harg3 E.arg6 E.arg8 E.x0 E.x1) :=
  max_real_left (max_real_right (max_notTop (max_notTop (max_notTop (max_notTop (max_notTop (max_notTop (max_notTop (max_notTop (max_notTop (max_notTop (max_notTop (colmax_nt (score_sel (qi := 6) (c := 0) 0 rfl (by decide) _ (kb_0 E) (qb_6 E) fun r => (row_apply 0 _ _ r).trans (sel_6 E 0 r (by decide))))
    (colmax_nt (score_sel (qi := 6) (c := 1) 0 rfl (by decide) _ (kb_1 E) (qb_6 E) fun r => (row_apply 0 _ _ r).trans (sel_6 E 0 r (by decide)))))
    (colmax_nt (score_sel (qi := 6) (c := 2) 1 rfl (by decide) _ (kb_2 E) (qb_6 E) fun r => (row_apply 1 _ _ r).trans (sel_6 E 1 r (by decide)))))
    (colmax_nt (score_sel (qi := 6) (c := 3) 1 rfl (by decide) _ (kb_3 E) (qb_6 E) fun r => (row_apply 1 _ _ r).trans (sel_6 E 1 r (by decide)))))
    (colmax_nt (score_sel (qi := 6) (c := 4) 2 rfl (by decide) _ (kb_4 E) (qb_6 E) fun r => (row_apply 2 _ _ r).trans (sel_6 E 2 r (by decide)))))
    (colmax_nt (score_sel (qi := 6) (c := 5) 2 rfl (by decide) _ (kb_5 E) (qb_6 E) fun r => (row_apply 2 _ _ r).trans (sel_6 E 2 r (by decide)))))
    (colmax_nt (score_sel (qi := 6) (c := 6) 3 rfl (by decide) _ (kb_6 E) (qb_6 E) fun r => (row_apply 3 _ _ r).trans (sel_6 E 3 r (by decide)))))
    (colmax_nt (score_sel (qi := 6) (c := 7) 3 rfl (by decide) _ (kb_7 E) (qb_6 E) fun r => (row_apply 3 _ _ r).trans (sel_6 E 3 r (by decide)))))
    (colmax_nt (score_sel (qi := 6) (c := 8) 4 rfl (by decide) _ (kb_8 E) (qb_6 E) fun r => (row_apply 4 _ _ r).trans (sel_6 E 4 r (by decide)))))
    (colmax_nt (score_sel (qi := 6) (c := 9) 4 rfl (by decide) _ (kb_9 E) (qb_6 E) fun r => (row_apply 4 _ _ r).trans (sel_6 E 4 r (by decide)))))
    (colmax_nt (score_sel (qi := 6) (c := 10) 5 rfl (by decide) _ (kb_10 E) (qb_6 E) fun r => (row_apply 5 _ _ r).trans (sel_6 E 5 r (by decide)))))
    (colmax_nt (score_sel (qi := 6) (c := 11) 5 rfl (by decide) _ (kb_11 E) (qb_6 E) fun r => (row_apply 5 _ _ r).trans (sel_6 E 5 r (by decide)))))
    (colmax_real_of (score_own (qi := 6) (c := 12) (e := 0) rfl (by decide) 0#32 rfl (kb_12 E) (qb_6 E))))
    (colmax_nt (score_own (qi := 6) (c := 13) (e := 1) rfl (by decide) 128#32 rfl (kb_13 E) (qb_6 E)))

/-- The output block 6 as the quotient of the running sums. -/
theorem tile_6 : (k0_pay359 (kernelRun0_A.sl.v1512 E.c E.arg2 E.harg2 E.arg3 E.harg3 E.arg6 E.arg8 E.x0 E.x1) (kernelRun0_A.sl.r_60 E.c E.arg2 E.harg2 E.arg3 E.harg3 E.arg6 E.arg8 E.arg9 E.x0 E.x1) (kernelRun0_A.sl.r_61 E.c E.arg2 E.harg2 E.arg3 E.harg3 E.arg4 E.harg4 E.arg6 E.arg7 E.arg8 E.arg9 E.x0 E.x1 E.x2) (kernelRun0_A.sl.v2180 E.c E.arg2 E.harg2 E.arg3 E.harg3 E.arg6 E.arg8 E.arg9 E.x0 E.x1) (kernelRun0_A.sl.v2191 E.c E.arg2 E.harg2 E.arg3 E.harg3 E.arg6 E.arg8 E.arg9 E.x0 E.x1) (kernelRun0_A.sl.v2202 E.c E.arg4 E.harg4 E.arg7 E.x2) : FVec Ideal S1x256x128 .bf16)
    = finish (osum (kernelRun0_A.sl.v1512 E.c E.arg2 E.harg2 E.arg3 E.harg3 E.arg6 E.arg8 E.x0 E.x1) (fun c => stored (score E.K E.Q 6 c)) (vtile E) 7)
        (lsum (kernelRun0_A.sl.v1512 E.c E.arg2 E.harg2 E.arg3 E.harg3 E.arg6 E.arg8 E.x0 E.x1) (fun c => stored (score E.K E.Q 6 c)) 14) := by
  simp only [osum, lsum, Nat.reduceMul, Nat.reduceAdd]
  simp only [kernelRun0_A.sl.r_61, kernelRun0_A.sl.r_59, kernelRun0_A.sl.r_57, kernelRun0_A.sl.cst_58, kernelRun0_A.sl.r_56, kernelRun0_A.sl.r_54, kernelRun0_A.sl.r_53, kernelRun0_A.sl.r_51, kernelRun0_A.sl.r_60, kernelRun0_A.sl.r_58, kernelRun0_A.sl.r_55, kernelRun0_A.sl.r_52, k0_pay340, k0_pay339, k0_pay337, k0_pay336, k0_pay346, k0_pay345, k0_pay344, k0_pay342, k0_pay352, k0_pay351, k0_pay349, k0_pay348, k0_pay357, k0_pay356, k0_pay355, k0_pay354, k0_pay338, k0_pay341, k0_pay343, k0_pay347, k0_pay350, k0_pay353, k0_pay358, k0_pay359,
    stack_eq, ld_6_0 E, ld_6_1 E, ld_6_2 E, ld_6_3 E, ld_6_4 E, ld_6_5 E, ld_6_6 E, ld_6_7 E, ld_6_8 E, ld_6_9 E, ld_6_10 E, ld_6_11 E, ld_6_12 E, ld_6_13 E, vt_0 E, vt_1 E, vt_2 E, vt_3 E, vt_4 E, vt_5 E, vt_6 E]
  try rfl

end Cert.KernelAttnIdeal.Value

end

end
-- ==== Proof.AttnTiles7.lean ====
module

public import proofs.«01_k».proof.Proof.Gen.KernelAttnIdeal.Frame
public import proofs.«01_k».proof.Proof.AttnLoads
public import Idealize.ShloMosaic.Lib.Pipeline.ReadBack

/-!
The attention kernel at query blocks 7: the scores it stores are the masked scores, the maxima it subtracts are real, and
the output block is the quotient of the running sums.
-/

@[expose] public section
set_option maxRecDepth 16384

noncomputable section

open Idealize.ShloMosaic Idealize.ShloMosaic.TcCoe Idealize.SL.Sem
open Idealize.ShloMosaic.Pipeline

namespace Cert.KernelAttnIdeal.Value

open Cert.KernelAttnIdeal Cert.KernelAttnIdeal.Gen Cert.Attn

variable (E : Point)

/-- The block scores of query block 7. -/
theorem scores_7 : IsScores E.K E.Q 7 (kernelRun0_A.sl.v1688 E.c E.arg2 E.harg2 E.arg3 E.harg3 E.arg8 E.x0 E.x1) :=
  scores_mask 7#32 (by decide) rfl (km_at E) (qf_7 E)

open Classical in
/-- The selection for query block 7. -/
theorem sel_7 (n : Fin 8) (r : Fin 256) (hn : (n : ℕ) < 7) : (kernelRun0_A.sl.v1786 E.c E.arg2 E.harg2 E.arg3 E.harg3 E.arg8 E.x0 E.x1 : FVec Ideal S8x256 .f32) (ix2 n r)
    = if rank E.K E.Q (256 * 7 + r) n < 3 then 1 else 0 :=
  sel_apply (by decide) 7#32 rfl (count_step 6 (by decide) 6#32 rfl _ (scores_7 E) (count_step 5 (by decide) 5#32 rfl _ (scores_7 E) (count_step 4 (by decide) 4#32 rfl _ (scores_7 E) (count_step 3 (by decide) 3#32 rfl _ (scores_7 E) (count_step 2 (by decide) 2#32 rfl _ (scores_7 E) (count_step 1 (by decide) 1#32 rfl _ (scores_7 E) (count_step 0 (by decide) 0#32 rfl _ (scores_7 E) (count_zero E.K E.Q 7) (fun r => row_apply 0 _ _ r)) (fun r => row_apply 1 _ _ r)) (fun r => row_apply 2 _ _ r)) (fun r => row_apply 3 _ _ r)) (fun r => row_apply 4 _ _ r)) (fun r => row_apply 5 _ _ r)) (fun r => row_apply 6 _ _ r)) n r hn

/-- The scores of tile 0 against query block 7, read back. -/
theorem ld_7_0 : kernelRun0_A.sl.v2217 E.c E.arg2 E.harg2 E.arg3 E.harg3 E.arg6 E.arg8 E.arg9 E.x0 E.x1 = stored (score E.K E.Q 7 0) := by
  simp (disch := decide) only [kernelRun0_A.sl.v2217, kernelRun0_A.sl.HS3_72, kernelRun0_A.sl.HS3_67, kernelRun0_A.sl.HS3_66, kernelRun0_A.sl.HS3_65, kernelRun0_A.sl.HS3_64, kernelRun0_A.sl.HS3_63, kernelRun0_A.sl.HS3_62, kernelRun0_A.sl.HS3_61, kernelRun0_A.sl.HS3_60, kernelRun0_A.sl.HS3_59, kernelRun0_A.sl.HS3_58, kernelRun0_A.sl.HS3_57, ↓ View.readCov_skip, ↓ View.readCov_cons_toLoadRect]
  exact congrArg stored (score_sel (qi := 7) (c := 0) 0 rfl (by decide) _ (kb_0 E) (qb_7 E) fun r => (row_apply 0 _ _ r).trans (sel_7 E 0 r (by decide)))

/-- The scores of tile 1 against query block 7, read back. -/
theorem ld_7_1 : kernelRun0_A.sl.v2228 E.c E.arg2 E.harg2 E.arg3 E.harg3 E.arg6 E.arg8 E.arg9 E.x0 E.x1 = stored (score E.K E.Q 7 1) := by
  simp (disch := decide) only [kernelRun0_A.sl.v2228, kernelRun0_A.sl.HS3_72, kernelRun0_A.sl.HS3_67, kernelRun0_A.sl.HS3_66, kernelRun0_A.sl.HS3_65, kernelRun0_A.sl.HS3_64, kernelRun0_A.sl.HS3_63, kernelRun0_A.sl.HS3_62, kernelRun0_A.sl.HS3_61, kernelRun0_A.sl.HS3_60, kernelRun0_A.sl.HS3_59, kernelRun0_A.sl.HS3_58, ↓ View.readCov_skip, ↓ View.readCov_cons_toLoadRect]
  exact congrArg stored (score_sel (qi := 7) (c := 1) 0 rfl (by decide) _ (kb_1 E) (qb_7 E) fun r => (row_apply 0 _ _ r).trans (sel_7 E 0 r (by decide)))

/-- The scores of tile 2 against query block 7, read back. -/
theorem ld_7_2 : kernelRun0_A.sl.v2243 E.c E.arg2 E.harg2 E.arg3 E.harg3 E.arg6 E.arg8 E.arg9 E.x0 E.x1 = stored (score E.K E.Q 7 2) := by
  simp (disch := decide) only [kernelRun0_A.sl.v2243, kernelRun0_A.sl.HS3_72, kernelRun0_A.sl.HS3_67, kernelRun0_A.sl.HS3_66, kernelRun0_A.sl.HS3_65, kernelRun0_A.sl.HS3_64, kernelRun0_A.sl.HS3_63, kernelRun0_A.sl.HS3_62, kernelRun0_A.sl.HS3_61, kernelRun0_A.sl.HS3_60, kernelRun0_A.sl.HS3_59, ↓ View.readCov_skip, ↓ View.readCov_cons_toLoadRect]
  exact congrArg stored (score_sel (qi := 7) (c := 2) 1 rfl (by decide) _ (kb_2 E) (qb_7 E) fun r => (row_apply 1 _ _ r).trans (sel_7 E 1 r (by decide)))

/-- The scores of tile 3 against query block 7, read back. -/
theorem ld_7_3 : kernelRun0_A.sl.v2254 E.c E.arg2 E.harg2 E.arg3 E.harg3 E.arg6 E.arg8 E.arg9 E.x0 E.x1 = stored (score E.K E.Q 7 3) := by
  simp (disch := decide) only [kernelRun0_A.sl.v2254, kernelRun0_A.sl.HS3_72, kernelRun0_A.sl.HS3_67, kernelRun0_A.sl.HS3_66, kernelRun0_A.sl.HS3_65, kernelRun0_A.sl.HS3_64, kernelRun0_A.sl.HS3_63, kernelRun0_A.sl.HS3_62, kernelRun0_A.sl.HS3_61, kernelRun0_A.sl.HS3_60, ↓ View.readCov_skip, ↓ View.readCov_cons_toLoadRect]
  exact congrArg stored (score_sel (qi := 7) (c := 3) 1 rfl (by decide) _ (kb_3 E) (qb_7 E) fun r => (row_apply 1 _ _ r).trans (sel_7 E 1 r (by decide)))

/-- The scores of tile 4 against query block 7, read back. -/
theorem ld_7_4 : kernelRun0_A.sl.v2269 E.c E.arg2 E.harg2 E.arg3 E.harg3 E.arg6 E.arg8 E.arg9 E.x0 E.x1 = stored (score E.K E.Q 7 4) := by
  simp (disch := decide) only [kernelRun0_A.sl.v2269, kernelRun0_A.sl.HS3_72, kernelRun0_A.sl.HS3_67, kernelRun0_A.sl.HS3_66, kernelRun0_A.sl.HS3_65, kernelRun0_A.sl.HS3_64, kernelRun0_A.sl.HS3_63, kernelRun0_A.sl.HS3_62, kernelRun0_A.sl.HS3_61, ↓ View.readCov_skip, ↓ View.readCov_cons_toLoadRect]
  exact congrArg stored (score_sel (qi := 7) (c := 4) 2 rfl (by decide) _ (kb_4 E) (qb_7 E) fun r => (row_apply 2 _ _ r).trans (sel_7 E 2 r (by decide)))

/-- The scores of tile 5 against query block 7, read back. -/
theorem ld_7_5 : kernelRun0_A.sl.v2280 E.c E.arg2 E.harg2 E.arg3 E.harg3 E.arg6 E.arg8 E.arg9 E.x0 E.x1 = stored (score E.K E.Q 7 5) := by
  simp (disch := decide) only [kernelRun0_A.sl.v2280, kernelRun0_A.sl.HS3_72, kernelRun0_A.sl.HS3_67, kernelRun0_A.sl.HS3_66, kernelRun0_A.sl.HS3_65, kernelRun0_A.sl.HS3_64, kernelRun0_A.sl.HS3_63, kernelRun0_A.sl.HS3_62, ↓ View.readCov_skip, ↓ View.readCov_cons_toLoadRect]
  exact congrArg stored (score_sel (qi := 7) (c := 5) 2 rfl (by decide) _ (kb_5 E) (qb_7 E) fun r => (row_apply 2 _ _ r).trans (sel_7 E 2 r (by decide)))

/-- The scores of tile 6 against query block 7, read back. -/
theorem ld_7_6 : kernelRun0_A.sl.v2295 E.c E.arg2 E.harg2 E.arg3 E.harg3 E.arg6 E.arg8 E.arg9 E.x0 E.x1 = stored (score E.K E.Q 7 6) := by
  simp (disch := decide) only [kernelRun0_A.sl.v2295, kernelRun0_A.sl.HS3_72, kernelRun0_A.sl.HS3_67, kernelRun0_A.sl.HS3_66, kernelRun0_A.sl.HS3_65, kernelRun0_A.sl.HS3_64, kernelRun0_A.sl.HS3_63, ↓ View.readCov_skip, ↓ View.readCov_cons_toLoadRect]
  exact congrArg stored (score_sel (qi := 7) (c := 6) 3 rfl (by decide) _ (kb_6 E) (qb_7 E) fun r => (row_apply 3 _ _ r).trans (sel_7 E 3 r (by decide)))

/-- The scores of tile 7 against query block 7, read back. -/
theorem ld_7_7 : kernelRun0_A.sl.v2306 E.c E.arg2 E.harg2 E.arg3 E.harg3 E.arg6 E.arg8 E.arg9 E.x0 E.x1 = stored (score E.K E.Q 7 7) := by
  simp (disch := decide) only [kernelRun0_A.sl.v2306, kernelRun0_A.sl.HS3_72, kernelRun0_A.sl.HS3_67, kernelRun0_A.sl.HS3_66, kernelRun0_A.sl.HS3_65, kernelRun0_A.sl.HS3_64, ↓ View.readCov_skip, ↓ View.readCov_cons_toLoadRect]
  exact congrArg stored (score_sel (qi := 7) (c := 7) 3 rfl (by decide) _ (kb_7 E) (qb_7 E) fun r => (row_apply 3 _ _ r).trans (sel_7 E 3 r (by decide)))

/-- The scores of tile 8 against query block 7, read back. -/
theorem ld_7_8 : kernelRun0_A.sl.v2321 E.c E.arg2 E.harg2 E.arg3 E.harg3 E.arg6 E.arg8 E.arg9 E.x0 E.x1 = stored (score E.K E.Q 7 8) := by
  simp (disch := decide) only [kernelRun0_A.sl.v2321, kernelRun0_A.sl.HS3_72, kernelRun0_A.sl.HS3_67, kernelRun0_A.sl.HS3_66, kernelRun0_A.sl.HS3_65, ↓ View.readCov_skip, ↓ View.readCov_cons_toLoadRect]
  exact congrArg stored (score_sel (qi := 7) (c := 8) 4 rfl (by decide) _ (kb_8 E) (qb_7 E) fun r => (row_apply 4 _ _ r).trans (sel_7 E 4 r (by decide)))

/-- The scores of tile 9 against query block 7, read back. -/
theorem ld_7_9 : kernelRun0_A.sl.v2332 E.c E.arg2 E.harg2 E.arg3 E.harg3 E.arg6 E.arg8 E.arg9 E.x0 E.x1 = stored (score E.K E.Q 7 9) := by
  simp (disch := decide) only [kernelRun0_A.sl.v2332, kernelRun0_A.sl.HS3_72, kernelRun0_A.sl.HS3_67, kernelRun0_A.sl.HS3_66, ↓ View.readCov_skip, ↓ View.readCov_cons_toLoadRect]
  exact congrArg stored (score_sel (qi := 7) (c := 9) 4 rfl (by decide) _ (kb_9 E) (qb_7 E) fun r => (row_apply 4 _ _ r).trans (sel_7 E 4 r (by decide)))

/-- The scores of tile 10 against query block 7, read back. -/
theorem ld_7_10 : kernelRun0_A.sl.v2347 E.c E.arg2 E.harg2 E.arg3 E.harg3 E.arg6 E.arg8 E.arg9 E.x0 E.x1 = stored (score E.K E.Q 7 10) := by
  simp (disch := decide) only [kernelRun0_A.sl.v2347, kernelRun0_A.sl.HS3_72, kernelRun0_A.sl.HS3_67, ↓ View.readCov_skip, ↓ View.readCov_cons_toLoadRect]
  exact congrArg stored (score_sel (qi := 7) (c := 10) 5 rfl (by decide) _ (kb_10 E) (qb_7 E) fun r => (row_apply 5 _ _ r).trans (sel_7 E 5 r (by decide)))

/-- The scores of tile 11 against query block 7, read back. -/
theorem ld_7_11 : kernelRun0_A.sl.v2358 E.c E.arg2 E.harg2 E.arg3 E.harg3 E.arg6 E.arg8 E.arg9 E.x0 E.x1 = stored (score E.K E.Q 7 11) := by
  simp (disch := decide) only [kernelRun0_A.sl.v2358, kernelRun0_A.sl.HS3_72, ↓ View.readCov_skip, ↓ View.readCov_cons_toLoadRect]
  exact congrArg stored (score_sel (qi := 7) (c := 11) 5 rfl (by decide) _ (kb_11 E) (qb_7 E) fun r => (row_apply 5 _ _ r).trans (sel_7 E 5 r (by decide)))

/-- The scores of tile 12 against query block 7, read back. -/
theorem ld_7_12 : kernelRun0_A.sl.v2373 E.c E.arg2 E.harg2 E.arg3 E.harg3 E.arg6 E.arg8 E.arg9 E.x0 E.x1 = stored (score E.K E.Q 7 12) := by
  simp (disch := decide) only [kernelRun0_A.sl.v2373, kernelRun0_A.sl.HS3_72, ↓ View.readCov_skip, ↓ View.readCov_cons_toLoadRect]
  exact congrArg stored (score_sel (qi := 7) (c := 12) 6 rfl (by decide) _ (kb_12 E) (qb_7 E) fun r => (row_apply 6 _ _ r).trans (sel_7 E 6 r (by decide)))

/-- The scores of tile 13 against query block 7, read back. -/
theorem ld_7_13 : kernelRun0_A.sl.v2384 E.c E.arg2 E.harg2 E.arg3 E.harg3 E.arg6 E.arg8 E.arg9 E.x0 E.x1 = stored (score E.K E.Q 7 13) := by
  simp (disch := decide) only [kernelRun0_A.sl.v2384, kernelRun0_A.sl.HS3_72, ↓ View.readCov_skip, ↓ View.readCov_cons_toLoadRect]
  exact congrArg stored (score_sel (qi := 7) (c := 13) 6 rfl (by decide) _ (kb_13 E) (qb_7 E) fun r => (row_apply 6 _ _ r).trans (sel_7 E 6 r (by decide)))

/-- The scores of tile 14 against query block 7, read back. -/
theorem ld_7_14 : kernelRun0_A.sl.v2399 E.c E.arg2 E.harg2 E.arg3 E.harg3 E.arg6 E.arg8 E.arg9 E.x0 E.x1 = stored (score E.K E.Q 7 14) := by
  simp (disch := decide) only [kernelRun0_A.sl.v2399, kernelRun0_A.sl.HS3_72, ↓ View.readCov_skip, ↓ View.readCov_cons_toLoadRect]
  exact congrArg stored (score_own (qi := 7) (c := 14) (e := 0) rfl (by decide) 0#32 rfl (kb_14 E) (qb_7 E))

/-- The scores of tile 15 against query block 7, read back. -/
theorem ld_7_15 : kernelRun0_A.sl.v2410 E.c E.arg2 E.harg2 E.arg3 E.harg3 E.arg6 E.arg8 E.arg9 E.x0 E.x1 = stored (score E.K E.Q 7 15) := by
  simp (disch := decide) only [kernelRun0_A.sl.v2410, kernelRun0_A.sl.HS3_72, ↓ View.readCov_skip, ↓ View.readCov_cons_toLoadRect]
  exact congrArg stored (score_own (qi := 7) (c := 15) (e := 1) rfl (by decide) 128#32 rfl (kb_15 E) (qb_7 E))

/-- The maximum subtracted for query block 7 is real. -/
theorem max_7 : IsReal (kernelRun0_A.sl.r_50 E.c E.arg2 E.harg2 E.arg3 E.harg3 E.arg6 E.arg8 E.x0 E.x1) :=
  max_real_left (max_real_right (max_notTop (max_notTop (max_notTop (max_notTop (max_notTop (max_notTop (max_notTop (max_notTop (max_notTop (max_notTop (max_notTop (max_notTop (max_notTop (colmax_nt (score_sel (qi := 7) (c := 0) 0 rfl (by decide) _ (kb_0 E) (qb_7 E) fun r => (row_apply 0 _ _ r).trans (sel_7 E 0 r (by decide))))
    (colmax_nt (score_sel (qi := 7) (c := 1) 0 rfl (by decide) _ (kb_1 E) (qb_7 E) fun r => (row_apply 0 _ _ r).trans (sel_7 E 0 r (by decide)))))
    (colmax_nt (score_sel (qi := 7) (c := 2) 1 rfl (by decide) _ (kb_2 E) (qb_7 E) fun r => (row_apply 1 _ _ r).trans (sel_7 E 1 r (by decide)))))
    (colmax_nt (score_sel (qi := 7) (c := 3) 1 rfl (by decide) _ (kb_3 E) (qb_7 E) fun r => (row_apply 1 _ _ r).trans (sel_7 E 1 r (by decide)))))
    (colmax_nt (score_sel (qi := 7) (c := 4) 2 rfl (by decide) _ (kb_4 E) (qb_7 E) fun r => (row_apply 2 _ _ r).trans (sel_7 E 2 r (by decide)))))
    (colmax_nt (score_sel (qi := 7) (c := 5) 2 rfl (by decide) _ (kb_5 E) (qb_7 E) fun r => (row_apply 2 _ _ r).trans (sel_7 E 2 r (by decide)))))
    (colmax_nt (score_sel (qi := 7) (c := 6) 3 rfl (by decide) _ (kb_6 E) (qb_7 E) fun r => (row_apply 3 _ _ r).trans (sel_7 E 3 r (by decide)))))
    (colmax_nt (score_sel (qi := 7) (c := 7) 3 rfl (by decide) _ (kb_7 E) (qb_7 E) fun r => (row_apply 3 _ _ r).trans (sel_7 E 3 r (by decide)))))
    (colmax_nt (score_sel (qi := 7) (c := 8) 4 rfl (by decide) _ (kb_8 E) (qb_7 E) fun r => (row_apply 4 _ _ r).trans (sel_7 E 4 r (by decide)))))
    (colmax_nt (score_sel (qi := 7) (c := 9) 4 rfl (by decide) _ (kb_9 E) (qb_7 E) fun r => (row_apply 4 _ _ r).trans (sel_7 E 4 r (by decide)))))
    (colmax_nt (score_sel (qi := 7) (c := 10) 5 rfl (by decide) _ (kb_10 E) (qb_7 E) fun r => (row_apply 5 _ _ r).trans (sel_7 E 5 r (by decide)))))
    (colmax_nt (score_sel (qi := 7) (c := 11) 5 rfl (by decide) _ (kb_11 E) (qb_7 E) fun r => (row_apply 5 _ _ r).trans (sel_7 E 5 r (by decide)))))
    (colmax_nt (score_sel (qi := 7) (c := 12) 6 rfl (by decide) _ (kb_12 E) (qb_7 E) fun r => (row_apply 6 _ _ r).trans (sel_7 E 6 r (by decide)))))
    (colmax_nt (score_sel (qi := 7) (c := 13) 6 rfl (by decide) _ (kb_13 E) (qb_7 E) fun r => (row_apply 6 _ _ r).trans (sel_7 E 6 r (by decide)))))
    (colmax_real_of (score_own (qi := 7) (c := 14) (e := 0) rfl (by decide) 0#32 rfl (kb_14 E) (qb_7 E))))
    (colmax_nt (score_own (qi := 7) (c := 15) (e := 1) rfl (by decide) 128#32 rfl (kb_15 E) (qb_7 E)))

/-- The output block 7 as the quotient of the running sums. -/
theorem tile_7 : (k0_pay1 (kernelRun0_A.sl.r_76 E.c E.arg2 E.harg2 E.arg3 E.harg3 E.arg4 E.harg4 E.arg6 E.arg7 E.arg8 E.arg9 E.x0 E.x1 E.x2) (kernelRun0_A.sl.r_77 E.c E.arg2 E.harg2 E.arg3 E.harg3 E.arg6 E.arg8 E.arg9 E.x0 E.x1) (kernelRun0_A.sl.r_78 E.c E.arg2 E.harg2 E.arg3 E.harg3 E.arg6 E.arg8 E.arg9 E.x0 E.x1) (kernelRun0_A.sl.r_79 E.c E.arg2 E.harg2 E.arg3 E.harg3 E.arg6 E.arg8 E.arg9 E.x0 E.x1) (kernelRun0_A.sl.v2421 E.c E.arg4 E.harg4 E.arg7 E.x2) : FVec Ideal S1x256x128 .bf16)
    = finish (osum (kernelRun0_A.sl.r_50 E.c E.arg2 E.harg2 E.arg3 E.harg3 E.arg6 E.arg8 E.x0 E.x1) (fun c => stored (score E.K E.Q 7 c)) (vtile E) 8)
        (lsum (kernelRun0_A.sl.r_50 E.c E.arg2 E.harg2 E.arg3 E.harg3 E.arg6 E.arg8 E.x0 E.x1) (fun c => stored (score E.K E.Q 7 c)) 16) := by
  simp only [osum, lsum, Nat.reduceMul, Nat.reduceAdd]
  simp only [kernelRun0_A.sl.r_79, kernelRun0_A.sl.r_75, kernelRun0_A.sl.r_73, kernelRun0_A.sl.r_72, kernelRun0_A.sl.r_70, kernelRun0_A.sl.r_68, kernelRun0_A.sl.r_66, kernelRun0_A.sl.r_65, kernelRun0_A.sl.r_63, kernelRun0_A.sl.r_78, kernelRun0_A.sl.r_77, kernelRun0_A.sl.r_76, kernelRun0_A.sl.r_74, kernelRun0_A.sl.r_71, kernelRun0_A.sl.r_69, kernelRun0_A.sl.r_67, kernelRun0_A.sl.r_64, kernelRun0_A.sl.r_62, k0_pay361, k0_pay364, k0_pay363, k0_pay362, k0_pay367, k0_pay365, k0_pay369, k0_pay374, k0_pay372, k0_pay371, k0_pay370, k0_pay378, k0_pay377, k0_pay376, k0_pay381, k0_pay379, k0_pay386, k0_pay384, k0_pay383, k0_pay390, k0_pay389, k0_pay388, k0_pay392, k0_pay391, k0_pay393, k0_pay360, k0_pay366, k0_pay368, k0_pay373, k0_pay375, k0_pay380, k0_pay382, k0_pay385, k0_pay387, k0_pay394, k0_pay1,
    stack_eq, ld_7_0 E, ld_7_1 E, ld_7_2 E, ld_7_3 E, ld_7_4 E, ld_7_5 E, ld_7_6 E, ld_7_7 E, ld_7_8 E, ld_7_9 E, ld_7_10 E, ld_7_11 E, ld_7_12 E, ld_7_13 E, ld_7_14 E, ld_7_15 E, vt_0 E, vt_1 E, vt_2 E, vt_3 E, vt_4 E, vt_5 E, vt_6 E, vt_7 E]
  try rfl

end Cert.KernelAttnIdeal.Value

end

end
-- ==== Proof.AttnOut.lean ====
module

public import proofs.«01_k».proof.Proof.Gen.KernelAttnIdeal.Frame
public import proofs.«01_k».proof.Proof.AttnTilesA
public import proofs.«01_k».proof.Proof.AttnTiles4
public import proofs.«01_k».proof.Proof.AttnTiles5
public import proofs.«01_k».proof.Proof.AttnTiles6
public import proofs.«01_k».proof.Proof.AttnTiles7
public import Idealize.ShloMosaic.Lib.Pipeline.ReadBack

/-!
What one grid point of the attention kernel leaves in its output block: the attention of the head, at every position.
-/

@[expose] public section
set_option maxRecDepth 16384

noncomputable section

open Idealize.ShloMosaic Idealize.ShloMosaic.TcCoe Idealize.SL.Sem
open Idealize.ShloMosaic.Pipeline

namespace Cert.KernelAttnIdeal.Value

open Cert.KernelAttnIdeal Cert.KernelAttnIdeal.Gen Cert.Attn

variable (E : Point)

/-- What the kernel stores for query block 0 is the attention of its queries. -/
theorem piece_0 (r : Fin 256) (d : Fin 128) : (kernelRun0_A.sl.v200 E.c E.arg2 E.harg2 E.arg3 E.harg3 E.arg4 E.harg4 E.arg6 E.arg7 E.arg9 E.x0 E.x1 E.x2 : FVec Ideal S1x256x128 .bf16) (ix3 0 r d)
    = result E.K E.Q E.V (256 * 0 + r) d :=
  (congrFun (tile_0 E) _).trans (tile_apply (qi := 0) (by decide) (max_0 E) (fun c _ => rfl) (fun b _ d o => rfl) r d)

/-- What the kernel stores for query block 1 is the attention of its queries. -/
theorem piece_1 (r : Fin 256) (d : Fin 128) : (k0_pay54 (kernelRun0_A.sl.r E.c E.arg2 E.harg2 E.arg3 E.harg3 E.arg6 E.x0 E.x1) (kernelRun0_A.sl.r_2 E.c E.arg2 E.harg2 E.arg3 E.harg3 E.arg4 E.harg4 E.arg6 E.arg7 E.arg9 E.x0 E.x1 E.x2) (kernelRun0_A.sl.r_3 E.c E.arg2 E.harg2 E.arg3 E.harg3 E.arg6 E.arg9 E.x0 E.x1) (kernelRun0_A.sl.r_4 E.c E.arg2 E.harg2 E.arg3 E.harg3 E.arg6 E.arg9 E.x0 E.x1) (kernelRun0_A.sl.v300 E.c E.arg2 E.harg2 E.arg3 E.harg3 E.arg6 E.arg9 E.x0 E.x1) (kernelRun0_A.sl.v311 E.c E.arg4 E.harg4 E.arg7 E.x2) : FVec Ideal S1x256x128 .bf16) (ix3 0 r d)
    = result E.K E.Q E.V (256 * 1 + r) d :=
  (congrFun (tile_1 E) _).trans (tile_apply (qi := 1) (by decide) (max_1 E) (fun c _ => rfl) (fun b _ d o => rfl) r d)

/-- What the kernel stores for query block 2 is the attention of its queries. -/
theorem piece_2 (r : Fin 256) (d : Fin 128) : (kernelRun0_A.sl.v488 E.c E.arg2 E.harg2 E.arg3 E.harg3 E.arg4 E.harg4 E.arg6 E.arg7 E.arg9 E.x0 E.x1 E.x2 : FVec Ideal S1x256x128 .bf16) (ix3 0 r d)
    = result E.K E.Q E.V (256 * 2 + r) d :=
  (congrFun (tile_2 E) _).trans (tile_apply (qi := 2) (by decide) (max_2 E) (fun c _ => rfl) (fun b _ d o => rfl) r d)

/-- What the kernel stores for query block 3 is the attention of its queries. -/
theorem piece_3 (r : Fin 256) (d : Fin 128) : (k0_pay144 (kernelRun0_A.sl.r_7 E.c E.arg2 E.harg2 E.arg3 E.harg3 E.arg6 E.x0 E.x1) (kernelRun0_A.sl.r_21 E.c E.arg2 E.harg2 E.arg3 E.harg3 E.arg6 E.arg8 E.arg9 E.x0 E.x1) (kernelRun0_A.sl.r_22 E.c E.arg2 E.harg2 E.arg3 E.harg3 E.arg4 E.harg4 E.arg6 E.arg7 E.arg8 E.arg9 E.x0 E.x1 E.x2) (kernelRun0_A.sl.v782 E.c E.arg2 E.harg2 E.arg3 E.harg3 E.arg6 E.arg8 E.arg9 E.x0 E.x1) (kernelRun0_A.sl.v793 E.c E.arg2 E.harg2 E.arg3 E.harg3 E.arg6 E.arg8 E.arg9 E.x0 E.x1) (kernelRun0_A.sl.v804 E.c E.arg4 E.harg4 E.arg7 E.x2) : FVec Ideal S1x256x128 .bf16) (ix3 0 r d)
    = result E.K E.Q E.V (256 * 3 + r) d :=
  (congrFun (tile_3 E) _).trans (tile_apply (qi := 3) (by decide) (max_3 E) (fun c _ => rfl) (fun b _ d o => rfl) r d)

/-- What the kernel stores for query block 4 is the attention of its queries. -/
theorem piece_4 (r : Fin 256) (d : Fin 128) : (kernelRun0_A.sl.v1213 E.c E.arg2 E.harg2 E.arg3 E.harg3 E.arg4 E.harg4 E.arg6 E.arg7 E.arg8 E.arg9 E.x0 E.x1 E.x2 : FVec Ideal S1x256x128 .bf16) (ix3 0 r d)
    = result E.K E.Q E.V (256 * 4 + r) d :=
  (congrFun (tile_4 E) _).trans (tile_apply (qi := 4) (by decide) (max_4 E) (fun c _ => rfl) (fun b _ d o => rfl) r d)

/-- What the kernel stores for query block 5 is the attention of its queries. -/
theorem piece_5 (r : Fin 256) (d : Fin 128) : (kernelRun0_A.sl.v1679 E.c E.arg2 E.harg2 E.arg3 E.harg3 E.arg4 E.harg4 E.arg6 E.arg7 E.arg8 E.arg9 E.x0 E.x1 E.x2 : FVec Ideal S1x256x128 .bf16) (ix3 0 r d)
    = result E.K E.Q E.V (256 * 5 + r) d :=
  (congrFun (tile_5 E) _).trans (tile_apply (qi := 5) (by decide) (max_5 E) (fun c _ => rfl) (fun b _ d o => rfl) r d)

/-- What the kernel stores for query block 6 is the attention of its queries. -/
theorem piece_6 (r : Fin 256) (d : Fin 128) : (k0_pay359 (kernelRun0_A.sl.v1512 E.c E.arg2 E.harg2 E.arg3 E.harg3 E.arg6 E.arg8 E.x0 E.x1) (kernelRun0_A.sl.r_60 E.c E.arg2 E.harg2 E.arg3 E.harg3 E.arg6 E.arg8 E.arg9 E.x0 E.x1) (kernelRun0_A.sl.r_61 E.c E.arg2 E.harg2 E.arg3 E.harg3 E.arg4 E.harg4 E.arg6 E.arg7 E.arg8 E.arg9 E.x0 E.x1 E.x2) (kernelRun0_A.sl.v2180 E.c E.arg2 E.harg2 E.arg3 E.harg3 E.arg6 E.arg8 E.arg9 E.x0 E.x1) (kernelRun0_A.sl.v2191 E.c E.arg2 E.harg2 E.arg3 E.harg3 E.arg6 E.arg8 E.arg9 E.x0 E.x1) (kernelRun0_A.sl.v2202 E.c E.arg4 E.harg4 E.arg7 E.x2) : FVec Ideal S1x256x128 .bf16) (ix3 0 r d)
    = result E.K E.Q E.V (256 * 6 + r) d :=
  (congrFun (tile_6 E) _).trans (tile_apply (qi := 6) (by decide) (max_6 E) (fun c _ => rfl) (fun b _ d o => rfl) r d)

/-- What the kernel stores for query block 7 is the attention of its queries. -/
theorem piece_7 (r : Fin 256) (d : Fin 128) : (k0_pay1 (kernelRun0_A.sl.r_76 E.c E.arg2 E.harg2 E.arg3 E.harg3 E.arg4 E.harg4 E.arg6 E.arg7 E.arg8 E.arg9 E.x0 E.x1 E.x2) (kernelRun0_A.sl.r_77 E.c E.arg2 E.harg2 E.arg3 E.harg3 E.arg6 E.arg8 E.arg9 E.x0 E.x1) (kernelRun0_A.sl.r_78 E.c E.arg2 E.harg2 E.arg3 E.harg3 E.arg6 E.arg8 E.arg9 E.x0 E.x1) (kernelRun0_A.sl.r_79 E.c E.arg2 E.harg2 E.arg3 E.harg3 E.arg6 E.arg8 E.arg9 E.x0 E.x1) (kernelRun0_A.sl.v2421 E.c E.arg4 E.harg4 E.arg7 E.x2) : FVec Ideal S1x256x128 .bf16) (ix3 0 r d)
    = result E.K E.Q E.V (256 * 7 + r) d :=
  (congrFun (tile_7 E) _).trans (tile_apply (qi := 7) (by decide) (max_7 E) (fun c _ => rfl) (fun b _ d o => rfl) r d)

/-- The attention of the head, as the block of the output holds it. -/
def attended (y : S1x2048x128.Idx) : EReal := result E.K E.Q E.V (y 1) (y 2)

/-- The stores into the output block, last first. -/
def stores : List (View.Piece (Elt Ideal) S1x2048x128 .bf16) :=
  [⟨Rect.unit (s := S1x2048x128) ![0, 1792, 0] S1x256x128.size inb_S1x2048x128_S1x256x128_0_1792_0, k0_pay1 (kernelRun0_A.sl.r_76 E.c E.arg2 E.harg2 E.arg3 E.harg3 E.arg4 E.harg4 E.arg6 E.arg7 E.arg8 E.arg9 E.x0 E.x1 E.x2) (kernelRun0_A.sl.r_77 E.c E.arg2 E.harg2 E.arg3 E.harg3 E.arg6 E.arg8 E.arg9 E.x0 E.x1) (kernelRun0_A.sl.r_78 E.c E.arg2 E.harg2 E.arg3 E.harg3 E.arg6 E.arg8 E.arg9 E.x0 E.x1) (kernelRun0_A.sl.r_79 E.c E.arg2 E.harg2 E.arg3 E.harg3 E.arg6 E.arg8 E.arg9 E.x0 E.x1) (kernelRun0_A.sl.v2421 E.c E.arg4 E.harg4 E.arg7 E.x2)⟩,
   ⟨Rect.unit (s := S1x2048x128) ![0, 1536, 0] S1x256x128.size inb_S1x2048x128_S1x256x128_0_1536_0, k0_pay359 (kernelRun0_A.sl.v1512 E.c E.arg2 E.harg2 E.arg3 E.harg3 E.arg6 E.arg8 E.x0 E.x1) (kernelRun0_A.sl.r_60 E.c E.arg2 E.harg2 E.arg3 E.harg3 E.arg6 E.arg8 E.arg9 E.x0 E.x1) (kernelRun0_A.sl.r_61 E.c E.arg2 E.harg2 E.arg3 E.harg3 E.arg4 E.harg4 E.arg6 E.arg7 E.arg8 E.arg9 E.x0 E.x1 E.x2) (kernelRun0_A.sl.v2180 E.c E.arg2 E.harg2 E.arg3 E.harg3 E.arg6 E.arg8 E.arg9 E.x0 E.x1) (kernelRun0_A.sl.v2191 E.c E.arg2 E.harg2 E.arg3 E.harg3 E.arg6 E.arg8 E.arg9 E.x0 E.x1) (kernelRun0_A.sl.v2202 E.c E.arg4 E.harg4 E.arg7 E.x2)⟩,
   ⟨Rect.unit (s := S1x2048x128) ![0, 1280, 0] S1x256x128.size inb_S1x2048x128_S1x256x128_0_1280_0, kernelRun0_A.sl.v1679 E.c E.arg2 E.harg2 E.arg3 E.harg3 E.arg4 E.harg4 E.arg6 E.arg7 E.arg8 E.arg9 E.x0 E.x1 E.x2⟩,
   ⟨Rect.unit (s := S1x2048x128) ![0, 1024, 0] S1x256x128.size inb_S1x2048x128_S1x256x128_0_1024_0, kernelRun0_A.sl.v1213 E.c E.arg2 E.harg2 E.arg3 E.harg3 E.arg4 E.harg4 E.arg6 E.arg7 E.arg8 E.arg9 E.x0 E.x1 E.x2⟩,
   ⟨Rect.unit (s := S1x2048x128) ![0, 768, 0] S1x256x128.size inb_S1x2048x128_S1x256x128_0_768_0, k0_pay144 (kernelRun0_A.sl.r_7 E.c E.arg2 E.harg2 E.arg3 E.harg3 E.arg6 E.x0 E.x1) (kernelRun0_A.sl.r_21 E.c E.arg2 E.harg2 E.arg3 E.harg3 E.arg6 E.arg8 E.arg9 E.x0 E.x1) (kernelRun0_A.sl.r_22 E.c E.arg2 E.harg2 E.arg3 E.harg3 E.arg4 E.harg4 E.arg6 E.arg7 E.arg8 E.arg9 E.x0 E.x1 E.x2) (kernelRun0_A.sl.v782 E.c E.arg2 E.harg2 E.arg3 E.harg3 E.arg6 E.arg8 E.arg9 E.x0 E.x1) (kernelRun0_A.sl.v793 E.c E.arg2 E.harg2 E.arg3 E.harg3 E.arg6 E.arg8 E.arg9 E.x0 E.x1) (kernelRun0_A.sl.v804 E.c E.arg4 E.harg4 E.arg7 E.x2)⟩,
   ⟨Rect.unit (s := S1x2048x128) ![0, 512, 0] S1x256x128.size inb_S1x2048x128_S1x256x128_0_512_0, kernelRun0_A.sl.v488 E.c E.arg2 E.harg2 E.arg3 E.harg3 E.arg4 E.harg4 E.arg6 E.arg7 E.arg9 E.x0 E.x1 E.x2⟩,
   ⟨Rect.unit (s := S1x2048x128) ![0, 256, 0] S1x256x128.size inb_S1x2048x128_S1x256x128_0_256_0, k0_pay54 (kernelRun0_A.sl.r E.c E.arg2 E.harg2 E.arg3 E.harg3 E.arg6 E.x0 E.x1) (kernelRun0_A.sl.r_2 E.c E.arg2 E.harg2 E.arg3 E.harg3 E.arg4 E.harg4 E.arg6 E.arg7 E.arg9 E.x0 E.x1 E.x2) (kernelRun0_A.sl.r_3 E.c E.arg2 E.harg2 E.arg3 E.harg3 E.arg6 E.arg9 E.x0 E.x1) (kernelRun0_A.sl.r_4 E.c E.arg2 E.harg2 E.arg3 E.harg3 E.arg6 E.arg9 E.x0 E.x1) (kernelRun0_A.sl.v300 E.c E.arg2 E.harg2 E.arg3 E.harg3 E.arg6 E.arg9 E.x0 E.x1) (kernelRun0_A.sl.v311 E.c E.arg4 E.harg4 E.arg7 E.x2)⟩,
   ⟨Rect.unit (s := S1x2048x128) ![0, 0, 0] S1x256x128.size inb_S1x2048x128_S1x256x128_0_0_0, kernelRun0_A.sl.v200 E.c E.arg2 E.harg2 E.arg3 E.harg3 E.arg4 E.harg4 E.arg6 E.arg7 E.arg9 E.x0 E.x1 E.x2⟩]

/-- Every store holds the attention of its queries. -/
theorem stores_attended : View.PiecesOf (Val := Elt Ideal) (attended E) (stores E) :=
  ⟨fun (x : S1x256x128.Idx) => by idx_vars x; rw [Subsingleton.elim x0 0]; exact (piece_7 E x1 x2).trans (congrArg₂ (result E.K E.Q E.V) (show 256 * 7 + (x1 : ℕ) = 1792 + 1 * x1 by omega) (show (x2 : ℕ) = 0 + 1 * x2 by omega)),
   fun (x : S1x256x128.Idx) => by idx_vars x; rw [Subsingleton.elim x0 0]; exact (piece_6 E x1 x2).trans (congrArg₂ (result E.K E.Q E.V) (show 256 * 6 + (x1 : ℕ) = 1536 + 1 * x1 by omega) (show (x2 : ℕ) = 0 + 1 * x2 by omega)),
   fun (x : S1x256x128.Idx) => by idx_vars x; rw [Subsingleton.elim x0 0]; exact (piece_5 E x1 x2).trans (congrArg₂ (result E.K E.Q E.V) (show 256 * 5 + (x1 : ℕ) = 1280 + 1 * x1 by omega) (show (x2 : ℕ) = 0 + 1 * x2 by omega)),
   fun (x : S1x256x128.Idx) => by idx_vars x; rw [Subsingleton.elim x0 0]; exact (piece_4 E x1 x2).trans (congrArg₂ (result E.K E.Q E.V) (show 256 * 4 + (x1 : ℕ) = 1024 + 1 * x1 by omega) (show (x2 : ℕ) = 0 + 1 * x2 by omega)),
   fun (x : S1x256x128.Idx) => by idx_vars x; rw [Subsingleton.elim x0 0]; exact (piece_3 E x1 x2).trans (congrArg₂ (result E.K E.Q E.V) (show 256 * 3 + (x1 : ℕ) = 768 + 1 * x1 by omega) (show (x2 : ℕ) = 0 + 1 * x2 by omega)),
   fun (x : S1x256x128.Idx) => by idx_vars x; rw [Subsingleton.elim x0 0]; exact (piece_2 E x1 x2).trans (congrArg₂ (result E.K E.Q E.V) (show 256 * 2 + (x1 : ℕ) = 512 + 1 * x1 by omega) (show (x2 : ℕ) = 0 + 1 * x2 by omega)),
   fun (x : S1x256x128.Idx) => by idx_vars x; rw [Subsingleton.elim x0 0]; exact (piece_1 E x1 x2).trans (congrArg₂ (result E.K E.Q E.V) (show 256 * 1 + (x1 : ℕ) = 256 + 1 * x1 by omega) (show (x2 : ℕ) = 0 + 1 * x2 by omega)),
   fun (x : S1x256x128.Idx) => by idx_vars x; rw [Subsingleton.elim x0 0]; exact (piece_0 E x1 x2).trans (congrArg₂ (result E.K E.Q E.V) (show 256 * 0 + (x1 : ℕ) = 0 + 1 * x1 by omega) (show (x2 : ℕ) = 0 + 1 * x2 by omega)), trivial⟩

/-- The output block after one grid point is the attention of the head. -/
theorem block_attended (i : grid0.Coords) (arg5 : Memref sig .tc .vmem S1x2048x128 .bf16) (harg5 : arg5.IsWhole)
    (harg6 : E.arg6.IsWhole) (harg7 : E.arg7.IsWhole) (harg8 : E.arg8.IsWhole) (harg9 : E.arg9.IsWhole) (y : S1x2048x128.Idx) :
    out0_A_3 E.c i E.arg2 E.harg2 E.arg3 E.harg3 E.arg4 E.harg4 arg5 harg5 E.arg6 harg6 E.arg7 harg7 E.arg8 harg8 E.arg9 harg9
      E.x0 E.x1 E.x2 y = attended E y := by
  have hL : (kernelRun0_A E.c i E.arg2 E.harg2 E.arg3 E.harg3 E.arg4 E.harg4 arg5 harg5 E.arg6 harg6 E.arg7 harg7 E.arg8 harg8
      E.arg9 harg9 E.x0 E.x1 E.x2).1 = stores E := rfl
  have hc := cover0_A_3 E.c i E.arg2 E.harg2 E.arg3 E.harg3 E.arg4 E.harg4 arg5 harg5 E.arg6 harg6 E.arg7 harg7 E.arg8 harg8
    E.arg9 harg9 E.x0 E.x1 E.x2 y
  unfold out0_A_3
  rw [hL] at hc ⊢
  exact View.read_writes_apply_of_pieces VO0_3 _ (attended E) _ (stores_attended E).mem y hc

end Cert.KernelAttnIdeal.Value

end

end
-- ==== Proof.AttnHeads.lean ====
module

public import proofs.«01_k».proof.Proof.AttnSpec
public import Idealize.ShloMosaic.PureOps.Ideal

/-!
The attention of every head of every batch row, over the arrays of queries, keys and values.
-/

@[expose] public section

noncomputable section

open Idealize.ShloMosaic

namespace Cert.Attn

/-- The shape of queries, keys, values and result: batch, position, and the lanes of the eight heads side by side. -/
abbrev Sqkv : Shape := ⟨3, ![8, 2048, 1024]⟩

/-- The table of head `h` of batch row `b`: position and lane. -/
def head (x : Sqkv.Idx → EReal) (b h s d : ℕ) : EReal :=
  x (ix3 (Fin.ofNat 8 b) (Fin.ofNat 2048 s) (Fin.ofNat 1024 (128 * h + d)))

/-- The same table as real numbers. -/
def headR (x : Sqkv.Idx → EReal) (b h s d : ℕ) : ℝ := (head x b h s d).toReal

/-- Every entry is a real number. -/
def Finite (x : Sqkv.Idx → EReal) : Prop := ∀ i, x i = ((x i).toReal : EReal)

theorem Finite.head {x : Sqkv.Idx → EReal} (hx : Finite x) (b h s d : ℕ) : Attn.head x b h s d = ((headR x b h s d : ℝ) : EReal) :=
  hx _

/-- The attention of all heads. -/
def attention (q k v : Sqkv.Idx → EReal) (i : Sqkv.Idx) : EReal :=
  result (headR k (i 0) ((i 2 : ℕ) / 128)) (headR q (i 0) ((i 2 : ℕ) / 128)) (head v (i 0) ((i 2 : ℕ) / 128)) (i 1) ((i 2 : ℕ) % 128)

end Cert.Attn

end

end
-- ==== Proof.AttnValue.lean ====
module

public import proofs.«01_k».proof.Proof.AttnOut
public import proofs.«01_k».proof.Proof.AttnHeads
public import Idealize.ShloMosaic.Lib.Pipeline.ValueKit

/-!
The value of the attention kernel over the extended reals: after its 64 points, one per batch row and head, the result
array is the attention of all heads.
-/

@[expose] public section
set_option maxRecDepth 16384

noncomputable section

open Idealize.ShloMosaic Idealize.ShloMosaic.TcCoe Idealize.SL.Sem
open Idealize.ShloMosaic.Pipeline (Dat)

namespace Cert.KernelAttnIdeal.Value

open Cert.KernelAttnIdeal Cert.KernelAttnIdeal.Gen Cert.Attn

variable (m : (ℓ : Loc nD τ sig) → Buf (Elt Ideal) ℓ)

/-- The block every window stands at, at every grid point. -/
theorem idx_val : ∀ t : Fin cfg0.N, win0_0.index t = ![t.val / 8, 0, t.val % 8]
    ∧ win0_1.index t = ![t.val / 8, 0, t.val % 8]
    ∧ win0_2.index t = ![t.val / 8, 0, t.val % 8]
    ∧ win0_3.index t = ![t.val / 8, 0, t.val % 8] :=
  (by decide +kernel : ∀ t : Fin grid0.N, _)

/-- The queries' block at a grid point is the table of that point's head. -/
theorem block_q (c : Dev nD) (t : Fin cfg0.N) (s : Fin 2048) (d : Fin 128) :
    iblk m c 0 t (ix3 0 s d) = head (m ((c : Thread nD τ).loc main_arg0)) (t.val / 8) (t.val % 8) s d := by
  unfold head
  blk_point [iblk, V, idx_val t]
  all_goals (simp only [Fin.val_ofNat]; omega)

/-- The keys' block at a grid point is the table of that point's head. -/
theorem block_k (c : Dev nD) (t : Fin cfg0.N) (s : Fin 2048) (d : Fin 128) :
    iblk m c 1 t (ix3 0 s d) = head (m ((c : Thread nD τ).loc main_arg1)) (t.val / 8) (t.val % 8) s d := by
  unfold head
  blk_point [iblk, V, idx_val t]
  all_goals (simp only [Fin.val_ofNat]; omega)

/-- The values' block at a grid point is the table of that point's head. -/
theorem block_v (c : Dev nD) (t : Fin cfg0.N) (s : Fin 2048) (d : Fin 128) :
    iblk m c 2 t (ix3 0 s d) = head (m ((c : Thread nD τ).loc main_arg2)) (t.val / 8) (t.val % 8) s d := by
  unfold head
  blk_point [iblk, V, idx_val t]
  all_goals (simp only [Fin.val_ofNat]; omega)

/-- The grid point as the kernel's run meets it. -/
def pointAt (c : Dev nD) (t : Fin cfg0.N) (hq : Finite (m ((c : Thread nD τ).loc main_arg0)))
    (hk : Finite (m ((c : Thread nD τ).loc main_arg1))) : Point where
  K := headR (m ((c : Thread nD τ).loc main_arg1)) (t.val / 8) (t.val % 8)
  Q := headR (m ((c : Thread nD τ).loc main_arg0)) (t.val / 8) (t.val % 8)
  V := head (m ((c : Thread nD τ).loc main_arg2)) (t.val / 8) (t.val % 8)
  c := c
  arg2 := ms0_0 t
  harg2 := hs0_0 t
  arg3 := ms0_1 t
  harg3 := hs0_1 t
  arg4 := ms0_2 t
  harg4 := hs0_2 t
  arg6 := scM0_0
  arg7 := scM0_1
  arg8 := scM0_2
  arg9 := scM0_3
  x0 := iblk m c 0 t
  x1 := iblk m c 1 t
  x2 := iblk m c 2 t
  hq s d := (block_q m c t s d).trans (hq.head _ _ _ _)
  hk s d := (block_k m c t s d).trans (hk.head _ _ _ _)
  hv s d := block_v m c t s d

/-- The kernel's result array after the run is the attention of all heads. -/
theorem final (c : Dev nD) (hq : Finite (m ((c : Thread nD τ).loc main_arg0)))
    (hk : Finite (m ((c : Thread nD τ).loc main_arg1))) : (dats m 0 c).arrAt 3 (cfgs 0).N
    = attention (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp; rw [after0_3]
  refine (block_attended (pointAt m c t hq hk) (grid0.coords t) (ms0_3 t) (hs0_3 t) (Memref.isWhole_whole _)
    (Memref.isWhole_whole _) (Memref.isWhole_whole _) (Memref.isWhole_whole _) y).trans ?_
  have h0 : ((((cfg0.win 3).blk t).view.emb y 0 : Fin 8) : ℕ) = t.val / 8 := by blk_simp; simp [idx_val t]
  have h1 : ((((cfg0.win 3).blk t).view.emb y 1 : Fin 2048) : ℕ) = (y 1 : ℕ) := by blk_simp; simp [idx_val t]
  have h2 : ((((cfg0.win 3).blk t).view.emb y 2 : Fin 1024) : ℕ) = t.val % 8 * 128 + (y 2 : ℕ) := by blk_simp; simp [idx_val t]
  have h3 : (y 2 : ℕ) < 128 := (y 2).isLt
  show result _ _ _ _ _ = attention _ _ _ _
  unfold attention
  rw [h0, h1, h2, show (t.val % 8 * 128 + (y 2 : ℕ)) / 128 = t.val % 8 by omega,
    show (t.val % 8 * 128 + (y 2 : ℕ)) % 128 = y 2 by omega]
  rfl

end Cert.KernelAttnIdeal.Value

end

end
-- ==== Proof.AttnPick.lean ====
module

public import proofs.«01_k».proof.Proof.AttnSpec
public import Idealize.ShloMosaic.Lib.SortFacts
public import Idealize.ShloMosaic.Lib.SortPrefix
public import Idealize.ShloMosaic.PureOps.ShapeOps

/-!
Choosing blocks by a sort.

A stable sort of the eight block scores, greatest first, puts in front the blocks that fewer than three others come
before. A sum over the keys gathered from the three blocks in front and the query's own block is therefore the sum over
the keys the query sees.
-/

@[expose] public section

noncomputable section

namespace Cert.Attn

open Finset Idealize.ShloMosaic

/-- A stable sort of positions in increasing order depends only on how a later position compares with an earlier one. -/
theorem stableSort_later {n : ℕ} (B B' : Fin n → Fin n → Bool) (h : ∀ a b, a < b → B b a = B' b a) (l : List (Fin n))
    (hl : l.Pairwise (· < ·)) : stableSort B l = stableSort B' l := by
  induction l with
  | nil => rfl
  | cons a l ih =>
    rw [List.pairwise_cons] at hl
    unfold stableSort
    rw [ih hl.2]
    exact insertBefore_congr _ _ _ _ fun b hb => h a b (hl.1 b ((perm_stableSort _ _).mem_iff.1 hb))

theorem sortedFrom_later {n : ℕ} (B B' : Fin n → Fin n → Bool) (h : ∀ a b, a < b → B b a = B' b a) :
    sortedFrom B = sortedFrom B' := by
  have e : sortPositions n B = sortPositions n B' := stableSort_later B B' h _ (List.pairwise_lt_finRange n)
  funext k
  unfold sortedFrom
  rw [List.get_of_eq e]
  rfl

/-- In a strict total order, `i` positions come before the one sorted to place `i`. -/
theorem card_before_sorted {n : ℕ} {B : Fin n → Fin n → Bool} (hB : StrictTotalBefore B) (i : Fin n) :
    #{m | B m (sortedFrom B i) = true} = (i : ℕ) := by
  have hno : ∀ i j : Fin n, i < j → B (sortedFrom B j) (sortedFrom B i) = false :=
    sortedFrom_noInversion B B hB.asymm (fun _ _ h => h) hB.negTrans
  have : ({m | B m (sortedFrom B i) = true} : Finset (Fin n)) = (Finset.Iio i).image (sortedFrom B) := by
    ext m
    obtain ⟨j, rfl⟩ := sortedFrom_surjective B m
    simp only [mem_filter, mem_univ, true_and, mem_image, mem_Iio]
    constructor
    · intro h
      refine ⟨j, ?_, rfl⟩
      by_contra hj
      rcases (not_lt.1 hj).eq_or_lt with e | hlt
      · subst e; rw [hB.irrefl] at h; exact absurd h (by decide)
      · rw [hno _ _ hlt] at h; exact absurd h (by decide)
    · rintro ⟨j', hj', e⟩
      obtain rfl := sortedFrom_injective B e
      have hne : sortedFrom B j' ≠ sortedFrom B i := fun e => hj'.ne (sortedFrom_injective B e)
      rcases hB.total _ _ hne with h | h
      · exact h
      · rw [hno _ _ hj'] at h; exact absurd h (by decide)
  rw [this, card_image_of_injective _ (sortedFrom_injective B), Fin.card_Iio]

open Classical in
/-- A greater key comes first. -/
def ahead (key : Fin 8 → EReal) (k k' : Fin 8) : Bool := decide (key k' < key k)

open Classical in
/-- A greater key comes first, and of equal keys the earlier position. -/
def aheadTie (key : Fin 8 → EReal) (k k' : Fin 8) : Bool :=
  decide (key k' < key k) || (decide (key k = key k') && decide (k < k'))

theorem aheadTie_total (key : Fin 8 → EReal) : StrictTotalBefore (aheadTie key) := by
  classical
  have h := StrictTotalBefore.of_key_then_position (fun a b : EReal => decide (b < a)) key (by simp)
    (fun a b c hab hbc => by simp only [decide_eq_true_eq] at *; exact hbc.trans hab)
    (fun a b => by simp only [decide_eq_true_eq]; exact (lt_trichotomy b a).imp_right (Or.imp_left Eq.symm))
  unfold aheadTie
  convert h

/-- The block in place `j` of the sorted eight. -/
def pick (key : Fin 8 → EReal) (j : Fin 3) : Fin 8 := sortedFrom (ahead key) (j.castLE (by decide))

theorem pick_eq (key : Fin 8 → EReal) (j : Fin 3) : pick key j = sortedFrom (aheadTie key) (j.castLE (by decide)) := by
  unfold pick
  rw [sortedFrom_later (ahead key) (aheadTie key)]
  intro a b hab
  simp [ahead, aheadTie, hab.not_gt]

theorem pick_injective (key : Fin 8 → EReal) : Function.Injective (pick key) := fun a b h =>
  Fin.castLE_injective _ (sortedFrom_injective _ h)

/-- A block is among the three in front exactly when fewer than three come before it. -/
theorem exists_pick (key : Fin 8 → EReal) (n : Fin 8) : (∃ j, pick key j = n) ↔ #{m | aheadTie key m n = true} < 3 := by
  obtain ⟨i, rfl⟩ := sortedFrom_surjective (aheadTie key) n
  rw [card_before_sorted (aheadTie_total key)]
  constructor
  · rintro ⟨j, h⟩
    rw [pick_eq] at h
    rw [← sortedFrom_injective _ h]
    exact j.isLt
  · intro h
    exact ⟨⟨i, h⟩, pick_eq _ _⟩

variable {K Q : ℕ → ℕ → ℝ} {V : ℕ → ℕ → EReal} {r : ℕ} {key : Fin 8 → EReal}

open Classical in
/-- The scores of the earlier blocks; the query's own block and later ones score nothing. -/
def IsKey (K Q : ℕ → ℕ → ℝ) (r : ℕ) (key : Fin 8 → EReal) : Prop :=
  ∀ n : Fin 8, key n = if (n : ℕ) < r / 256 then ((bscore K Q n r : ℝ) : EReal) else ⊥

theorem card_ahead (hr : r < 2048) (hkey : IsKey K Q r key) {n : Fin 8} (hn : (n : ℕ) < r / 256) :
    #{m | aheadTie key m n = true} = rank K Q r n := by
  classical
  have hb : ∀ m : Fin 8, aheadTie key m n = true ↔ (m : ℕ) < r / 256 ∧ before K Q r m n := by
    intro m
    unfold aheadTie before
    rw [hkey m, hkey n, if_pos hn]
    by_cases hm : (m : ℕ) < r / 256
    · simp [hm]
    · simp [hm, bot_lt_iff_ne_bot, Ne.symm (EReal.coe_ne_bot _)]
  unfold rank
  rw [← card_map Fin.valEmbedding]
  congr 1
  ext m
  simp only [mem_map, mem_filter, mem_univ, true_and, hb, mem_range, Fin.valEmbedding_apply]
  constructor
  · rintro ⟨m', h, rfl⟩; exact h
  · intro h; exact ⟨⟨m, by have := h.1; omega⟩, h, rfl⟩

open Classical in
/-- A sum over the chosen earlier blocks is the sum over the earlier blocks that fewer than three come before. -/
theorem sum_pick {M : Type*} [AddCommMonoid M] (hr : r < 2048) (hkey : IsKey K Q r key) (F : ℕ → M) :
    ∑ j, (if (pick key j : ℕ) < r / 256 then F (pick key j) else 0)
      = ∑ n ∈ range (r / 256), if rank K Q r n < 3 then F n else 0 := by
  rw [← sum_image (s := univ) (g := pick key) (f := fun n : Fin 8 => if (n : ℕ) < r / 256 then F n else 0)
    (fun a _ b _ h => pick_injective key h)]
  have h1 : ∀ n : Fin 8, (if n ∈ univ.image (pick key) then (if (n : ℕ) < r / 256 then F n else 0) else 0)
      = (fun n : ℕ => if n < r / 256 then (if rank K Q r n < 3 then F n else 0) else 0) n := by
    intro n
    have hm : n ∈ univ.image (pick key) ↔ ∃ j, pick key j = n := by simp
    by_cases hn : (n : ℕ) < r / 256
    · simp only [hn, if_true, hm, exists_pick, card_ahead hr hkey hn]
    · simp [hn]
  rw [← univ_inter (univ.image (pick key)), ← sum_ite_mem, sum_congr rfl fun n _ => h1 n,
    Fin.sum_univ_eq_sum_range (fun n : ℕ => if n < r / 256 then (if rank K Q r n < 3 then F n else 0) else 0) 8]
  rw [← sum_subset (s₁ := range (r / 256)) (range_subset_range.2 (by omega)) fun n _ hn => if_neg (by simpa using hn)]
  exact sum_congr rfl fun n hn => if_pos (mem_range.1 hn)

open Classical in
/-- A sum over the keys of the gathered slots (three chosen blocks and the query's own), masked to chosen earlier blocks
    and to keys not after the query, is the sum over the keys the query sees. -/
theorem sum_slots {M : Type*} [AddCommMonoid M] (hr : r < 2048) (hkey : IsKey K Q r key) {slot : Fin 4 → ℕ}
    (hslot : ∀ j : Fin 3, slot j.castSucc = pick key j) (hown : slot 3 = r / 256) (G : ℕ → M) :
    ∑ c, ∑ t : Fin 256, (if (slot c < r / 256 ∨ c = 3) ∧ 256 * slot c + t ≤ r then G (256 * slot c + t) else 0)
      = ∑ s ∈ range 2048, if sees K Q s r then G s else 0 := by
  have hin : ∀ n : ℕ, (∑ t : Fin 256, if 256 * n + t ≤ r then G (256 * n + t) else 0)
      = ∑ t ∈ range 256, if 256 * n + t ≤ r then G (256 * n + t) else 0 := fun n =>
    Fin.sum_univ_eq_sum_range (fun t => if 256 * n + t ≤ r then G (256 * n + t) else 0) 256
  have hsee : ∀ n t : ℕ, t < 256 → (sees K Q (256 * n + t) r ↔ 256 * n + t ≤ r ∧ (n = r / 256 ∨ rank K Q r n < 3)) := by
    intro n t ht
    unfold sees
    rw [show (256 * n + t) / 256 = n by omega]
  rw [← sum_blocks_upto (fun s => if sees K Q s r then G s else 0) (n := r / 256 + 1) (by omega)
    (fun s hs => if_neg fun h => by have := h.1; omega), sum_range_succ, Fin.sum_univ_castSucc]
  congr 1
  · refine Eq.trans ?_ ((sum_pick hr hkey fun n => ∑ t ∈ range 256, if 256 * n + t ≤ r then G (256 * n + t) else 0).trans
      (sum_congr rfl fun n hn => ?_))
    · refine sum_congr rfl fun j _ => ?_
      have hj : j.castSucc ≠ (3 : Fin 4) := (Fin.castSucc_lt_last j).ne
      rw [hslot]
      by_cases h : (pick key j : ℕ) < r / 256
      · simp only [h, true_or, true_and, if_true]
        exact hin _
      · simp [h, hj]
    · have hn' := mem_range.1 hn
      by_cases h : rank K Q r n < 3
      · rw [if_pos h]
        exact sum_congr rfl fun t ht => by simp only [hsee n t (mem_range.1 ht), h, or_true, and_true]
      · rw [if_neg h]
        exact (sum_eq_zero fun t ht => if_neg (by rw [hsee n t (mem_range.1 ht)]; rintro ⟨_, h' | h'⟩ <;> [omega; exact h h'])).symm
  · rw [show (Fin.last 3 : Fin 4) = 3 from rfl, hown]
    simp only [or_true, true_and]
    rw [hin]
    exact sum_congr rfl fun t ht => by simp only [hsee _ t (mem_range.1 ht), true_or, and_true]

open Classical in
/-- Softmax over the gathered slots, applied to the gathered values, is the result. -/
theorem result_of_slots (hr : r < 2048) (d : ℕ) (hkey : IsKey K Q r key) {slot : Fin 4 → ℕ}
    (hslot : ∀ j : Fin 3, slot j.castSucc = pick key j) (hown : slot 3 = r / 256) (μ : ℝ) {e : Fin 4 → Fin 256 → ℝ}
    (he : ∀ c t, e c t = if (slot c < r / 256 ∨ c = 3) ∧ 256 * slot c + t ≤ r
      then Real.exp (dot K Q (256 * slot c + t) r / √128 - μ) else 0) :
    ∑ c, ∑ t : Fin 256, ((e c t / ∑ c, ∑ t, e c t : ℝ) : EReal) * V (256 * slot c + t) d = result K Q V r d := by
  have hE : ∑ c, ∑ t, e c t = (∑ s ∈ range 2048, weight K Q s r) * Real.exp (-μ) := by
    simp only [he]
    rw [sum_slots hr hkey hslot hown (fun s => Real.exp (dot K Q s r / √128 - μ)), sum_mul]
    refine sum_congr rfl fun s _ => ?_
    unfold weight
    split_ifs
    · rw [← Real.exp_add, sub_eq_add_neg]
    · simp
  rw [hE]
  have hpos := Real.exp_pos (-μ)
  have hterm : ∀ c (t : Fin 256), ((e c t / ((∑ s ∈ range 2048, weight K Q s r) * Real.exp (-μ)) : ℝ) : EReal) * V (256 * slot c + t) d
      = if (slot c < r / 256 ∨ c = 3) ∧ 256 * slot c + t ≤ r then
          (fun s => ((Real.exp (dot K Q s r / √128) / ∑ s ∈ range 2048, weight K Q s r : ℝ) : EReal) * V s d) (256 * slot c + t)
        else 0 := by
    intro c t
    rw [he]
    split_ifs
    · rw [sub_eq_add_neg, Real.exp_add, mul_div_mul_right _ _ hpos.ne']
    · simp
  rw [sum_congr rfl fun c _ => sum_congr rfl fun t _ => hterm c t, sum_slots hr hkey hslot hown
    (fun s => ((Real.exp (dot K Q s r / √128) / ∑ s ∈ range 2048, weight K Q s r : ℝ) : EReal) * V s d), result]
  refine sum_congr rfl fun s _ => ?_
  unfold weight
  split_ifs
  · rfl
  · simp

end Cert.Attn

end

end
-- ==== Proof.AttnRead.lean ====
module
public import proofs.«01_k».proof.Proof.Gen.ReferenceAttnIdeal
public import proofs.«01_k».proof.Proof.AttnHeads
public import proofs.«01_k».proof.Proof.AttnOps
public import proofs.«01_k».proof.Proof.AttnPick
public import Idealize.ShloMosaic.Lib.ValueIdxRank6
public import Idealize.ShloMosaic.Lib.StableHlo.RunRead
public import Idealize.ShloMosaic.Lib.StableHlo.ReadAt
public import Idealize.ShloMosaic.Lib.WordCmp
public import Idealize.ShloMosaic.Lib.Claim

/-!
The operations of the attention reference, stretch by stretch: what each stretch leaves in the buffers that later ones
read, as a plain expression in what it found.
-/

@[expose] public section
set_option maxRecDepth 16384
noncomputable section
namespace Cert.ReferenceAttnIdeal.Value

open Cert.KernelAttnIdeal.Value (ofBits_bot ofBits_256 ofBits_128)open Idealize.ShloMosaic Idealize.ShloMosaic.TcCoe Idealize.SL.Sem Idealize.ShloMosaic.StableHlo Idealize.ShloMosaic.Pointwise
open Cert.Attn Cert.ReferenceAttnIdeal Cert.ReferenceAttnIdeal.Gen

/-- Floor division of a 32-bit word by 256, as the reference writes it: the quotient rounded to zero, less one when the
    signs differ and a remainder is left. -/
def floorWord (w : BitVec 32) : BitVec 32 :=
  Scalar.select
    (IntOp.andi
      (IntOp.cmpi CmpIPredicate.ne (if w = 0 then 0 else if w.msb = true then -1 else 1)
        (if (256#32 : BitVec 32) = 0 then 0 else if BitVec.msb 256#32 = true then -1 else 1 : BitVec 32))
      (IntOp.cmpi CmpIPredicate.ne (IntOp.remsi ArithUnit.host w 256#32) 0#32))
    (IntOp.subi (IntOp.divsi ArithUnit.host w 256#32) 1#32)
    (IntOp.divsi ArithUnit.host w 256#32)

theorem floorWord_eq (s : Fin 2048) : floorWord (BitVec.ofNat 32 s) = BitVec.ofNat 32 (s / 256) := by
  have h : ∀ s : Fin 2048, floorWord (BitVec.ofNat 32 s) = BitVec.ofNat 32 (s / 256) := by decide +kernel
  exact h s

/-- A block number is no negative index. -/
theorem wrap_eq (n : Fin 8) : Scalar.select (IntOp.cmpi .slt (BitVec.ofNat 32 (n : ℕ)) 0#32)
    (IntOp.addi (BitVec.ofNat 32 (n : ℕ)) 8#32) (BitVec.ofNat 32 (n : ℕ)) = BitVec.ofNat 32 (n : ℕ) := by
  revert n; decide
/-- The operations of the reference, in order. -/
def line : { ops : List (HloOp τ sig (Elt Ideal)) // ∀ d, IsSeq (main (F := Ideal) d) ops } := by
  apply Subtype.mk
  hlo_seq

/-- `n` operations of the reference from position `i` on. -/
def ops (i n : ℕ) : List (HloOp τ sig (Elt Ideal)) := (line.1.drop i).take n

variable (V : Valuation τ sig (Elt Ideal))

/-- Position `k` of the last axis. -/
theorem along_ix4 (b h : Fin 8) (s : Fin 2048) (n k : Fin 8) :
    Shape.Idx.along (s := S8x8x2048x8) (ix4 b h s n) 3 k = ix4 b h s k := by
  funext a
  match a with
  | ⟨0, _⟩ => rfl
  | ⟨1, _⟩ => rfl
  | ⟨2, _⟩ => rfl
  | ⟨3, _⟩ => rfl

theorem slice_ix4 {α : Type} (x : S8x8x2048x8.Idx → α) (hs) (b h : Fin 8) (s : Fin 2048) (j : Fin 3) :
    extractStridedSlice S8x8x2048x3 (fun _ => 0) x hs (ix4 b h s j) = x (ix4 b h s (j.castLE (by decide))) := by
  refine congrArg x (funext fun a => ?_)
  match a with
  | ⟨0, _⟩ => exact Fin.ext (Nat.zero_add _)
  | ⟨1, _⟩ => exact Fin.ext (Nat.zero_add _)
  | ⟨2, _⟩ => exact Fin.ext (Nat.zero_add _)
  | ⟨3, _⟩ => exact Fin.ext (Nat.zero_add _)

/-- The positions a top-3 leaves are the first three of the sort by score. -/
theorem topK_apply (x : FVec Ideal S8x8x2048x8 .f32) (hs) (b h : Fin 8) (s : Fin 2048) (j : Fin 3) :
    (Host.topK S8x8x2048x3 3 (FloatOps.cmpfTotal (F := Ideal) (φ := .f32) .gt) x hs).2 (ix4 b h s j)
      = BitVec.ofNat 32 (pick (fun n => x (ix4 b h s n)) j : ℕ) := by
  have hF : (fun k k' : Fin 8 => FloatOps.cmpfTotal (F := Ideal) (φ := .f32) .gt
        (x (Shape.Idx.along (s := S8x8x2048x8) (ix4 b h s (j.castLE (by decide))) 3 k))
        (x (Shape.Idx.along (s := S8x8x2048x8) (ix4 b h s (j.castLE (by decide))) 3 k')) == 1#1)
      = ahead (fun n => x (ix4 b h s n)) := by
    funext k k'
    rw [along_ix4, along_ix4]
    show (BitVec.ofBool (@decide _ _) == 1#1) = _
    unfold ahead
    by_cases hlt : x (ix4 b h s k') < x (ix4 b h s k)
    · simp [hlt]
    · simp [hlt]
  unfold Host.topK Host.sort2
  simp only [slice_ix4]
  rw [dif_pos (show 3 < S8x8x2048x8.rank by decide)]
  show BitVec.ofNat 32 (Shape.Idx.along (s := S8x8x2048x8) (ix4 b h s (j.castLE (by decide))) 3
    (sortedFrom (fun k k' : Fin 8 => FloatOps.cmpfTotal (F := Ideal) (φ := .f32) .gt
        (x (Shape.Idx.along (s := S8x8x2048x8) (ix4 b h s (j.castLE (by decide))) 3 k))
        (x (Shape.Idx.along (s := S8x8x2048x8) (ix4 b h s (j.castLE (by decide))) 3 k')) == 1#1) (j.castLE (by decide))) 3 : ℕ) = _
  rw [hF]
  exact congrArg (fun k : Fin 8 => BitVec.ofNat 32 (k : ℕ)) (congrFun (along_ix4 b h s _ (sortedFrom (ahead fun n => x (ix4 b h s n)) (j.castLE (by decide)))) 3)

/-- The gather of whole blocks: the block that the three index words name. -/
theorem gather_apply (x : FVec Ideal S8x8x8x256x128 .f32) (idx : IVec S8x8x2048x4x3 32) (b h : Fin 8) (s : Fin 2048) (c : Fin 4)
    (t : Fin 256) (d : Fin 128) (B H N : Fin 8) (hB : idx (ix5 b h s c 0) = BitVec.ofNat 32 B)
    (hH : idx (ix5 b h s c 1) = BitVec.ofNat 32 H) (hN : idx (ix5 b h s c 2) = BitVec.ofNat 32 N) :
    Host.gather gather_S8x8x8x256x128_S8x8x2048x4x3_S8x8x2048x4x256x128_45_012_n_n_012_4_111256128 x idx (ix6 b h s c t d) = x (ix5 B H N t d) := by
  have hw : ∀ n : Fin 8, min (BitVec.ofNat 32 (n : ℕ)).toInt.toNat 7 = n := by decide
  have hsi : ∀ k : Fin 3, GatherDims.siIdx gather_S8x8x8x256x128_S8x8x2048x4x3_S8x8x2048x4x256x128_45_012_n_n_012_4_111256128 (ix6 b h s c t d) k
      = ix5 b h s c k := by
    intro k
    funext a
    refine Fin.ext ?_
    match a with
    | ⟨0, _⟩ => rfl
    | ⟨1, _⟩ => rfl
    | ⟨2, _⟩ => rfl
    | ⟨3, _⟩ => rfl
    | ⟨4, _⟩ => rfl
  unfold Host.gather
  refine congrArg x (funext fun a => Fin.ext ?_)
  show GatherDims.start _ _ _ a + GatherDims.batchCoord _ _ a + GatherDims.offCoord _ _ a = _
  rw [GatherDims.batchCoord_eq_zero _ _ _ (List.not_mem_nil), Nat.add_zero]
  have ha : a = 0 ∨ a = 1 ∨ a = 2 ∨ a = 3 ∨ a = 4 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr (Or.inl rfl)))
    | ⟨4, _⟩ => exact Or.inr (Or.inr (Or.inr (Or.inr rfl)))
  rcases ha with rfl | rfl | rfl | rfl | rfl
  · rw [GatherDims.offCoord_eq_zero _ _ _ (by decide), Nat.add_zero]
    unfold GatherDims.start
    rw [dif_pos (by decide)]
    refine Eq.trans ?_ (hw B)
    rw [← hB, ← hsi 0]
    rfl
  · rw [GatherDims.offCoord_eq_zero _ _ _ (by decide), Nat.add_zero]
    unfold GatherDims.start
    rw [dif_pos (by decide)]
    refine Eq.trans ?_ (hw H)
    rw [← hH, ← hsi 1]
    rfl
  · rw [GatherDims.offCoord_eq_zero _ _ _ (by decide), Nat.add_zero]
    unfold GatherDims.start
    rw [dif_pos (by decide)]
    refine Eq.trans ?_ (hw N)
    rw [← hN, ← hsi 2]
    rfl
  · unfold GatherDims.start
    rw [dif_neg (by decide), Nat.zero_add]
    unfold GatherDims.offCoord
    rw [dif_pos (by decide)]
    rfl
  · unfold GatherDims.start
    rw [dif_neg (by decide), Nat.zero_add]
    unfold GatherDims.offCoord
    rw [dif_pos (by decide)]
    rfl

/-! What each stretch of operations leaves, in terms of what it found. -/

theorem read_v0 (b h : Fin 8) (s : Fin 2048) (d : Fin 128) :
    after (ops 0 35) V (Proc.devRef .tc main_v0) (ix4 b s h d) = V (Proc.devRef .tc main_arg0) (ix3 b s ⟨h * 128 + d, by omega⟩) := by
  after_reads_at

theorem read_v2 (b h n : Fin 8) (t : Fin 256) (d : Fin 128) :
    after (ops 0 35) V (Proc.devRef .tc main_v2) (ix5 b h n t d)
      = V (Proc.devRef .tc main_arg1) (ix3 b ⟨n * 256 + t, by omega⟩ ⟨h * 128 + d, by omega⟩) := by
  after_reads_at

theorem read_v4 (b h n : Fin 8) (t : Fin 256) (d : Fin 128) :
    after (ops 0 35) V (Proc.devRef .tc main_v4) (ix5 b h n t d)
      = V (Proc.devRef .tc main_arg2) (ix3 b ⟨n * 256 + t, by omega⟩ ⟨h * 128 + d, by omega⟩) := by
  after_reads_at

theorem read_v7 (b h n : Fin 8) (d : Fin 128)
    {xarg1 : S8x2048x1024.Idx → EReal} (harg1 : V (Proc.devRef .tc main_arg1) = xarg1) :
    after (ops 0 35) V (Proc.devRef .tc main_v7) (ix4 b h n d)
      = Ideal.div (∑ t : Fin 256, xarg1 (ix3 b ⟨n * 256 + t, by omega⟩ ⟨h * 128 + d, by omega⟩))
          (Ideal.ofBits .f32 0x43800000#32) := by
  subst harg1
  after_reads_at

theorem read_v10 (b : Fin 8) : after (ops 0 35) V (Proc.devRef .tc main_v10) (ix4 b 0 0 0) = BitVec.ofNat 32 b := by
  after_reads_at

theorem read_v12 (h : Fin 8) : after (ops 0 35) V (Proc.devRef .tc main_v12) (ix4 0 h 0 0) = BitVec.ofNat 32 h := by
  after_reads_at

theorem read_v8 (s : Fin 2048) : after (ops 0 35) V (Proc.devRef .tc main_v8) (ix1 s) = BitVec.ofNat 32 s := by
  after_reads_at

theorem read_v13 (n : Fin 8) : after (ops 0 35) V (Proc.devRef .tc main_v13) (ix1 n) = BitVec.ofNat 32 n := by
  after_reads_at

theorem read_v14 (t : Fin 256) : after (ops 0 35) V (Proc.devRef .tc main_v14) (ix1 t) = BitVec.ofNat 32 t := by
  after_reads_at

theorem read_v15 (s : Fin 2048) : after (ops 0 35) V (Proc.devRef .tc main_v15) (ix1 s) = BitVec.ofNat 32 (s / 256) := by
  after_reads_at
  show floorWord (BitVec.ofNat 32 s) = _
  exact floorWord_eq s

theorem read_v22 (b h : Fin 8) (s : Fin 2048) (n : Fin 8)
    {xv0 : S8x2048x8x128.Idx → EReal} (hv0 : V (Proc.devRef .tc main_v0) = xv0) {xv7 : S8x8x8x128.Idx → EReal} (hv7 : V (Proc.devRef .tc main_v7) = xv7) :
    after (ops 35 11) V (Proc.devRef .tc main_v22) (ix4 b h s n)
      = Scalar.select (IntOp.cmpi .slt (V (Proc.devRef .tc main_v13) (ix1 n)) (V (Proc.devRef .tc main_v15) (ix1 s)))
          (∑ d : Fin 128, xv0 (ix4 b s h d) * xv7 (ix4 b h n d)) (Ideal.ofBits .f32 0xFF800000#32) := by
  subst hv0 hv7
  after_reads_at
  rfl

theorem read_indices (b h : Fin 8) (s : Fin 2048) (j : Fin 3) :
    after (ops 46 2) V (Proc.devRef .tc main_indices) (ix4 b h s j)
      = BitVec.ofNat 32 (pick (fun n => V (Proc.devRef .tc main_v22) (ix4 b h s n)) j : ℕ) := by
  have e : after (ops 46 2) V (Proc.devRef .tc main_indices)
      = (Host.topK S8x8x2048x3 3 (FloatOps.cmpfTotal (F := Ideal) (φ := .f32) .gt) (V (Proc.devRef .tc main_v22)) sliceFits_S8x8x2048x8_S8x8x2048x3).2 := by
    after_reads_simp
  rw [e]
  exact topK_apply _ _ b h s j

theorem read_v25 (b h : Fin 8) (s : Fin 2048) (c : Fin 4) :
    after (ops 48 8) V (Proc.devRef .tc main_v25) (ix4 b h s c)
      = if hc : (c : ℕ) < 3 then V (Proc.devRef .tc main_indices) (ix4 b h s ⟨c, hc⟩) else V (Proc.devRef .tc main_v15) (ix1 s) := by
  after_reads_at

theorem read_v29 (b h : Fin 8) (s : Fin 2048) (c : Fin 4) :
    after (ops 48 8) V (Proc.devRef .tc main_v29) (ix4 b h s c)
      = if hc : (c : ℕ) < 3 then IntOp.cmpi .slt (V (Proc.devRef .tc main_indices) (ix4 b h s ⟨c, hc⟩)) (V (Proc.devRef .tc main_v15) (ix1 s))
        else 1#1 := by
  after_reads_at

/-- A block index as the reference normalises it: a negative one counts from the end. -/
def wrapWord (w : BitVec 32) : BitVec 32 := Scalar.select (IntOp.cmpi .slt w 0#32) (IntOp.addi w 8#32) w

/-- The three index words of the gather. -/
def words (x y z : BitVec 32) (c : Fin 3) : BitVec 32 :=
  if (c : ℕ) < 1 then wrapWord x else if (c : ℕ) - 1 < 1 then wrapWord y else wrapWord z

theorem read_v50 (b h : Fin 8) (s : Fin 2048) (j : Fin 4) (c : Fin 3) :
    after (ops 56 27) V (Proc.devRef .tc main_v50) (ix5 b h s j c)
      = words (V (Proc.devRef .tc main_v10) (ix4 b 0 0 0)) (V (Proc.devRef .tc main_v12) (ix4 0 h 0 0))
          (V (Proc.devRef .tc main_v25) (ix4 b h s j)) c := by
  after_reads_simp
  pointwise
  after_reads_simp
  pointwise
  rfl

theorem read_v72 (b h : Fin 8) (s : Fin 2048) (j : Fin 4) (c : Fin 3) :
    after (ops 84 27) V (Proc.devRef .tc main_v72) (ix5 b h s j c)
      = words (V (Proc.devRef .tc main_v10) (ix4 b 0 0 0)) (V (Proc.devRef .tc main_v12) (ix4 0 h 0 0))
          (V (Proc.devRef .tc main_v25) (ix4 b h s j)) c := by
  after_reads_simp
  pointwise
  after_reads_simp
  pointwise
  rfl

theorem read_v51 : after (ops 83 1) V (Proc.devRef .tc main_v51)
    = Host.gather gather_S8x8x8x256x128_S8x8x2048x4x3_S8x8x2048x4x256x128_45_012_n_n_012_4_111256128
        (V (Proc.devRef .tc main_v2)) (V (Proc.devRef .tc main_v50)) := by
  after_reads_simp

theorem read_v73 : after (ops 111 1) V (Proc.devRef .tc main_v73)
    = Host.gather gather_S8x8x8x256x128_S8x8x2048x4x3_S8x8x2048x4x256x128_45_012_n_n_012_4_111256128
        (V (Proc.devRef .tc main_v4)) (V (Proc.devRef .tc main_v72)) := by
  after_reads_simp

theorem read_v92 (b h : Fin 8) (s : Fin 2048) (j : Fin 1024)
    {xv0 : S8x2048x8x128.Idx → EReal} (hv0 : V (Proc.devRef .tc main_v0) = xv0) {xv51 : S8x8x2048x4x256x128.Idx → EReal} (hv51 : V (Proc.devRef .tc main_v51) = xv51) :
    after (ops 112 24) V (Proc.devRef .tc main_v92) (ix4 b h s j)
      = Scalar.select
          (IntOp.andi (V (Proc.devRef .tc main_v29) (ix4 b h s ⟨j / 256, by omega⟩))
            (IntOp.cmpi .sle
              (IntOp.addi (IntOp.muli (V (Proc.devRef .tc main_v25) (ix4 b h s ⟨j / 256, by omega⟩)) 256#32)
                (V (Proc.devRef .tc main_v14) (ix1 ⟨j % 256, Nat.mod_lt _ (by decide)⟩)))
              (V (Proc.devRef .tc main_v8) (ix1 s))))
          (Ideal.div
            (∑ d : Fin 128, xv0 (ix4 b s h d)
              * xv51 (ix6 b h s ⟨j / 256, by omega⟩ ⟨j % 256, Nat.mod_lt _ (by decide)⟩ d))
            (Ideal.sqrt (Ideal.ofBits .f32 0x43000000#32)))
          (Ideal.ofBits .f32 0xFF800000#32) := by
  subst hv0 hv51
  after_reads_at
  rfl

/-- The greatest of the last axis. -/
theorem rowmax_apply (x : FVec Ideal S8x8x2048x1024 .f32) (b h : Fin 8) (s : Fin 2048) :
    Host.reduce FloatOps.maximumf x (constant S_ .f32 0xFF800000#32) reducesTo_S8x8x2048x1024_S8x8x2048_d3 h_S_ (ix3 b h s)
      = Finset.univ.fold max ⊥ fun j : Fin 1024 => x (ix4 b h s j) := by
  pointwise [ofBits_bot]

theorem read_v93 {x : FVec Ideal S8x8x2048x1024 .f32} (hx : V (Proc.devRef .tc main_v92) = x) (b h : Fin 8) (s : Fin 2048) :
    after (ops 136 2) V (Proc.devRef .tc main_v93) (ix3 b h s) = Finset.univ.fold max ⊥ fun j : Fin 1024 => x (ix4 b h s j) := by
  subst hx
  refine Eq.trans (congrFun ?_ _) (rowmax_apply _ b h s)
  after_reads_simp

theorem read_v95 (b h : Fin 8) (s : Fin 2048) :
    after (ops 138 3) V (Proc.devRef .tc main_v95) (ix3 b h s)
      = max (Ideal.ofBits .f32 0xFF800000#32) (V (Proc.devRef .tc main_v93) (ix3 b h s)) := by
  after_reads_at

theorem read_v103 (b h : Fin 8) (s : Fin 2048) (j : Fin 1024)
    {xv92 : S8x8x2048x1024.Idx → EReal} (hv92 : V (Proc.devRef .tc main_v92) = xv92) {xv95 : S8x8x2048.Idx → EReal} (hv95 : V (Proc.devRef .tc main_v95) = xv95) :
    after (ops 141 9) V (Proc.devRef .tc main_v103) (ix4 b h s j)
      = Ideal.div (Ideal.exp (xv92 (ix4 b h s j) - xv95 (ix3 b h s)))
          (∑ j' : Fin 1024, Ideal.exp (xv92 (ix4 b h s j') - xv95 (ix3 b h s))) := by
  subst hv92 hv95
  after_reads_at

theorem read_v107 (b : Fin 8) (s : Fin 2048) (j : Fin 1024)
    {xv103 : S8x8x2048x1024.Idx → EReal} (hv103 : V (Proc.devRef .tc main_v103) = xv103) {xv73 : S8x8x2048x4x256x128.Idx → EReal} (hv73 : V (Proc.devRef .tc main_v73) = xv73) :
    after (ops 150 4) V (Proc.devRef .tc main_v107) (ix3 b s j)
      = ∑ t : Fin 256, ∑ c : Fin 4,
          xv103 (ix4 b ⟨j / 128, by omega⟩ s ⟨c * 256 + t, by omega⟩)
            * xv73 (ix6 b ⟨j / 128, by omega⟩ s c t ⟨j % 128, Nat.mod_lt _ (by decide)⟩) := by
  subst hv103 hv73
  after_reads_at

end Cert.ReferenceAttnIdeal.Value

end

end
-- ==== Proof.AttnRef.lean ====
module

public import proofs.«01_k».proof.Proof.AttnRead

/-!
The attention reference computes the attention of every head.

`S V n` is what the buffers hold after the first `n` operations, from contents `V`. The facts below follow one
head of one batch row and one query through the operations, for queries and keys that are real numbers.
-/

@[expose] public section
set_option maxRecDepth 16384

noncomputable section

namespace Cert.ReferenceAttnIdeal.Value

open Idealize.ShloMosaic Idealize.ShloMosaic.TcCoe Idealize.SL.Sem Idealize.ShloMosaic.StableHlo Idealize.ShloMosaic.Pointwise
open Cert.Attn Cert.ReferenceAttnIdeal Cert.ReferenceAttnIdeal.Gen
open Cert.KernelAttnIdeal.Value (ofBits_bot ofBits_256 ofBits_128)

variable (V : Valuation τ sig (Elt Ideal))

/-- The buffers after the first `n` operations. -/
def S (n : ℕ) : Valuation τ sig (Elt Ideal) := after (line.1.take n) V

theorem S_add (i n : ℕ) : S V (i + n) = after (ops i n) (S V i) := by
  unfold S ops
  rw [List.take_add, after_append]

theorem S_all : after line.1 V = S V 154 := by
  unfold S
  rw [List.take_of_length_le (by decide)]

/-! Buffers that a stretch of operations leaves alone. -/

theorem keep_v0 : S V 112 (Proc.devRef .tc main_v0) = S V 35 (Proc.devRef .tc main_v0) := by
  rw [show S V 112 = after (ops 35 77) (S V 35) from S_add V 35 77]; after_reads_simp

theorem keep_v2 : S V 83 (Proc.devRef .tc main_v2) = S V 35 (Proc.devRef .tc main_v2) := by
  rw [show S V 83 = after (ops 35 48) (S V 35) from S_add V 35 48]; after_reads_simp

theorem keep_v4 : S V 111 (Proc.devRef .tc main_v4) = S V 35 (Proc.devRef .tc main_v4) := by
  rw [show S V 111 = after (ops 35 76) (S V 35) from S_add V 35 76]; after_reads_simp

theorem keep_v8 : S V 112 (Proc.devRef .tc main_v8) = S V 35 (Proc.devRef .tc main_v8) := by
  rw [show S V 112 = after (ops 35 77) (S V 35) from S_add V 35 77]; after_reads_simp

theorem keep_v14 : S V 112 (Proc.devRef .tc main_v14) = S V 35 (Proc.devRef .tc main_v14) := by
  rw [show S V 112 = after (ops 35 77) (S V 35) from S_add V 35 77]; after_reads_simp

theorem keep_v15 : S V 48 (Proc.devRef .tc main_v15) = S V 35 (Proc.devRef .tc main_v15) := by
  rw [show S V 48 = after (ops 35 13) (S V 35) from S_add V 35 13]; after_reads_simp

theorem keep_v10 : S V 56 (Proc.devRef .tc main_v10) = S V 35 (Proc.devRef .tc main_v10) := by
  rw [show S V 56 = after (ops 35 21) (S V 35) from S_add V 35 21]; after_reads_simp

theorem keep_v12 : S V 56 (Proc.devRef .tc main_v12) = S V 35 (Proc.devRef .tc main_v12) := by
  rw [show S V 56 = after (ops 35 21) (S V 35) from S_add V 35 21]; after_reads_simp

theorem keep_v10' : S V 84 (Proc.devRef .tc main_v10) = S V 56 (Proc.devRef .tc main_v10) := by
  rw [show S V 84 = after (ops 56 28) (S V 56) from S_add V 56 28]; after_reads_simp

theorem keep_v12' : S V 84 (Proc.devRef .tc main_v12) = S V 56 (Proc.devRef .tc main_v12) := by
  rw [show S V 84 = after (ops 56 28) (S V 56) from S_add V 56 28]; after_reads_simp

theorem keep_v25 : S V 84 (Proc.devRef .tc main_v25) = S V 56 (Proc.devRef .tc main_v25) := by
  rw [show S V 84 = after (ops 56 28) (S V 56) from S_add V 56 28]; after_reads_simp

theorem keep_v25' : S V 112 (Proc.devRef .tc main_v25) = S V 56 (Proc.devRef .tc main_v25) := by
  rw [show S V 112 = after (ops 56 56) (S V 56) from S_add V 56 56]; after_reads_simp

theorem keep_v29 : S V 112 (Proc.devRef .tc main_v29) = S V 56 (Proc.devRef .tc main_v29) := by
  rw [show S V 112 = after (ops 56 56) (S V 56) from S_add V 56 56]; after_reads_simp

theorem keep_v51 : S V 112 (Proc.devRef .tc main_v51) = S V 84 (Proc.devRef .tc main_v51) := by
  rw [show S V 112 = after (ops 84 28) (S V 84) from S_add V 84 28]; after_reads_simp

theorem keep_v73 : S V 150 (Proc.devRef .tc main_v73) = S V 112 (Proc.devRef .tc main_v73) := by
  rw [show S V 150 = after (ops 112 38) (S V 112) from S_add V 112 38]; after_reads_simp

theorem keep_v92 : S V 141 (Proc.devRef .tc main_v92) = S V 136 (Proc.devRef .tc main_v92) := by
  rw [show S V 141 = after (ops 136 5) (S V 136) from S_add V 136 5]; after_reads_simp

/-! ## One query of one head -/

/-- An entry is the head's. -/
theorem head_of (x : Sqkv.Idx → EReal) {b : Fin 8} {s : Fin 2048} {l : Fin 1024} {b' h s' d : ℕ} (hb : (b : ℕ) = b')
    (hs : (s : ℕ) = s') (hl : (l : ℕ) = 128 * h + d) : x (ix3 b s l) = head x b' h s' d := by
  unfold head
  rw [show Fin.ofNat 8 b' = b from Fin.ext (by rw [Fin.val_ofNat, ← hb]; omega),
    show Fin.ofNat 2048 s' = s from Fin.ext (by rw [Fin.val_ofNat, ← hs]; omega),
    show Fin.ofNat 1024 (128 * h + d) = l from Fin.ext (by rw [Fin.val_ofNat, ← hl]; omega)]

variable {V} {q k v : Sqkv.Idx → EReal} (hq : V (Proc.devRef .tc main_arg0) = q) (hk : V (Proc.devRef .tc main_arg1) = k)
  (hv : V (Proc.devRef .tc main_arg2) = v) (fq : Finite q) (fk : Finite k)

section

include hq

theorem v0_at (b h : Fin 8) (s : Fin 2048) (d : Fin 128) :
    S V 35 (Proc.devRef .tc main_v0) (ix4 b s h d) = head q b h s d := by
  subst hq
  refine (read_v0 V b h s d).trans (head_of _ rfl rfl ?_)
  simp only []; omega

end

section

include hk

theorem v2_at (b h n : Fin 8) (t : Fin 256) (d : Fin 128) :
    S V 35 (Proc.devRef .tc main_v2) (ix5 b h n t d) = head k b h (256 * n + t) d := by
  subst hk
  refine (read_v2 V b h n t d).trans (head_of _ rfl ?_ ?_) <;> simp only [] <;> omega

include fk

theorem v7_at (b h n : Fin 8) (d : Fin 128) :
    S V 35 (Proc.devRef .tc main_v7) (ix4 b h n d) = ((kmean (headR k b h) n d : ℝ) : EReal) := by
  refine (read_v7 V b h n d hk).trans ?_
  have e : ∀ t : Fin 256, k (ix3 b ⟨n * 256 + t, by omega⟩ ⟨h * 128 + d, by omega⟩)
      = ((headR k b h (256 * n + t) d : ℝ) : EReal) := fun t =>
    (head_of k rfl (by simp only []; omega) (by simp only []; omega)).trans (fk.head b h (256 * n + t) d)
  rw [Finset.sum_congr rfl fun t _ => e t, ← coe_sum, ofBits_256, Ideal.div_coe (by norm_num), ← EReal.coe_mul, kmean,
    Fin.sum_univ_eq_sum_range (fun t => headR k b h (256 * n + t) d) 256]
  congr 1
  ring

end

section

include hv

theorem v4_at (b h n : Fin 8) (t : Fin 256) (d : Fin 128) :
    S V 35 (Proc.devRef .tc main_v4) (ix5 b h n t d) = head v b h (256 * n + t) d := by
  subst hv
  refine (read_v4 V b h n t d).trans (head_of _ rfl ?_ ?_) <;> simp only [] <;> omega

end

open Classical in
/-- The scores that the reference sorts. -/
def keyOf (K Q : ℕ → ℕ → ℝ) (r : ℕ) (n : Fin 8) : EReal := if (n : ℕ) < r / 256 then ((bscore K Q n r : ℝ) : EReal) else ⊥

/-- The block in slot `c`: three chosen ones, then the query's own. -/
def slotOf (K Q : ℕ → ℕ → ℝ) (r : ℕ) (c : Fin 4) : ℕ := if h : (c : ℕ) < 3 then pick (keyOf K Q r) ⟨c, h⟩ else r / 256

theorem slotOf_lt (K Q : ℕ → ℕ → ℝ) (r : Fin 2048) (c : Fin 4) : slotOf K Q r c < 8 := by
  unfold slotOf; split_ifs <;> omega

/-- A sum over the 1024 gathered places is a sum over slots and places. -/
theorem sum_places {M : Type*} [AddCommMonoid M] (f : Fin 4 → Fin 256 → M) :
    ∑ j : Fin 1024, f ⟨j / 256, by omega⟩ ⟨j % 256, by omega⟩ = ∑ c, ∑ t, f c t := by
  rw [← Fintype.sum_prod_type']
  exact Fintype.sum_equiv (finProdFinEquiv (m := 4) (n := 256)).symm _ _ fun j => rfl

open Classical in
/-- The weight of a place before normalisation. -/
def place (K Q : ℕ → ℕ → ℝ) (μ : ℝ) (s : ℕ) (c : Fin 4) (t : Fin 256) : ℝ :=
  if (slotOf K Q s c < s / 256 ∨ c = 3) ∧ 256 * slotOf K Q s c + (t : ℕ) ≤ s then
    Real.exp (dot K Q (256 * slotOf K Q s c + t) s / √128 - μ) else 0

theorem place_nonneg (K Q : ℕ → ℕ → ℝ) (μ : ℝ) (s : ℕ) (c : Fin 4) (t : Fin 256) : 0 ≤ place K Q μ s c t := by
  unfold place; split_ifs; exacts [(Real.exp_pos _).le, le_rfl]

theorem place_sum_pos (K Q : ℕ → ℕ → ℝ) (μ : ℝ) (s : ℕ) : 0 < ∑ c, ∑ t, place K Q μ s c t := by
  refine Finset.sum_pos' (fun c _ => Finset.sum_nonneg fun t _ => place_nonneg ..) ⟨3, Finset.mem_univ _, ?_⟩
  refine Finset.sum_pos' (fun t _ => place_nonneg ..) ⟨⟨s % 256, Nat.mod_lt _ (by decide)⟩, Finset.mem_univ _, ?_⟩
  unfold place
  rw [if_pos]
  · exact Real.exp_pos _
  · refine ⟨Or.inr rfl, ?_⟩
    rw [show slotOf K Q s 3 = s / 256 from rfl]
    simp only []
    omega

section

include hq hk fq fk

theorem v22_at (b h : Fin 8) (s : Fin 2048) (n : Fin 8) :
    S V 46 (Proc.devRef .tc main_v22) (ix4 b h s n) = keyOf (headR k b h) (headR q b h) s n := by
  rw [show S V 46 = after (ops 35 11) (S V 35) from S_add V 35 11]
  obtain ⟨x0, e0⟩ : ∃ x : S8x2048x8x128.Idx → EReal, S V 35 (Proc.devRef .tc main_v0) = x := ⟨_, rfl⟩
  obtain ⟨x7, e7⟩ : ∃ x : S8x8x8x128.Idx → EReal, S V 35 (Proc.devRef .tc main_v7) = x := ⟨_, rfl⟩
  refine (read_v22 (S V 35) b h s n e0 e7).trans ?_
  rw [show S V 35 (Proc.devRef .tc main_v13) (ix1 n) = BitVec.ofNat 32 n from read_v13 V n,
    show S V 35 (Proc.devRef .tc main_v15) (ix1 s) = BitVec.ofNat 32 (s / 256) from read_v15 V s,
    show IntOp.cmpi .slt (BitVec.ofNat 32 (n : ℕ)) (BitVec.ofNat 32 (s / 256)) = BitVec.ofBool (decide ((n : ℕ) < s / 256)) by word_cmp,
    WordCmp.select_decide, ofBits_bot]
  unfold keyOf
  have e : ∀ d : Fin 128, x0 (ix4 b s h d) * x7 (ix4 b h n d) = ((kmean (headR k b h) n d * headR q b h s d : ℝ) : EReal) := by
    intro d
    rw [show x0 (ix4 b s h d) = head q b h s d by rw [← e0]; exact v0_at hq b h s d,
      show x7 (ix4 b h n d) = ((kmean (headR k b h) n d : ℝ) : EReal) by rw [← e7]; exact v7_at hk fk b h n d,
      fq.head, ← EReal.coe_mul, mul_comm]
  rw [Finset.sum_congr rfl fun d _ => e d, ← coe_sum, bscore,
    Fin.sum_univ_eq_sum_range (fun d => kmean (headR k b h) n d * headR q b h s d) 128]

theorem indices_at (b h : Fin 8) (s : Fin 2048) (j : Fin 3) :
    S V 48 (Proc.devRef .tc main_indices) (ix4 b h s j)
      = BitVec.ofNat 32 (pick (keyOf (headR k b h) (headR q b h) s) j : ℕ) := by
  rw [show S V 48 = after (ops 46 2) (S V 46) from S_add V 46 2]
  refine (read_indices (S V 46) b h s j).trans ?_
  rw [show (fun n => S V 46 (Proc.devRef .tc main_v22) (ix4 b h s n)) = keyOf (headR k b h) (headR q b h) s from
    funext fun n => v22_at hq hk fq fk b h s n]

theorem v25_at (b h : Fin 8) (s : Fin 2048) (c : Fin 4) :
    S V 56 (Proc.devRef .tc main_v25) (ix4 b h s c) = BitVec.ofNat 32 (slotOf (headR k b h) (headR q b h) s c) := by
  rw [show S V 56 = after (ops 48 8) (S V 48) from S_add V 48 8]
  refine (read_v25 (S V 48) b h s c).trans ?_
  unfold slotOf
  split_ifs with hc
  · exact indices_at hq hk fq fk b h s ⟨c, hc⟩
  · rw [keep_v15]; exact read_v15 V s

theorem v29_at (b h : Fin 8) (s : Fin 2048) (c : Fin 4) :
    S V 56 (Proc.devRef .tc main_v29) (ix4 b h s c)
      = BitVec.ofBool (decide (slotOf (headR k b h) (headR q b h) s c < (s : ℕ) / 256 ∨ c = 3)) := by
  rw [show S V 56 = after (ops 48 8) (S V 48) from S_add V 48 8]
  refine (read_v29 (S V 48) b h s c).trans ?_
  have hl := slotOf_lt (headR k b h) (headR q b h) s c
  unfold slotOf at hl ⊢
  split_ifs with hc
  · rw [dif_pos hc] at hl
    have h3 : c ≠ 3 := fun e => by subst e; exact absurd hc (by decide)
    rw [indices_at hq hk fq fk b h s ⟨c, hc⟩, keep_v15,
      show S V 35 (Proc.devRef .tc main_v15) (ix1 s) = BitVec.ofNat 32 (s / 256) from read_v15 V s]
    simp only [h3, or_false]
    word_cmp
  · have h3 : c = 3 := Fin.ext (by show (c : ℕ) = 3; omega)
    simp [h3]

/-- The blocks that the gathers take. -/
theorem slot_words (b h : Fin 8) (s : Fin 2048) (c : Fin 4) :
    ∃ N : Fin 8, (N : ℕ) = slotOf (headR k b h) (headR q b h) s c ∧
      words (BitVec.ofNat 32 b) (BitVec.ofNat 32 h) (S V 56 (Proc.devRef .tc main_v25) (ix4 b h s c)) 0 = BitVec.ofNat 32 b ∧
      words (BitVec.ofNat 32 b) (BitVec.ofNat 32 h) (S V 56 (Proc.devRef .tc main_v25) (ix4 b h s c)) 1 = BitVec.ofNat 32 h ∧
      words (BitVec.ofNat 32 b) (BitVec.ofNat 32 h) (S V 56 (Proc.devRef .tc main_v25) (ix4 b h s c)) 2 = BitVec.ofNat 32 N := by
  refine ⟨⟨_, slotOf_lt (headR k b h) (headR q b h) s c⟩, rfl, wrap_eq b, wrap_eq h, ?_⟩
  rw [v25_at hq hk fq fk]
  exact wrap_eq ⟨_, slotOf_lt (headR k b h) (headR q b h) s c⟩

theorem v51_at (b h : Fin 8) (s : Fin 2048) (c : Fin 4) (t : Fin 256) (d : Fin 128) :
    S V 84 (Proc.devRef .tc main_v51) (ix6 b h s c t d) = head k b h (256 * slotOf (headR k b h) (headR q b h) s c + t) d := by
  obtain ⟨N, hN, h0, h1, h2⟩ := slot_words hq hk fq fk b h s c
  have hw : ∀ e : Fin 3, S V 83 (Proc.devRef .tc main_v50) (ix5 b h s c e)
      = words (BitVec.ofNat 32 b) (BitVec.ofNat 32 h) (S V 56 (Proc.devRef .tc main_v25) (ix4 b h s c)) e := by
    intro e
    rw [show S V 83 = after (ops 56 27) (S V 56) from S_add V 56 27]
    refine (read_v50 (S V 56) b h s c e).trans ?_
    rw [keep_v10, keep_v12, show S V 35 (Proc.devRef .tc main_v10) (ix4 b 0 0 0) = BitVec.ofNat 32 b from read_v10 V b,
      show S V 35 (Proc.devRef .tc main_v12) (ix4 0 h 0 0) = BitVec.ofNat 32 h from read_v12 V h]
  rw [show S V 84 = after (ops 83 1) (S V 83) from S_add V 83 1, read_v51]
  refine (gather_apply _ _ b h s c t d b h N ((hw 0).trans h0) ((hw 1).trans h1) ((hw 2).trans h2)).trans ?_
  rw [keep_v2, ← hN]
  exact v2_at hk b h N t d

include hv

theorem v73_at (b h : Fin 8) (s : Fin 2048) (c : Fin 4) (t : Fin 256) (d : Fin 128) :
    S V 112 (Proc.devRef .tc main_v73) (ix6 b h s c t d) = head v b h (256 * slotOf (headR k b h) (headR q b h) s c + t) d := by
  obtain ⟨N, hN, h0, h1, h2⟩ := slot_words hq hk fq fk b h s c
  have hw : ∀ e : Fin 3, S V 111 (Proc.devRef .tc main_v72) (ix5 b h s c e)
      = words (BitVec.ofNat 32 b) (BitVec.ofNat 32 h) (S V 56 (Proc.devRef .tc main_v25) (ix4 b h s c)) e := by
    intro e
    rw [show S V 111 = after (ops 84 27) (S V 84) from S_add V 84 27]
    refine (read_v72 (S V 84) b h s c e).trans ?_
    rw [keep_v10', keep_v12', keep_v25, keep_v10, keep_v12,
      show S V 35 (Proc.devRef .tc main_v10) (ix4 b 0 0 0) = BitVec.ofNat 32 b from read_v10 V b,
      show S V 35 (Proc.devRef .tc main_v12) (ix4 0 h 0 0) = BitVec.ofNat 32 h from read_v12 V h]
  rw [show S V 112 = after (ops 111 1) (S V 111) from S_add V 111 1, read_v73]
  refine (gather_apply _ _ b h s c t d b h N ((hw 0).trans h0) ((hw 1).trans h1) ((hw 2).trans h2)).trans ?_
  rw [keep_v4, ← hN]
  exact v4_at hv b h N t d

omit hv

/-- Whether the query sees the key at place `t` of slot `c`. -/
def Kept (K Q : ℕ → ℕ → ℝ) (s : ℕ) (c : Fin 4) (t : ℕ) : Prop :=
  (slotOf K Q s c < s / 256 ∨ c = 3) ∧ 256 * slotOf K Q s c + t ≤ s

open Classical in
theorem v92_at (b h : Fin 8) (s : Fin 2048) (j : Fin 1024) {c : Fin 4} {t : Fin 256} (hc : (c : ℕ) = j / 256) (ht : (t : ℕ) = j % 256) :
    S V 136 (Proc.devRef .tc main_v92) (ix4 b h s j)
      = if Kept (headR k b h) (headR q b h) s c t then
          ((dot (headR k b h) (headR q b h) (256 * slotOf (headR k b h) (headR q b h) s c + t) s / √128 : ℝ) : EReal) else ⊥ := by
  obtain ⟨x0, e0⟩ : ∃ x : S8x2048x8x128.Idx → EReal, S V 112 (Proc.devRef .tc main_v0) = x := ⟨_, rfl⟩
  obtain ⟨x51, e51⟩ : ∃ x : S8x8x2048x4x256x128.Idx → EReal, S V 112 (Proc.devRef .tc main_v51) = x := ⟨_, rfl⟩
  rw [show S V 136 = after (ops 112 24) (S V 112) from S_add V 112 24]
  refine (read_v92 (S V 112) b h s j e0 e51).trans ?_
  rw [show (⟨j / 256, by clear hc ht; omega⟩ : Fin 4) = c from Fin.ext hc.symm,
    show (⟨j % 256, by clear hc ht; omega⟩ : Fin 256) = t from Fin.ext ht.symm]
  have hl := slotOf_lt (headR k b h) (headR q b h) s c
  have e : ∀ d : Fin 128, x0 (ix4 b s h d) * x51 (ix6 b h s c t d)
      = ((headR k b h (256 * slotOf (headR k b h) (headR q b h) s c + t) d * headR q b h s d : ℝ) : EReal) := by
    intro d
    rw [show x0 (ix4 b s h d) = head q b h s d by rw [← e0, keep_v0]; exact v0_at hq b h s d,
      show x51 (ix6 b h s c t d) = head k b h (256 * slotOf (headR k b h) (headR q b h) s c + t) d by
        rw [← e51, keep_v51]; exact v51_at hq hk fq fk b h s c t d,
      fq.head, fk.head, ← EReal.coe_mul, mul_comm]
  rw [Finset.sum_congr rfl fun d _ => e d, ← coe_sum,
    Fin.sum_univ_eq_sum_range (fun d => headR k b h (256 * slotOf (headR k b h) (headR q b h) s c + t) d * headR q b h s d) 128,
    ofBits_128, ofBits_bot, Ideal.sqrt_coe, keep_v29, v29_at hq hk fq fk,
    keep_v25', v25_at hq hk fq fk, keep_v14, keep_v8,
    show S V 35 (Proc.devRef .tc main_v14) (ix1 t) = BitVec.ofNat 32 t from read_v14 V t,
    show S V 35 (Proc.devRef .tc main_v8) (ix1 s) = BitVec.ofNat 32 s from read_v8 V s]
  unfold Kept
  generalize slotOf (headR k b h) (headR q b h) s c = n at hl ⊢
  have hw : IntOp.cmpi .sle (IntOp.addi (IntOp.muli (BitVec.ofNat 32 n) 256#32) (BitVec.ofNat 32 (t : ℕ))) (BitVec.ofNat 32 (s : ℕ))
      = BitVec.ofBool (decide (256 * n + (t : ℕ) ≤ s)) := by
    rw [show IntOp.addi (IntOp.muli (BitVec.ofNat 32 n) 256#32) (BitVec.ofNat 32 (t : ℕ)) = BitVec.ofNat 32 (256 * n + t) by
      rw [Nat.mul_comm]; simp [IntOp.addi, IntOp.muli, BitVec.ofNat_add, BitVec.ofNat_mul]]
    have : 256 * n + (t : ℕ) < 2 ^ 31 := by omega
    word_cmp
  rw [hw, Cert.KernelAttnIdeal.Value.select_and, if_neg (by norm_num : ¬ (128 : ℝ) < 0), Ideal.div_coe (by positivity), ← EReal.coe_mul]
  rw [mul_one_div]
  split_ifs <;> rfl

/-- The greatest score of the query is a real number: its own key is kept, and no score is the top. -/
theorem v95_at (b h : Fin 8) (s : Fin 2048) : ∃ μ : ℝ, S V 141 (Proc.devRef .tc main_v95) (ix3 b h s) = (μ : EReal) := by
  classical
  obtain ⟨x, ex⟩ : ∃ x : S8x8x2048x1024.Idx → EReal, S V 136 (Proc.devRef .tc main_v92) = x := ⟨_, rfl⟩
  have hx : ∀ j : Fin 1024, x (ix4 b h s j) = if Kept (headR k b h) (headR q b h) s ⟨j / 256, by omega⟩ (j % 256 : ℕ) then
      ((dot (headR k b h) (headR q b h) (256 * slotOf (headR k b h) (headR q b h) s ⟨j / 256, by omega⟩ + (j % 256 : ℕ)) s / √128 : ℝ) : EReal)
      else ⊥ := by
    intro j
    rw [← ex]
    exact v92_at hq hk fq fk b h s j (c := ⟨j / 256, by omega⟩) (t := ⟨j % 256, by omega⟩) rfl rfl
  have e : S V 141 (Proc.devRef .tc main_v95) (ix3 b h s) = Finset.univ.fold max (⊥ : EReal) fun j : Fin 1024 => x (ix4 b h s j) := by
    rw [show S V 141 = after (ops 138 3) (S V 138) from S_add V 138 3]
    refine (read_v95 (S V 138) b h s).trans ?_
    rw [show S V 138 = after (ops 136 2) (S V 136) from S_add V 136 2, read_v93 (S V 136) ex b h s, ofBits_bot]
    exact max_eq_right (bot_le (α := EReal))
  rw [e]
  generalize hM : (Finset.univ.fold max (⊥ : EReal) fun j : Fin 1024 => x (ix4 b h s j)) = M
  have htop : M < ⊤ := by
    rw [← hM, Finset.fold_max_lt]
    refine ⟨bot_lt_top, fun j _ => ?_⟩
    rw [hx j]
    split_ifs
    · exact EReal.coe_lt_top _
    · exact bot_lt_top
  have hbot : ⊥ < M := by
    rw [← hM]
    have hj : (768 + (s : ℕ) % 256) < 1024 := by omega
    have hle : x (ix4 b h s ⟨768 + (s : ℕ) % 256, hj⟩) ≤ Finset.univ.fold max (⊥ : EReal) fun j : Fin 1024 => x (ix4 b h s j) :=
      (Finset.le_fold_max _).2 (Or.inr ⟨⟨768 + (s : ℕ) % 256, hj⟩, Finset.mem_univ _, le_rfl⟩)
    refine lt_of_lt_of_le ?_ hle
    rw [hx, if_pos]
    · exact EReal.bot_lt_coe _
    · have h3 : (⟨(768 + (s : ℕ) % 256) / 256, by omega⟩ : Fin 4) = 3 := Fin.ext (by show (768 + (s : ℕ) % 256) / 256 = 3; omega)
      refine ⟨Or.inr h3, ?_⟩
      simp only [h3]
      rw [show slotOf (headR k b h) (headR q b h) s 3 = (s : ℕ) / 256 from rfl]
      omega
  exact ⟨M.toReal, (EReal.coe_toReal htop.ne hbot.ne').symm⟩

/-- The softmax of one query. -/
theorem v103_at (b h : Fin 8) (s : Fin 2048) : ∃ μ : ℝ, ∀ (c : Fin 4) (t : Fin 256),
    S V 150 (Proc.devRef .tc main_v103) (ix4 b h s ⟨c * 256 + t, by omega⟩)
      = ((place (headR k b h) (headR q b h) μ s c t / ∑ c, ∑ t, place (headR k b h) (headR q b h) μ s c t : ℝ) : EReal) := by
  classical
  obtain ⟨μ, hμ⟩ := v95_at hq hk fq fk b h s
  refine ⟨μ, fun c t => ?_⟩
  obtain ⟨x92, e92⟩ : ∃ x : S8x8x2048x1024.Idx → EReal, S V 141 (Proc.devRef .tc main_v92) = x := ⟨_, rfl⟩
  obtain ⟨x95, e95⟩ : ∃ x : S8x8x2048.Idx → EReal, S V 141 (Proc.devRef .tc main_v95) = x := ⟨_, rfl⟩
  rw [show S V 150 = after (ops 141 9) (S V 141) from S_add V 141 9]
  refine (read_v103 (S V 141) b h s _ e92 e95).trans ?_
  rw [e95] at hμ
  have hx : ∀ (j : Fin 1024) (c : Fin 4) (t : Fin 256), (c : ℕ) = j / 256 → (t : ℕ) = j % 256 →
      Ideal.exp (x92 (ix4 b h s j) - x95 (ix3 b h s)) = ((place (headR k b h) (headR q b h) μ s c t : ℝ) : EReal) := by
    intro j c t hc ht
    rw [hμ, ← e92, keep_v92, v92_at hq hk fq fk b h s j hc ht]
    unfold Kept place
    split_ifs
    · rw [← EReal.coe_sub, Ideal.exp_coe]
    · rw [show (⊥ : EReal) - (μ : EReal) = ⊥ from rfl, Ideal.exp_bot, EReal.coe_zero]
  rw [hx _ c t (by simp only []; omega) (by simp only []; omega),
    Finset.sum_congr rfl fun j _ => hx j ⟨j / 256, by omega⟩ ⟨j % 256, by omega⟩ rfl rfl,
    sum_places (fun c t => ((place (headR k b h) (headR q b h) μ s c t : ℝ) : EReal))]
  simp only [← coe_sum]
  rw [Ideal.div_coe (place_sum_pos _ _ _ _).ne', ← EReal.coe_mul, mul_one_div]

include hv

/-- The reference's result is the attention of every head. -/
theorem result_eq : (after line.1 V (Proc.devRef .tc main_v107) : Sqkv.Idx → EReal) = attention q k v := by
  funext i
  idx_vars i
  rw [S_all, show S V 154 = after (ops 150 4) (S V 150) from S_add V 150 4]
  obtain ⟨x103, e103⟩ : ∃ x : S8x8x2048x1024.Idx → EReal, S V 150 (Proc.devRef .tc main_v103) = x := ⟨_, rfl⟩
  obtain ⟨x73, e73⟩ : ∃ x : S8x8x2048x4x256x128.Idx → EReal, S V 150 (Proc.devRef .tc main_v73) = x := ⟨_, rfl⟩
  refine (read_v107 (S V 150) i0 i1 i2 e103 e73).trans ?_
  obtain ⟨μ, hμ⟩ := v103_at hq hk fq fk i0 ⟨i2 / 128, by omega⟩ i1
  rw [e103] at hμ
  have h73 : ∀ (c : Fin 4) (t : Fin 256), x73 (ix6 i0 ⟨i2 / 128, by omega⟩ i1 c t ⟨i2 % 128, by omega⟩)
      = head v i0 (i2 / 128 : ℕ) (256 * slotOf (headR k i0 (i2 / 128 : ℕ)) (headR q i0 (i2 / 128 : ℕ)) i1 c + t) (i2 % 128 : ℕ) := fun c t => by
    rw [← e73, keep_v73]
    exact v73_at hq hk hv fq fk i0 ⟨i2 / 128, by omega⟩ i1 c t ⟨i2 % 128, by omega⟩
  have main := result_of_slots (K := headR k i0 (i2 / 128 : ℕ)) (Q := headR q i0 (i2 / 128 : ℕ)) (V := head v i0 (i2 / 128 : ℕ)) i1.isLt (i2 % 128 : ℕ)
    (key := keyOf (headR k i0 (i2 / 128 : ℕ)) (headR q i0 (i2 / 128 : ℕ)) i1) (fun n => rfl)
    (slot := slotOf (headR k i0 (i2 / 128 : ℕ)) (headR q i0 (i2 / 128 : ℕ)) i1) (fun c => dif_pos c.isLt) rfl μ
    (e := place (headR k i0 (i2 / 128 : ℕ)) (headR q i0 (i2 / 128 : ℕ)) μ i1) (fun c t => rfl)
  refine Eq.trans ?_ main
  rw [Finset.sum_comm]
  exact Finset.sum_congr (M := EReal) rfl fun c _ => Finset.sum_congr (M := EReal) rfl fun t _ => congrArg₂ (· * ·) (hμ c t) (h73 c t)

end

end Cert.ReferenceAttnIdeal.Value

end

end
-- ==== Proof.AttnRun.lean ====
module

public import proofs.«01_k».proof.Proof.AttnRef
public import proofs.«01_k».proof.Proof.Gen.Pre_finite_qk
public import Idealize.ShloMosaic.Lib.KernelVsHost
public import Idealize.ShloMosaic.Lib.ReduceAll

/-!
The run of the attention reference, and what its precondition says of queries and keys.
-/

@[expose] public section
set_option maxRecDepth 16384

noncomputable section

namespace Cert.ReferenceAttnIdeal.Value

open Idealize.ShloMosaic Idealize.ShloMosaic.TcCoe Idealize.SL.Sem Idealize.ShloMosaic.StableHlo
open Cert.Attn Cert.ReferenceAttnIdeal Cert.ReferenceAttnIdeal.Gen

theorem line_bufs : (line.1).Forall fun op => op.bufs ⊆ tcRefs τ sig := by
  simp [line]

theorem line_fresh : ∀ op ∈ line.1, op.fresh = ∅ := by
  unfold line
  intro _ h
  (repeat (cases h with | head => rfl | tail _ h => ?_))
  exact nomatch h

theorem keep_arg0 (V : Valuation τ sig (Elt Ideal)) : after line.1 V (Proc.devRef .tc main_arg0) = V (Proc.devRef .tc main_arg0) := by
  unfold line; after_reads_simp

theorem keep_arg1 (V : Valuation τ sig (Elt Ideal)) : after line.1 V (Proc.devRef .tc main_arg1) = V (Proc.devRef .tc main_arg1) := by
  unfold line; after_reads_simp

theorem keep_arg2 (V : Valuation τ sig (Elt Ideal)) : after line.1 V (Proc.devRef .tc main_arg2) = V (Proc.devRef .tc main_arg2) := by
  unfold line; after_reads_simp

/-- The reference runs; its arguments are unchanged, and its result is what its operations compute. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v107) = after line.1 (launchContents m c) (Proc.devRef .tc main_v107)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine θ_run_mono (run_hlo defs main (ops := line.1) line.2 (by decide) (by decide) line_bufs line_fresh m ρ) fun r hr c => ?_
  refine ⟨hr c _, ?_, ?_, ?_⟩
  · rw [hr c, keep_arg0]
  · rw [hr c, keep_arg1]
  · rw [hr c, keep_arg2]

/-- The result of the reference on finite queries and keys. -/
theorem final (m : (ℓ : Loc nD τ sig) → Buf (Elt Ideal) ℓ) (c : Dev nD) {q k v : Sqkv.Idx → EReal}
    (hq : m ((c.tc : Thread nD τ).loc main_arg0) = q) (hk : m ((c.tc : Thread nD τ).loc main_arg1) = k)
    (hv : m ((c.tc : Thread nD τ).loc main_arg2) = v) (fq : Finite q) (fk : Finite k) :
    (after line.1 (launchContents m c) (Proc.devRef .tc main_v107) : Sqkv.Idx → EReal) = attention q k v :=
  result_eq hq hk hv fq fk

end Cert.ReferenceAttnIdeal.Value

namespace Cert.Attn

open Idealize.ShloMosaic

/-- The magnitude of a value is below infinity only if the value is a real number. -/
theorem coe_of_abs_lt {x : EReal}
    (h : FloatOps.cmpf (F := Ideal) (φ := .f32) .olt (FloatOps.hostAbsf (F := Ideal) (φ := .f32) x) (FloatOps.ofBits (F := Ideal) .f32 0x7F800000#32) = 1#1) :
    x = (x.toReal : EReal) := by
  rw [← Ideal.xori_weird_eq_hostAbsf_olt_inf] at h
  have h' : ¬ (x = ⊤ ∨ x = ⊥) := by
    intro hx
    rw [show FloatOps.weird (F := Ideal) (show Ideal .f32 from x) = 1#1 from congrArg BitVec.ofBool (decide_eq_true hx)] at h
    exact absurd h (by decide)
  exact (EReal.coe_toReal (fun e => h' (Or.inl e)) fun e => h' (Or.inr e)).symm

/-- The precondition says that queries and keys are real numbers. -/
theorem finite_of_pre {q k v : Sqkv.Idx → EReal} (h : Cert.Pre_finite_qk.fn (F := Ideal) q k v = fun _ => 1#1) : Finite q ∧ Finite k := by
  have h0 := congrFun h ix0
  obtain ⟨h1, h2⟩ := IntOp.andi_eq_one.1 h0
  haveI : Subsingleton Cert.Pre_finite_qk.S_.Idx := ⟨fun a b => funext fun i => i.elim0⟩
  exact ⟨fun i => coe_of_abs_lt (Host.reduce_andi_all _ _ _ _ _ h1 i), fun i => coe_of_abs_lt (Host.reduce_andi_all _ _ _ _ _ h2 i)⟩

end Cert.Attn

end

end
-- ==== Proof.PoolSpec.lean ====
module

public import Idealize.ShloMosaic.Lib.Pointwise

/-!
The pooling of the prompt, in plain terms: the mean of the last 2, 4, 8 or 16 positions of a lane (as many as there are
at the start of the prompt) less the lane itself, mixed by one weight matrix per group of 256 lanes, and scaled.
-/

@[expose] public section

noncomputable section

open Idealize.ShloMosaic

namespace Cert.Pool

/-- The shape of the pooled inputs and of the result. -/
abbrev Su : Shape := ⟨3, ![8, 2048, 1024]⟩
/-- The shape of the mixing weights. -/
abbrev Sw : Shape := ⟨3, ![4, 256, 256]⟩
/-- The shape of the scale. -/
abbrev Ss : Shape := ⟨1, ![1024]⟩

/-- Every entry is a real number. -/
def Finite (x : Su.Idx → EReal) : Prop := ∀ i, x i = ((x i).toReal : EReal)

/-- The entry of batch row `b`, position `s` and lane `l`, as a real number. -/
def entry (u : Su.Idx → EReal) (b l s : ℕ) : ℝ :=
  (u (ix3 (Fin.ofNat 8 b) (Fin.ofNat 2048 s) (Fin.ofNat 1024 l))).toReal

theorem Finite.entry {u : Su.Idx → EReal} (h : Finite u) (b : Fin 8) (s : Fin 2048) (l : Fin 1024) :
    u (ix3 b s l) = ((Pool.entry u b l s : ℝ) : EReal) := by
  rw [h (ix3 b s l)]
  unfold Pool.entry
  rw [Fin.ofNat_val_eq_self, Fin.ofNat_val_eq_self, Fin.ofNat_val_eq_self]

/-- A lane with 16 zeros in front of it. -/
def padded (U : ℕ → ℝ) (n : ℕ) : ℝ := if n < 16 then 0 else U (n - 16)

/-- The sum of the last `w` entries of the padded lane up to entry `n`. -/
def window (U : ℕ → ℝ) (w n : ℕ) : ℝ := ∑ i ∈ Finset.range w, padded U (n - i)

/-- The number of positions in the window of width `w` that ends at position `s`. -/
def count (w s : ℕ) : ℕ := min w (s + 1)

/-- The windowed mean of a lane less the lane itself. -/
def pooled (U : ℕ → ℝ) (w s : ℕ) : ℝ := window U w (16 + s) * (1 / (count w s : ℝ)) - U s

/-- The pooled, mixed and scaled result. -/
def pool (u : Su.Idx → EReal) (W : Sw.Idx → EReal) (sc : Ss.Idx → EReal) (b s g j : ℕ) : EReal :=
  (∑ c : Fin 256, ((pooled (entry u b (256 * g + c)) (2 ^ (g + 1)) s : ℝ) : EReal) * W (ix3 (Fin.ofNat 4 g) c (Fin.ofNat 256 j)))
    * sc (ix1 (Fin.ofNat 1024 (256 * g + j)))

/-- The whole result. -/
def pooledAll (u : Su.Idx → EReal) (W : Sw.Idx → EReal) (sc : Ss.Idx → EReal) (y : Su.Idx) : EReal :=
  pool u W sc (y 0 : ℕ) (y 1 : ℕ) ((y 2 : ℕ) / 256) ((y 2 : ℕ) % 256)

theorem pool_congr {u : Su.Idx → EReal} {W : Sw.Idx → EReal} {sc : Ss.Idx → EReal} {b p s s' g g' j j' : ℕ} (hs : s = s')
    (hg : g = g') (hj : j = j') : pool u W sc b (p + s) g j = pool u W sc b (p + s') g' j' := by
  subst hs hg hj; rfl

theorem count_ne_zero {w : ℕ} (h : w ≠ 0) (s : ℕ) : ((count w s : ℕ) : ℝ) ≠ 0 := by
  have : count w s ≠ 0 := by unfold count; omega
  exact_mod_cast this

/-- The difference of two running sums is the sum of the window between them. -/
theorem prefix_sub (U : ℕ → ℝ) {w s : ℕ} (hw : w ≤ 16) :
    (∑ i ∈ Finset.range (16 + s), padded U (i + 1)) - ∑ i ∈ Finset.range (16 - w + s), padded U (i + 1) = window U w (16 + s) := by
  rw [show 16 + s = (16 - w + s) + w by omega, Finset.sum_range_add, add_sub_cancel_left]
  unfold window
  rw [← Finset.sum_range_reflect]
  refine Finset.sum_congr rfl fun i hi => congrArg _ ?_
  have := Finset.mem_range.1 hi
  omega

end Cert.Pool

end

end
-- ==== Proof.PoolTile.lean ====
module

public import proofs.«01_k».proof.Proof.Gen.KernelPoolIdeal.Frame
public import proofs.«01_k».proof.Proof.PoolSpec
public import Idealize.ShloMosaic.Lib.KernelVsHost
public import Idealize.ShloMosaic.Lib.Pipeline.ReadBack

/-!
One group of lanes at one grid point of the pooling kernel: the rows of its scratch, their windowed sums by shifted
additions, and the mixed and scaled means.
-/

@[expose] public section
set_option maxRecDepth 16384

noncomputable section

open Idealize.ShloMosaic Idealize.ShloMosaic.TcCoe Idealize.SL.Sem
open Idealize.ShloMosaic.Pipeline

namespace Cert.Pool

/-- The smaller of a small word and a position's word, as a number. -/
theorem minsi_toInt {a b : ℕ} (ha : a < 2 ^ 31) (hb : b < 2 ^ 31) :
    ((IntOp.minsi (BitVec.ofNat 32 a) (BitVec.ofNat 32 b)).toInt : ℝ) = ((min a b : ℕ) : ℝ) := by
  have h1 : (BitVec.ofNat 32 a).toInt = a := by
    rw [BitVec.toInt_eq_toNat_of_lt (by rw [BitVec.toNat_ofNat]; omega), BitVec.toNat_ofNat]; omega
  have h2 : (BitVec.ofNat 32 b).toInt = b := by
    rw [BitVec.toInt_eq_toNat_of_lt (by rw [BitVec.toNat_ofNat]; omega), BitVec.toNat_ofNat]; omega
  unfold IntOp.minsi
  by_cases h : a < b
  · rw [if_pos (by rw [BitVec.slt_iff_toInt_lt, h1, h2]; exact_mod_cast h), h1, min_eq_left (by omega)]; norm_cast
  · rw [if_neg (by rw [BitVec.slt_iff_toInt_lt, h1, h2]; exact_mod_cast h), h2, min_eq_right (by omega)]; norm_cast

end Cert.Pool

namespace Cert.KernelPoolIdeal.Value

open Cert.KernelPoolIdeal Cert.KernelPoolIdeal.Gen Cert.Pool

/-- The sum of a tile and the tile shifted down by `s` rows, the shift brought around the end. -/
def shifted (s : BitVec 32) (x : FVec Ideal S528x256 .f32) : FVec Ideal S528x256 .f32 :=
  addf x (dynamicRotate 0 s none x rotates_S528x256_d0)

/-- Below the rows the shift brings around the end, the sum is that of the row and the row `s` above it. -/
theorem shifted_apply {s k : ℕ} (sb : BitVec 32) (hs : sb.toNat = s) (h528 : s < 528) {x : FVec Ideal S528x256 .f32}
    {c : Fin 256} {A : ℕ → ℝ} (hx : ∀ r : Fin 528, k ≤ (r : ℕ) → x (ix2 r c) = ((A r : ℝ) : EReal))
    (r : Fin 528) (hr : k + s ≤ (r : ℕ)) : shifted sb x (ix2 r c) = ((A r + A (r - s) : ℝ) : EReal) := by
  unfold shifted
  show x (ix2 r c) + dynamicRotate 0 sb none x rotates_S528x256_d0 (ix2 r c) = _
  rw [dynamicRotate_apply 0 sb x rotates_S528x256_d0 (ix2 r c) (ix2 (⟨r - s, by omega⟩ : Fin 528) c) (by
    intro b
    match b with
    | ⟨0, _⟩ =>
      show (r : ℕ) - s = (r + 528 - sb.toNat % 528) % 528
      rw [hs, Nat.mod_eq_of_lt h528]
      have := r.isLt
      rw [show (r : ℕ) + 528 - s = (r - s) + 528 by omega, Nat.add_mod_right, Nat.mod_eq_of_lt (by omega)]
    | ⟨1, _⟩ => rfl), hx r (by omega), hx ⟨r - s, by omega⟩ (by show k ≤ (r : ℕ) - s; omega), ← EReal.coe_add]

/-- The windowed mean of a tile less the tile, mixed by a matrix and scaled. -/
def mix (w : BitVec 32) (pos : IVec S512x1 32) (acc x : FVec Ideal S528x256 .f32) (wt : FVec Ideal S1x256x256 .bf16)
    (sc : FVec Ideal S1x256 .f32) : FVec Ideal S1x512x256 .bf16 :=
  shapeCast S1x512x256 (truncf .bf16 (mulf (matmul dot_S512x256_S256x256_S512x256_1_0_0_1_n_n none
    (truncf .bf16 (subf (mulf (extractStridedSlice S512x256 ![16, 0] acc slices_S528x256_o16_0_S512x256)
      (broadcastTo S512x256 (divf (broadcast S512x1 (Scalar.ofBits .f32 0x3F800000#32))
        (sitofp .f32 (minsi (broadcast S512x1 w) (addi pos (broadcast S512x1 1#32))))) broadcasts_S512x1_S512x256))
      (extractStridedSlice S512x256 ![16, 0] x slices_S528x256_o16_0_S512x256)) bitsLt_bf16_f32)
    (shapeCast S256x256 wt shapeCasts_S1x256x256_S256x256) (constant S512x256 .f32 0x00000000#32))
    (broadcastTo S512x256 (shapeCast S1x256 sc shapeCasts_S1x256_S1x256) broadcasts_S1x256_S512x256)) bitsLt_bf16_f32)
    shapeCasts_S512x256_S1x512x256

/-- One entry of the mixed and scaled means, for sums and rows that are real numbers. -/
theorem mix_apply {w p : ℕ} (hw : w < 2 ^ 31) (w0 : w ≠ 0) (hp : p + 1 < 2 ^ 31) {pos : IVec S512x1 32}
    {acc x : FVec Ideal S528x256 .f32} {wt : FVec Ideal S1x256x256 .bf16} {sc : FVec Ideal S1x256 .f32} {A X : ℕ → ℝ}
    (r : Fin 512) (j : Fin 256) (hpos : pos (ix2 r 0) = BitVec.ofNat 32 p)
    (hacc : ∀ c : Fin 256, acc (ix2 (⟨16 + r, by omega⟩ : Fin 528) c) = ((A c : ℝ) : EReal))
    (hx : ∀ c : Fin 256, x (ix2 (⟨16 + r, by omega⟩ : Fin 528) c) = ((X c : ℝ) : EReal)) :
    mix (BitVec.ofNat 32 w) pos acc x wt sc (ix3 0 r j)
      = (∑ c : Fin 256, ((A c * (1 / (count w p : ℝ)) - X c : ℝ) : EReal) * wt (ix3 0 c j)) * sc (ix2 0 j) := by
  have hn := count_ne_zero w0 p
  have hd : ((IntOp.minsi (BitVec.ofNat 32 w) (pos (ix2 r 0) + 1#32)).toInt : ℝ) = ((count w p : ℕ) : ℝ) := by
    rw [hpos, show BitVec.ofNat 32 p + 1#32 = BitVec.ofNat 32 (p + 1) from (BitVec.ofNat_add p 1).symm, minsi_toInt hw hp]
    rfl
  pointwise [mix]
  refine congrArg (fun z : EReal => z * sc (ix2 0 j)) (Finset.sum_congr (M := EReal) rfl fun c _ =>
    congrArg (fun z : EReal => z * wt (ix3 0 c j)) ?_)
  rw [show (FloatOps.sitofp FTy.f32 (IntOp.minsi (BitVec.ofNat 32 w) (IntOp.addi (pos (ix2 r 0)) 1#32)) : Ideal .f32)
      = (((count w p : ℕ) : ℝ) : EReal) from congrArg (fun y : ℝ => (y : EReal)) hd, Ideal.div_coe hn, one_mul, hacc c, hx c,
    ← EReal.coe_mul, ← EReal.coe_sub]

/-- The scratch of a grid point read at one group of lanes, from its two stores: the 16 rows in front of the block of
    positions, and that block. -/
theorem rows_apply {sig' : RefSig} {κ : Kind} {sp : Space} (v : View sig' κ sp S528x1024 .f32) (P : ℕ → ℕ → ℝ)
    (main : FVec Ideal S512x1024 .f32) (top : FVec Ideal S16x1024 .f32)
    (hmain : ∀ (r : Fin 512) (l : Fin 1024), main (ix2 r l) = ((P l (16 + r) : ℝ) : EReal))
    (htop : ∀ (r : Fin 16) (l : Fin 1024), top (ix2 r l) = ((P l r : ℝ) : EReal))
    {off : ℕ} (inb : ∀ a, (![0, off] : Fin 2 → ℕ) a + S528x256.size a ≤ S528x1024.size a) (r : Fin 528) (c : Fin 256) :
    (v.readCov (Val := Elt Ideal)
      [⟨Rect.unit (s := S528x1024) ![16, 0] S512x1024.size inb_S528x1024_S512x1024_16_0, main⟩,
        ⟨Rect.unit (s := S528x1024) ![0, 0] S16x1024.size inb_S528x1024_S16x1024_0_0, top⟩]
      (Rect.unit (s := S528x1024) ![0, off] S528x256.size inb).toLoadRect (ix2 r c) : EReal)
      = ((P (off + c) r : ℝ) : EReal) := by
  rw [View.readCov_eq_canon']
  let G : S528x1024.Idx → EReal := fun y => ((P (y 1) (y 0) : ℝ) : EReal)
  let L : List (View.Piece (Elt Ideal) S528x1024 .f32) :=
    [⟨Rect.unit (s := S528x1024) ![16, 0] S512x1024.size inb_S528x1024_S512x1024_16_0, main⟩,
      ⟨Rect.unit (s := S528x1024) ![0, 0] S16x1024.size inb_S528x1024_S16x1024_0_0, top⟩]
  have hL : View.PiecesOf (Val := Elt Ideal) (s := S528x1024) (e := .f32) G L := by
    refine ⟨fun (x : S512x1024.Idx) => ?_, fun (x : S16x1024.Idx) => ?_, trivial⟩
    · idx_vars x
      refine (hmain x0 x1).trans (congrArg (fun z : ℝ => (z : EReal)) (congrArg₂ P ?_ ?_))
      · show (x1 : ℕ) = 0 + 1 * x1; omega
      · show 16 + (x0 : ℕ) = 16 + 1 * x0; omega
    · idx_vars x
      refine (htop x0 x1).trans (congrArg (fun z : ℝ => (z : EReal)) (congrArg₂ P ?_ ?_))
      · show (x1 : ℕ) = 0 + 1 * x1; omega
      · show (x0 : ℕ) = 0 + 1 * x0; omega
  have hy : ∃ p ∈ L, (Rect.unit (s := S528x1024) ![0, off] S528x256.size inb).toLoadRect.idx (ix2 r c) ∈ p.1.set := by
    have h1 : off + 256 ≤ 1024 := inb 1
    by_cases h : (r : ℕ) < 16
    · refine ⟨_, List.mem_cons_of_mem _ List.mem_cons_self, ?_⟩
      refine (Rect.mem_set_unit (inb := inb_S528x1024_S16x1024_0_0)).2 fun a => ?_
      match a with
      | ⟨0, _⟩ => show 0 ≤ 0 + 1 * (r : ℕ) ∧ 0 + 1 * (r : ℕ) < 0 + 16; omega
      | ⟨1, _⟩ => show 0 ≤ off + 1 * (c : ℕ) ∧ off + 1 * (c : ℕ) < 0 + 1024; omega
    · refine ⟨_, List.mem_cons_self, ?_⟩
      refine (Rect.mem_set_unit (inb := inb_S528x1024_S512x1024_16_0)).2 fun a => ?_
      match a with
      | ⟨0, _⟩ => show 16 ≤ 0 + 1 * (r : ℕ) ∧ 0 + 1 * (r : ℕ) < 16 + 512; omega
      | ⟨1, _⟩ => show 0 ≤ off + 1 * (c : ℕ) ∧ off + 1 * (c : ℕ) < 0 + 1024; omega
  refine ((View.read_writes_junk_apply_eq_canon v _ L).symm.trans
    (View.read_writes_apply_of_pieces v _ G L hL.mem _ hy)).trans ?_
  show ((P (off + 1 * (c : ℕ)) (0 + 1 * (r : ℕ)) : ℝ) : EReal) = _
  rw [one_mul, one_mul, zero_add]

/-- Adding to the windowed sums of width `n` those `n` rows above gives the windowed sums of width `2 n`. -/
theorem doubled {n : ℕ} (sb : BitVec 32) (hs : sb.toNat = n) (h528 : n < 528) (hn : 1 ≤ n) {x : FVec Ideal S528x256 .f32}
    {A : ℕ → ℕ → ℝ}
    (hx : ∀ (c : Fin 256) (r : Fin 528), n - 1 ≤ (r : ℕ) → x (ix2 r c) = ((∑ i ∈ Finset.range n, A c (r - i) : ℝ) : EReal))
    (c : Fin 256) (r : Fin 528) (hr : n + n - 1 ≤ (r : ℕ)) :
    shifted sb x (ix2 r c) = ((∑ i ∈ Finset.range (n + n), A c (r - i) : ℝ) : EReal) := by
  rw [shifted_apply sb hs h528 (A := fun r => ∑ i ∈ Finset.range n, A c (r - i)) (hx c) r (by omega), Finset.sum_range_add]
  refine congrArg (fun z : ℝ => (z : EReal)) (congrArg _ (Finset.sum_congr rfl fun i _ => ?_))
  rw [Nat.sub_sub]

/-- One group of lanes at one grid point, from its windowed sums: the pooled positions mixed and scaled. -/
theorem group_apply {w base : ℕ} (w0 : w ≠ 0) (hw : w ≤ 16) (hb : base ≤ 4096) {pos : IVec S512x1 32}
    {acc x : FVec Ideal S528x256 .f32} {wt : FVec Ideal S1x256x256 .bf16} {sc : FVec Ideal S1x256 .f32} {U : ℕ → ℕ → ℝ}
    (hpos : ∀ r : Fin 512, pos (ix2 r 0) = BitVec.ofNat 32 (base + r))
    (hx : ∀ (c : Fin 256) (r : Fin 528), x (ix2 r c) = ((padded (U c) (base + r) : ℝ) : EReal))
    (hacc : ∀ (c : Fin 256) (r : Fin 528), w - 1 ≤ (r : ℕ) →
      acc (ix2 r c) = ((∑ i ∈ Finset.range w, padded (U c) (base + (r - i)) : ℝ) : EReal))
    (r : Fin 512) (j : Fin 256) :
    mix (BitVec.ofNat 32 w) pos acc x wt sc (ix3 0 r j)
      = (∑ c : Fin 256, ((pooled (U c) w (base + r) : ℝ) : EReal) * wt (ix3 0 c j)) * sc (ix2 0 j) := by
  refine mix_apply (A := fun c => window (U c) w (16 + (base + r))) (X := fun c => U c (base + r)) (by omega) w0 (by omega) r j (hpos r)
    (fun c => ?_) fun c => ?_
  · refine (hacc c _ (by show w - 1 ≤ 16 + (r : ℕ); omega)).trans (congrArg (fun z : ℝ => (z : EReal)) ?_)
    unfold window
    refine Finset.sum_congr rfl fun i hi => congrArg (padded (U c)) ?_
    have := Finset.mem_range.1 hi
    show base + (16 + (r : ℕ) - i) = 16 + (base + r) - i
    omega
  · refine (hx c _).trans (congrArg (fun z : ℝ => (z : EReal)) ?_)
    show padded (U c) (base + (16 + (r : ℕ))) = _
    unfold padded
    rw [if_neg (by omega)]
    exact congrArg _ (by omega)

section Groups

variable {base : ℕ} (hb : base ≤ 4096) {pos : IVec S512x1 32} {x : FVec Ideal S528x256 .f32} {wt : FVec Ideal S1x256x256 .bf16}
  {sc : FVec Ideal S1x256 .f32} {U : ℕ → ℕ → ℝ} (hpos : ∀ r : Fin 512, pos (ix2 r 0) = BitVec.ofNat 32 (base + r))
  (hx : ∀ (c : Fin 256) (r : Fin 528), x (ix2 r c) = ((padded (U c) (base + r) : ℝ) : EReal))

include hx in
theorem sums_2 (c : Fin 256) (r : Fin 528) (hr : 2 - 1 ≤ (r : ℕ)) : shifted 1#32 x (ix2 r c)
    = ((∑ i ∈ Finset.range 2, padded (U c) (base + (r - i)) : ℝ) : EReal) :=
  doubled (n := 1) 1#32 rfl (by decide) le_rfl (A := fun c n => padded (U c) (base + n))
    (fun c r _ => (hx c r).trans (by simp)) c r hr

include hx in
theorem sums_4 (c : Fin 256) (r : Fin 528) (hr : 4 - 1 ≤ (r : ℕ)) : shifted 2#32 (shifted 1#32 x) (ix2 r c)
    = ((∑ i ∈ Finset.range 4, padded (U c) (base + (r - i)) : ℝ) : EReal) :=
  doubled (n := 2) 2#32 rfl (by decide) (by decide) (A := fun c n => padded (U c) (base + n)) (sums_2 hx) c r hr

include hx in
theorem sums_8 (c : Fin 256) (r : Fin 528) (hr : 8 - 1 ≤ (r : ℕ)) : shifted 4#32 (shifted 2#32 (shifted 1#32 x)) (ix2 r c)
    = ((∑ i ∈ Finset.range 8, padded (U c) (base + (r - i)) : ℝ) : EReal) :=
  doubled (n := 4) 4#32 rfl (by decide) (by decide) (A := fun c n => padded (U c) (base + n)) (sums_4 hx) c r hr

include hx in
theorem sums_16 (c : Fin 256) (r : Fin 528) (hr : 16 - 1 ≤ (r : ℕ)) :
    shifted 8#32 (shifted 4#32 (shifted 2#32 (shifted 1#32 x))) (ix2 r c)
    = ((∑ i ∈ Finset.range 16, padded (U c) (base + (r - i)) : ℝ) : EReal) :=
  doubled (n := 8) 8#32 rfl (by decide) (by decide) (A := fun c n => padded (U c) (base + n)) (sums_8 hx) c r hr

include hb hpos hx

/-- The first group of lanes, with windows of 2 positions. -/
theorem group_2 {i : grid0.Coords} (hi : k0_pay5 i = pos) (r : Fin 512) (j : Fin 256) : k0_pay7 (F := Ideal) (k0_pay6 i x wt) sc (ix3 0 r j)
    = (∑ c : Fin 256, ((pooled (U c) 2 (base + r) : ℝ) : EReal) * wt (ix3 0 c j)) * sc (ix2 0 j) := by
  rw [← hi] at hpos
  exact group_apply (w := 2) (by decide) (by decide) hb hpos hx (sums_2 hx) r j

/-- The second group of lanes, with windows of 4 positions. -/
theorem group_4 (r : Fin 512) (j : Fin 256) : k0_pay8 (F := Ideal) pos x wt sc (ix3 0 r j)
    = (∑ c : Fin 256, ((pooled (U c) 4 (base + r) : ℝ) : EReal) * wt (ix3 0 c j)) * sc (ix2 0 j) :=
  group_apply (w := 4) (by decide) (by decide) hb hpos hx (sums_4 hx) r j

/-- The third group of lanes, with windows of 8 positions. -/
theorem group_8 (r : Fin 512) (j : Fin 256) : k0_pay9 (F := Ideal) pos x wt sc (ix3 0 r j)
    = (∑ c : Fin 256, ((pooled (U c) 8 (base + r) : ℝ) : EReal) * wt (ix3 0 c j)) * sc (ix2 0 j) :=
  group_apply (w := 8) (by decide) (by decide) hb hpos hx (sums_8 hx) r j

/-- The fourth group of lanes, with windows of 16 positions. -/
theorem group_16 (r : Fin 512) (j : Fin 256) : k0_pay1 (F := Ideal) pos x (k0_pay10 x) wt sc (ix3 0 r j)
    = (∑ c : Fin 256, ((pooled (U c) 16 (base + r) : ℝ) : EReal) * wt (ix3 0 c j)) * sc (ix2 0 j) :=
  group_apply (w := 16) (by decide) (by decide) hb hpos hx (sums_16 hx) r j

end Groups

end Cert.KernelPoolIdeal.Value

end

end
-- ==== Proof.PoolValue.lean ====
module

public import proofs.«01_k».proof.Proof.PoolTile
public import Idealize.ShloMosaic.Lib.Pipeline.ValueKit

/-!
The value of the pooling kernel over the extended reals: after its 32 points, four blocks of 512 positions per batch row,
the result array is the pooled, mixed and scaled prompt.
-/

@[expose] public section
set_option maxRecDepth 16384

noncomputable section

open Idealize.ShloMosaic Idealize.ShloMosaic.TcCoe Idealize.SL.Sem
open Idealize.ShloMosaic.Pipeline (Dat)

namespace Cert.KernelPoolIdeal.Value

open Cert.KernelPoolIdeal Cert.KernelPoolIdeal.Gen Cert.Pool

variable (m : (ℓ : Loc nD τ sig) → Buf (Elt Ideal) ℓ)

/-- The block every window stands at, at every grid point, and the point's place in its batch row. -/
theorem idx_val : ∀ t : Fin cfg0.N, win0_0.index t = ![t.val / 4, t.val % 4, 0]
    ∧ win0_1.index t = ![t.val / 4, t.val % 4 * 32 - 1, 0]
    ∧ win0_2.index t = ![0, 0, 0]
    ∧ win0_3.index t = ![0, 0]
    ∧ win0_4.index t = ![t.val / 4, t.val % 4, 0]
    ∧ ((grid0.coords t) 1 : ℕ) = t.val % 4 :=
  (by decide +kernel : ∀ t : Fin grid0.N, _)

/-- The positions of a point's block, as words. -/
theorem pos_apply (t : Fin cfg0.N) (r : Fin 512) :
    k0_pay5 (grid0.coords t) (ix2 r 0) = BitVec.ofNat 32 (512 * (t.val % 4) + r) := by
  have h := (idx_val t).2.2.2.2.2
  pointwise [k0_pay5]
  rw [h]
  have : t.val % 4 < 4 := Nat.mod_lt _ (by decide)
  apply BitVec.eq_of_toNat_eq
  simp only [IntOp.addi, IntOp.muli, Scalar.muli, BitVec.toNat_add, BitVec.toNat_mul, BitVec.toNat_ofNat]
  omega

/-- The block of positions at a grid point. -/
theorem block_u (c : Dev nD) (t : Fin cfg0.N) {u : Su.Idx → EReal} (hu : m ((c : Thread nD τ).loc main_arg0) = u)
    (fu : Finite u) (r : Fin 512) (l : Fin 1024) :
    (iblk m c 0 t (ix3 0 r l) : EReal) = ((entry u (t.val / 4) l (512 * (t.val % 4) + r) : ℝ) : EReal) := by
  have ht : t.val < 32 := t.isLt
  refine Eq.trans ?_ (fu.entry ⟨t.val / 4, by omega⟩ ⟨512 * (t.val % 4) + r, by omega⟩ l)
  rw [← hu]
  blk_point [iblk, V, idx_val t]

/-- The 16 positions in front of the block of positions at a grid point that is not the first of its batch row. -/
theorem block_halo (c : Dev nD) (t : Fin cfg0.N) (h4 : 1 ≤ t.val % 4) {u : Su.Idx → EReal}
    (hu : m ((c : Thread nD τ).loc main_arg0) = u) (fu : Finite u) (r : Fin 16) (l : Fin 1024) :
    (iblk m c 1 t (ix3 0 r l) : EReal) = ((entry u (t.val / 4) l (512 * (t.val % 4) + r - 16) : ℝ) : EReal) := by
  have ht : t.val < 32 := t.isLt
  refine Eq.trans ?_ (fu.entry ⟨t.val / 4, by omega⟩ ⟨512 * (t.val % 4) + r - 16, by omega⟩ l)
  rw [← hu]
  blk_point [iblk, V, idx_val t]

/-- The mixing weights, whole at every point. -/
theorem block_w (c : Dev nD) (t : Fin cfg0.N) {W : Sw.Idx → EReal} (hw : m ((c : Thread nD τ).loc main_arg1) = W)
    (g : Fin 4) (k j : Fin 256) : (iblk m c 2 t (ix3 g k j) : EReal) = W (ix3 g k j) := by
  rw [← hw]
  blk_point [iblk, V, idx_val t]

/-- The scale, whole at every point. -/
theorem block_s (c : Dev nD) (t : Fin cfg0.N) {sc : Ss.Idx → EReal} (hs : m ((c : Thread nD τ).loc main_arg2) = sc)
    (l : Fin 1024) : (iblk m c 3 t (ix2 0 l) : EReal) = sc (ix1 l) := by
  rw [← hs]
  blk_point [iblk, V, idx_val t]

/-- A load from an operand's buffer reads the operand's block. -/
theorem readAt_whole {s : Shape} {e : EltTy} {a : Memref sig .tc .vmem s e} (h : a.IsWhole) (x : Vec Ideal s e) (r : Rect s) :
    View.readAt (Elt Ideal) a.view r (h.unread x) = View.ld x r := by
  rw [View.readAt_eq_ld, Memref.IsWhole.read_unread]

section Point

variable (c : Dev nD) (t : Fin cfg0.N) {u : Su.Idx → EReal} {W : Sw.Idx → EReal} {sc : Ss.Idx → EReal}
  (hu : m ((c : Thread nD τ).loc main_arg0) = u) (fu : Finite u) (hw : m ((c : Thread nD τ).loc main_arg1) = W)
  (hs : m ((c : Thread nD τ).loc main_arg2) = sc)

/-- The block of positions as the kernel keeps it in its scratch. -/
theorem main_apply {a : Memref sig .tc .vmem S1x512x1024 .f32} (h : a.IsWhole) (x : Vec Ideal S1x512x1024 .f32) (r : Fin 512)
    (l : Fin 1024) : (k0_pay4 (F := Ideal) (View.readAt (Elt Ideal) a.view (Rect.unit (s := S1x512x1024) ![0, 0, 0] S1x512x1024.size
      inb_S1x512x1024_S1x512x1024_0_0_0).toLoadRect (h.unread x)) (ix2 r l) : EReal) = x (ix3 0 r l) := by
  rw [readAt_whole]
  pointwise [k0_pay4]

/-- The rows in front of the block as the kernel keeps them in its scratch. -/
theorem halo_apply {a : Memref sig .tc .vmem S1x16x1024 .f32} (h : a.IsWhole) (x : Vec Ideal S1x16x1024 .f32) (r : Fin 16)
    (l : Fin 1024) : (k0_pay3 (F := Ideal) (View.readAt (Elt Ideal) a.view (Rect.unit (s := S1x16x1024) ![0, 0, 0] S1x16x1024.size
      inb_S1x16x1024_S1x16x1024_0_0_0).toLoadRect (h.unread x)) (ix2 r l) : EReal) = x (ix3 0 r l) := by
  rw [readAt_whole]
  pointwise [k0_pay3]

/-- The rows in front of the first block of a batch row are zeros. -/
theorem zeros_apply (r : Fin 16) (l : Fin 1024) : (k0_pay2 (F := Ideal) (ix2 r l) : EReal) = ((0 : ℝ) : EReal) := by
  pointwise [k0_pay2]
  rfl

include hu fu in
theorem padded_block (r : Fin 512) (l : Fin 1024) : (iblk m c 0 t (ix3 0 r l) : EReal)
    = ((padded (entry u (t.val / 4) l) (512 * (t.val % 4) + (16 + r)) : ℝ) : EReal) := by
  rw [block_u m c t hu fu r l]
  unfold padded
  rw [if_neg (by omega), show 512 * (t.val % 4) + (16 + (r : ℕ)) - 16 = 512 * (t.val % 4) + r by omega]

include hu fu in
/-- The scratch at a point that is the first of its batch row. -/
theorem rows_A (h0 : t.val % 4 = 0) {off : ℕ} (inb : ∀ a, (![0, off] : Fin 2 → ℕ) a + S528x256.size a ≤ S528x1024.size a)
    (k : Fin 256) (r : Fin 528) :
    (scM0_0.view.readCov (Val := Elt Ideal) (kernelRun0_A.sl.HS0_2 c (ms0_0 t) (hs0_0 t) (iblk m c 0 t))
      (Rect.unit (s := S528x1024) ![0, off] S528x256.size inb).toLoadRect (ix2 r k) : EReal)
      = ((padded (entry u (t.val / 4) (off + k)) (512 * (t.val % 4) + r) : ℝ) : EReal) := by
  refine rows_apply _ (fun l n => padded (entry u (t.val / 4) l) (512 * (t.val % 4) + n)) _ _
    (fun r l => (main_apply _ _ r l).trans (padded_block m c t hu fu r l)) (fun r l => (zeros_apply r l).trans ?_) inb r k
  rw [h0]
  unfold padded
  rw [if_pos (by omega)]

include hu fu in
/-- The scratch at a point that is not the first of its batch row. -/
theorem rows_B (h1 : 1 ≤ t.val % 4) {off : ℕ} (inb : ∀ a, (![0, off] : Fin 2 → ℕ) a + S528x256.size a ≤ S528x1024.size a)
    (k : Fin 256) (r : Fin 528) :
    (scM0_0.view.readCov (Val := Elt Ideal) (kernelRun0_B.sl.HS0_2 c (ms0_0 t) (hs0_0 t) (ms0_1 t) (hs0_1 t) (iblk m c 0 t) (iblk m c 1 t))
      (Rect.unit (s := S528x1024) ![0, off] S528x256.size inb).toLoadRect (ix2 r k) : EReal)
      = ((padded (entry u (t.val / 4) (off + k)) (512 * (t.val % 4) + r) : ℝ) : EReal) := by
  refine rows_apply _ (fun l n => padded (entry u (t.val / 4) l) (512 * (t.val % 4) + n)) _ _
    (fun r l => (main_apply _ _ r l).trans (padded_block m c t hu fu r l))
    (fun r l => ((halo_apply _ _ r l).trans (block_halo m c t h1 hu fu r l)).trans ?_) inb r k
  unfold padded
  rw [if_neg (by omega)]

include hw in
/-- A load of the weights of group `g`. -/
theorem weights_apply {g : ℕ} (hg : g < 4) (inb : ∀ a, (![g, 0, 0] : Fin 3 → ℕ) a + S1x256x256.size a ≤ S4x256x256.size a) (k j : Fin 256) :
    (View.readAt (Elt Ideal) (ms0_2 t).view (Rect.unit (s := S4x256x256) ![g, 0, 0] S1x256x256.size inb).toLoadRect
      ((hs0_2 t).unread (iblk m c 2 t)) (ix3 0 k j) : EReal) = W (ix3 (Fin.ofNat 4 g) k (Fin.ofNat 256 (j : ℕ))) := by
  rw [readAt_whole, Fin.ofNat_val_eq_self, ← block_w m c t hw]
  refine congrArg (iblk m c 2 t) (funext fun a => Fin.ext ?_)
  match a with
  | ⟨0, _⟩ => show g + 1 * 0 = g % 4; omega
  | ⟨1, _⟩ => show 0 + 1 * (k : ℕ) = k; omega
  | ⟨2, _⟩ => show 0 + 1 * (j : ℕ) = j; omega

include hs in
/-- A load of the scales of a group of lanes. -/
theorem scale_apply {off : ℕ} (inb : ∀ a, (![0, off] : Fin 2 → ℕ) a + S1x256.size a ≤ S1x1024.size a) (j : Fin 256) :
    (View.readAt (Elt Ideal) (ms0_3 t).view (Rect.unit (s := S1x1024) ![0, off] S1x256.size inb).toLoadRect
      ((hs0_3 t).unread (iblk m c 3 t)) (ix2 0 j) : EReal) = sc (ix1 (Fin.ofNat 1024 (off + (j : ℕ)))) := by
  have h1 : off + 256 ≤ 1024 := inb 1
  rw [readAt_whole, ← block_s m c t hs]
  refine congrArg (iblk m c 3 t) (funext fun a => Fin.ext ?_)
  match a with
  | ⟨0, _⟩ => rfl
  | ⟨1, _⟩ => show off + 1 * (j : ℕ) = (off + j) % 1024; omega

/-- The pooled block of a point. -/
def pooledBlock (u : Su.Idx → EReal) (W : Sw.Idx → EReal) (sc : Ss.Idx → EReal) (y : S1x512x1024.Idx) : EReal :=
  pool u W sc (t.val / 4) (512 * (t.val % 4) + (y 1 : ℕ)) ((y 2 : ℕ) / 256) ((y 2 : ℕ) % 256)

/-- What the first case stores for group 0 of the lanes. -/
def stored_A0 : FVec Ideal S1x512x256 .bf16 :=
  k0_pay7 (F := Ideal) (kernelRun0_A.sl.r c (grid0.coords t) (ms0_0 t) (hs0_0 t) (ms0_2 t) (hs0_2 t) scM0_0 (iblk m c 0 t) (iblk m c 2 t)) (View.readAt (Elt Ideal) (ms0_3 t).view (Rect.unit (s := S1x1024) ![0, 0] S1x256.size inb_S1x1024_S1x256_0_0).toLoadRect ((hs0_3 t).unread (iblk m c 3 t)))

include hu fu hw hs in
/-- It is the pooled group. -/
theorem stored_A0_apply (h0 : t.val % 4 = 0) (r : Fin 512) (j : Fin 256) : stored_A0 m c t (ix3 0 r j)
    = pool u W sc (t.val / 4) (512 * (t.val % 4) + r) 0 j := by
  have hb : 512 * (t.val % 4) ≤ 4096 := by omega
  refine (group_2 (U := fun k => entry u (t.val / 4) (0 + k)) hb (pos_apply t)
    (rows_A m c t hu fu h0 inb_S528x1024_S528x256_0_0) (i := grid0.coords t) rfl r j).trans ?_
  unfold Pool.pool
  rw [scale_apply m c t hs]
  refine congrArg (fun z : EReal => z * _) (Finset.sum_congr (M := EReal) rfl fun k _ => ?_)
  rw [weights_apply m c t hw (by decide)]
  rfl

/-- What the first case stores for group 1 of the lanes. -/
def stored_A1 : FVec Ideal S1x512x256 .bf16 :=
  k0_pay8 (F := Ideal) (k0_pay5 (grid0.coords t)) (kernelRun0_A.sl.v42 c (ms0_0 t) (hs0_0 t) scM0_0 (iblk m c 0 t)) (View.readAt (Elt Ideal) (ms0_2 t).view (Rect.unit (s := S4x256x256) ![1, 0, 0] S1x256x256.size inb_S4x256x256_S1x256x256_1_0_0).toLoadRect ((hs0_2 t).unread (iblk m c 2 t))) (View.readAt (Elt Ideal) (ms0_3 t).view (Rect.unit (s := S1x1024) ![0, 256] S1x256.size inb_S1x1024_S1x256_0_256).toLoadRect ((hs0_3 t).unread (iblk m c 3 t)))

include hu fu hw hs in
/-- It is the pooled group. -/
theorem stored_A1_apply (h0 : t.val % 4 = 0) (r : Fin 512) (j : Fin 256) : stored_A1 m c t (ix3 0 r j)
    = pool u W sc (t.val / 4) (512 * (t.val % 4) + r) 1 j := by
  have hb : 512 * (t.val % 4) ≤ 4096 := by omega
  refine (group_4 (U := fun k => entry u (t.val / 4) (256 + k)) hb (pos_apply t)
    (rows_A m c t hu fu h0 inb_S528x1024_S528x256_0_256) r j).trans ?_
  unfold Pool.pool
  rw [scale_apply m c t hs]
  refine congrArg (fun z : EReal => z * _) (Finset.sum_congr (M := EReal) rfl fun k _ => ?_)
  rw [weights_apply m c t hw (by decide)]
  rfl

/-- What the first case stores for group 2 of the lanes. -/
def stored_A2 : FVec Ideal S1x512x256 .bf16 :=
  k0_pay9 (F := Ideal) (k0_pay5 (grid0.coords t)) (kernelRun0_A.sl.v71 c (ms0_0 t) (hs0_0 t) scM0_0 (iblk m c 0 t)) (View.readAt (Elt Ideal) (ms0_2 t).view (Rect.unit (s := S4x256x256) ![2, 0, 0] S1x256x256.size inb_S4x256x256_S1x256x256_2_0_0).toLoadRect ((hs0_2 t).unread (iblk m c 2 t))) (View.readAt (Elt Ideal) (ms0_3 t).view (Rect.unit (s := S1x1024) ![0, 512] S1x256.size inb_S1x1024_S1x256_0_512).toLoadRect ((hs0_3 t).unread (iblk m c 3 t)))

include hu fu hw hs in
/-- It is the pooled group. -/
theorem stored_A2_apply (h0 : t.val % 4 = 0) (r : Fin 512) (j : Fin 256) : stored_A2 m c t (ix3 0 r j)
    = pool u W sc (t.val / 4) (512 * (t.val % 4) + r) 2 j := by
  have hb : 512 * (t.val % 4) ≤ 4096 := by omega
  refine (group_8 (U := fun k => entry u (t.val / 4) (512 + k)) hb (pos_apply t)
    (rows_A m c t hu fu h0 inb_S528x1024_S528x256_0_512) r j).trans ?_
  unfold Pool.pool
  rw [scale_apply m c t hs]
  refine congrArg (fun z : EReal => z * _) (Finset.sum_congr (M := EReal) rfl fun k _ => ?_)
  rw [weights_apply m c t hw (by decide)]
  rfl

/-- What the first case stores for group 3 of the lanes. -/
def stored_A3 : FVec Ideal S1x512x256 .bf16 :=
  k0_pay1 (F := Ideal) (k0_pay5 (grid0.coords t)) (kernelRun0_A.sl.v102 c (ms0_0 t) (hs0_0 t) scM0_0 (iblk m c 0 t)) (kernelRun0_A.sl.r_1 c (ms0_0 t) (hs0_0 t) scM0_0 (iblk m c 0 t)) (View.readAt (Elt Ideal) (ms0_2 t).view (Rect.unit (s := S4x256x256) ![3, 0, 0] S1x256x256.size inb_S4x256x256_S1x256x256_3_0_0).toLoadRect ((hs0_2 t).unread (iblk m c 2 t))) (View.readAt (Elt Ideal) (ms0_3 t).view (Rect.unit (s := S1x1024) ![0, 768] S1x256.size inb_S1x1024_S1x256_0_768).toLoadRect ((hs0_3 t).unread (iblk m c 3 t)))

include hu fu hw hs in
/-- It is the pooled group. -/
theorem stored_A3_apply (h0 : t.val % 4 = 0) (r : Fin 512) (j : Fin 256) : stored_A3 m c t (ix3 0 r j)
    = pool u W sc (t.val / 4) (512 * (t.val % 4) + r) 3 j := by
  have hb : 512 * (t.val % 4) ≤ 4096 := by omega
  refine (group_16 (U := fun k => entry u (t.val / 4) (768 + k)) hb (pos_apply t)
    (rows_A m c t hu fu h0 inb_S528x1024_S528x256_0_768) r j).trans ?_
  unfold Pool.pool
  rw [scale_apply m c t hs]
  refine congrArg (fun z : EReal => z * _) (Finset.sum_congr (M := EReal) rfl fun k _ => ?_)
  rw [weights_apply m c t hw (by decide)]
  rfl

/-- The stores of the first case into the output block, last first. -/
def stores_A : List (View.Piece (Elt Ideal) S1x512x1024 .bf16) :=
  [⟨Rect.unit (s := S1x512x1024) ![0, 0, 768] S1x512x256.size inb_S1x512x1024_S1x512x256_0_0_768, stored_A3 m c t⟩,
   ⟨Rect.unit (s := S1x512x1024) ![0, 0, 512] S1x512x256.size inb_S1x512x1024_S1x512x256_0_0_512, stored_A2 m c t⟩,
   ⟨Rect.unit (s := S1x512x1024) ![0, 0, 256] S1x512x256.size inb_S1x512x1024_S1x512x256_0_0_256, stored_A1 m c t⟩,
   ⟨Rect.unit (s := S1x512x1024) ![0, 0, 0] S1x512x256.size inb_S1x512x1024_S1x512x256_0_0_0, stored_A0 m c t⟩]

include hu fu hw hs in
/-- Every store of the first case holds the pooled block. -/
theorem stores_A_pooled (h0 : t.val % 4 = 0) : View.PiecesOf (Val := Elt Ideal) (pooledBlock t u W sc) (stores_A m c t) :=
  ⟨fun (x : S1x512x256.Idx) => by
      idx_vars x; rw [Subsingleton.elim x0 0]
      exact (stored_A3_apply m c t hu fu hw hs h0 x1 x2).trans (pool_congr (by show (x1 : ℕ) = 0 + 1 * x1; omega)
        (by show 3 = (768 + 1 * (x2 : ℕ)) / 256; omega) (by show (x2 : ℕ) = (768 + 1 * (x2 : ℕ)) % 256; omega)),
   fun (x : S1x512x256.Idx) => by
      idx_vars x; rw [Subsingleton.elim x0 0]
      exact (stored_A2_apply m c t hu fu hw hs h0 x1 x2).trans (pool_congr (by show (x1 : ℕ) = 0 + 1 * x1; omega)
        (by show 2 = (512 + 1 * (x2 : ℕ)) / 256; omega) (by show (x2 : ℕ) = (512 + 1 * (x2 : ℕ)) % 256; omega)),
   fun (x : S1x512x256.Idx) => by
      idx_vars x; rw [Subsingleton.elim x0 0]
      exact (stored_A1_apply m c t hu fu hw hs h0 x1 x2).trans (pool_congr (by show (x1 : ℕ) = 0 + 1 * x1; omega)
        (by show 1 = (256 + 1 * (x2 : ℕ)) / 256; omega) (by show (x2 : ℕ) = (256 + 1 * (x2 : ℕ)) % 256; omega)),
   fun (x : S1x512x256.Idx) => by
      idx_vars x; rw [Subsingleton.elim x0 0]
      exact (stored_A0_apply m c t hu fu hw hs h0 x1 x2).trans (pool_congr (by show (x1 : ℕ) = 0 + 1 * x1; omega)
        (by show 0 = (0 + 1 * (x2 : ℕ)) / 256; omega) (by show (x2 : ℕ) = (0 + 1 * (x2 : ℕ)) % 256; omega)), trivial⟩

include hu fu hw hs in
/-- The output block after a point of the first case is the pooled block. -/
theorem block_A (h0 : t.val % 4 = 0) (hc0 : cond0_0 (grid0.coords t)) (hc1 : ¬cond0_1 (grid0.coords t))
    (y : S1x512x1024.Idx) : out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1
      (iblk m c 0 t) (iblk m c 1 t) (iblk m c 2 t) (iblk m c 3 t) y = pooledBlock t u W sc y := by
  have hL : (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1
      (iblk m c 0 t) (iblk m c 1 t) (iblk m c 2 t) (iblk m c 3 t)).1 = stores_A m c t := rfl
  have hc := cover0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1
      (iblk m c 0 t) (iblk m c 1 t) (iblk m c 2 t) (iblk m c 3 t) y
  unfold out0_A_4
  rw [hL] at hc ⊢
  exact View.read_writes_apply_of_pieces VO0_4 _ (pooledBlock t u W sc) _ (stores_A_pooled m c t hu fu hw hs h0).mem y hc

/-- What the other case stores for group 0 of the lanes. -/
def stored_B0 : FVec Ideal S1x512x256 .bf16 :=
  k0_pay7 (F := Ideal) (kernelRun0_B.sl.r c (grid0.coords t) (ms0_0 t) (hs0_0 t) (ms0_1 t) (hs0_1 t) (ms0_2 t) (hs0_2 t) scM0_0 (iblk m c 0 t) (iblk m c 1 t) (iblk m c 2 t)) (View.readAt (Elt Ideal) (ms0_3 t).view (Rect.unit (s := S1x1024) ![0, 0] S1x256.size inb_S1x1024_S1x256_0_0).toLoadRect ((hs0_3 t).unread (iblk m c 3 t)))

include hu fu hw hs in
/-- It is the pooled group. -/
theorem stored_B0_apply (h1 : 1 ≤ t.val % 4) (r : Fin 512) (j : Fin 256) : stored_B0 m c t (ix3 0 r j)
    = pool u W sc (t.val / 4) (512 * (t.val % 4) + r) 0 j := by
  have hb : 512 * (t.val % 4) ≤ 4096 := by omega
  refine (group_2 (U := fun k => entry u (t.val / 4) (0 + k)) hb (pos_apply t)
    (rows_B m c t hu fu h1 inb_S528x1024_S528x256_0_0) (i := grid0.coords t) rfl r j).trans ?_
  unfold Pool.pool
  rw [scale_apply m c t hs]
  refine congrArg (fun z : EReal => z * _) (Finset.sum_congr (M := EReal) rfl fun k _ => ?_)
  rw [weights_apply m c t hw (by decide)]
  rfl

/-- What the other case stores for group 1 of the lanes. -/
def stored_B1 : FVec Ideal S1x512x256 .bf16 :=
  k0_pay8 (F := Ideal) (k0_pay5 (grid0.coords t)) (kernelRun0_B.sl.v42 c (ms0_0 t) (hs0_0 t) (ms0_1 t) (hs0_1 t) scM0_0 (iblk m c 0 t) (iblk m c 1 t)) (View.readAt (Elt Ideal) (ms0_2 t).view (Rect.unit (s := S4x256x256) ![1, 0, 0] S1x256x256.size inb_S4x256x256_S1x256x256_1_0_0).toLoadRect ((hs0_2 t).unread (iblk m c 2 t))) (View.readAt (Elt Ideal) (ms0_3 t).view (Rect.unit (s := S1x1024) ![0, 256] S1x256.size inb_S1x1024_S1x256_0_256).toLoadRect ((hs0_3 t).unread (iblk m c 3 t)))

include hu fu hw hs in
/-- It is the pooled group. -/
theorem stored_B1_apply (h1 : 1 ≤ t.val % 4) (r : Fin 512) (j : Fin 256) : stored_B1 m c t (ix3 0 r j)
    = pool u W sc (t.val / 4) (512 * (t.val % 4) + r) 1 j := by
  have hb : 512 * (t.val % 4) ≤ 4096 := by omega
  refine (group_4 (U := fun k => entry u (t.val / 4) (256 + k)) hb (pos_apply t)
    (rows_B m c t hu fu h1 inb_S528x1024_S528x256_0_256) r j).trans ?_
  unfold Pool.pool
  rw [scale_apply m c t hs]
  refine congrArg (fun z : EReal => z * _) (Finset.sum_congr (M := EReal) rfl fun k _ => ?_)
  rw [weights_apply m c t hw (by decide)]
  rfl

/-- What the other case stores for group 2 of the lanes. -/
def stored_B2 : FVec Ideal S1x512x256 .bf16 :=
  k0_pay9 (F := Ideal) (k0_pay5 (grid0.coords t)) (kernelRun0_B.sl.v71 c (ms0_0 t) (hs0_0 t) (ms0_1 t) (hs0_1 t) scM0_0 (iblk m c 0 t) (iblk m c 1 t)) (View.readAt (Elt Ideal) (ms0_2 t).view (Rect.unit (s := S4x256x256) ![2, 0, 0] S1x256x256.size inb_S4x256x256_S1x256x256_2_0_0).toLoadRect ((hs0_2 t).unread (iblk m c 2 t))) (View.readAt (Elt Ideal) (ms0_3 t).view (Rect.unit (s := S1x1024) ![0, 512] S1x256.size inb_S1x1024_S1x256_0_512).toLoadRect ((hs0_3 t).unread (iblk m c 3 t)))

include hu fu hw hs in
/-- It is the pooled group. -/
theorem stored_B2_apply (h1 : 1 ≤ t.val % 4) (r : Fin 512) (j : Fin 256) : stored_B2 m c t (ix3 0 r j)
    = pool u W sc (t.val / 4) (512 * (t.val % 4) + r) 2 j := by
  have hb : 512 * (t.val % 4) ≤ 4096 := by omega
  refine (group_8 (U := fun k => entry u (t.val / 4) (512 + k)) hb (pos_apply t)
    (rows_B m c t hu fu h1 inb_S528x1024_S528x256_0_512) r j).trans ?_
  unfold Pool.pool
  rw [scale_apply m c t hs]
  refine congrArg (fun z : EReal => z * _) (Finset.sum_congr (M := EReal) rfl fun k _ => ?_)
  rw [weights_apply m c t hw (by decide)]
  rfl

/-- What the other case stores for group 3 of the lanes. -/
def stored_B3 : FVec Ideal S1x512x256 .bf16 :=
  k0_pay1 (F := Ideal) (k0_pay5 (grid0.coords t)) (kernelRun0_B.sl.v102 c (ms0_0 t) (hs0_0 t) (ms0_1 t) (hs0_1 t) scM0_0 (iblk m c 0 t) (iblk m c 1 t)) (kernelRun0_B.sl.r_1 c (ms0_0 t) (hs0_0 t) (ms0_1 t) (hs0_1 t) scM0_0 (iblk m c 0 t) (iblk m c 1 t)) (View.readAt (Elt Ideal) (ms0_2 t).view (Rect.unit (s := S4x256x256) ![3, 0, 0] S1x256x256.size inb_S4x256x256_S1x256x256_3_0_0).toLoadRect ((hs0_2 t).unread (iblk m c 2 t))) (View.readAt (Elt Ideal) (ms0_3 t).view (Rect.unit (s := S1x1024) ![0, 768] S1x256.size inb_S1x1024_S1x256_0_768).toLoadRect ((hs0_3 t).unread (iblk m c 3 t)))

include hu fu hw hs in
/-- It is the pooled group. -/
theorem stored_B3_apply (h1 : 1 ≤ t.val % 4) (r : Fin 512) (j : Fin 256) : stored_B3 m c t (ix3 0 r j)
    = pool u W sc (t.val / 4) (512 * (t.val % 4) + r) 3 j := by
  have hb : 512 * (t.val % 4) ≤ 4096 := by omega
  refine (group_16 (U := fun k => entry u (t.val / 4) (768 + k)) hb (pos_apply t)
    (rows_B m c t hu fu h1 inb_S528x1024_S528x256_0_768) r j).trans ?_
  unfold Pool.pool
  rw [scale_apply m c t hs]
  refine congrArg (fun z : EReal => z * _) (Finset.sum_congr (M := EReal) rfl fun k _ => ?_)
  rw [weights_apply m c t hw (by decide)]
  rfl

/-- The stores of the other case into the output block, last first. -/
def stores_B : List (View.Piece (Elt Ideal) S1x512x1024 .bf16) :=
  [⟨Rect.unit (s := S1x512x1024) ![0, 0, 768] S1x512x256.size inb_S1x512x1024_S1x512x256_0_0_768, stored_B3 m c t⟩,
   ⟨Rect.unit (s := S1x512x1024) ![0, 0, 512] S1x512x256.size inb_S1x512x1024_S1x512x256_0_0_512, stored_B2 m c t⟩,
   ⟨Rect.unit (s := S1x512x1024) ![0, 0, 256] S1x512x256.size inb_S1x512x1024_S1x512x256_0_0_256, stored_B1 m c t⟩,
   ⟨Rect.unit (s := S1x512x1024) ![0, 0, 0] S1x512x256.size inb_S1x512x1024_S1x512x256_0_0_0, stored_B0 m c t⟩]

include hu fu hw hs in
/-- Every store of the other case holds the pooled block. -/
theorem stores_B_pooled (h1 : 1 ≤ t.val % 4) : View.PiecesOf (Val := Elt Ideal) (pooledBlock t u W sc) (stores_B m c t) :=
  ⟨fun (x : S1x512x256.Idx) => by
      idx_vars x; rw [Subsingleton.elim x0 0]
      exact (stored_B3_apply m c t hu fu hw hs h1 x1 x2).trans (pool_congr (by show (x1 : ℕ) = 0 + 1 * x1; omega)
        (by show 3 = (768 + 1 * (x2 : ℕ)) / 256; omega) (by show (x2 : ℕ) = (768 + 1 * (x2 : ℕ)) % 256; omega)),
   fun (x : S1x512x256.Idx) => by
      idx_vars x; rw [Subsingleton.elim x0 0]
      exact (stored_B2_apply m c t hu fu hw hs h1 x1 x2).trans (pool_congr (by show (x1 : ℕ) = 0 + 1 * x1; omega)
        (by show 2 = (512 + 1 * (x2 : ℕ)) / 256; omega) (by show (x2 : ℕ) = (512 + 1 * (x2 : ℕ)) % 256; omega)),
   fun (x : S1x512x256.Idx) => by
      idx_vars x; rw [Subsingleton.elim x0 0]
      exact (stored_B1_apply m c t hu fu hw hs h1 x1 x2).trans (pool_congr (by show (x1 : ℕ) = 0 + 1 * x1; omega)
        (by show 1 = (256 + 1 * (x2 : ℕ)) / 256; omega) (by show (x2 : ℕ) = (256 + 1 * (x2 : ℕ)) % 256; omega)),
   fun (x : S1x512x256.Idx) => by
      idx_vars x; rw [Subsingleton.elim x0 0]
      exact (stored_B0_apply m c t hu fu hw hs h1 x1 x2).trans (pool_congr (by show (x1 : ℕ) = 0 + 1 * x1; omega)
        (by show 0 = (0 + 1 * (x2 : ℕ)) / 256; omega) (by show (x2 : ℕ) = (0 + 1 * (x2 : ℕ)) % 256; omega)), trivial⟩

include hu fu hw hs in
/-- The output block after a point of the other case is the pooled block. -/
theorem block_B (h1 : 1 ≤ t.val % 4) (hc0 : ¬cond0_0 (grid0.coords t)) (hc1 : cond0_1 (grid0.coords t))
    (y : S1x512x1024.Idx) : out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1
      (iblk m c 0 t) (iblk m c 1 t) (iblk m c 2 t) (iblk m c 3 t) y = pooledBlock t u W sc y := by
  have hL : (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1
      (iblk m c 0 t) (iblk m c 1 t) (iblk m c 2 t) (iblk m c 3 t)).1 = stores_B m c t := rfl
  have hc := cover0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1
      (iblk m c 0 t) (iblk m c 1 t) (iblk m c 2 t) (iblk m c 3 t) y
  unfold out0_B_4
  rw [hL] at hc ⊢
  exact View.read_writes_apply_of_pieces VO0_4 _ (pooledBlock t u W sc) _ (stores_B_pooled m c t hu fu hw hs h1).mem y hc

end Point

/-- The kernel's result array after the run is the pooled, mixed and scaled prompt. -/
theorem final (c : Dev nD) {u : Su.Idx → EReal} {W : Sw.Idx → EReal} {sc : Ss.Idx → EReal}
    (hu : m ((c : Thread nD τ).loc main_arg0) = u) (fu : Finite u) (hw : m ((c : Thread nD τ).loc main_arg1) = W)
    (hs : m ((c : Thread nD τ).loc main_arg2) = sc) : (dats m 0 c).arrAt 4 (cfgs 0).N = pooledAll u W sc := by
  refine (dats m 0 c).arrAt_eq_of_covers 4 _ (by decide +kernel) fun t hf y => ?_
  blk_simp; rw [after0_4]
  have h0 : ((((cfg0.win 4).blk t).view.emb y 0 : Fin 8) : ℕ) = t.val / 4 := by blk_simp; simp [idx_val t]
  have h1 : ((((cfg0.win 4).blk t).view.emb y 1 : Fin 2048) : ℕ) = t.val % 4 * 512 + (y 1 : ℕ) := by blk_simp; simp [idx_val t]
  have h2 : ((((cfg0.win 4).blk t).view.emb y 2 : Fin 1024) : ℕ) = (y 2 : ℕ) := by blk_simp; simp [idx_val t]
  have hy : pooledBlock t u W sc y = pooledAll u W sc (((cfg0.win 4).blk t).view.emb y) := by
    unfold pooledBlock pooledAll
    rw [h0, h1, h2, Nat.mul_comm 512]
  rw [← hy]
  by_cases h : t.val % 4 = 0
  · rw [outsAt0_A m c t h (by omega)]
    exact block_A m c t hu fu hw hs h _ _ y
  · rw [outsAt0_B m c t h (by omega)]
    exact block_B m c t hu fu hw hs (by omega) _ _ y

end Cert.KernelPoolIdeal.Value

end

end
-- ==== Proof.PoolSum.lean ====
module

public import proofs.«01_k».proof.Proof.AttnSpec
public import Idealize.ShloMosaic.Lib.StableHlo.RunRead
public import Idealize.ShloMosaic.Lib.Pointwise

/-!
The running sum along the middle axis of a three-axis array, as a host program computes it by a windowed sum.
-/

@[expose] public section

noncomputable section

namespace Cert.Pool

open Idealize.ShloMosaic

/-- A fold of additions is a sum. -/
theorem foldl_add {N : ℕ} (f : Fin N → EReal) (v : EReal) :
    (List.finRange N).foldl (fun r n => r + f n) v = v + ∑ n, f n := by
  rw [Fin.sum_univ_def]
  generalize List.finRange N = l
  induction l generalizing v with
  | nil => simp
  | cons a l ih => rw [List.foldl_cons, ih, List.map_cons, List.sum_cons, add_assoc]

/-- The window of the running sum: the whole of the positions, one batch row and one lane. -/
abbrev Win (N : ℕ) : Shape := ⟨3, ![1, N, 1]⟩

/-- A sum over the window is a sum over the positions. -/
theorem sum_window {N : ℕ} (g : (Win N).Idx → EReal) : ∑ i : (Win N).Idx, g i = ∑ k : Fin N, g (ix3 0 k 0) := by
  refine (Fintype.sum_bijective (fun k : Fin N => (ix3 (0 : Fin 1) k (0 : Fin 1) : (Win N).Idx)) ⟨?_, ?_⟩ _ _ fun k => rfl).symm
  · intro k k' h
    exact congrFun h 1
  · intro i
    refine ⟨i 1, funext fun a => ?_⟩
    match a with
    | ⟨0, _⟩ => exact (Subsingleton.elim (α := Fin 1) _ _)
    | ⟨1, _⟩ => rfl
    | ⟨2, _⟩ => exact (Subsingleton.elim (α := Fin 1) _ _)

/-- A windowed sum is its initial value and the sum over the places of the window. -/
theorem reduceWindowAdd_eq {s t : Shape} (window strides lo hi : Fin s.rank → Nat) (h : s.ReduceWindows window strides lo hi t)
    (x : s.Idx → EReal) (init : EReal) (j : t.Idx) :
    Ideal.hostReduceWindowAdd window strides lo hi h x init j
      = init + ∑ i : (⟨s.rank, window⟩ : Shape).Idx,
          if hin : ∀ a, lo a ≤ (j (a.cast h.1.symm)).val * strides a + (i a).val
              ∧ (j (a.cast h.1.symm)).val * strides a + (i a).val - lo a < s.size a
            then x (fun a => ⟨(j (a.cast h.1.symm)).val * strides a + (i a).val - lo a, (hin a).2⟩) else init := by
  unfold Ideal.hostReduceWindowAdd Host.reduceWindow
  refine (foldl_add _ _).trans (congrArg (init + ·) ?_)
  refine ((Equiv.sum_comp (⟨s.rank, window⟩ : Shape).rowMajor.symm fun i =>
    if hin : ∀ a, lo a ≤ (j (a.cast h.1.symm)).val * strides a + (i a).val
        ∧ (j (a.cast h.1.symm)).val * strides a + (i a).val - lo a < s.size a
      then x (fun a => ⟨(j (a.cast h.1.symm)).val * strides a + (i a).val - lo a, (hin a).2⟩) else init).symm.trans (Finset.sum_congr rfl fun n _ => ?_)).symm
  dsimp only
  congr

/-- Of the places of a window that ends at position `s` the last `s + 1` lie in the operand. -/
theorem sum_inside (f : ℕ → ℝ) {M s : ℕ} (hs : s < M + 1) :
    ∑ k ∈ Finset.range (M + 1), (if M ≤ s + k then f (s + k - M) else 0) = ∑ i ∈ Finset.range (s + 1), f i := by
  conv_lhs => rw [show M + 1 = (M - s) + (s + 1) by omega]
  rw [Finset.sum_range_add, Finset.sum_eq_zero fun k hk => if_neg (by have := Finset.mem_range.1 hk; omega), zero_add]
  refine Finset.sum_congr rfl fun i _ => ?_
  rw [if_pos (by omega)]
  exact congrArg f (by omega)

/-- The running sum of rows of real numbers. -/
theorem running_sum {B M L : ℕ} {f : ℕ → ℝ} {x : (⟨3, ![B, M + 1, L]⟩ : Shape).Idx → EReal} (b : Fin B) (l : Fin L)
    (hx : ∀ n : Fin (M + 1), x (ix3 b n l) = ((f n : ℝ) : EReal)) {u : Shape} {init : u.Idx → EReal} (hi : ∀ i, init i = 0) (h) (hu)
    (s : Fin (M + 1)) :
    Host.reduceWindowAdd (F := Ideal) (φ := .f32) (s := ⟨3, ![B, M + 1, L]⟩) (t := ⟨3, ![B, M + 1, L]⟩) (u := u)
        ![1, M + 1, 1] ![1, 1, 1] ![0, M, 0] ![0, 0, 0] x init h hu (ix3 b s l)
      = ((∑ i ∈ Finset.range (s + 1), f i : ℝ) : EReal) := by
  unfold Host.reduceWindowAdd
  rw [Ideal.hostReduceWindowAdd_def, reduceWindowAdd_eq, hi, zero_add]
  refine (sum_window _).trans ?_
  rw [← sum_inside f s.isLt,
    ← Fin.sum_univ_eq_sum_range (fun k => if M ≤ (s : ℕ) + k then f (s + k - M) else 0), Cert.Attn.coe_sum]
  refine Finset.sum_congr rfl fun k _ => ?_
  by_cases hk : M ≤ (s : ℕ) + k
  · rw [if_pos hk]
    have hin : ∀ a : Fin 3, (![0, M, 0] : Fin 3 → Nat) a ≤ ((ix3 b s l : (⟨3, ![B, M + 1, L]⟩ : Shape).Idx) a).val * (![1, 1, 1] : Fin 3 → Nat) a + ((ix3 (0 : Fin 1) k (0 : Fin 1) : (Win (M + 1)).Idx) a).val
        ∧ ((ix3 b s l : (⟨3, ![B, M + 1, L]⟩ : Shape).Idx) a).val * (![1, 1, 1] : Fin 3 → Nat) a + ((ix3 (0 : Fin 1) k (0 : Fin 1) : (Win (M + 1)).Idx) a).val - (![0, M, 0] : Fin 3 → Nat) a < (⟨3, ![B, M + 1, L]⟩ : Shape).size a := by
      intro a
      match a with
      | ⟨0, _⟩ => show 0 ≤ (b : ℕ) * 1 + 0 ∧ (b : ℕ) * 1 + 0 - 0 < B; omega
      | ⟨1, _⟩ => show M ≤ (s : ℕ) * 1 + k ∧ (s : ℕ) * 1 + k - M < M + 1; omega
      | ⟨2, _⟩ => show 0 ≤ (l : ℕ) * 1 + 0 ∧ (l : ℕ) * 1 + 0 - 0 < L; omega
    refine (dif_pos hin).trans ?_
    refine Eq.trans (congrArg x (funext fun a => Fin.ext ?_)) (hx ⟨s + k - M, by omega⟩)
    match a with
    | ⟨0, _⟩ => show (b : ℕ) * 1 + 0 - 0 = b; omega
    | ⟨1, _⟩ => show (s : ℕ) * 1 + k - M = s + k - M; omega
    | ⟨2, _⟩ => show (l : ℕ) * 1 + 0 - 0 = l; omega
  · rw [if_neg hk]
    refine (dif_neg fun hin => hk ?_).trans EReal.coe_zero.symm
    have h1 : M ≤ (s : ℕ) * 1 + k := (hin 1).1
    omega

end Cert.Pool

end

end
-- ==== Proof.PoolRead.lean ====
module

public import proofs.«01_k».proof.Proof.Gen.ReferencePoolIdeal
public import proofs.«01_k».proof.Proof.PoolSpec
public import proofs.«01_k».proof.Proof.PoolSum
public import Idealize.ShloMosaic.Lib.StableHlo.RunRead
public import Idealize.ShloMosaic.Lib.StableHlo.ReadAt
public import Idealize.ShloMosaic.Lib.Claim

/-!
The operations of the pooling reference, stretch by stretch: what each stretch leaves in the buffers that later ones
read, as a plain expression in what it found.
-/

@[expose] public section
set_option maxRecDepth 16384

noncomputable section

namespace Cert.ReferencePoolIdeal.Value

open Idealize.ShloMosaic Idealize.ShloMosaic.TcCoe Idealize.SL.Sem Idealize.ShloMosaic.StableHlo Idealize.ShloMosaic.Pointwise
open Cert.Pool Cert.ReferencePoolIdeal Cert.ReferencePoolIdeal.Gen

/-! ## The operations -/

/-- The operations of the reference, in order. -/
def line : { ops : List (HloOp τ sig (Elt Ideal)) // ∀ d, IsSeq (main (F := Ideal) d) ops } := by
  apply Subtype.mk
  hlo_seq

/-- `n` operations of the reference from position `i` on. -/
def ops (i n : ℕ) : List (HloOp τ sig (Elt Ideal)) := (line.1.drop i).take n

theorem line_length : line.1.length = 83 := rfl

variable (V : Valuation τ sig (Elt Ideal))

theorem read_v1 (b : Fin 8) (n : Fin 2063) (l : Fin 1024)
    {x : S8x2048x1024.Idx → EReal} (hx : V (Proc.devRef .tc main_arg0) = x) :
    after (ops 0 3) V (Proc.devRef .tc main_v1) (ix3 b n l)
      = if hn : (n : ℕ) < 15 then Ideal.ofBits .f32 0x00000000#32 else x (ix3 b ⟨n - 15, by omega⟩ l) := by
  subst hx
  after_reads_at

theorem read_v2 {x : S8x2063x1024.Idx → EReal} (hx : V (Proc.devRef .tc main_v1) = x) :
    after (ops 3 3) V (Proc.devRef .tc main_v2)
      = Host.reduceWindowAdd (F := Ideal) (φ := .f32) (s := S8x2063x1024) (t := S8x2063x1024) (u := S_)
          ![1, 2063, 1] ![1, 1, 1] ![0, 2062, 0] ![0, 0, 0] x (fun _ => Ideal.ofBits .f32 0x00000000#32)
          reduceWindows_S8x2063x1024_S8x2063x1024_w1s1p0_0_w2063s1p2062_0_w1s1p0_0 h_S_ := by
  subst hx
  after_reads_simp
  rfl

theorem read_v4 (b : Fin 8) (n : Fin 2064) (l : Fin 1024)
    {x : S8x2063x1024.Idx → EReal} (hx : V (Proc.devRef .tc main_v2) = x) :
    after (ops 6 4) V (Proc.devRef .tc main_v4) (ix3 b n l)
      = if hn : (n : ℕ) < 1 then Ideal.ofBits .f32 0x00000000#32 else x (ix3 b ⟨n - 1, by omega⟩ l) := by
  subst hx
  after_reads_at

theorem read_v5 (s : Fin 2048) : after (ops 6 4) V (Proc.devRef .tc main_v5) (ix1 s) = BitVec.ofNat 32 s := by
  after_reads_at

theorem read_v6 (b : Fin 8) (s : Fin 2048) (l : Fin 1024)
    {y : S8x2064x1024.Idx → EReal} (hy : V (Proc.devRef .tc main_v4) = y) :
    after (ops 10 1) V (Proc.devRef .tc main_v6) (ix3 b s l) = y (ix3 b ⟨16 + s, by omega⟩ l) := by
  subst hy
  after_reads_at

theorem read_v19 (b : Fin 8) (s : Fin 2048) (c : Fin 256)
    {x : S8x2048x1024.Idx → EReal} (hx : V (Proc.devRef .tc main_arg0) = x)
    {y : S8x2064x1024.Idx → EReal} (hy : V (Proc.devRef .tc main_v4) = y)
    {z : S8x2048x1024.Idx → EReal} (hz : V (Proc.devRef .tc main_v6) = z) :
    after (ops 11 60) V (Proc.devRef .tc main_v19) (ix3 b s c)
      = Ideal.div (z (ix3 b s ⟨c, by omega⟩) - y (ix3 b ⟨14 + s, by omega⟩ ⟨c, by omega⟩))
          (((IntOp.minsi 2#32 (IntOp.addi (V (Proc.devRef .tc main_v5) (ix1 s)) 1#32)).toInt : ℝ) : EReal)
        - x (ix3 b s ⟨c, by omega⟩) := by
  subst hx hy hz
  after_reads_at
  rfl

theorem read_v32 (b : Fin 8) (s : Fin 2048) (c : Fin 256)
    {x : S8x2048x1024.Idx → EReal} (hx : V (Proc.devRef .tc main_arg0) = x)
    {y : S8x2064x1024.Idx → EReal} (hy : V (Proc.devRef .tc main_v4) = y)
    {z : S8x2048x1024.Idx → EReal} (hz : V (Proc.devRef .tc main_v6) = z) :
    after (ops 11 60) V (Proc.devRef .tc main_v32) (ix3 b s c)
      = Ideal.div (z (ix3 b s ⟨256 + c, by omega⟩) - y (ix3 b ⟨12 + s, by omega⟩ ⟨256 + c, by omega⟩))
          (((IntOp.minsi 4#32 (IntOp.addi (V (Proc.devRef .tc main_v5) (ix1 s)) 1#32)).toInt : ℝ) : EReal)
        - x (ix3 b s ⟨256 + c, by omega⟩) := by
  subst hx hy hz
  after_reads_at
  rfl

theorem read_v45 (b : Fin 8) (s : Fin 2048) (c : Fin 256)
    {x : S8x2048x1024.Idx → EReal} (hx : V (Proc.devRef .tc main_arg0) = x)
    {y : S8x2064x1024.Idx → EReal} (hy : V (Proc.devRef .tc main_v4) = y)
    {z : S8x2048x1024.Idx → EReal} (hz : V (Proc.devRef .tc main_v6) = z) :
    after (ops 11 60) V (Proc.devRef .tc main_v45) (ix3 b s c)
      = Ideal.div (z (ix3 b s ⟨512 + c, by omega⟩) - y (ix3 b ⟨8 + s, by omega⟩ ⟨512 + c, by omega⟩))
          (((IntOp.minsi 8#32 (IntOp.addi (V (Proc.devRef .tc main_v5) (ix1 s)) 1#32)).toInt : ℝ) : EReal)
        - x (ix3 b s ⟨512 + c, by omega⟩) := by
  subst hx hy hz
  after_reads_at
  rfl

theorem read_v58 (b : Fin 8) (s : Fin 2048) (c : Fin 256)
    {x : S8x2048x1024.Idx → EReal} (hx : V (Proc.devRef .tc main_arg0) = x)
    {y : S8x2064x1024.Idx → EReal} (hy : V (Proc.devRef .tc main_v4) = y)
    {z : S8x2048x1024.Idx → EReal} (hz : V (Proc.devRef .tc main_v6) = z) :
    after (ops 11 60) V (Proc.devRef .tc main_v58) (ix3 b s c)
      = Ideal.div (z (ix3 b s ⟨768 + c, by omega⟩) - y (ix3 b ⟨s, by omega⟩ ⟨768 + c, by omega⟩))
          (((IntOp.minsi 16#32 (IntOp.addi (V (Proc.devRef .tc main_v5) (ix1 s)) 1#32)).toInt : ℝ) : EReal)
        - x (ix3 b s ⟨768 + c, by omega⟩) := by
  subst hx hy hz
  after_reads_at
  rfl

theorem read_v70 (b : Fin 8) (s : Fin 2048) (g : Fin 4) (j : Fin 256)
    {w : S4x256x256.Idx → EReal} (hw : V (Proc.devRef .tc main_arg1) = w)
    {sc : S1024.Idx → EReal} (hs : V (Proc.devRef .tc main_arg2) = sc)
    {p : S8x2048x4x256.Idx → EReal} (hp : V (Proc.devRef .tc main_v63) = p) (l : Fin 1024) (hl : (l : ℕ) = g * 256 + j) :
    after (ops 76 7) V (Proc.devRef .tc main_v70) (ix3 b s l)
      = (∑ c : Fin 256, w (ix3 g c j) * p (ix4 b s g c)) * sc (ix1 l) := by
  subst hw hs hp
  after_reads_at
  rw [show (⟨l / 256, by omega⟩ : Fin 4) = g from Fin.ext (by simp only []; omega),
    show (⟨l % 256, Nat.mod_lt _ (by decide)⟩ : Fin 256) = j from Fin.ext (by simp only []; omega)]

theorem read_v63 (b : Fin 8) (s : Fin 2048) (g : Fin 4) (c : Fin 256)
    {x0 x1 x2 x3 : S8x2048x256.Idx → EReal} (h0 : V (Proc.devRef .tc main_v19) = x0) (h1 : V (Proc.devRef .tc main_v32) = x1)
    (h2 : V (Proc.devRef .tc main_v45) = x2) (h3 : V (Proc.devRef .tc main_v58) = x3) :
    after (ops 71 5) V (Proc.devRef .tc main_v63) (ix4 b s g c)
      = if (g : ℕ) < 1 then x0 (ix3 b s c) else if (g : ℕ) - 1 < 1 then x1 (ix3 b s c)
        else if (g : ℕ) - 1 - 1 < 1 then x2 (ix3 b s c) else x3 (ix3 b s c) := by
  subst h0 h1 h2 h3
  after_reads_simp
  pointwise
  after_reads_simp
  pointwise
  rfl

end Cert.ReferencePoolIdeal.Value

end

end
-- ==== Proof.PoolRef.lean ====
module

public import proofs.«01_k».proof.Proof.PoolRead
public import proofs.«01_k».proof.Proof.PoolTile

/-!
The pooling reference computes the pooled, mixed and scaled result.

`S V n` is what the buffers hold after the first `n` operations, from contents `V`. The facts below follow one
lane of one batch row through the running sum, the difference of its rows, the mean, the mixing and the scale, for
inputs that are real numbers.
-/

@[expose] public section
set_option maxRecDepth 16384

noncomputable section

namespace Cert.ReferencePoolIdeal.Value

open Idealize.ShloMosaic Idealize.ShloMosaic.TcCoe Idealize.SL.Sem Idealize.ShloMosaic.StableHlo Idealize.ShloMosaic.Pointwise
open Cert.Pool Cert.ReferencePoolIdeal Cert.ReferencePoolIdeal.Gen

variable (V : Valuation τ sig (Elt Ideal))

/-- The buffers after the first `n` operations. -/
def S (n : ℕ) : Valuation τ sig (Elt Ideal) := after (line.1.take n) V

theorem S_add (a n : ℕ) : S V (a + n) = after (ops a n) (S V a) := by
  unfold S ops
  rw [List.take_add, after_append]

theorem S_all : S V 83 = after line.1 V := rfl

theorem keep_arg0_11 : S V 11 (Proc.devRef .tc main_arg0) = V (Proc.devRef .tc main_arg0) := by
  unfold S line; after_reads_simp

theorem keep_arg1_76 : S V 76 (Proc.devRef .tc main_arg1) = V (Proc.devRef .tc main_arg1) := by
  unfold S line; after_reads_simp

theorem keep_arg2_76 : S V 76 (Proc.devRef .tc main_arg2) = V (Proc.devRef .tc main_arg2) := by
  unfold S line; after_reads_simp

theorem keep_v4 : S V 11 (Proc.devRef .tc main_v4) = S V 10 (Proc.devRef .tc main_v4) := by
  rw [show S V 11 = after (ops 10 1) (S V 10) from S_add V 10 1]; after_reads_simp

theorem keep_v5 : S V 11 (Proc.devRef .tc main_v5) = S V 10 (Proc.devRef .tc main_v5) := by
  rw [show S V 11 = after (ops 10 1) (S V 10) from S_add V 10 1]; after_reads_simp

/-- The mean of a window of real numbers less the entry itself. -/
theorem mean_sub {U : ℕ → ℝ} {w s : ℕ} (hw : w ≤ 16) (h0 : w ≠ 0) (hs : s < 2048) :
    Ideal.div (((∑ i ∈ Finset.range (16 + s), padded U (i + 1) : ℝ) : EReal)
          - ((∑ i ∈ Finset.range (16 - w + s), padded U (i + 1) : ℝ) : EReal))
        (((IntOp.minsi (BitVec.ofNat 32 w) (IntOp.addi (BitVec.ofNat 32 s) 1#32)).toInt : ℝ) : EReal) - ((U s : ℝ) : EReal)
      = ((pooled U w s : ℝ) : EReal) := by
  have e : IntOp.addi (BitVec.ofNat 32 s) 1#32 = BitVec.ofNat 32 (s + 1) := (BitVec.ofNat_add s 1).symm
  rw [e, minsi_toInt (by omega) (by omega), ← EReal.coe_sub, prefix_sub U hw,
    show min w (s + 1) = count w s from rfl, Ideal.div_coe (count_ne_zero h0 s), ← EReal.coe_mul,
    ← EReal.coe_sub]
  rfl

variable {V} {u : Su.Idx → EReal} {W : Sw.Idx → EReal} {sc : Ss.Idx → EReal} (hu : V (Proc.devRef .tc main_arg0) = u)
  (hw : V (Proc.devRef .tc main_arg1) = W) (hs : V (Proc.devRef .tc main_arg2) = sc) (fu : Finite u)

section

include hu fu

/-- The rows that are summed: 15 rows of zeros, then the inputs. -/
theorem v1_at (b : Fin 8) (n : Fin 2063) (l : Fin 1024) :
    S V 3 (Proc.devRef .tc main_v1) (ix3 b n l) = ((padded (entry u b l) (n + 1) : ℝ) : EReal) := by
  refine (read_v1 V b n l hu).trans ?_
  unfold padded
  by_cases hn : (n : ℕ) < 15
  · rw [dif_pos hn, if_pos (by omega), Ideal.ofBits_zero_f32]; rfl
  · rw [dif_neg hn, if_neg (by omega)]
    refine (fu.entry b ⟨n - 15, by omega⟩ l).trans ?_
    rw [show (n : ℕ) + 1 - 16 = n - 15 by omega]

/-- The running sum. -/
theorem v2_at (b : Fin 8) (n : Fin 2063) (l : Fin 1024) :
    S V 6 (Proc.devRef .tc main_v2) (ix3 b n l) = ((∑ i ∈ Finset.range (n + 1), padded (entry u b l) (i + 1) : ℝ) : EReal) := by
  rw [show S V 6 = after (ops 3 3) (S V 3) from S_add V 3 3]
  obtain ⟨x, e⟩ : ∃ x : S8x2063x1024.Idx → EReal, S V 3 (Proc.devRef .tc main_v1) = x := ⟨_, rfl⟩
  rw [read_v2 (S V 3) e]
  exact running_sum b l (fun k => (congrFun e.symm _).trans (v1_at hu fu b k l)) (fun _ => Ideal.ofBits_zero_f32) _ _ n

/-- The running sum with a row of zeros in front. -/
theorem v4_at (b : Fin 8) (n : Fin 2064) (l : Fin 1024) :
    S V 11 (Proc.devRef .tc main_v4) (ix3 b n l) = ((∑ i ∈ Finset.range n, padded (entry u b l) (i + 1) : ℝ) : EReal) := by
  rw [keep_v4, show S V 10 = after (ops 6 4) (S V 6) from S_add V 6 4]
  refine (read_v4 (S V 6) b n l rfl).trans ?_
  by_cases hn : (n : ℕ) < 1
  · rw [dif_pos hn, Ideal.ofBits_zero_f32, show (n : ℕ) = 0 by omega, Finset.sum_range_zero]; rfl
  · rw [dif_neg hn]
    refine (v2_at hu fu b ⟨n - 1, by omega⟩ l).trans ?_
    simp only []
    rw [show (n : ℕ) - 1 + 1 = n by omega]

theorem v6_at (b : Fin 8) (s : Fin 2048) (l : Fin 1024) :
    S V 11 (Proc.devRef .tc main_v6) (ix3 b s l) = ((∑ i ∈ Finset.range (16 + s), padded (entry u b l) (i + 1) : ℝ) : EReal) := by
  rw [show S V 11 = after (ops 10 1) (S V 10) from S_add V 10 1]
  refine (read_v6 (S V 10) b s l rfl).trans ?_
  exact (congrFun (keep_v4 V).symm _).trans (v4_at hu fu b ⟨16 + s, by omega⟩ l)

omit hu fu in
theorem v5_at (s : Fin 2048) : S V 11 (Proc.devRef .tc main_v5) (ix1 s) = BitVec.ofNat 32 s := by
  rw [keep_v5, show S V 10 = after (ops 6 4) (S V 6) from S_add V 6 4]
  exact read_v5 (S V 6) s

theorem v19_at (b : Fin 8) (s : Fin 2048) (c : Fin 256) :
    S V 71 (Proc.devRef .tc main_v19) (ix3 b s c) = ((pooled (entry u b c) 2 s : ℝ) : EReal) := by
  rw [show S V 71 = after (ops 11 60) (S V 11) from S_add V 11 60]
  refine (read_v19 (S V 11) b s c ((keep_arg0_11 V).trans hu) rfl rfl).trans ?_
  have e := mean_sub (U := entry u b c) (w := 2) (s := s) (by decide) (by decide) s.isLt
  rw [← e]
  refine congrArg₂ (fun x y : EReal => x - y) (congrArg₂ Ideal.div (congrArg₂ (fun x y : EReal => x - y) ?_ ?_) ?_) ?_
  · exact v6_at hu fu b s ⟨c, by omega⟩
  · exact v4_at hu fu b ⟨14 + s, by omega⟩ ⟨c, by omega⟩
  · rw [v5_at]
  · exact fu.entry b s ⟨c, by omega⟩

theorem v32_at (b : Fin 8) (s : Fin 2048) (c : Fin 256) :
    S V 71 (Proc.devRef .tc main_v32) (ix3 b s c) = ((pooled (entry u b (256 + c)) 4 s : ℝ) : EReal) := by
  rw [show S V 71 = after (ops 11 60) (S V 11) from S_add V 11 60]
  refine (read_v32 (S V 11) b s c ((keep_arg0_11 V).trans hu) rfl rfl).trans ?_
  have e := mean_sub (U := entry u b (256 + c)) (w := 4) (s := s) (by decide) (by decide) s.isLt
  rw [← e]
  refine congrArg₂ (fun x y : EReal => x - y) (congrArg₂ Ideal.div (congrArg₂ (fun x y : EReal => x - y) ?_ ?_) ?_) ?_
  · exact v6_at hu fu b s ⟨256 + c, by omega⟩
  · exact v4_at hu fu b ⟨12 + s, by omega⟩ ⟨256 + c, by omega⟩
  · rw [v5_at]
  · exact fu.entry b s ⟨256 + c, by omega⟩

theorem v45_at (b : Fin 8) (s : Fin 2048) (c : Fin 256) :
    S V 71 (Proc.devRef .tc main_v45) (ix3 b s c) = ((pooled (entry u b (512 + c)) 8 s : ℝ) : EReal) := by
  rw [show S V 71 = after (ops 11 60) (S V 11) from S_add V 11 60]
  refine (read_v45 (S V 11) b s c ((keep_arg0_11 V).trans hu) rfl rfl).trans ?_
  have e := mean_sub (U := entry u b (512 + c)) (w := 8) (s := s) (by decide) (by decide) s.isLt
  rw [← e]
  refine congrArg₂ (fun x y : EReal => x - y) (congrArg₂ Ideal.div (congrArg₂ (fun x y : EReal => x - y) ?_ ?_) ?_) ?_
  · exact v6_at hu fu b s ⟨512 + c, by omega⟩
  · exact v4_at hu fu b ⟨8 + s, by omega⟩ ⟨512 + c, by omega⟩
  · rw [v5_at]
  · exact fu.entry b s ⟨512 + c, by omega⟩

theorem v58_at (b : Fin 8) (s : Fin 2048) (c : Fin 256) :
    S V 71 (Proc.devRef .tc main_v58) (ix3 b s c) = ((pooled (entry u b (768 + c)) 16 s : ℝ) : EReal) := by
  rw [show S V 71 = after (ops 11 60) (S V 11) from S_add V 11 60]
  refine (read_v58 (S V 11) b s c ((keep_arg0_11 V).trans hu) rfl rfl).trans ?_
  have e := mean_sub (U := entry u b (768 + c)) (w := 16) (s := s) (by decide) (by decide) s.isLt
  rw [show 16 - 16 + (s : ℕ) = s by omega] at e
  rw [← e]
  refine congrArg₂ (fun x y : EReal => x - y) (congrArg₂ Ideal.div (congrArg₂ (fun x y : EReal => x - y) ?_ ?_) ?_) ?_
  · exact v6_at hu fu b s ⟨768 + c, by omega⟩
  · exact v4_at hu fu b ⟨s, by omega⟩ ⟨768 + c, by omega⟩
  · rw [v5_at]
  · exact fu.entry b s ⟨768 + c, by omega⟩

/-- The pooled lanes, by group. -/
theorem v63_at (b : Fin 8) (s : Fin 2048) (g : Fin 4) (c : Fin 256) :
    S V 76 (Proc.devRef .tc main_v63) (ix4 b s g c) = ((pooled (entry u b (256 * g + c)) (2 ^ ((g : ℕ) + 1)) s : ℝ) : EReal) := by
  rw [show S V 76 = after (ops 71 5) (S V 71) from S_add V 71 5]
  refine (read_v63 (S V 71) b s g c rfl rfl rfl rfl).trans ?_
  match g with
  | ⟨0, _⟩ => refine (v19_at hu fu b s c).trans ?_; simp
  | ⟨1, _⟩ => exact v32_at hu fu b s c
  | ⟨2, _⟩ => exact v45_at hu fu b s c
  | ⟨3, _⟩ => exact v58_at hu fu b s c

include hw hs

/-- The result of the reference. -/
theorem result_eq : (after line.1 V (Proc.devRef .tc main_v70) : Su.Idx → EReal) = pooledAll u W sc := by
  funext y
  obtain ⟨b, s, l, rfl⟩ : ∃ (b : Fin 8) (s : Fin 2048) (l : Fin 1024), y = ix3 b s l := ⟨y 0, y 1, y 2, eq_ix3 y⟩
  rw [← S_all, show S V 83 = after (ops 76 7) (S V 76) from S_add V 76 7]
  have hg : (l : ℕ) / 256 < 4 := by omega
  have hj : (l : ℕ) % 256 < 256 := by omega
  refine (read_v70 (S V 76) b s ⟨l / 256, hg⟩ ⟨l % 256, hj⟩ ((keep_arg1_76 V).trans hw) ((keep_arg2_76 V).trans hs) rfl l
    (by simp only []; omega)).trans ?_
  show _ = pool u W sc b s ((l : ℕ) / 256) ((l : ℕ) % 256)
  unfold Pool.pool
  rw [show Fin.ofNat 4 ((l : ℕ) / 256) = ⟨l / 256, hg⟩ from Fin.ext (Nat.mod_eq_of_lt hg),
    show Fin.ofNat 256 ((l : ℕ) % 256) = ⟨l % 256, hj⟩ from Fin.ext (Nat.mod_eq_of_lt hj),
    show Fin.ofNat 1024 (256 * ((l : ℕ) / 256) + l % 256) = l from Fin.ext (by rw [Fin.val_ofNat]; omega)]
  refine congrArg (fun z : EReal => z * sc (ix1 l)) (Finset.sum_congr (M := EReal) rfl fun c _ => ?_)
  rw [mul_comm]
  exact congrArg (fun z : EReal => z * W (ix3 ⟨l / 256, hg⟩ c ⟨l % 256, hj⟩)) (v63_at hu fu b s ⟨l / 256, hg⟩ c)

end

end Cert.ReferencePoolIdeal.Value

end

end
-- ==== Proof.PoolRun.lean ====
module

public import proofs.«01_k».proof.Proof.PoolRef
public import proofs.«01_k».proof.Proof.AttnRun
public import proofs.«01_k».proof.Proof.Gen.Pre_finite_u
public import Idealize.ShloMosaic.Lib.KernelVsHost
public import Idealize.ShloMosaic.Lib.ReduceAll

/-!
The run of the pooling reference, and what its precondition says of its inputs.
-/

@[expose] public section
set_option maxRecDepth 16384

noncomputable section

namespace Cert.ReferencePoolIdeal.Value

open Idealize.ShloMosaic Idealize.ShloMosaic.TcCoe Idealize.SL.Sem Idealize.ShloMosaic.StableHlo
open Cert.Pool Cert.ReferencePoolIdeal Cert.ReferencePoolIdeal.Gen

theorem line_bufs : (line.1).Forall fun op => op.bufs ⊆ tcRefs τ sig := by
  simp [line]

theorem line_fresh : ∀ op ∈ line.1, op.fresh = ∅ := by
  unfold line
  intro _ h
  (repeat (cases h with | head => rfl | tail _ h => ?_))
  exact nomatch h

theorem keep_arg0 (V : Valuation τ sig (Elt Ideal)) : after line.1 V (Proc.devRef .tc main_arg0) = V (Proc.devRef .tc main_arg0) := by
  unfold line; after_reads_simp

theorem keep_arg1 (V : Valuation τ sig (Elt Ideal)) : after line.1 V (Proc.devRef .tc main_arg1) = V (Proc.devRef .tc main_arg1) := by
  unfold line; after_reads_simp

theorem keep_arg2 (V : Valuation τ sig (Elt Ideal)) : after line.1 V (Proc.devRef .tc main_arg2) = V (Proc.devRef .tc main_arg2) := by
  unfold line; after_reads_simp

/-- The reference runs; its arguments are unchanged, and its result is what its operations compute. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v70) = after line.1 (launchContents m c) (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine θ_run_mono (run_hlo defs main (ops := line.1) line.2 (by decide) (by decide) line_bufs line_fresh m ρ) fun r hr c => ?_
  refine ⟨hr c _, ?_, ?_, ?_⟩
  · rw [hr c, keep_arg0]
  · rw [hr c, keep_arg1]
  · rw [hr c, keep_arg2]

/-- The result of the reference on inputs that are real numbers. -/
theorem final (m : (ℓ : Loc nD τ sig) → Buf (Elt Ideal) ℓ) (c : Dev nD) {u : Su.Idx → EReal} {W : Sw.Idx → EReal} {sc : Ss.Idx → EReal}
    (hu : m ((c.tc : Thread nD τ).loc main_arg0) = u) (hw : m ((c.tc : Thread nD τ).loc main_arg1) = W)
    (hs : m ((c.tc : Thread nD τ).loc main_arg2) = sc) (fu : Finite u) :
    (after line.1 (launchContents m c) (Proc.devRef .tc main_v70) : Su.Idx → EReal) = pooledAll u W sc :=
  result_eq hu hw hs fu

end Cert.ReferencePoolIdeal.Value

namespace Cert.Pool

open Idealize.ShloMosaic

/-- The precondition says that the inputs are real numbers. -/
theorem finite_of_pre {u : Su.Idx → EReal} {W : Sw.Idx → EReal} {sc : Ss.Idx → EReal}
    (h : Cert.Pre_finite_u.fn (F := Ideal) u W sc = fun _ => 1#1) : Finite u := by
  have h0 := congrFun h ix0
  haveI : Subsingleton Cert.Pre_finite_u.S_.Idx := ⟨fun a b => funext fun i => i.elim0⟩
  exact fun i => Attn.coe_of_abs_lt (Host.reduce_andi_all _ _ _ _ _ h0 i)

end Cert.Pool

end

end
-- ==== Proof.PoolSSpec.lean ====
module

public import proofs.«01_k».proof.Proof.PoolSpec

/-!
The pooling of the sample batch, in plain terms: the 15 positions kept from before and the four new ones form one lane;
each new position is the mean of the last 2, 4, 8 or 16 positions less the position itself, mixed by one weight matrix
per group of 256 lanes, and scaled.
-/

@[expose] public section

noncomputable section

open Idealize.ShloMosaic

namespace Cert.PoolS

/-- The shape of the new positions and of the result. -/
abbrev Su : Shape := ⟨3, ![32, 4, 1024]⟩
/-- The shape of the positions kept from before. -/
abbrev Sp : Shape := ⟨3, ![32, 15, 1024]⟩

/-- Every entry is a real number. -/
def Finite {S : Shape} (x : S.Idx → EReal) : Prop := ∀ i, x i = ((x i).toReal : EReal)

/-- The lane of batch row `b`, as real numbers: the kept positions, then the new ones. -/
def lane (u : Su.Idx → EReal) (p : Sp.Idx → EReal) (b l n : ℕ) : ℝ :=
  if n < 15 then (p (ix3 (Fin.ofNat 32 b) (Fin.ofNat 15 n) (Fin.ofNat 1024 l))).toReal
  else (u (ix3 (Fin.ofNat 32 b) (Fin.ofNat 4 (n - 15)) (Fin.ofNat 1024 l))).toReal

theorem lane_kept {u : Su.Idx → EReal} {p : Sp.Idx → EReal} (h : Finite p) (b : Fin 32) (n : Fin 15) (l : Fin 1024) :
    p (ix3 b n l) = ((lane u p b l n : ℝ) : EReal) := by
  rw [h (ix3 b n l)]
  unfold lane
  rw [if_pos n.isLt, Fin.ofNat_val_eq_self, Fin.ofNat_val_eq_self, Fin.ofNat_val_eq_self]

theorem lane_new {u : Su.Idx → EReal} {p : Sp.Idx → EReal} (h : Finite u) (b : Fin 32) (t : Fin 4) (l : Fin 1024) :
    u (ix3 b t l) = ((lane u p b l (15 + t) : ℝ) : EReal) := by
  rw [h (ix3 b t l)]
  unfold lane
  rw [if_neg (by omega), Nat.add_sub_cancel_left, Fin.ofNat_val_eq_self, Fin.ofNat_val_eq_self, Fin.ofNat_val_eq_self]

/-- The mean of the last `w` positions of a lane up to position `n`, less position `n`. -/
def pooled (U : ℕ → ℝ) (w n : ℕ) : ℝ := (∑ i ∈ Finset.range w, U (n - i)) * (1 / (w : ℝ)) - U n

/-- The pooled, mixed and scaled new position `t`. -/
def pool (u : Su.Idx → EReal) (p : Sp.Idx → EReal) (W : Pool.Sw.Idx → EReal) (sc : Pool.Ss.Idx → EReal) (b t g j : ℕ) : EReal :=
  (∑ c : Fin 256, ((pooled (lane u p b (256 * g + c)) (2 ^ (g + 1)) (15 + t) : ℝ) : EReal)
    * W (ix3 (Fin.ofNat 4 g) c (Fin.ofNat 256 j))) * sc (ix1 (Fin.ofNat 1024 (256 * g + j)))

/-- The whole result. -/
def pooledAll (u : Su.Idx → EReal) (p : Sp.Idx → EReal) (W : Pool.Sw.Idx → EReal) (sc : Pool.Ss.Idx → EReal) (y : Su.Idx) : EReal :=
  pool u p W sc (y 0 : ℕ) (y 1 : ℕ) ((y 2 : ℕ) / 256) ((y 2 : ℕ) % 256)

theorem pool_congr {u : Su.Idx → EReal} {p : Sp.Idx → EReal} {W : Pool.Sw.Idx → EReal} {sc : Pool.Ss.Idx → EReal}
    {b b' t t' g g' j j' : ℕ} (hb : b = b') (ht : t = t') (hg : g = g') (hj : j = j') :
    pool u p W sc b t g j = pool u p W sc b' t' g' j' := by
  subst hb ht hg hj; rfl

/-- The difference of two running sums is the sum of the window between them. -/
theorem prefix_sub (U : ℕ → ℝ) {w n : ℕ} (hw : w ≤ n + 1) :
    (∑ i ∈ Finset.range (n + 1), U i) - ∑ i ∈ Finset.range (n + 1 - w), U i = ∑ i ∈ Finset.range w, U (n - i) := by
  rw [show n + 1 = (n + 1 - w) + w by omega, Finset.sum_range_add, Nat.add_sub_cancel, add_sub_cancel_left,
    ← Finset.sum_range_reflect]
  refine Finset.sum_congr rfl fun i hi => congrArg _ ?_
  have := Finset.mem_range.1 hi
  omega

end Cert.PoolS

end

end
-- ==== Proof.PoolSTile.lean ====
module

public import proofs.«01_k».proof.Proof.Gen.KernelPoolSIdeal.Frame
public import proofs.«01_k».proof.Proof.PoolSSpec
public import Idealize.ShloMosaic.Lib.KernelVsHost
public import Idealize.ShloMosaic.Lib.Pipeline.ReadBack
public import Idealize.ShloMosaic.Lib.Pipeline.ValueKit

/-!
One group of lanes of the pooling kernel of the sample batch: the windowed means of the four new positions, stacked, mixed
and scaled.
-/

@[expose] public section
set_option maxRecDepth 16384

noncomputable section

open Idealize.ShloMosaic Idealize.ShloMosaic.TcCoe Idealize.SL.Sem
open Idealize.ShloMosaic.Pipeline

namespace Cert.KernelPoolSIdeal.Value

open Cert.KernelPoolSIdeal Cert.KernelPoolSIdeal.Gen Cert.PoolS

/-- One position of one group of lanes, for every batch row. -/
abbrev Row : Type := FVec Ideal S1x32x256 .f32

/-- The mean of a row and the rows before it, less the row: the sum from the row back, times a constant. -/
def mean (κ : BitVec 32) (x : Row) (ys : List Row) : FVec Ideal S32x256 .f32 :=
  subf (mulf (ys.foldl (fun a y => addf a (shapeCast S32x256 y shapeCasts_S1x32x256_S32x256))
    (shapeCast S32x256 x shapeCasts_S1x32x256_S32x256)) (broadcast S32x256 (Scalar.ofBits .f32 κ)))
    (shapeCast S32x256 x shapeCasts_S1x32x256_S32x256)

/-- The rows hold, at one batch row and lane, the positions of a lane before position `n`, last first. -/
def Before (U : ℕ → ℝ) (b : Fin 32) (c : Fin 256) : List Row → ℕ → Prop
  | [], _ => True
  | y :: ys, n => y (ix3 0 b c) = ((U (n - 1) : ℝ) : EReal) ∧ Before U b c ys (n - 1)

/-- Adding to a sum the rows before position `n`. -/
theorem sum_apply {U : ℕ → ℝ} {b : Fin 32} {c : Fin 256} : ∀ (ys : List Row) (n : ℕ) (a : FVec Ideal S32x256 .f32) (A : ℝ),
    a (ix2 b c) = ((A : ℝ) : EReal) → Before U b c ys n →
    ys.foldl (fun a y => addf a (shapeCast S32x256 y shapeCasts_S1x32x256_S32x256)) a (ix2 b c)
      = ((A + ∑ i ∈ Finset.range ys.length, U (n - (i + 1)) : ℝ) : EReal)
  | [], n, a, A, ha, _ => by
    rw [List.length_nil, Finset.sum_range_zero, add_zero]
    exact ha
  | y :: ys, n, a, A, ha, h => by
    have hy : addf a (shapeCast S32x256 y shapeCasts_S1x32x256_S32x256) (ix2 b c) = ((A + U (n - 1) : ℝ) : EReal) := by
      pointwise
      rw [ha, h.1, ← EReal.coe_add]
    rw [List.foldl_cons, sum_apply ys (n - 1) _ _ hy h.2, List.length_cons, Finset.sum_range_succ']
    refine congrArg (fun z : ℝ => (z : EReal)) ?_
    rw [add_assoc, add_comm (U (n - 1))]
    refine congrArg (fun z : ℝ => A + (z + U (n - 1))) (Finset.sum_congr rfl fun i _ => congrArg _ ?_)
    omega

/-- The windowed mean of a lane less the lane, from the rows of the window. -/
theorem mean_apply {U : ℕ → ℝ} {b : Fin 32} {c : Fin 256} {κ : BitVec 32} {w n : ℕ} {x : Row} {ys : List Row}
    (hκ : (Scalar.ofBits .f32 κ : Ideal .f32) = ((1 / (w : ℝ) : ℝ) : EReal)) (hw : ys.length + 1 = w)
    (hx : x (ix3 0 b c) = ((U n : ℝ) : EReal)) (h : Before U b c ys n) :
    mean κ x ys (ix2 b c) = ((pooled U w n : ℝ) : EReal) := by
  have hx' : shapeCast S32x256 x shapeCasts_S1x32x256_S32x256 (ix2 b c) = ((U n : ℝ) : EReal) := by
    pointwise
    exact hx
  have hs := sum_apply ys n _ _ hx' h
  subst hw
  unfold mean pooled
  show (ys.foldl (fun a y => addf a (shapeCast S32x256 y shapeCasts_S1x32x256_S32x256))
    (shapeCast S32x256 x shapeCasts_S1x32x256_S32x256) (ix2 b c) : EReal) * (Scalar.ofBits .f32 κ : Ideal .f32)
    - shapeCast S32x256 x shapeCasts_S1x32x256_S32x256 (ix2 b c) = _
  rw [hs, hx', hκ, Finset.sum_range_succ', add_comm (U n), ← EReal.coe_mul, ← EReal.coe_sub]
  rfl

/-- Four tiles of means stacked, mixed by a matrix and scaled. -/
def mixed (x0 x1 x2 x3 : FVec Ideal S32x256 .f32) (wt : FVec Ideal S1x256x256 .bf16) (sc : FVec Ideal S1x256 .f32) :
    FVec Ideal S128x256 .f32 :=
  mulf (matmul dot_S128x256_S256x256_S128x256_1_0_0_1_n_n none
    (truncf .bf16 (concatenate S128x256 0 [⟨S32x256, x0⟩, ⟨S32x256, x1⟩, ⟨S32x256, x2⟩, ⟨S32x256, x3⟩]
      concatenates_S32x256_S32x256_S32x256_S32x256_S128x256_d0) bitsLt_bf16_f32)
    (shapeCast S256x256 wt shapeCasts_S1x256x256_S256x256) (constant S128x256 .f32 0x00000000#32))
    (broadcastTo S128x256 (shapeCast S1x256 sc shapeCasts_S1x256_S1x256) broadcasts_S1x256_S128x256)

/-- What is stored of the first position. -/
def part0 (x : FVec Ideal S128x256 .f32) : FVec Ideal S1x32x256 .bf16 :=
  shapeCast S1x32x256 (truncf .bf16 (extractStridedSlice S32x256 ![0, 0] x slices_S128x256_o0_0_S32x256) bitsLt_bf16_f32)
    shapeCasts_S32x256_S1x32x256

theorem part0_apply (x0 x1 x2 x3 : FVec Ideal S32x256 .f32) (wt : FVec Ideal S1x256x256 .bf16) (sc : FVec Ideal S1x256 .f32)
    (b : Fin 32) (j : Fin 256) : part0 (mixed x0 x1 x2 x3 wt sc) (ix3 0 b j)
      = (∑ c : Fin 256, (x0 (ix2 b c) : EReal) * wt (ix3 0 c j)) * sc (ix2 0 j) := by
  pointwise [part0, mixed]

/-- What is stored of the second position. -/
def part1 (x : FVec Ideal S128x256 .f32) : FVec Ideal S1x32x256 .bf16 :=
  shapeCast S1x32x256 (truncf .bf16 (extractStridedSlice S32x256 ![32, 0] x slices_S128x256_o32_0_S32x256) bitsLt_bf16_f32)
    shapeCasts_S32x256_S1x32x256

theorem part1_apply (x0 x1 x2 x3 : FVec Ideal S32x256 .f32) (wt : FVec Ideal S1x256x256 .bf16) (sc : FVec Ideal S1x256 .f32)
    (b : Fin 32) (j : Fin 256) : part1 (mixed x0 x1 x2 x3 wt sc) (ix3 0 b j)
      = (∑ c : Fin 256, (x1 (ix2 b c) : EReal) * wt (ix3 0 c j)) * sc (ix2 0 j) := by
  pointwise [part1, mixed]

/-- What is stored of the third position. -/
def part2 (x : FVec Ideal S128x256 .f32) : FVec Ideal S1x32x256 .bf16 :=
  shapeCast S1x32x256 (truncf .bf16 (extractStridedSlice S32x256 ![64, 0] x slices_S128x256_o64_0_S32x256) bitsLt_bf16_f32)
    shapeCasts_S32x256_S1x32x256

theorem part2_apply (x0 x1 x2 x3 : FVec Ideal S32x256 .f32) (wt : FVec Ideal S1x256x256 .bf16) (sc : FVec Ideal S1x256 .f32)
    (b : Fin 32) (j : Fin 256) : part2 (mixed x0 x1 x2 x3 wt sc) (ix3 0 b j)
      = (∑ c : Fin 256, (x2 (ix2 b c) : EReal) * wt (ix3 0 c j)) * sc (ix2 0 j) := by
  pointwise [part2, mixed]
  refine congrArg (fun z : EReal => z * sc (ix2 0 j)) (Finset.sum_congr (M := EReal) rfl fun c _ =>
    congrArg (fun z : EReal => z * wt (ix3 0 c j)) ?_)
  rw [dif_neg (by omega), dif_neg (by omega), dif_pos (by omega)]
  exact congrArg (fun r => x2 (ix2 r c)) (Fin.ext (by show 64 + (b : ℕ) - 32 - 32 = b; omega))

/-- What is stored of the fourth position. -/
def part3 (x : FVec Ideal S128x256 .f32) : FVec Ideal S1x32x256 .bf16 :=
  shapeCast S1x32x256 (truncf .bf16 (extractStridedSlice S32x256 ![96, 0] x slices_S128x256_o96_0_S32x256) bitsLt_bf16_f32)
    shapeCasts_S32x256_S1x32x256

theorem part3_apply (x0 x1 x2 x3 : FVec Ideal S32x256 .f32) (wt : FVec Ideal S1x256x256 .bf16) (sc : FVec Ideal S1x256 .f32)
    (b : Fin 32) (j : Fin 256) : part3 (mixed x0 x1 x2 x3 wt sc) (ix3 0 b j)
      = (∑ c : Fin 256, (x3 (ix2 b c) : EReal) * wt (ix3 0 c j)) * sc (ix2 0 j) := by
  pointwise [part3, mixed]
  refine congrArg (fun z : EReal => z * sc (ix2 0 j)) (Finset.sum_congr (M := EReal) rfl fun c _ =>
    congrArg (fun z : EReal => z * wt (ix3 0 c j)) ?_)
  rw [dif_neg (by omega), dif_neg (by omega), dif_neg (by omega)]
  exact congrArg (fun r => x3 (ix2 r c)) (Fin.ext (by show 96 + (b : ℕ) - 32 - 32 - 32 = b; omega))

end Cert.KernelPoolSIdeal.Value

end

end
-- ==== Proof.PoolSValue.lean ====
module

public import proofs.«01_k».proof.Proof.PoolSTile
public import proofs.«01_k».proof.Proof.AttnOps
public import Idealize.ShloMosaic.Lib.StableHlo.RunRead
public import Idealize.ShloMosaic.Lib.StableHlo.ReadAt

/-!
The value of the pooling kernel of the sample batch over the extended reals: its result array is the pooled, mixed and
scaled new positions.
-/

@[expose] public section
set_option maxRecDepth 16384

noncomputable section

open Idealize.ShloMosaic Idealize.ShloMosaic.TcCoe Idealize.SL.Sem
open Idealize.ShloMosaic.Pipeline (Dat)

namespace Cert.KernelPoolSIdeal.Value

open Cert.KernelPoolSIdeal Cert.KernelPoolSIdeal.Gen
open Cert.Pool (Sw Ss)
open Cert.PoolS

/-- The patterns of one half, a quarter, an eighth and a sixteenth. -/
theorem ofBits_2nd : (Scalar.ofBits .f32 0x3F000000#32 : Ideal .f32) = ((1 / ((2 : ℕ) : ℝ) : ℝ) : EReal) := by
  show Ideal.ofBits .f32 0x3F000000#32 = _
  rw [Cert.KernelAttnIdeal.Value.ofBits_half]; norm_num

theorem ofBits_4th : (Scalar.ofBits .f32 0x3E800000#32 : Ideal .f32) = ((1 / ((4 : ℕ) : ℝ) : ℝ) : EReal) := by
  show Ideal.ofBits .f32 0x3E800000#32 = _
  simp [Ideal.ofBits, Ideal.ieee, -EReal.coe_mul]; norm_num

theorem ofBits_8th : (Scalar.ofBits .f32 0x3E000000#32 : Ideal .f32) = ((1 / ((8 : ℕ) : ℝ) : ℝ) : EReal) := by
  show Ideal.ofBits .f32 0x3E000000#32 = _
  simp [Ideal.ofBits, Ideal.ieee, -EReal.coe_mul]; norm_num

theorem ofBits_16th : (Scalar.ofBits .f32 0x3D800000#32 : Ideal .f32) = ((1 / ((16 : ℕ) : ℝ) : ℝ) : EReal) := by
  show Ideal.ofBits .f32 0x3D800000#32 = _
  simp [Ideal.ofBits, Ideal.ieee, -EReal.coe_mul]; norm_num

section Body

/-- What a load reads of a buffer of the wide format, and of the narrow one. -/
abbrev ldf {S : Shape} (X : Vec Ideal S .f32) (r : Rect S) : Vec Ideal r.shape .f32 := View.ld (Val := Elt Ideal) X r
abbrev ldh {S : Shape} (X : Vec Ideal S .bf16) (r : Rect S) : Vec Ideal r.shape .bf16 := View.ld (Val := Elt Ideal) X r

variable (x0 : Vec Ideal S15x32x1024 .f32) (x1 : Vec Ideal S4x32x1024 .f32) (x2 : Vec Ideal S4x256x256 .bf16)
  (x3 : Vec Ideal S1x1024 .f32)

/-- Group 0 of the lanes, from the blocks. -/
def tile0 : FVec Ideal S128x256 .f32 :=
  mixed
    (mean 0x3F000000#32 (ldf x1 r0_0) [ldf x0 r0_1])
    (mean 0x3F000000#32 (ldf x1 r0_2) [ldf x1 r0_0])
    (mean 0x3F000000#32 (ldf x1 r0_3) [ldf x1 r0_2])
    (mean 0x3F000000#32 (ldf x1 r0_4) [ldf x1 r0_3])
    (ldh x2 r0_5) (ldf x3 r0_6)

/-- Group 1 of the lanes, from the blocks. -/
def tile1 : FVec Ideal S128x256 .f32 :=
  mixed
    (mean 0x3E800000#32 (ldf x1 r0_7) [ldf x0 r0_8, ldf x0 r0_9, ldf x0 r0_10])
    (mean 0x3E800000#32 (ldf x1 r0_11) [ldf x1 r0_7, ldf x0 r0_8, ldf x0 r0_9])
    (mean 0x3E800000#32 (ldf x1 r0_12) [ldf x1 r0_11, ldf x1 r0_7, ldf x0 r0_8])
    (mean 0x3E800000#32 (ldf x1 r0_13) [ldf x1 r0_12, ldf x1 r0_11, ldf x1 r0_7])
    (ldh x2 r0_14) (ldf x3 r0_15)

/-- Group 2 of the lanes, from the blocks. -/
def tile2 : FVec Ideal S128x256 .f32 :=
  mixed
    (mean 0x3E000000#32 (ldf x1 r0_16) [ldf x0 r0_17, ldf x0 r0_18, ldf x0 r0_19, ldf x0 r0_20, ldf x0 r0_21, ldf x0 r0_22, ldf x0 r0_23])
    (mean 0x3E000000#32 (ldf x1 r0_24) [ldf x1 r0_16, ldf x0 r0_17, ldf x0 r0_18, ldf x0 r0_19, ldf x0 r0_20, ldf x0 r0_21, ldf x0 r0_22])
    (mean 0x3E000000#32 (ldf x1 r0_25) [ldf x1 r0_24, ldf x1 r0_16, ldf x0 r0_17, ldf x0 r0_18, ldf x0 r0_19, ldf x0 r0_20, ldf x0 r0_21])
    (mean 0x3E000000#32 (ldf x1 r0_26) [ldf x1 r0_25, ldf x1 r0_24, ldf x1 r0_16, ldf x0 r0_17, ldf x0 r0_18, ldf x0 r0_19, ldf x0 r0_20])
    (ldh x2 r0_27) (ldf x3 r0_28)

/-- Group 3 of the lanes, from the blocks. -/
def tile3 : FVec Ideal S128x256 .f32 :=
  mixed
    (mean 0x3D800000#32 (ldf x1 r0_29) [ldf x0 r0_30, ldf x0 r0_31, ldf x0 r0_32, ldf x0 r0_33, ldf x0 r0_34, ldf x0 r0_35, ldf x0 r0_36, ldf x0 r0_37, ldf x0 r0_38, ldf x0 r0_39, ldf x0 r0_40, ldf x0 r0_41, ldf x0 r0_42, ldf x0 r0_43, ldf x0 r0_44])
    (mean 0x3D800000#32 (ldf x1 r0_45) [ldf x1 r0_29, ldf x0 r0_30, ldf x0 r0_31, ldf x0 r0_32, ldf x0 r0_33, ldf x0 r0_34, ldf x0 r0_35, ldf x0 r0_36, ldf x0 r0_37, ldf x0 r0_38, ldf x0 r0_39, ldf x0 r0_40, ldf x0 r0_41, ldf x0 r0_42, ldf x0 r0_43])
    (mean 0x3D800000#32 (ldf x1 r0_46) [ldf x1 r0_45, ldf x1 r0_29, ldf x0 r0_30, ldf x0 r0_31, ldf x0 r0_32, ldf x0 r0_33, ldf x0 r0_34, ldf x0 r0_35, ldf x0 r0_36, ldf x0 r0_37, ldf x0 r0_38, ldf x0 r0_39, ldf x0 r0_40, ldf x0 r0_41, ldf x0 r0_42])
    (mean 0x3D800000#32 (ldf x1 r0_47) [ldf x1 r0_46, ldf x1 r0_45, ldf x1 r0_29, ldf x0 r0_30, ldf x0 r0_31, ldf x0 r0_32, ldf x0 r0_33, ldf x0 r0_34, ldf x0 r0_35, ldf x0 r0_36, ldf x0 r0_37, ldf x0 r0_38, ldf x0 r0_39, ldf x0 r0_40, ldf x0 r0_41])
    (ldh x2 r0_48) (ldf x3 r0_49)

/-- The stores of the body, last first. -/
def stores : List (View.Piece (Elt Ideal) S4x32x1024 .bf16) :=
  [⟨r0_47, part3 (tile3 x0 x1 x2 x3)⟩,
   ⟨r0_46, part2 (tile3 x0 x1 x2 x3)⟩,
   ⟨r0_45, part1 (tile3 x0 x1 x2 x3)⟩,
   ⟨r0_29, part0 (tile3 x0 x1 x2 x3)⟩,
   ⟨r0_26, part3 (tile2 x0 x1 x2 x3)⟩,
   ⟨r0_25, part2 (tile2 x0 x1 x2 x3)⟩,
   ⟨r0_24, part1 (tile2 x0 x1 x2 x3)⟩,
   ⟨r0_16, part0 (tile2 x0 x1 x2 x3)⟩,
   ⟨r0_13, part3 (tile1 x0 x1 x2 x3)⟩,
   ⟨r0_12, part2 (tile1 x0 x1 x2 x3)⟩,
   ⟨r0_11, part1 (tile1 x0 x1 x2 x3)⟩,
   ⟨r0_7, part0 (tile1 x0 x1 x2 x3)⟩,
   ⟨r0_4, part3 (tile0 x0 x1 x2 x3)⟩,
   ⟨r0_3, part2 (tile0 x0 x1 x2 x3)⟩,
   ⟨r0_2, part1 (tile0 x0 x1 x2 x3)⟩,
   ⟨r0_0, part0 (tile0 x0 x1 x2 x3)⟩]

theorem out_eq : out0_4 (F := Ideal) x0 x1 x2 x3 = View.canon (stores x0 x1 x2 x3) := rfl

variable {x0 x1 x2 x3} {u : Su.Idx → EReal} {p : Sp.Idx → EReal} {W : Sw.Idx → EReal} {sc : Ss.Idx → EReal}
  (h0 : ∀ (n : Fin 15) (b : Fin 32) (l : Fin 1024), (x0 (ix3 n b l) : EReal) = ((lane u p b l n : ℝ) : EReal))
  (h1 : ∀ (t : Fin 4) (b : Fin 32) (l : Fin 1024), (x1 (ix3 t b l) : EReal) = ((lane u p b l (15 + t) : ℝ) : EReal))
  (h2 : ∀ (g : Fin 4) (k j : Fin 256), (x2 (ix3 g k j) : EReal) = W (ix3 g k j))
  (h3 : ∀ l : Fin 1024, (x3 (ix2 0 l) : EReal) = sc (ix1 l))

include h1 in
/-- A load of a new position. -/
theorem new_apply {t off : ℕ} (inb : ∀ a, (![t, 0, off] : Fin 3 → ℕ) a + S1x32x256.size a ≤ S4x32x1024.size a) (b : Fin 32)
    (c : Fin 256) : (ldf x1 (Rect.unit (s := S4x32x1024) ![t, 0, off] S1x32x256.size inb) (ix3 0 b c) : EReal)
      = ((lane u p b (off + c) (15 + t) : ℝ) : EReal) := by
  have e0 : t + 1 ≤ 4 := inb 0
  have e2 : off + 256 ≤ 1024 := inb 2
  refine Eq.trans (congrArg x1 (funext fun a => Fin.ext ?_)) (h1 ⟨t, by omega⟩ b ⟨off + c, by omega⟩)
  match a with
  | ⟨0, _⟩ => show t + 1 * 0 = t; omega
  | ⟨1, _⟩ => show 0 + 1 * (b : ℕ) = b; omega
  | ⟨2, _⟩ => show off + 1 * (c : ℕ) = off + c; omega

include h0 in
/-- A load of a kept position. -/
theorem kept_apply {n off : ℕ} (inb : ∀ a, (![n, 0, off] : Fin 3 → ℕ) a + S1x32x256.size a ≤ S15x32x1024.size a) (b : Fin 32)
    (c : Fin 256) : (ldf x0 (Rect.unit (s := S15x32x1024) ![n, 0, off] S1x32x256.size inb) (ix3 0 b c) : EReal)
      = ((lane u p b (off + c) n : ℝ) : EReal) := by
  have e0 : n + 1 ≤ 15 := inb 0
  have e2 : off + 256 ≤ 1024 := inb 2
  refine Eq.trans (congrArg x0 (funext fun a => Fin.ext ?_)) (h0 ⟨n, by omega⟩ b ⟨off + c, by omega⟩)
  match a with
  | ⟨0, _⟩ => show n + 1 * 0 = n; omega
  | ⟨1, _⟩ => show 0 + 1 * (b : ℕ) = b; omega
  | ⟨2, _⟩ => show off + 1 * (c : ℕ) = off + c; omega

include h2 in
/-- A load of the weights of a group. -/
theorem weights_apply {g : ℕ} (hg : g < 4) (inb : ∀ a, (![g, 0, 0] : Fin 3 → ℕ) a + S1x256x256.size a ≤ S4x256x256.size a)
    (k j : Fin 256) : (ldh x2 (Rect.unit (s := S4x256x256) ![g, 0, 0] S1x256x256.size inb) (ix3 0 k j) : EReal)
      = W (ix3 (Fin.ofNat 4 g) k (Fin.ofNat 256 (j : ℕ))) := by
  rw [Fin.ofNat_val_eq_self, ← h2]
  refine congrArg x2 (funext fun a => Fin.ext ?_)
  match a with
  | ⟨0, _⟩ => show g + 1 * 0 = g % 4; omega
  | ⟨1, _⟩ => show 0 + 1 * (k : ℕ) = k; omega
  | ⟨2, _⟩ => show 0 + 1 * (j : ℕ) = j; omega

include h3 in
/-- A load of the scales of a group of lanes. -/
theorem scale_apply {off : ℕ} (inb : ∀ a, (![0, off] : Fin 2 → ℕ) a + S1x256.size a ≤ S1x1024.size a) (j : Fin 256) :
    (ldf x3 (Rect.unit (s := S1x1024) ![0, off] S1x256.size inb) (ix2 0 j) : EReal)
      = sc (ix1 (Fin.ofNat 1024 (off + (j : ℕ)))) := by
  have e1 : off + 256 ≤ 1024 := inb 1
  rw [← h3]
  refine congrArg x3 (funext fun a => Fin.ext ?_)
  match a with
  | ⟨0, _⟩ => rfl
  | ⟨1, _⟩ => show off + 1 * (j : ℕ) = (off + j) % 1024; omega

/-- A group's position from its means, for any weights and scales it was read from. -/
theorem pool_of {g t b : ℕ} {j : Fin 256} {M : Fin 256 → EReal} {wt : Fin 256 → EReal} {s : EReal}
    (hM : ∀ c, M c = ((pooled (lane u p b (256 * g + c)) (2 ^ (g + 1)) (15 + t) : ℝ) : EReal))
    (hw : ∀ c, wt c = W (ix3 (Fin.ofNat 4 g) c (Fin.ofNat 256 (j : ℕ)))) (hs : s = sc (ix1 (Fin.ofNat 1024 (256 * g + (j : ℕ))))) :
    (∑ c, M c * wt c) * s = pool u p W sc b t g j := by
  unfold PoolS.pool
  rw [hs]
  exact congrArg (fun z : EReal => z * _) (Finset.sum_congr (M := EReal) rfl fun c _ => by rw [hM c, hw c])

section Stored

include h0 h1 h2 h3

theorem stored00_apply (b : Fin 32) (j : Fin 256) :
    (part0 (tile0 x0 x1 x2 x3) (ix3 0 b j) : EReal) = pool u p W sc b 0 0 j := by
  refine (part0_apply _ _ _ _ _ _ b j).trans (pool_of (fun c => ?_) (fun c => weights_apply h2 (by decide) _ c j) (scale_apply h3 _ j))
  exact mean_apply ofBits_2nd rfl (new_apply h1 _ b c)
    ⟨kept_apply h0 _ b c, trivial⟩

theorem stored01_apply (b : Fin 32) (j : Fin 256) :
    (part1 (tile0 x0 x1 x2 x3) (ix3 0 b j) : EReal) = pool u p W sc b 1 0 j := by
  refine (part1_apply _ _ _ _ _ _ b j).trans (pool_of (fun c => ?_) (fun c => weights_apply h2 (by decide) _ c j) (scale_apply h3 _ j))
  exact mean_apply ofBits_2nd rfl (new_apply h1 _ b c)
    ⟨new_apply h1 _ b c, trivial⟩

theorem stored02_apply (b : Fin 32) (j : Fin 256) :
    (part2 (tile0 x0 x1 x2 x3) (ix3 0 b j) : EReal) = pool u p W sc b 2 0 j := by
  refine (part2_apply _ _ _ _ _ _ b j).trans (pool_of (fun c => ?_) (fun c => weights_apply h2 (by decide) _ c j) (scale_apply h3 _ j))
  exact mean_apply ofBits_2nd rfl (new_apply h1 _ b c)
    ⟨new_apply h1 _ b c, trivial⟩

theorem stored03_apply (b : Fin 32) (j : Fin 256) :
    (part3 (tile0 x0 x1 x2 x3) (ix3 0 b j) : EReal) = pool u p W sc b 3 0 j := by
  refine (part3_apply _ _ _ _ _ _ b j).trans (pool_of (fun c => ?_) (fun c => weights_apply h2 (by decide) _ c j) (scale_apply h3 _ j))
  exact mean_apply ofBits_2nd rfl (new_apply h1 _ b c)
    ⟨new_apply h1 _ b c, trivial⟩

theorem stored10_apply (b : Fin 32) (j : Fin 256) :
    (part0 (tile1 x0 x1 x2 x3) (ix3 0 b j) : EReal) = pool u p W sc b 0 1 j := by
  refine (part0_apply _ _ _ _ _ _ b j).trans (pool_of (fun c => ?_) (fun c => weights_apply h2 (by decide) _ c j) (scale_apply h3 _ j))
  exact mean_apply ofBits_4th rfl (new_apply h1 _ b c)
    ⟨kept_apply h0 _ b c, kept_apply h0 _ b c, kept_apply h0 _ b c, trivial⟩

theorem stored11_apply (b : Fin 32) (j : Fin 256) :
    (part1 (tile1 x0 x1 x2 x3) (ix3 0 b j) : EReal) = pool u p W sc b 1 1 j := by
  refine (part1_apply _ _ _ _ _ _ b j).trans (pool_of (fun c => ?_) (fun c => weights_apply h2 (by decide) _ c j) (scale_apply h3 _ j))
  exact mean_apply ofBits_4th rfl (new_apply h1 _ b c)
    ⟨new_apply h1 _ b c, kept_apply h0 _ b c, kept_apply h0 _ b c, trivial⟩

theorem stored12_apply (b : Fin 32) (j : Fin 256) :
    (part2 (tile1 x0 x1 x2 x3) (ix3 0 b j) : EReal) = pool u p W sc b 2 1 j := by
  refine (part2_apply _ _ _ _ _ _ b j).trans (pool_of (fun c => ?_) (fun c => weights_apply h2 (by decide) _ c j) (scale_apply h3 _ j))
  exact mean_apply ofBits_4th rfl (new_apply h1 _ b c)
    ⟨new_apply h1 _ b c, new_apply h1 _ b c, kept_apply h0 _ b c, trivial⟩

theorem stored13_apply (b : Fin 32) (j : Fin 256) :
    (part3 (tile1 x0 x1 x2 x3) (ix3 0 b j) : EReal) = pool u p W sc b 3 1 j := by
  refine (part3_apply _ _ _ _ _ _ b j).trans (pool_of (fun c => ?_) (fun c => weights_apply h2 (by decide) _ c j) (scale_apply h3 _ j))
  exact mean_apply ofBits_4th rfl (new_apply h1 _ b c)
    ⟨new_apply h1 _ b c, new_apply h1 _ b c, new_apply h1 _ b c, trivial⟩

theorem stored20_apply (b : Fin 32) (j : Fin 256) :
    (part0 (tile2 x0 x1 x2 x3) (ix3 0 b j) : EReal) = pool u p W sc b 0 2 j := by
  refine (part0_apply _ _ _ _ _ _ b j).trans (pool_of (fun c => ?_) (fun c => weights_apply h2 (by decide) _ c j) (scale_apply h3 _ j))
  exact mean_apply ofBits_8th rfl (new_apply h1 _ b c)
    ⟨kept_apply h0 _ b c, kept_apply h0 _ b c, kept_apply h0 _ b c, kept_apply h0 _ b c, kept_apply h0 _ b c, kept_apply h0 _ b c, kept_apply h0 _ b c, trivial⟩

theorem stored21_apply (b : Fin 32) (j : Fin 256) :
    (part1 (tile2 x0 x1 x2 x3) (ix3 0 b j) : EReal) = pool u p W sc b 1 2 j := by
  refine (part1_apply _ _ _ _ _ _ b j).trans (pool_of (fun c => ?_) (fun c => weights_apply h2 (by decide) _ c j) (scale_apply h3 _ j))
  exact mean_apply ofBits_8th rfl (new_apply h1 _ b c)
    ⟨new_apply h1 _ b c, kept_apply h0 _ b c, kept_apply h0 _ b c, kept_apply h0 _ b c, kept_apply h0 _ b c, kept_apply h0 _ b c, kept_apply h0 _ b c, trivial⟩

theorem stored22_apply (b : Fin 32) (j : Fin 256) :
    (part2 (tile2 x0 x1 x2 x3) (ix3 0 b j) : EReal) = pool u p W sc b 2 2 j := by
  refine (part2_apply _ _ _ _ _ _ b j).trans (pool_of (fun c => ?_) (fun c => weights_apply h2 (by decide) _ c j) (scale_apply h3 _ j))
  exact mean_apply ofBits_8th rfl (new_apply h1 _ b c)
    ⟨new_apply h1 _ b c, new_apply h1 _ b c, kept_apply h0 _ b c, kept_apply h0 _ b c, kept_apply h0 _ b c, kept_apply h0 _ b c, kept_apply h0 _ b c, trivial⟩

theorem stored23_apply (b : Fin 32) (j : Fin 256) :
    (part3 (tile2 x0 x1 x2 x3) (ix3 0 b j) : EReal) = pool u p W sc b 3 2 j := by
  refine (part3_apply _ _ _ _ _ _ b j).trans (pool_of (fun c => ?_) (fun c => weights_apply h2 (by decide) _ c j) (scale_apply h3 _ j))
  exact mean_apply ofBits_8th rfl (new_apply h1 _ b c)
    ⟨new_apply h1 _ b c, new_apply h1 _ b c, new_apply h1 _ b c, kept_apply h0 _ b c, kept_apply h0 _ b c, kept_apply h0 _ b c, kept_apply h0 _ b c, trivial⟩

theorem stored30_apply (b : Fin 32) (j : Fin 256) :
    (part0 (tile3 x0 x1 x2 x3) (ix3 0 b j) : EReal) = pool u p W sc b 0 3 j := by
  refine (part0_apply _ _ _ _ _ _ b j).trans (pool_of (fun c => ?_) (fun c => weights_apply h2 (by decide) _ c j) (scale_apply h3 _ j))
  exact mean_apply ofBits_16th rfl (new_apply h1 _ b c)
    ⟨kept_apply h0 _ b c, kept_apply h0 _ b c, kept_apply h0 _ b c, kept_apply h0 _ b c, kept_apply h0 _ b c, kept_apply h0 _ b c, kept_apply h0 _ b c, kept_apply h0 _ b c, kept_apply h0 _ b c, kept_apply h0 _ b c, kept_apply h0 _ b c, kept_apply h0 _ b c, kept_apply h0 _ b c, kept_apply h0 _ b c, kept_apply h0 _ b c, trivial⟩

theorem stored31_apply (b : Fin 32) (j : Fin 256) :
    (part1 (tile3 x0 x1 x2 x3) (ix3 0 b j) : EReal) = pool u p W sc b 1 3 j := by
  refine (part1_apply _ _ _ _ _ _ b j).trans (pool_of (fun c => ?_) (fun c => weights_apply h2 (by decide) _ c j) (scale_apply h3 _ j))
  exact mean_apply ofBits_16th rfl (new_apply h1 _ b c)
    ⟨new_apply h1 _ b c, kept_apply h0 _ b c, kept_apply h0 _ b c, kept_apply h0 _ b c, kept_apply h0 _ b c, kept_apply h0 _ b c, kept_apply h0 _ b c, kept_apply h0 _ b c, kept_apply h0 _ b c, kept_apply h0 _ b c, kept_apply h0 _ b c, kept_apply h0 _ b c, kept_apply h0 _ b c, kept_apply h0 _ b c, kept_apply h0 _ b c, trivial⟩

theorem stored32_apply (b : Fin 32) (j : Fin 256) :
    (part2 (tile3 x0 x1 x2 x3) (ix3 0 b j) : EReal) = pool u p W sc b 2 3 j := by
  refine (part2_apply _ _ _ _ _ _ b j).trans (pool_of (fun c => ?_) (fun c => weights_apply h2 (by decide) _ c j) (scale_apply h3 _ j))
  exact mean_apply ofBits_16th rfl (new_apply h1 _ b c)
    ⟨new_apply h1 _ b c, new_apply h1 _ b c, kept_apply h0 _ b c, kept_apply h0 _ b c, kept_apply h0 _ b c, kept_apply h0 _ b c, kept_apply h0 _ b c, kept_apply h0 _ b c, kept_apply h0 _ b c, kept_apply h0 _ b c, kept_apply h0 _ b c, kept_apply h0 _ b c, kept_apply h0 _ b c, kept_apply h0 _ b c, kept_apply h0 _ b c, trivial⟩

theorem stored33_apply (b : Fin 32) (j : Fin 256) :
    (part3 (tile3 x0 x1 x2 x3) (ix3 0 b j) : EReal) = pool u p W sc b 3 3 j := by
  refine (part3_apply _ _ _ _ _ _ b j).trans (pool_of (fun c => ?_) (fun c => weights_apply h2 (by decide) _ c j) (scale_apply h3 _ j))
  exact mean_apply ofBits_16th rfl (new_apply h1 _ b c)
    ⟨new_apply h1 _ b c, new_apply h1 _ b c, new_apply h1 _ b c, kept_apply h0 _ b c, kept_apply h0 _ b c, kept_apply h0 _ b c, kept_apply h0 _ b c, kept_apply h0 _ b c, kept_apply h0 _ b c, kept_apply h0 _ b c, kept_apply h0 _ b c, kept_apply h0 _ b c, kept_apply h0 _ b c, kept_apply h0 _ b c, kept_apply h0 _ b c, trivial⟩

end Stored

/-- The result of the call, position by position. -/
def byPosition (u : Su.Idx → EReal) (p : Sp.Idx → EReal) (W : Sw.Idx → EReal) (sc : Ss.Idx → EReal) (y : S4x32x1024.Idx) : EReal :=
  pool u p W sc (y 1 : ℕ) (y 0 : ℕ) ((y 2 : ℕ) / 256) ((y 2 : ℕ) % 256)

include h0 h1 h2 h3 in
/-- Every store holds the pooled positions. -/
theorem stores_pooled : View.PiecesOf (Val := Elt Ideal) (byPosition u p W sc) (stores x0 x1 x2 x3) :=
  ⟨fun (x : S1x32x256.Idx) => by
      obtain ⟨z, b, j, rfl⟩ : ∃ (z : Fin 1) (b : Fin 32) (j : Fin 256), x = ix3 z b j := ⟨x 0, x 1, x 2, eq_ix3 x⟩
      rw [Subsingleton.elim z 0]
      exact (stored33_apply h0 h1 h2 h3 b j).trans (pool_congr (by show (b : ℕ) = 0 + 1 * b; omega) rfl
        (by show 3 = (768 + 1 * (j : ℕ)) / 256; omega) (by show (j : ℕ) = (768 + 1 * (j : ℕ)) % 256; omega)),
   fun (x : S1x32x256.Idx) => by
      obtain ⟨z, b, j, rfl⟩ : ∃ (z : Fin 1) (b : Fin 32) (j : Fin 256), x = ix3 z b j := ⟨x 0, x 1, x 2, eq_ix3 x⟩
      rw [Subsingleton.elim z 0]
      exact (stored32_apply h0 h1 h2 h3 b j).trans (pool_congr (by show (b : ℕ) = 0 + 1 * b; omega) rfl
        (by show 3 = (768 + 1 * (j : ℕ)) / 256; omega) (by show (j : ℕ) = (768 + 1 * (j : ℕ)) % 256; omega)),
   fun (x : S1x32x256.Idx) => by
      obtain ⟨z, b, j, rfl⟩ : ∃ (z : Fin 1) (b : Fin 32) (j : Fin 256), x = ix3 z b j := ⟨x 0, x 1, x 2, eq_ix3 x⟩
      rw [Subsingleton.elim z 0]
      exact (stored31_apply h0 h1 h2 h3 b j).trans (pool_congr (by show (b : ℕ) = 0 + 1 * b; omega) rfl
        (by show 3 = (768 + 1 * (j : ℕ)) / 256; omega) (by show (j : ℕ) = (768 + 1 * (j : ℕ)) % 256; omega)),
   fun (x : S1x32x256.Idx) => by
      obtain ⟨z, b, j, rfl⟩ : ∃ (z : Fin 1) (b : Fin 32) (j : Fin 256), x = ix3 z b j := ⟨x 0, x 1, x 2, eq_ix3 x⟩
      rw [Subsingleton.elim z 0]
      exact (stored30_apply h0 h1 h2 h3 b j).trans (pool_congr (by show (b : ℕ) = 0 + 1 * b; omega) rfl
        (by show 3 = (768 + 1 * (j : ℕ)) / 256; omega) (by show (j : ℕ) = (768 + 1 * (j : ℕ)) % 256; omega)),
   fun (x : S1x32x256.Idx) => by
      obtain ⟨z, b, j, rfl⟩ : ∃ (z : Fin 1) (b : Fin 32) (j : Fin 256), x = ix3 z b j := ⟨x 0, x 1, x 2, eq_ix3 x⟩
      rw [Subsingleton.elim z 0]
      exact (stored23_apply h0 h1 h2 h3 b j).trans (pool_congr (by show (b : ℕ) = 0 + 1 * b; omega) rfl
        (by show 2 = (512 + 1 * (j : ℕ)) / 256; omega) (by show (j : ℕ) = (512 + 1 * (j : ℕ)) % 256; omega)),
   fun (x : S1x32x256.Idx) => by
      obtain ⟨z, b, j, rfl⟩ : ∃ (z : Fin 1) (b : Fin 32) (j : Fin 256), x = ix3 z b j := ⟨x 0, x 1, x 2, eq_ix3 x⟩
      rw [Subsingleton.elim z 0]
      exact (stored22_apply h0 h1 h2 h3 b j).trans (pool_congr (by show (b : ℕ) = 0 + 1 * b; omega) rfl
        (by show 2 = (512 + 1 * (j : ℕ)) / 256; omega) (by show (j : ℕ) = (512 + 1 * (j : ℕ)) % 256; omega)),
   fun (x : S1x32x256.Idx) => by
      obtain ⟨z, b, j, rfl⟩ : ∃ (z : Fin 1) (b : Fin 32) (j : Fin 256), x = ix3 z b j := ⟨x 0, x 1, x 2, eq_ix3 x⟩
      rw [Subsingleton.elim z 0]
      exact (stored21_apply h0 h1 h2 h3 b j).trans (pool_congr (by show (b : ℕ) = 0 + 1 * b; omega) rfl
        (by show 2 = (512 + 1 * (j : ℕ)) / 256; omega) (by show (j : ℕ) = (512 + 1 * (j : ℕ)) % 256; omega)),
   fun (x : S1x32x256.Idx) => by
      obtain ⟨z, b, j, rfl⟩ : ∃ (z : Fin 1) (b : Fin 32) (j : Fin 256), x = ix3 z b j := ⟨x 0, x 1, x 2, eq_ix3 x⟩
      rw [Subsingleton.elim z 0]
      exact (stored20_apply h0 h1 h2 h3 b j).trans (pool_congr (by show (b : ℕ) = 0 + 1 * b; omega) rfl
        (by show 2 = (512 + 1 * (j : ℕ)) / 256; omega) (by show (j : ℕ) = (512 + 1 * (j : ℕ)) % 256; omega)),
   fun (x : S1x32x256.Idx) => by
      obtain ⟨z, b, j, rfl⟩ : ∃ (z : Fin 1) (b : Fin 32) (j : Fin 256), x = ix3 z b j := ⟨x 0, x 1, x 2, eq_ix3 x⟩
      rw [Subsingleton.elim z 0]
      exact (stored13_apply h0 h1 h2 h3 b j).trans (pool_congr (by show (b : ℕ) = 0 + 1 * b; omega) rfl
        (by show 1 = (256 + 1 * (j : ℕ)) / 256; omega) (by show (j : ℕ) = (256 + 1 * (j : ℕ)) % 256; omega)),
   fun (x : S1x32x256.Idx) => by
      obtain ⟨z, b, j, rfl⟩ : ∃ (z : Fin 1) (b : Fin 32) (j : Fin 256), x = ix3 z b j := ⟨x 0, x 1, x 2, eq_ix3 x⟩
      rw [Subsingleton.elim z 0]
      exact (stored12_apply h0 h1 h2 h3 b j).trans (pool_congr (by show (b : ℕ) = 0 + 1 * b; omega) rfl
        (by show 1 = (256 + 1 * (j : ℕ)) / 256; omega) (by show (j : ℕ) = (256 + 1 * (j : ℕ)) % 256; omega)),
   fun (x : S1x32x256.Idx) => by
      obtain ⟨z, b, j, rfl⟩ : ∃ (z : Fin 1) (b : Fin 32) (j : Fin 256), x = ix3 z b j := ⟨x 0, x 1, x 2, eq_ix3 x⟩
      rw [Subsingleton.elim z 0]
      exact (stored11_apply h0 h1 h2 h3 b j).trans (pool_congr (by show (b : ℕ) = 0 + 1 * b; omega) rfl
        (by show 1 = (256 + 1 * (j : ℕ)) / 256; omega) (by show (j : ℕ) = (256 + 1 * (j : ℕ)) % 256; omega)),
   fun (x : S1x32x256.Idx) => by
      obtain ⟨z, b, j, rfl⟩ : ∃ (z : Fin 1) (b : Fin 32) (j : Fin 256), x = ix3 z b j := ⟨x 0, x 1, x 2, eq_ix3 x⟩
      rw [Subsingleton.elim z 0]
      exact (stored10_apply h0 h1 h2 h3 b j).trans (pool_congr (by show (b : ℕ) = 0 + 1 * b; omega) rfl
        (by show 1 = (256 + 1 * (j : ℕ)) / 256; omega) (by show (j : ℕ) = (256 + 1 * (j : ℕ)) % 256; omega)),
   fun (x : S1x32x256.Idx) => by
      obtain ⟨z, b, j, rfl⟩ : ∃ (z : Fin 1) (b : Fin 32) (j : Fin 256), x = ix3 z b j := ⟨x 0, x 1, x 2, eq_ix3 x⟩
      rw [Subsingleton.elim z 0]
      exact (stored03_apply h0 h1 h2 h3 b j).trans (pool_congr (by show (b : ℕ) = 0 + 1 * b; omega) rfl
        (by show 0 = (0 + 1 * (j : ℕ)) / 256; omega) (by show (j : ℕ) = (0 + 1 * (j : ℕ)) % 256; omega)),
   fun (x : S1x32x256.Idx) => by
      obtain ⟨z, b, j, rfl⟩ : ∃ (z : Fin 1) (b : Fin 32) (j : Fin 256), x = ix3 z b j := ⟨x 0, x 1, x 2, eq_ix3 x⟩
      rw [Subsingleton.elim z 0]
      exact (stored02_apply h0 h1 h2 h3 b j).trans (pool_congr (by show (b : ℕ) = 0 + 1 * b; omega) rfl
        (by show 0 = (0 + 1 * (j : ℕ)) / 256; omega) (by show (j : ℕ) = (0 + 1 * (j : ℕ)) % 256; omega)),
   fun (x : S1x32x256.Idx) => by
      obtain ⟨z, b, j, rfl⟩ : ∃ (z : Fin 1) (b : Fin 32) (j : Fin 256), x = ix3 z b j := ⟨x 0, x 1, x 2, eq_ix3 x⟩
      rw [Subsingleton.elim z 0]
      exact (stored01_apply h0 h1 h2 h3 b j).trans (pool_congr (by show (b : ℕ) = 0 + 1 * b; omega) rfl
        (by show 0 = (0 + 1 * (j : ℕ)) / 256; omega) (by show (j : ℕ) = (0 + 1 * (j : ℕ)) % 256; omega)),
   fun (x : S1x32x256.Idx) => by
      obtain ⟨z, b, j, rfl⟩ : ∃ (z : Fin 1) (b : Fin 32) (j : Fin 256), x = ix3 z b j := ⟨x 0, x 1, x 2, eq_ix3 x⟩
      rw [Subsingleton.elim z 0]
      exact (stored00_apply h0 h1 h2 h3 b j).trans (pool_congr (by show (b : ℕ) = 0 + 1 * b; omega) rfl
        (by show 0 = (0 + 1 * (j : ℕ)) / 256; omega) (by show (j : ℕ) = (0 + 1 * (j : ℕ)) % 256; omega)), trivial⟩

include h0 h1 h2 h3 in
/-- The body leaves the pooled positions. -/
theorem out_apply (y : S4x32x1024.Idx) : (out0_4 (F := Ideal) x0 x1 x2 x3 y : EReal) = byPosition u p W sc y := by
  rw [out_eq]
  exact View.canon_apply_of_pieces (Val := Elt Ideal) (byPosition u p W sc) (stores x0 x1 x2 x3) (stores_pooled h0 h1 h2 h3).mem y
    (cover0_4 _ _ _ _ _ _ _ _ _ _ _ _ _ _ _ _ y)

end Body

variable (m : (ℓ : Loc nD τ sig) → Buf (Elt Ideal) ℓ)

/-- The block every window stands at. -/
theorem idx_val : ∀ t : Fin cfg0.N, win0_0.index t = ![0, 0, 0] ∧ win0_1.index t = ![0, 0, 0] ∧ win0_2.index t = ![0, 0, 0]
    ∧ win0_3.index t = ![0, 0] ∧ win0_4.index t = ![0, 0, 0] :=
  (by decide +kernel : ∀ t : Fin grid0.N, _)

section Call

variable (c : Dev nD) (t : Fin cfg0.N) {u : Su.Idx → EReal} {p : Sp.Idx → EReal} {W : Sw.Idx → EReal} {sc : Ss.Idx → EReal}
  (hu : m ((c : Thread nD τ).loc main_arg0) = u) (hp : m ((c : Thread nD τ).loc main_arg1) = p)
  (hw : m ((c : Thread nD τ).loc main_arg2) = W) (hs : m ((c : Thread nD τ).loc main_arg3) = sc)

include hp in
/-- The kept positions, whole. -/
theorem block_kept (n : Fin 15) (b : Fin 32) (l : Fin 1024) : (iblk m c 0 t (ix3 n b l) : EReal) = p (ix3 b n l) := by
  have e : V m c main_v1 = transpose S15x32x1024 [1, 0, 2] (m ((c : Thread nD τ).loc main_arg1)) transposes_S32x15x1024_S15x32x1024_1_0_2 := by
    after_reads_simp
  rw [← hp]
  refine (congrFun e _).trans ?_
  pointwise
  blk_ext [idx_val t]

include hu in
/-- The new positions, whole. -/
theorem block_new (n : Fin 4) (b : Fin 32) (l : Fin 1024) : (iblk m c 1 t (ix3 n b l) : EReal) = u (ix3 b n l) := by
  have e : V m c main_v0 = transpose S4x32x1024 [1, 0, 2] (m ((c : Thread nD τ).loc main_arg0)) transposes_S32x4x1024_S4x32x1024_1_0_2 := by
    after_reads_simp
  rw [← hu]
  refine (congrFun e _).trans ?_
  pointwise
  blk_ext [idx_val t]

include hw in
/-- The mixing weights, whole. -/
theorem block_w (g : Fin 4) (k j : Fin 256) : (iblk m c 2 t (ix3 g k j) : EReal) = W (ix3 g k j) := by
  rw [← hw]
  blk_point [iblk, V, idx_val t]

include hs in
/-- The scale, whole. -/
theorem block_s (l : Fin 1024) : (iblk m c 3 t (ix2 0 l) : EReal) = sc (ix1 l) := by
  have e : V m c main_v3 (ix2 0 l) = m ((c : Thread nD τ).loc main_arg3) (ix1 l) := by
    after_reads_at
  rw [← hs]
  refine Eq.trans ?_ e
  blk_point [iblk, idx_val t]

include hu hp hw hs in
/-- The array the call leaves is the pooled positions. -/
theorem called (fu : Finite u) (fp : Finite p) : (dats m 0 c).arrAt 4 (cfgs 0).N = byPosition u p W sc := by
  refine (dats m 0 c).arrAt_eq_of_covers 4 _ (by decide +kernel) fun t hf y => ?_
  blk_simp; rw [after0_4]
  refine (out_apply (fun n b l => (block_kept m c t hp n b l).trans (lane_kept fp b n l))
    (fun n b l => (block_new m c t hu n b l).trans (lane_new fu b n l)) (fun g k j => block_w m c t hw g k j)
    (fun l => block_s m c t hs l) y).trans ?_
  refine congrArg (byPosition u p W sc) (funext fun a => Fin.ext ?_)
  match a with
  | ⟨0, _⟩ => blk_simp; simp [idx_val t]
  | ⟨1, _⟩ => blk_simp; simp [idx_val t]
  | ⟨2, _⟩ => blk_simp; simp [idx_val t]

include hu hp hw hs in
/-- The kernel's result after the run is the pooled, mixed and scaled new positions. -/
theorem final (fu : Finite u) (fp : Finite p) :
    (Pipeline.afterTail₀ cfgs (dats m) 0 (V0 m) [hostOps1] c main_v5 : Su.Idx → EReal) = pooledAll u p W sc := by
  have e : Pipeline.withArrays (cfgs 0).spec c (V0 m c) (fun w => (dats m 0 c).arrAt w (cfgs 0).N) (Proc.devRef .tc main_v4)
      = (byPosition u p W sc : S4x32x1024.Idx → EReal) :=
    (Pipeline.withArrays_arr (cfgs 0).spec (by decide +kernel) c (V0 m c) _ 4).trans (called m c hu hp hw hs fu fp)
  unfold Pipeline.afterTail₀
  obtain ⟨X, hX⟩ : ∃ X, X = Pipeline.withArrays (cfgs 0).spec c (V0 m c) fun w => (dats m 0 c).arrAt w (cfgs 0).N := ⟨_, rfl⟩
  rw [← hX] at e ⊢
  have t : (StableHlo.after [hostOps1].flatten X (Proc.devRef .tc main_v5) : Su.Idx → EReal)
      = transpose S32x4x1024 [1, 0, 2] (X (Proc.devRef .tc main_v4)) transposes_S4x32x1024_S32x4x1024_1_0_2 := by
    after_reads_simp
  rw [t, e]
  funext y
  obtain ⟨b, n, l, rfl⟩ : ∃ (b : Fin 32) (n : Fin 4) (l : Fin 1024), y = ix3 b n l := ⟨y 0, y 1, y 2, eq_ix3 y⟩
  rfl

end Call

end Cert.KernelPoolSIdeal.Value

end

end
-- ==== Proof.PoolSRead.lean ====
module

public import proofs.«01_k».proof.Proof.Gen.ReferencePoolSIdeal
public import proofs.«01_k».proof.Proof.PoolSSpec
public import proofs.«01_k».proof.Proof.PoolSum
public import Idealize.ShloMosaic.Lib.StableHlo.RunRead
public import Idealize.ShloMosaic.Lib.StableHlo.ReadAt
public import Idealize.ShloMosaic.Lib.Claim

/-!
The operations of the reference of the sample batch's pooling, stretch by stretch: what each stretch leaves in the buffers
that later ones read, as a plain expression in what it found.
-/

@[expose] public section
set_option maxRecDepth 16384

noncomputable section

namespace Cert.ReferencePoolSIdeal.Value

open Idealize.ShloMosaic Idealize.ShloMosaic.TcCoe Idealize.SL.Sem Idealize.ShloMosaic.StableHlo Idealize.ShloMosaic.Pointwise
open Cert.Pool (Sw Ss)
open Cert.PoolS Cert.ReferencePoolSIdeal Cert.ReferencePoolSIdeal.Gen

/-- The operations of the reference, in order. -/
def line : { ops : List (HloOp τ sig (Elt Ideal)) // ∀ d, IsSeq (main (F := Ideal) d) ops } := by
  apply Subtype.mk
  hlo_seq

/-- `n` operations of the reference from position `i` on. -/
def ops (i n : ℕ) : List (HloOp τ sig (Elt Ideal)) := (line.1.drop i).take n

theorem line_length : line.1.length = 93 := rfl

variable (V : Valuation τ sig (Elt Ideal))

theorem read_v0 (b : Fin 32) (n : Fin 19) (l : Fin 1024)
    {x : S32x4x1024.Idx → EReal} (hx : V (Proc.devRef .tc main_arg0) = x)
    {p : S32x15x1024.Idx → EReal} (hp : V (Proc.devRef .tc main_arg1) = p) :
    after (ops 0 1) V (Proc.devRef .tc main_v0) (ix3 b n l)
      = if hn : (n : ℕ) < 15 then p (ix3 b ⟨n, hn⟩ l) else x (ix3 b ⟨n - 15, by omega⟩ l) := by
  subst hx hp
  after_reads_at

theorem read_v1 {x : S32x19x1024.Idx → EReal} (hx : V (Proc.devRef .tc main_v0) = x) :
    after (ops 1 3) V (Proc.devRef .tc main_v1)
      = Host.reduceWindowAdd (F := Ideal) (φ := .f32) (s := S32x19x1024) (t := S32x19x1024) (u := S_)
          ![1, 19, 1] ![1, 1, 1] ![0, 18, 0] ![0, 0, 0] x (fun _ => Ideal.ofBits .f32 0x00000000#32)
          reduceWindows_S32x19x1024_S32x19x1024_w1s1p0_0_w19s1p18_0_w1s1p0_0 h_S_ := by
  subst hx
  after_reads_simp
  rfl

theorem read_v3 (b : Fin 32) (n : Fin 20) (l : Fin 1024)
    {x : S32x19x1024.Idx → EReal} (hx : V (Proc.devRef .tc main_v1) = x) :
    after (ops 4 4) V (Proc.devRef .tc main_v3) (ix3 b n l)
      = if hn : (n : ℕ) < 1 then Ideal.ofBits .f32 0x00000000#32 else x (ix3 b ⟨n - 1, by omega⟩ l) := by
  subst hx
  after_reads_at

theorem read_v4 (s : Fin 4) : after (ops 4 4) V (Proc.devRef .tc main_v4) (ix1 s) = BitVec.ofNat 32 s := by
  after_reads_at

theorem read_v5 (b : Fin 32) (s : Fin 4) (l : Fin 1024)
    {y : S32x20x1024.Idx → EReal} (hy : V (Proc.devRef .tc main_v3) = y) :
    after (ops 8 1) V (Proc.devRef .tc main_v5) (ix3 b s l) = y (ix3 b ⟨16 + s, by omega⟩ l) := by
  subst hy
  after_reads_at

theorem read_v20 (b : Fin 32) (s : Fin 4) (c : Fin 256)
    {x : S32x4x1024.Idx → EReal} (hx : V (Proc.devRef .tc main_arg0) = x)
    {y : S32x20x1024.Idx → EReal} (hy : V (Proc.devRef .tc main_v3) = y)
    {z : S32x4x1024.Idx → EReal} (hz : V (Proc.devRef .tc main_v5) = z) :
    after (ops 9 72) V (Proc.devRef .tc main_v20) (ix3 b s c)
      = Ideal.div (z (ix3 b s ⟨c, by omega⟩) - y (ix3 b ⟨14 + s, by omega⟩ ⟨c, by omega⟩))
          (((IntOp.minsi 2#32 (IntOp.addi (IntOp.addi 8192#32 (V (Proc.devRef .tc main_v4) (ix1 s))) 1#32)).toInt : ℝ) : EReal)
        - x (ix3 b s ⟨c, by omega⟩) := by
  subst hx hy hz
  after_reads_at
  rfl

theorem read_v35 (b : Fin 32) (s : Fin 4) (c : Fin 256)
    {x : S32x4x1024.Idx → EReal} (hx : V (Proc.devRef .tc main_arg0) = x)
    {y : S32x20x1024.Idx → EReal} (hy : V (Proc.devRef .tc main_v3) = y)
    {z : S32x4x1024.Idx → EReal} (hz : V (Proc.devRef .tc main_v5) = z) :
    after (ops 9 72) V (Proc.devRef .tc main_v35) (ix3 b s c)
      = Ideal.div (z (ix3 b s ⟨256 + c, by omega⟩) - y (ix3 b ⟨12 + s, by omega⟩ ⟨256 + c, by omega⟩))
          (((IntOp.minsi 4#32 (IntOp.addi (IntOp.addi 8192#32 (V (Proc.devRef .tc main_v4) (ix1 s))) 1#32)).toInt : ℝ) : EReal)
        - x (ix3 b s ⟨256 + c, by omega⟩) := by
  subst hx hy hz
  after_reads_at
  rfl

theorem read_v50 (b : Fin 32) (s : Fin 4) (c : Fin 256)
    {x : S32x4x1024.Idx → EReal} (hx : V (Proc.devRef .tc main_arg0) = x)
    {y : S32x20x1024.Idx → EReal} (hy : V (Proc.devRef .tc main_v3) = y)
    {z : S32x4x1024.Idx → EReal} (hz : V (Proc.devRef .tc main_v5) = z) :
    after (ops 9 72) V (Proc.devRef .tc main_v50) (ix3 b s c)
      = Ideal.div (z (ix3 b s ⟨512 + c, by omega⟩) - y (ix3 b ⟨8 + s, by omega⟩ ⟨512 + c, by omega⟩))
          (((IntOp.minsi 8#32 (IntOp.addi (IntOp.addi 8192#32 (V (Proc.devRef .tc main_v4) (ix1 s))) 1#32)).toInt : ℝ) : EReal)
        - x (ix3 b s ⟨512 + c, by omega⟩) := by
  subst hx hy hz
  after_reads_at
  rfl

theorem read_v65 (b : Fin 32) (s : Fin 4) (c : Fin 256)
    {x : S32x4x1024.Idx → EReal} (hx : V (Proc.devRef .tc main_arg0) = x)
    {y : S32x20x1024.Idx → EReal} (hy : V (Proc.devRef .tc main_v3) = y)
    {z : S32x4x1024.Idx → EReal} (hz : V (Proc.devRef .tc main_v5) = z) :
    after (ops 9 72) V (Proc.devRef .tc main_v65) (ix3 b s c)
      = Ideal.div (z (ix3 b s ⟨768 + c, by omega⟩) - y (ix3 b ⟨s, by omega⟩ ⟨768 + c, by omega⟩))
          (((IntOp.minsi 16#32 (IntOp.addi (IntOp.addi 8192#32 (V (Proc.devRef .tc main_v4) (ix1 s))) 1#32)).toInt : ℝ) : EReal)
        - x (ix3 b s ⟨768 + c, by omega⟩) := by
  subst hx hy hz
  after_reads_at
  rfl

theorem read_v77 (b : Fin 32) (s : Fin 4) (g : Fin 4) (j : Fin 256)
    {w : S4x256x256.Idx → EReal} (hw : V (Proc.devRef .tc main_arg2) = w)
    {sc : S1024.Idx → EReal} (hs : V (Proc.devRef .tc main_arg3) = sc)
    {p : S32x4x4x256.Idx → EReal} (hp : V (Proc.devRef .tc main_v70) = p) (l : Fin 1024) (hl : (l : ℕ) = g * 256 + j) :
    after (ops 86 7) V (Proc.devRef .tc main_v77) (ix3 b s l)
      = (∑ c : Fin 256, w (ix3 g c j) * p (ix4 b s g c)) * sc (ix1 l) := by
  subst hw hs hp
  after_reads_at
  rw [show (⟨l / 256, by omega⟩ : Fin 4) = g from Fin.ext (by simp only []; omega),
    show (⟨l % 256, Nat.mod_lt _ (by decide)⟩ : Fin 256) = j from Fin.ext (by simp only []; omega)]

theorem read_v70 (b : Fin 32) (s : Fin 4) (g : Fin 4) (c : Fin 256)
    {x0 x1 x2 x3 : S32x4x256.Idx → EReal} (h0 : V (Proc.devRef .tc main_v20) = x0) (h1 : V (Proc.devRef .tc main_v35) = x1)
    (h2 : V (Proc.devRef .tc main_v50) = x2) (h3 : V (Proc.devRef .tc main_v65) = x3) :
    after (ops 81 5) V (Proc.devRef .tc main_v70) (ix4 b s g c)
      = if (g : ℕ) < 1 then x0 (ix3 b s c) else if (g : ℕ) - 1 < 1 then x1 (ix3 b s c)
        else if (g : ℕ) - 1 - 1 < 1 then x2 (ix3 b s c) else x3 (ix3 b s c) := by
  subst h0 h1 h2 h3
  after_reads_simp
  pointwise
  after_reads_simp
  pointwise
  rfl

end Cert.ReferencePoolSIdeal.Value

end

end
-- ==== Proof.PoolSRef.lean ====
module

public import proofs.«01_k».proof.Proof.PoolSRead
public import proofs.«01_k».proof.Proof.PoolTile

/-!
The reference of the sample batch's pooling computes the pooled, mixed and scaled result.

`S V n` is what the buffers hold after the first `n` operations, from contents `V`. The facts below follow one
lane of one batch row through the running sum, the difference of its rows, the mean, the mixing and the scale, for
inputs that are real numbers.
-/

@[expose] public section
set_option maxRecDepth 16384

noncomputable section

namespace Cert.ReferencePoolSIdeal.Value

open Idealize.ShloMosaic Idealize.ShloMosaic.TcCoe Idealize.SL.Sem Idealize.ShloMosaic.StableHlo Idealize.ShloMosaic.Pointwise
open Cert.Pool (Sw Ss)
open Cert.PoolS Cert.ReferencePoolSIdeal Cert.ReferencePoolSIdeal.Gen

variable (V : Valuation τ sig (Elt Ideal))

/-- The buffers after the first `n` operations. -/
def S (n : ℕ) : Valuation τ sig (Elt Ideal) := after (line.1.take n) V

theorem S_add (a n : ℕ) : S V (a + n) = after (ops a n) (S V a) := by
  unfold S ops
  rw [List.take_add, after_append]

theorem S_all : S V 93 = after line.1 V := rfl

theorem keep_arg0_9 : S V 9 (Proc.devRef .tc main_arg0) = V (Proc.devRef .tc main_arg0) := by
  unfold S line; after_reads_simp

theorem keep_arg2_86 : S V 86 (Proc.devRef .tc main_arg2) = V (Proc.devRef .tc main_arg2) := by
  unfold S line; after_reads_simp

theorem keep_arg3_86 : S V 86 (Proc.devRef .tc main_arg3) = V (Proc.devRef .tc main_arg3) := by
  unfold S line; after_reads_simp

theorem keep_v3 : S V 9 (Proc.devRef .tc main_v3) = S V 8 (Proc.devRef .tc main_v3) := by
  rw [show S V 9 = after (ops 8 1) (S V 8) from S_add V 8 1]; after_reads_simp

theorem keep_v4 : S V 9 (Proc.devRef .tc main_v4) = S V 8 (Proc.devRef .tc main_v4) := by
  rw [show S V 9 = after (ops 8 1) (S V 8) from S_add V 8 1]; after_reads_simp

/-- The mean of a window of real numbers less the entry itself: past position 8192 every window is whole. -/
theorem mean_sub {U : ℕ → ℝ} {w s : ℕ} (hw : w ≤ 16) (h0 : w ≠ 0) (hs : s < 4) :
    Ideal.div (((∑ i ∈ Finset.range (16 + s), U i : ℝ) : EReal)
          - ((∑ i ∈ Finset.range (16 - w + s), U i : ℝ) : EReal))
        (((IntOp.minsi (BitVec.ofNat 32 w) (IntOp.addi (IntOp.addi 8192#32 (BitVec.ofNat 32 s)) 1#32)).toInt : ℝ) : EReal)
        - ((U (15 + s) : ℝ) : EReal)
      = ((pooled U w (15 + s) : ℝ) : EReal) := by
  have e : IntOp.addi (IntOp.addi 8192#32 (BitVec.ofNat 32 s)) 1#32 = BitVec.ofNat 32 (8192 + s + 1) := by
    unfold IntOp.addi
    rw [BitVec.ofNat_add (8192 + s) 1, BitVec.ofNat_add 8192 s]
  have hp := prefix_sub U (w := w) (n := 15 + s) (by omega)
  rw [show 15 + s + 1 = 16 + s by omega, show 16 + s - w = 16 - w + s by omega] at hp
  rw [e, Pool.minsi_toInt (by omega) (by omega), ← EReal.coe_sub, hp, Nat.min_eq_left (by omega),
    Ideal.div_coe (by exact_mod_cast h0), ← EReal.coe_mul, ← EReal.coe_sub]
  rfl

variable {V} {u : Su.Idx → EReal} {p : Sp.Idx → EReal} {W : Sw.Idx → EReal} {sc : Ss.Idx → EReal}
  (hu : V (Proc.devRef .tc main_arg0) = u) (hp : V (Proc.devRef .tc main_arg1) = p)
  (hw : V (Proc.devRef .tc main_arg2) = W) (hs : V (Proc.devRef .tc main_arg3) = sc) (fu : Finite u) (fp : Finite p)

section

include hu hp fu fp

/-- The rows that are summed: the kept positions, then the new ones. -/
theorem v0_at (b : Fin 32) (n : Fin 19) (l : Fin 1024) :
    S V 1 (Proc.devRef .tc main_v0) (ix3 b n l) = ((lane u p b l n : ℝ) : EReal) := by
  refine (read_v0 V b n l hu hp).trans ?_
  by_cases hn : (n : ℕ) < 15
  · rw [dif_pos hn]
    exact lane_kept fp b ⟨n, hn⟩ l
  · rw [dif_neg hn]
    refine (lane_new (p := p) fu b ⟨n - 15, by omega⟩ l).trans ?_
    rw [show 15 + ((⟨n - 15, by omega⟩ : Fin 4) : ℕ) = n by show 15 + ((n : ℕ) - 15) = n; omega]

/-- The running sum. -/
theorem v1_at (b : Fin 32) (n : Fin 19) (l : Fin 1024) :
    S V 4 (Proc.devRef .tc main_v1) (ix3 b n l) = ((∑ i ∈ Finset.range (n + 1), lane u p b l i : ℝ) : EReal) := by
  rw [show S V 4 = after (ops 1 3) (S V 1) from S_add V 1 3]
  obtain ⟨x, e⟩ : ∃ x : S32x19x1024.Idx → EReal, S V 1 (Proc.devRef .tc main_v0) = x := ⟨_, rfl⟩
  rw [read_v1 (S V 1) e]
  exact Pool.running_sum b l (fun k => (congrFun e.symm _).trans (v0_at hu hp fu fp b k l)) (fun _ => Ideal.ofBits_zero_f32) _ _ n

/-- The running sum with a row of zeros in front. -/
theorem v3_at (b : Fin 32) (n : Fin 20) (l : Fin 1024) :
    S V 9 (Proc.devRef .tc main_v3) (ix3 b n l) = ((∑ i ∈ Finset.range n, lane u p b l i : ℝ) : EReal) := by
  rw [keep_v3, show S V 8 = after (ops 4 4) (S V 4) from S_add V 4 4]
  refine (read_v3 (S V 4) b n l rfl).trans ?_
  by_cases hn : (n : ℕ) < 1
  · rw [dif_pos hn, Ideal.ofBits_zero_f32, show (n : ℕ) = 0 by omega, Finset.sum_range_zero]; rfl
  · rw [dif_neg hn]
    refine (v1_at hu hp fu fp b ⟨n - 1, by omega⟩ l).trans ?_
    simp only []
    rw [show (n : ℕ) - 1 + 1 = n by omega]

theorem v5_at (b : Fin 32) (s : Fin 4) (l : Fin 1024) :
    S V 9 (Proc.devRef .tc main_v5) (ix3 b s l) = ((∑ i ∈ Finset.range (16 + s), lane u p b l i : ℝ) : EReal) := by
  rw [show S V 9 = after (ops 8 1) (S V 8) from S_add V 8 1]
  refine (read_v5 (S V 8) b s l rfl).trans ?_
  exact (congrFun (keep_v3 V).symm _).trans (v3_at hu hp fu fp b ⟨16 + s, by omega⟩ l)

omit hu hp fu fp in
theorem v4_at (s : Fin 4) : S V 9 (Proc.devRef .tc main_v4) (ix1 s) = BitVec.ofNat 32 s := by
  rw [keep_v4, show S V 8 = after (ops 4 4) (S V 4) from S_add V 4 4]
  exact read_v4 (S V 4) s

theorem v20_at (b : Fin 32) (s : Fin 4) (c : Fin 256) :
    S V 81 (Proc.devRef .tc main_v20) (ix3 b s c) = ((pooled (lane u p b c) 2 (15 + s) : ℝ) : EReal) := by
  rw [show S V 81 = after (ops 9 72) (S V 9) from S_add V 9 72]
  refine (read_v20 (S V 9) b s c ((keep_arg0_9 V).trans hu) rfl rfl).trans ?_
  have e := mean_sub (U := lane u p b c) (w := 2) (s := s) (by decide) (by decide) s.isLt
  rw [← e]
  refine congrArg₂ (fun x y : EReal => x - y) (congrArg₂ Ideal.div (congrArg₂ (fun x y : EReal => x - y) ?_ ?_) ?_) ?_
  · exact v5_at hu hp fu fp b s ⟨c, by omega⟩
  · exact v3_at hu hp fu fp b ⟨14 + s, by omega⟩ ⟨c, by omega⟩
  · rw [v4_at]
  · exact lane_new fu b s ⟨c, by omega⟩

theorem v35_at (b : Fin 32) (s : Fin 4) (c : Fin 256) :
    S V 81 (Proc.devRef .tc main_v35) (ix3 b s c) = ((pooled (lane u p b (256 + c)) 4 (15 + s) : ℝ) : EReal) := by
  rw [show S V 81 = after (ops 9 72) (S V 9) from S_add V 9 72]
  refine (read_v35 (S V 9) b s c ((keep_arg0_9 V).trans hu) rfl rfl).trans ?_
  have e := mean_sub (U := lane u p b (256 + c)) (w := 4) (s := s) (by decide) (by decide) s.isLt
  rw [← e]
  refine congrArg₂ (fun x y : EReal => x - y) (congrArg₂ Ideal.div (congrArg₂ (fun x y : EReal => x - y) ?_ ?_) ?_) ?_
  · exact v5_at hu hp fu fp b s ⟨256 + c, by omega⟩
  · exact v3_at hu hp fu fp b ⟨12 + s, by omega⟩ ⟨256 + c, by omega⟩
  · rw [v4_at]
  · exact lane_new fu b s ⟨256 + c, by omega⟩

theorem v50_at (b : Fin 32) (s : Fin 4) (c : Fin 256) :
    S V 81 (Proc.devRef .tc main_v50) (ix3 b s c) = ((pooled (lane u p b (512 + c)) 8 (15 + s) : ℝ) : EReal) := by
  rw [show S V 81 = after (ops 9 72) (S V 9) from S_add V 9 72]
  refine (read_v50 (S V 9) b s c ((keep_arg0_9 V).trans hu) rfl rfl).trans ?_
  have e := mean_sub (U := lane u p b (512 + c)) (w := 8) (s := s) (by decide) (by decide) s.isLt
  rw [← e]
  refine congrArg₂ (fun x y : EReal => x - y) (congrArg₂ Ideal.div (congrArg₂ (fun x y : EReal => x - y) ?_ ?_) ?_) ?_
  · exact v5_at hu hp fu fp b s ⟨512 + c, by omega⟩
  · exact v3_at hu hp fu fp b ⟨8 + s, by omega⟩ ⟨512 + c, by omega⟩
  · rw [v4_at]
  · exact lane_new fu b s ⟨512 + c, by omega⟩

theorem v65_at (b : Fin 32) (s : Fin 4) (c : Fin 256) :
    S V 81 (Proc.devRef .tc main_v65) (ix3 b s c) = ((pooled (lane u p b (768 + c)) 16 (15 + s) : ℝ) : EReal) := by
  rw [show S V 81 = after (ops 9 72) (S V 9) from S_add V 9 72]
  refine (read_v65 (S V 9) b s c ((keep_arg0_9 V).trans hu) rfl rfl).trans ?_
  have e := mean_sub (U := lane u p b (768 + c)) (w := 16) (s := s) (by decide) (by decide) s.isLt
  rw [show 16 - 16 + (s : ℕ) = s by omega] at e
  rw [← e]
  refine congrArg₂ (fun x y : EReal => x - y) (congrArg₂ Ideal.div (congrArg₂ (fun x y : EReal => x - y) ?_ ?_) ?_) ?_
  · exact v5_at hu hp fu fp b s ⟨768 + c, by omega⟩
  · exact v3_at hu hp fu fp b ⟨s, by omega⟩ ⟨768 + c, by omega⟩
  · rw [v4_at]
  · exact lane_new fu b s ⟨768 + c, by omega⟩

/-- The pooled lanes, by group. -/
theorem v70_at (b : Fin 32) (s : Fin 4) (g : Fin 4) (c : Fin 256) :
    S V 86 (Proc.devRef .tc main_v70) (ix4 b s g c)
      = ((pooled (lane u p b (256 * g + c)) (2 ^ ((g : ℕ) + 1)) (15 + s) : ℝ) : EReal) := by
  rw [show S V 86 = after (ops 81 5) (S V 81) from S_add V 81 5]
  refine (read_v70 (S V 81) b s g c rfl rfl rfl rfl).trans ?_
  match g with
  | ⟨0, _⟩ =>
    show _ = ((pooled (lane u p b (256 * 0 + c)) (2 ^ (0 + 1)) (15 + s) : ℝ) : EReal)
    rw [show 256 * 0 + (c : ℕ) = c by omega, show 2 ^ (0 + 1) = 2 from rfl]
    exact (if_pos (show 0 < 1 by decide)).trans (v20_at hu hp fu fp b s c)
  | ⟨1, _⟩ =>
    show _ = ((pooled (lane u p b (256 * 1 + c)) (2 ^ (1 + 1)) (15 + s) : ℝ) : EReal)
    rw [show 256 * 1 + (c : ℕ) = 256 + (c : ℕ) by omega, show 2 ^ (1 + 1) = 4 from rfl]
    exact (if_neg (show ¬(1 < 1) by decide)).trans ((if_pos (show 1 - 1 < 1 by decide)).trans (v35_at hu hp fu fp b s c))
  | ⟨2, _⟩ =>
    show _ = ((pooled (lane u p b (256 * 2 + c)) (2 ^ (2 + 1)) (15 + s) : ℝ) : EReal)
    rw [show 256 * 2 + (c : ℕ) = 512 + (c : ℕ) by omega, show 2 ^ (2 + 1) = 8 from rfl]
    exact (if_neg (show ¬(2 < 1) by decide)).trans ((if_neg (show ¬(2 - 1 < 1) by decide)).trans ((if_pos (show 2 - 1 - 1 < 1 by decide)).trans (v50_at hu hp fu fp b s c)))
  | ⟨3, _⟩ =>
    show _ = ((pooled (lane u p b (256 * 3 + c)) (2 ^ (3 + 1)) (15 + s) : ℝ) : EReal)
    rw [show 256 * 3 + (c : ℕ) = 768 + (c : ℕ) by omega, show 2 ^ (3 + 1) = 16 from rfl]
    exact (if_neg (show ¬(3 < 1) by decide)).trans ((if_neg (show ¬(3 - 1 < 1) by decide)).trans ((if_neg (show ¬(3 - 1 - 1 < 1) by decide)).trans (v65_at hu hp fu fp b s c)))

include hw hs

/-- The result of the reference. -/
theorem result_eq : (after line.1 V (Proc.devRef .tc main_v77) : Su.Idx → EReal) = pooledAll u p W sc := by
  funext y
  obtain ⟨b, s, l, rfl⟩ : ∃ (b : Fin 32) (s : Fin 4) (l : Fin 1024), y = ix3 b s l := ⟨y 0, y 1, y 2, eq_ix3 y⟩
  rw [← S_all, show S V 93 = after (ops 86 7) (S V 86) from S_add V 86 7]
  have hg : (l : ℕ) / 256 < 4 := by omega
  have hj : (l : ℕ) % 256 < 256 := by omega
  refine (read_v77 (S V 86) b s ⟨l / 256, hg⟩ ⟨l % 256, hj⟩ ((keep_arg2_86 V).trans hw) ((keep_arg3_86 V).trans hs) rfl l
    (by simp only []; omega)).trans ?_
  show _ = pool u p W sc b s ((l : ℕ) / 256) ((l : ℕ) % 256)
  unfold PoolS.pool
  rw [show Fin.ofNat 4 ((l : ℕ) / 256) = ⟨l / 256, hg⟩ from Fin.ext (Nat.mod_eq_of_lt hg),
    show Fin.ofNat 256 ((l : ℕ) % 256) = ⟨l % 256, hj⟩ from Fin.ext (Nat.mod_eq_of_lt hj),
    show Fin.ofNat 1024 (256 * ((l : ℕ) / 256) + l % 256) = l from Fin.ext (by rw [Fin.val_ofNat]; omega)]
  refine congrArg (fun z : EReal => z * sc (ix1 l)) (Finset.sum_congr (M := EReal) rfl fun c _ => ?_)
  rw [mul_comm]
  exact congrArg (fun z : EReal => z * W (ix3 ⟨l / 256, hg⟩ c ⟨l % 256, hj⟩)) (v70_at hu hp fu fp b s ⟨l / 256, hg⟩ c)

end

end Cert.ReferencePoolSIdeal.Value

end

end
-- ==== Proof.PoolSRun.lean ====
module

public import proofs.«01_k».proof.Proof.PoolSRef
public import proofs.«01_k».proof.Proof.AttnRun
public import proofs.«01_k».proof.Proof.Gen.Pre_finite_u_prev
public import Idealize.ShloMosaic.Lib.KernelVsHost
public import Idealize.ShloMosaic.Lib.ReduceAll

/-!
The run of the reference of the sample batch's pooling, and what its precondition says of its inputs.
-/

@[expose] public section
set_option maxRecDepth 16384

noncomputable section

namespace Cert.ReferencePoolSIdeal.Value

open Idealize.ShloMosaic Idealize.ShloMosaic.TcCoe Idealize.SL.Sem Idealize.ShloMosaic.StableHlo Idealize.ShloMosaic.Pointwise
open Cert.Pool (Sw Ss)
open Cert.PoolS Cert.ReferencePoolSIdeal Cert.ReferencePoolSIdeal.Gen

theorem line_bufs : (line.1).Forall fun op => op.bufs ⊆ tcRefs τ sig := by
  simp [line]

theorem line_fresh : ∀ op ∈ line.1, op.fresh = ∅ := by
  unfold line
  intro _ h
  (repeat (cases h with | head => rfl | tail _ h => ?_))
  exact nomatch h

theorem keep_arg0 (V : Valuation τ sig (Elt Ideal)) : after line.1 V (Proc.devRef .tc main_arg0) = V (Proc.devRef .tc main_arg0) := by
  unfold line; after_reads_simp

theorem keep_arg1 (V : Valuation τ sig (Elt Ideal)) : after line.1 V (Proc.devRef .tc main_arg1) = V (Proc.devRef .tc main_arg1) := by
  unfold line; after_reads_simp

theorem keep_arg2 (V : Valuation τ sig (Elt Ideal)) : after line.1 V (Proc.devRef .tc main_arg2) = V (Proc.devRef .tc main_arg2) := by
  unfold line; after_reads_simp

theorem keep_arg3 (V : Valuation τ sig (Elt Ideal)) : after line.1 V (Proc.devRef .tc main_arg3) = V (Proc.devRef .tc main_arg3) := by
  unfold line; after_reads_simp

/-- The reference runs; its arguments are unchanged, and its result is what its operations compute. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v77) = after line.1 (launchContents m c) (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine θ_run_mono (run_hlo defs main (ops := line.1) line.2 (by decide) (by decide) line_bufs line_fresh m ρ) fun r hr c => ?_
  refine ⟨hr c _, ?_, ?_, ?_, ?_⟩
  · rw [hr c, keep_arg0]
  · rw [hr c, keep_arg1]
  · rw [hr c, keep_arg2]
  · rw [hr c, keep_arg3]

/-- The result of the reference on inputs that are real numbers. -/
theorem final (m : (ℓ : Loc nD τ sig) → Buf (Elt Ideal) ℓ) (c : Dev nD) {u : Su.Idx → EReal} {p : Sp.Idx → EReal}
    {W : Sw.Idx → EReal} {sc : Ss.Idx → EReal}
    (hu : m ((c.tc : Thread nD τ).loc main_arg0) = u) (hp : m ((c.tc : Thread nD τ).loc main_arg1) = p)
    (hw : m ((c.tc : Thread nD τ).loc main_arg2) = W) (hs : m ((c.tc : Thread nD τ).loc main_arg3) = sc)
    (fu : Finite u) (fp : Finite p) :
    (after line.1 (launchContents m c) (Proc.devRef .tc main_v77) : Su.Idx → EReal) = pooledAll u p W sc :=
  result_eq hu hp hw hs fu fp

end Cert.ReferencePoolSIdeal.Value

namespace Cert.PoolS

open Idealize.ShloMosaic

/-- The precondition says that the inputs are real numbers. -/
theorem finite_of_pre {u : Su.Idx → EReal} {p : Sp.Idx → EReal} {W : Pool.Sw.Idx → EReal} {sc : Pool.Ss.Idx → EReal}
    (h : Cert.Pre_finite_u_prev.fn (F := Ideal) u p W sc = fun _ => 1#1) : Finite u ∧ Finite p := by
  have h0 := congrFun h ix0
  haveI : Subsingleton Cert.Pre_finite_u_prev.S_.Idx := ⟨fun a b => funext fun i => i.elim0⟩
  obtain ⟨hu, hp⟩ := IntOp.andi_eq_one.1 h0
  exact ⟨fun i => Attn.coe_of_abs_lt (Host.reduce_andi_all _ _ _ _ _ hu i),
    fun i => Attn.coe_of_abs_lt (Host.reduce_andi_all _ _ _ _ _ hp i)⟩

end Cert.PoolS

end

end
-- ==== Proof.InSValue.lean ====
module
public import proofs.«01_k».proof.Proof.Gen.KernelInSIdeal.Frame
public import proofs.«01_k».proof.Proof.Gen.ReferenceInSIdeal
public import proofs.«01_k».proof.Proof.Norm
public import Idealize.ShloMosaic.Lib.Pipeline.ValueKit
public import Idealize.ShloMosaic.Lib.Pointwise
public import Idealize.ShloMosaic.Lib.StableHlo.RunRead
public import Idealize.ShloMosaic.Lib.StableHlo.ReadAt

/-!
The value of the input projection of the sample batch over the extended reals: the kernel's four result arrays are the
four column blocks of the normalised rows times the projection's weights.
-/

@[expose] public section
set_option maxRecDepth 16384

noncomputable section

open Idealize.ShloMosaic Idealize.ShloMosaic.TcCoe Idealize.SL.Sem
open Idealize.ShloMosaic.Pipeline (Dat)

namespace Cert.KernelInSIdeal.Value

open Cert.KernelInSIdeal Cert.KernelInSIdeal.Gen
open Cert.Norm (rmsS)

variable (m : (ℓ : Loc nD τ sig) → Buf (Elt Ideal) ℓ)

/-- The whole projection of the reference, before it is cut into four. -/
abbrev REFZ (h : FVec Ideal Cert.ReferenceInSIdeal.S128x2048 .f32) (g : FVec Ideal Cert.ReferenceInSIdeal.S2048 .f32)
    (w : FVec Ideal Cert.ReferenceInSIdeal.S2048x4096 .f32) : FVec Ideal Cert.ReferenceInSIdeal.S128x4096 .f32 :=
  Host.dotGeneral Cert.ReferenceInSIdeal.dot_S128x2048_S2048x4096_S128x4096_1_0_0_1_n_n none (rmsS h g) w

/-- The block every window stands at. -/
theorem idx_val : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0] :=
  (by decide +kernel : ∀ t : Fin grid0.N, _)

/-- The gain, whole at every point. -/
theorem block_gain (c : Dev nD) (t : Fin cfg0.N) (x : Fin 2048) :
    (iblk m c 1 t (ix2 0 x) : EReal) = m ((c : Thread nD τ).loc main_arg1) (ix1 x) := by
  have e : V m c main_v1 (ix2 0 x) = m ((c : Thread nD τ).loc main_arg1) (ix1 x) := by
    after_reads_at
  refine Eq.trans ?_ e
  blk_point [iblk, idx_val t]

/-- The queries: column block 0 of the reference's projection. -/
abbrev REF_3 (h : FVec Ideal Cert.ReferenceInSIdeal.S128x2048 .f32) (g : FVec Ideal Cert.ReferenceInSIdeal.S2048 .f32)
    (w : FVec Ideal Cert.ReferenceInSIdeal.S2048x4096 .f32) : FVec Ideal Cert.ReferenceInSIdeal.S128x1024 .f32 :=
  extractStridedSlice Cert.ReferenceInSIdeal.S128x1024 ![0, 0] (REFZ h g w)
    Cert.ReferenceInSIdeal.Gen.slices_S128x4096_S128x1024_0_0

/-- What one point stores in the queries is the reference's at the rows of that point. -/
theorem point_3 (c : Dev nD) (t : Fin cfg0.N) (y) :
    k0_pay2 (iblk m c 0 t) (iblk m c 1 t) (View.ld (iblk m c 2 t) r0_2) y
      = REF_3 (m ((c : Thread nD τ).loc main_arg0)) (m ((c : Thread nD τ).loc main_arg1))
          (m ((c : Thread nD τ).loc main_arg2)) (((cfg0.win 3).blk t).view.emb y) := by
  pointwise [k0_pay2, k0_pay1, REF_3, REFZ, rmsS]
  blk_point [iblk, V, idx_val t]
  exact block_gain m c t _

/-- The array of the queries after the run. -/
theorem final_3 (c : Dev nD) : (dats m 0 c).arrAt 3 (cfgs 0).N
    = REF_3 (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp; rw [after0_3]; frame_out
  exact point_3 m c t y

/-- The keys: column block 1 of the reference's projection. -/
abbrev REF_4 (h : FVec Ideal Cert.ReferenceInSIdeal.S128x2048 .f32) (g : FVec Ideal Cert.ReferenceInSIdeal.S2048 .f32)
    (w : FVec Ideal Cert.ReferenceInSIdeal.S2048x4096 .f32) : FVec Ideal Cert.ReferenceInSIdeal.S128x1024 .f32 :=
  extractStridedSlice Cert.ReferenceInSIdeal.S128x1024 ![0, 1024] (REFZ h g w)
    Cert.ReferenceInSIdeal.Gen.slices_S128x4096_S128x1024_0_1024

/-- What one point stores in the keys is the reference's at the rows of that point. -/
theorem point_4 (c : Dev nD) (t : Fin cfg0.N) (y) :
    k0_pay3 (iblk m c 0 t) (iblk m c 1 t) (View.ld (iblk m c 2 t) r0_4) y
      = REF_4 (m ((c : Thread nD τ).loc main_arg0)) (m ((c : Thread nD τ).loc main_arg1))
          (m ((c : Thread nD τ).loc main_arg2)) (((cfg0.win 4).blk t).view.emb y) := by
  pointwise [k0_pay3, k0_pay1, REF_4, REFZ, rmsS]
  blk_point [iblk, V, idx_val t]
  exact block_gain m c t _

/-- The array of the keys after the run. -/
theorem final_4 (c : Dev nD) : (dats m 0 c).arrAt 4 (cfgs 0).N
    = REF_4 (m ((c : Thread nD τ).loc main_arg0)) (m ((c : Thread nD τ).loc main_arg1))
        (m ((c : Thread nD τ).loc main_arg2)) := by
  refine (dats m 0 c).arrAt_eq_of_covers 4 _ (by decide +kernel) fun t hf y => ?_
  blk_simp; rw [after0_4]; frame_out
  exact point_4 m c t y

/-- The values: column block 2 of the reference's projection. -/
abbrev REF_5 (h : FVec Ideal Cert.ReferenceInSIdeal.S128x2048 .f32) (g : FVec Ideal Cert.ReferenceInSIdeal.S2048 .f32)
    (w : FVec Ideal Cert.ReferenceInSIdeal.S2048x4096 .f32) : FVec Ideal Cert.ReferenceInSIdeal.S128x1024 .f32 :=
  extractStridedSlice Cert.ReferenceInSIdeal.S128x1024 ![0, 2048] (REFZ h g w)
    Cert.ReferenceInSIdeal.Gen.slices_S128x4096_S128x1024_0_2048

/-- What one point stores in the values is the reference's at the rows of that point. -/
theorem point_5 (c : Dev nD) (t : Fin cfg0.N) (y) :
    k0_pay4 (iblk m c 0 t) (iblk m c 1 t) (View.ld (iblk m c 2 t) r0_5) y
      = REF_5 (m ((c : Thread nD τ).loc main_arg0)) (m ((c : Thread nD τ).loc main_arg1))
          (m ((c : Thread nD τ).loc main_arg2)) (((cfg0.win 5).blk t).view.emb y) := by
  pointwise [k0_pay4, k0_pay1, REF_5, REFZ, rmsS]
  blk_point [iblk, V, idx_val t]
  exact block_gain m c t _

/-- The array of the values after the run. -/
theorem final_5 (c : Dev nD) : (dats m 0 c).arrAt 5 (cfgs 0).N
    = REF_5 (m ((c : Thread nD τ).loc main_arg0)) (m ((c : Thread nD τ).loc main_arg1))
        (m ((c : Thread nD τ).loc main_arg2)) := by
  refine (dats m 0 c).arrAt_eq_of_covers 5 _ (by decide +kernel) fun t hf y => ?_
  blk_simp; rw [after0_5]; frame_out
  exact point_5 m c t y

/-- The mixing inputs: column block 3 of the reference's projection. -/
abbrev REF_6 (h : FVec Ideal Cert.ReferenceInSIdeal.S128x2048 .f32) (g : FVec Ideal Cert.ReferenceInSIdeal.S2048 .f32)
    (w : FVec Ideal Cert.ReferenceInSIdeal.S2048x4096 .f32) : FVec Ideal Cert.ReferenceInSIdeal.S128x1024 .f32 :=
  extractStridedSlice Cert.ReferenceInSIdeal.S128x1024 ![0, 3072] (REFZ h g w)
    Cert.ReferenceInSIdeal.Gen.slices_S128x4096_S128x1024_0_3072

/-- What one point stores in the mixing inputs is the reference's at the rows of that point. -/
theorem point_6 (c : Dev nD) (t : Fin cfg0.N) (y) :
    k0_pay5 (iblk m c 0 t) (iblk m c 1 t) (View.ld (iblk m c 2 t) r0_6) y
      = REF_6 (m ((c : Thread nD τ).loc main_arg0)) (m ((c : Thread nD τ).loc main_arg1))
          (m ((c : Thread nD τ).loc main_arg2)) (((cfg0.win 6).blk t).view.emb y) := by
  pointwise [k0_pay5, k0_pay1, REF_6, REFZ, rmsS]
  blk_point [iblk, V, idx_val t]
  exact block_gain m c t _

/-- The array of the mixing inputs after the run. -/
theorem final_6 (c : Dev nD) : (dats m 0 c).arrAt 6 (cfgs 0).N
    = REF_6 (m ((c : Thread nD τ).loc main_arg0)) (m ((c : Thread nD τ).loc main_arg1))
        (m ((c : Thread nD τ).loc main_arg2)) := by
  refine (dats m 0 c).arrAt_eq_of_covers 6 _ (by decide +kernel) fun t hf y => ?_
  blk_simp; rw [after0_6]; frame_out
  exact point_6 m c t y

/-- The pooling state the projection leaves: the last fifteen rows of every sequence's kept mixing inputs `p` and
its new ones. -/
theorem final_state (c : Dev nD) {p : FVec Ideal Cert.ReferenceInSIdeal.S32x15x1024 .f32}
    (hp : p = m ((c : Thread nD τ).loc main_arg3)) :
    (Pipeline.afterTail₀ cfgs (dats m) 0 (V0 m) [hostOps1] c main_v5 : FVec Ideal S32x15x1024 .f32)
      = extractStridedSlice Cert.ReferenceInSIdeal.S32x15x1024 ![0, 4, 0]
          (concatenate Cert.ReferenceInSIdeal.S32x19x1024 1
            [⟨Cert.ReferenceInSIdeal.S32x15x1024, p⟩,
             ⟨Cert.ReferenceInSIdeal.S32x4x1024, shapeCast Cert.ReferenceInSIdeal.S32x4x1024
              (REF_6 (m ((c : Thread nD τ).loc main_arg0)) (m ((c : Thread nD τ).loc main_arg1))
                (m ((c : Thread nD τ).loc main_arg2)))
              Cert.ReferenceInSIdeal.Gen.shapeCasts_S128x1024_S32x4x1024⟩]
            Cert.ReferenceInSIdeal.Gen.concatenates_S32x15x1024_S32x4x1024_S32x19x1024_d1)
          Cert.ReferenceInSIdeal.Gen.slices_S32x19x1024_S32x15x1024_0_4_0 := by
  have e : Pipeline.withArrays (cfgs 0).spec c (V0 m c) (fun w => (dats m 0 c).arrAt w (cfgs 0).N) (Proc.devRef .tc main_v2_3)
      = REF_6 (m ((c : Thread nD τ).loc main_arg0)) (m ((c : Thread nD τ).loc main_arg1))
          (m ((c : Thread nD τ).loc main_arg2)) :=
    (Pipeline.withArrays_arr (cfgs 0).spec (by decide +kernel) c (V0 m c) _ 6).trans (final_6 m c)
  have e3 : Pipeline.withArrays (cfgs 0).spec c (V0 m c) (fun w => (dats m 0 c).arrAt w (cfgs 0).N) (Proc.devRef .tc main_arg3)
      = p :=
    (Pipeline.withArrays_of_ne _ c (V0 m c) _ main_arg3
      (by exact (by decide : ∀ w, Pipeline.arrRef spec0 w ≠ main_arg3))).trans ((V_main_arg3 m c).trans hp.symm)
  unfold Pipeline.afterTail₀
  obtain ⟨X, hX⟩ : ∃ X, X = Pipeline.withArrays (cfgs 0).spec c (V0 m c) fun w => (dats m 0 c).arrAt w (cfgs 0).N := ⟨_, rfl⟩
  rw [← hX] at e e3 ⊢
  have a : (StableHlo.upto [hostOps1].flatten X 1 (Proc.devRef .tc main_arg3) : FVec Ideal S32x15x1024 .f32)
      = X (Proc.devRef .tc main_arg3) := by
    after_reads_simp
  have b : (StableHlo.upto [hostOps1].flatten X 1 (Proc.devRef .tc main_v3) : FVec Ideal S32x4x1024 .f32)
      = shapeCast S32x4x1024 (X (Proc.devRef .tc main_v2_3)) shapeCasts_S128x1024_S32x4x1024 := by
    after_reads_simp
    rfl
  have t : (StableHlo.after [hostOps1].flatten X (Proc.devRef .tc main_v5) : FVec Ideal S32x15x1024 .f32)
      = extractStridedSlice S32x15x1024 ![0, 4, 0]
          (concatenate S32x19x1024 1
            [⟨S32x15x1024, (StableHlo.upto [hostOps1].flatten X 1 (Proc.devRef .tc main_arg3) : FVec Ideal S32x15x1024 .f32)⟩,
             ⟨S32x4x1024, (StableHlo.upto [hostOps1].flatten X 1 (Proc.devRef .tc main_v3) : FVec Ideal S32x4x1024 .f32)⟩]
            concatenates_S32x15x1024_S32x4x1024_S32x19x1024_d1)
          slices_S32x19x1024_S32x15x1024_0_4_0 := by
    after_reads_simp
  refine t.trans (congrArg₂ (fun (p : FVec Ideal S32x15x1024 .f32) (u : FVec Ideal S32x4x1024 .f32) =>
    extractStridedSlice S32x15x1024 ![0, 4, 0]
      (concatenate S32x19x1024 1 [⟨S32x15x1024, p⟩, ⟨S32x4x1024, u⟩]
        concatenates_S32x15x1024_S32x4x1024_S32x19x1024_d1)
      slices_S32x19x1024_S32x15x1024_0_4_0) (a.trans e3) (b.trans ?_))
  rw [e]

end Cert.KernelInSIdeal.Value

end

end
-- ==== Proof.PleSValue.lean ====
module
public import proofs.«01_k».proof.Proof.Gen.KernelPleSIdeal.Frame
public import proofs.«01_k».proof.Proof.Gen.ReferencePleSIdeal
public import proofs.«01_k».proof.Proof.Norm
public import Idealize.ShloMosaic.Lib.Pipeline.ValueKit
public import Idealize.ShloMosaic.Lib.Pointwise

/-!
The value of the per-layer embedding of the sample batch over the extended reals: the kernel's result array is the
residual stream plus the gated embedding, normalised.
-/

@[expose] public section
set_option maxRecDepth 16384

noncomputable section

open Idealize.ShloMosaic Idealize.ShloMosaic.TcCoe Idealize.SL.Sem
open Idealize.ShloMosaic.Pipeline (Dat)

namespace Cert.KernelPleSIdeal.Value

open Cert.KernelPleSIdeal Cert.KernelPleSIdeal.Gen
open Cert.Norm (rmsS)

variable (m : (ℓ : Loc nD τ sig) → Buf (Elt Ideal) ℓ)

/-- The residual stream plus the layer's embedding, each entry weighted by its gate. -/
abbrev REFH (h : FVec Ideal Cert.ReferencePleSIdeal.S128x2048 .f32)
    (p : FVec Ideal Cert.ReferencePleSIdeal.S2x128x256 .f32) (g : FVec Ideal Cert.ReferencePleSIdeal.S2048 .f32)
    (wg : FVec Ideal Cert.ReferencePleSIdeal.S2048x2048 .f32) (b : FVec Ideal Cert.ReferencePleSIdeal.S2048 .f32)
    (we : FVec Ideal Cert.ReferencePleSIdeal.S256x2048 .f32) : FVec Ideal Cert.ReferencePleSIdeal.S128x2048 .f32 :=
  addf h (mulf
    (Host.dotGeneral Cert.ReferencePleSIdeal.dot_S128x256_S256x2048_S128x2048_1_0_0_1_n_n none
      (shapeCast Cert.ReferencePleSIdeal.S128x256
        (extractStridedSlice Cert.ReferencePleSIdeal.S1x128x256 ![1, 0, 0] p
          Cert.ReferencePleSIdeal.Gen.slices_S2x128x256_S1x128x256_1_0_0)
        Cert.ReferencePleSIdeal.Gen.shapeCasts_S1x128x256_S128x256) we)
    (Host.divf
      (broadcastInDim Cert.ReferencePleSIdeal.S128x2048 ![] Cert.ReferencePleSIdeal.Gen.bcast_S_S128x2048
        (constant Cert.ReferencePleSIdeal.S_ .f32 0x3F800000#32))
      (addf (broadcastInDim Cert.ReferencePleSIdeal.S128x2048 ![] Cert.ReferencePleSIdeal.Gen.bcast_S_S128x2048
          (constant Cert.ReferencePleSIdeal.S_ .f32 0x3F800000#32))
        (Host.exp (Host.negf (addf
          (Host.dotGeneral Cert.ReferencePleSIdeal.dot_S128x2048_S2048x2048_S128x2048_1_0_0_1_n_n none (rmsS h g) wg)
          (broadcastInDim Cert.ReferencePleSIdeal.S128x2048 ![0, 1]
            Cert.ReferencePleSIdeal.Gen.bcast_S1x2048_S128x2048_0_1
            (broadcastInDim Cert.ReferencePleSIdeal.S1x2048 ![1] Cert.ReferencePleSIdeal.Gen.bcast_S2048_S1x2048_1 b))))))))

/-- The reference's result as a term over the call's own arguments. -/
abbrev REF (h : FVec Ideal Cert.ReferencePleSIdeal.S128x2048 .f32)
    (p : FVec Ideal Cert.ReferencePleSIdeal.S2x128x256 .f32) (g : FVec Ideal Cert.ReferencePleSIdeal.S2048 .f32)
    (wg : FVec Ideal Cert.ReferencePleSIdeal.S2048x2048 .f32) (b : FVec Ideal Cert.ReferencePleSIdeal.S2048 .f32)
    (we : FVec Ideal Cert.ReferencePleSIdeal.S256x2048 .f32) (gf : FVec Ideal Cert.ReferencePleSIdeal.S2048 .f32) :
    FVec Ideal Cert.ReferencePleSIdeal.S128x2048 .f32 :=
  rmsS (REFH h p g wg b we) gf

/-- The block every window stands at. -/
theorem idx_val : ∀ t : Fin cfg0.N, win0_0.index t = ![0, 0]
    ∧ win0_1.index t = ![1, 0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0] :=
  (by decide +kernel : ∀ t : Fin grid0.N, _)

/-- What one point stores is the reference's result at the rows of that point. -/
theorem point (c : Dev nD) (t : Fin cfg0.N) (y) :
    k0_pay1 (k0_pay2 (iblk m c 0 t) (iblk m c 2 t) (iblk m c 3 t) (iblk m c 4 t) (iblk m c 1 t) (iblk m c 5 t))
        (k0_pay3 (iblk m c 6 t))
        (k0_pay4 (iblk m c 0 t) (iblk m c 2 t) (iblk m c 3 t) (iblk m c 4 t) (iblk m c 1 t) (iblk m c 5 t))
        (Scalar.ofBits .f32 0x45000000#32) y
      = REF (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (((cfg0.win 7).blk t).view.emb y) := by
  pointwise [k0_pay1, k0_pay2, k0_pay3, k0_pay4, REF, REFH, rmsS]
  simp only [Ideal.logistic]
  blk_point [iblk, V, idx_val t]

/-- The kernel's result array after the run is the reference's result. -/
theorem final (c : Dev nD) : (dats m 0 c).arrAt 7 (cfgs 0).N
    = REF (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) := by
  refine (dats m 0 c).arrAt_eq_of_covers 7 _ (by decide +kernel) fun t hf y => ?_
  blk_simp; rw [after0_7]; frame_out
  exact point m c t y

end Cert.KernelPleSIdeal.Value

end

end
-- ==== Proof.lean ====
/-
  The proof of `Cert.Claim`: for every call its kernel's frames (of the printed program and of the one read over the
  extended reals), its reference's frame, and the equality of the two results. The values are proved in the modules
  under Proof/, one per call.
-/
module
public import proofs.«01_k».proof.Defs
public import proofs.«01_k».proof.Proof.Gen.KernelMlp.Frame
public import proofs.«01_k».proof.Proof.MlpValue
public import proofs.«01_k».proof.Proof.Gen.KernelIn.Frame
public import proofs.«01_k».proof.Proof.InValue
public import proofs.«01_k».proof.Proof.Gen.KernelOut.Frame
public import proofs.«01_k».proof.Proof.OutValue
public import proofs.«01_k».proof.Proof.Gen.KernelPle.Frame
public import proofs.«01_k».proof.Proof.PleValue
public import proofs.«01_k».proof.Proof.Gen.KernelAttn.Frame
public import proofs.«01_k».proof.Proof.AttnValue
public import proofs.«01_k».proof.Proof.AttnRun
public import proofs.«01_k».proof.Proof.Gen.KernelPool.Frame
public import proofs.«01_k».proof.Proof.PoolValue
public import proofs.«01_k».proof.Proof.PoolRun
public import proofs.«01_k».proof.Proof.Gen.KernelPoolS.Frame
public import proofs.«01_k».proof.Proof.PoolSValue
public import proofs.«01_k».proof.Proof.PoolSRun
public import proofs.«01_k».proof.Proof.Gen.KernelInS.Frame
public import proofs.«01_k».proof.Proof.InSValue
public import proofs.«01_k».proof.Proof.Gen.KernelPleS.Frame
public import proofs.«01_k».proof.Proof.PleSValue
public import Idealize.ShloMosaic.Adequacy
public import Idealize.ShloMosaic.Init

@[expose] public section

noncomputable section

namespace Cert.Proof

open Idealize.ShloMosaic Idealize.SL.Sem

/-- The reference of the feed-forward layer ends with its arguments unchanged and every semaphore at zero. -/
theorem frame_ReferenceMlpIdeal : Cert.quiescent_ReferenceMlpIdeal := by
  intro m ρ _
  hlo_run
  · simp
  · exact sem_eq_zero_of_no_sems (by decide) _

/-- The feed-forward layer: over the extended reals the kernel's result is the reference's. -/
theorem algebraic_Mlp : Cert.algebraic_KernelMlpIdeal_ReferenceMlpIdeal := by
  pair_intro
  · run_from Cert.KernelMlpIdeal.Gen.run_main m g
  · hlo_run
    exact (Cert.KernelMlpIdeal.Value.final m c).symm

/-- The reference of the input projection ends with its arguments unchanged and every semaphore at zero. -/
theorem frame_ReferenceInIdeal : Cert.quiescent_ReferenceInIdeal := by
  intro m ρ _
  hlo_run
  · simp
  · exact sem_eq_zero_of_no_sems (by decide) _

/-- The input projection of the prompt: over the extended reals the kernel's results are the reference's. -/
theorem algebraic_In : Cert.algebraic_KernelInIdeal_ReferenceInIdeal := by
  pair_intro
  · run_from Cert.KernelInIdeal.Gen.run_main m g
    · exact Cert.KernelInIdeal.Gen.W_main_arg1 m _ c
    · exact Cert.KernelInIdeal.Gen.W_main_arg2 m _ c
  · hlo_run
    · exact (Cert.KernelInIdeal.Value.final_3 m c).symm
    · exact (Cert.KernelInIdeal.Value.final_4 m c).symm
    · exact (Cert.KernelInIdeal.Value.final_5 m c).symm
    · exact (Cert.KernelInIdeal.Value.final_6 m c).symm
    · exact (Cert.KernelInIdeal.Value.final_state m c).symm

/-- The reference of the output projection ends with its arguments unchanged and every semaphore at zero. -/
theorem frame_ReferenceOutIdeal : Cert.quiescent_ReferenceOutIdeal := by
  intro m ρ _
  hlo_run
  · simp
  · exact sem_eq_zero_of_no_sems (by decide) _

/-- The output projection: over the extended reals the kernel's result is the reference's. -/
theorem algebraic_Out : Cert.algebraic_KernelOutIdeal_ReferenceOutIdeal := by
  pair_intro
  · run_from Cert.KernelOutIdeal.Gen.run_main m g
  · hlo_run
    exact (Cert.KernelOutIdeal.Value.final m c).symm

/-- The reference of the per-layer embedding ends with its arguments unchanged and every semaphore at zero. -/
theorem frame_ReferencePleIdeal : Cert.quiescent_ReferencePleIdeal := by
  intro m ρ _
  hlo_run
  · simp
  · exact sem_eq_zero_of_no_sems (by decide) _

/-- The per-layer embedding: over the extended reals the kernel's result is the reference's. -/
theorem algebraic_Ple : Cert.algebraic_KernelPleIdeal_ReferencePleIdeal := by
  pair_intro
  · run_from Cert.KernelPleIdeal.Gen.run_main m g
  · hlo_run
    exact (Cert.KernelPleIdeal.Value.final m c).symm

/-- The reference of the prompt attention ends with its arguments unchanged and every semaphore at zero. -/
theorem frame_ReferenceAttnIdeal : Cert.quiescent_ReferenceAttnIdeal := by
  intro m ρ _
  refine θ_run_mono (Cert.ReferenceAttnIdeal.Value.run m ρ) fun r hr => ⟨fun c => (hr c).2, ?_⟩
  exact sem_eq_zero_of_no_sems (by decide) _

/-- The constant of the kernel's powers of two is the named one rounded. -/
theorem preserves_Attn : Cert.preserves_KernelAttn_KernelAttnIdeal :=
  IdealRules.named_const.statement Cert.KernelAttnIdeal.κ "exp2_scale" .f32 0x3E0293EE#32 _ rfl

/-- The prompt attention: over the extended reals, on finite queries and keys, the kernel's result is the reference's. -/
theorem algebraic_Attn : Cert.algebraic_KernelAttnIdeal_ReferenceAttnIdeal_pre_finite_qk := by
  pair_intro
  · run_from Cert.KernelAttnIdeal.Gen.run_main m g
  · refine θ_run_mono (Cert.ReferenceAttnIdeal.Value.run m' g') fun r hr c => ⟨(hr c).1.trans ?_, (hr c).2⟩
    obtain ⟨fq, fk⟩ := Cert.Attn.finite_of_pre (hpre c)
    exact (Cert.ReferenceAttnIdeal.Value.final m' c (hagree c).1 (hagree c).2.1 (hagree c).2.2 fq fk).trans
      (Cert.KernelAttnIdeal.Value.final m c fq fk).symm

/-- The reference of the prompt pooling ends with its arguments unchanged and every semaphore at zero. -/
theorem frame_ReferencePoolIdeal : Cert.quiescent_ReferencePoolIdeal := by
  intro m ρ _
  refine θ_run_mono (Cert.ReferencePoolIdeal.Value.run m ρ) fun r hr => ⟨fun c => (hr c).2, ?_⟩
  exact sem_eq_zero_of_no_sems (by decide) _

/-- The prompt pooling: over the extended reals, on finite inputs, the kernel's result is the reference's. -/
theorem algebraic_Pool : Cert.algebraic_KernelPoolIdeal_ReferencePoolIdeal_pre_finite_u := by
  pair_intro
  · run_from Cert.KernelPoolIdeal.Gen.run_main m g
  · refine θ_run_mono (Cert.ReferencePoolIdeal.Value.run m' g') fun r hr c => ⟨(hr c).1.trans ?_, (hr c).2⟩
    have fu := Cert.Pool.finite_of_pre (hpre c)
    exact (Cert.ReferencePoolIdeal.Value.final m' c (hagree c).1 (hagree c).2.1 (hagree c).2.2 fu).trans
      (Cert.KernelPoolIdeal.Value.final m c rfl fu rfl rfl).symm

/-- The reference of the sample batch's pooling ends with its arguments unchanged and every semaphore at zero. -/
theorem frame_ReferencePoolSIdeal : Cert.quiescent_ReferencePoolSIdeal := by
  intro m ρ _
  refine θ_run_mono (Cert.ReferencePoolSIdeal.Value.run m ρ) fun r hr => ⟨fun c => (hr c).2, ?_⟩
  exact sem_eq_zero_of_no_sems (by decide) _

/-- The sample batch's pooling: over the extended reals, on finite inputs, the kernel's result is the reference's. -/
theorem algebraic_PoolS : Cert.algebraic_KernelPoolSIdeal_ReferencePoolSIdeal_pre_finite_u_prev := by
  pair_intro
  · run_from Cert.KernelPoolSIdeal.Gen.run_main m g
    · exact Cert.KernelPoolSIdeal.Gen.W_main_arg0 m _ c
    · exact Cert.KernelPoolSIdeal.Gen.W_main_arg1 m _ c
    · exact Cert.KernelPoolSIdeal.Gen.W_main_arg2 m _ c
    · exact Cert.KernelPoolSIdeal.Gen.W_main_arg3 m _ c
  · refine θ_run_mono (Cert.ReferencePoolSIdeal.Value.run m' g') fun r hr c => ⟨(hr c).1.trans ?_, (hr c).2⟩
    obtain ⟨fu, fp⟩ := Cert.PoolS.finite_of_pre (hpre c)
    exact (Cert.ReferencePoolSIdeal.Value.final m' c (hagree c).1 (hagree c).2.1 (hagree c).2.2.1 (hagree c).2.2.2 fu fp).trans
      (Cert.KernelPoolSIdeal.Value.final m c rfl rfl rfl rfl fu fp).symm

/-- The reference of the sample batch's projection ends with its arguments unchanged and every semaphore at zero. -/
theorem frame_ReferenceInSIdeal : Cert.quiescent_ReferenceInSIdeal := by
  intro m ρ _
  hlo_run
  · simp
  · exact sem_eq_zero_of_no_sems (by decide) _

/-- The input projection of the sample batch: over the extended reals the kernel's results are the reference's. -/
theorem algebraic_InS : Cert.algebraic_KernelInSIdeal_ReferenceInSIdeal := by
  pair_intro
  · run_from Cert.KernelInSIdeal.Gen.run_main m g
    · exact Cert.KernelInSIdeal.Gen.W_main_arg1 m _ c
    · exact Cert.KernelInSIdeal.Gen.W_main_arg2 m _ c
    · exact Cert.KernelInSIdeal.Gen.W_main_arg3 m _ c
  · hlo_run
    · exact (Cert.KernelInSIdeal.Value.final_3 m c).symm
    · exact (Cert.KernelInSIdeal.Value.final_4 m c).symm
    · exact (Cert.KernelInSIdeal.Value.final_5 m c).symm
    · exact (Cert.KernelInSIdeal.Value.final_6 m c).symm
    · exact (Cert.KernelInSIdeal.Value.final_state m c (hagree c).2.2.2).symm

/-- The reference of the sample batch's embedding ends with its arguments unchanged and every semaphore at zero. -/
theorem frame_ReferencePleSIdeal : Cert.quiescent_ReferencePleSIdeal := by
  intro m ρ _
  hlo_run
  · simp
  · exact sem_eq_zero_of_no_sems (by decide) _

/-- The per-layer embedding of the sample batch: over the extended reals the kernel's result is the reference's. -/
theorem algebraic_PleS : Cert.algebraic_KernelPleSIdeal_ReferencePleSIdeal := by
  pair_intro
  · run_from Cert.KernelPleSIdeal.Gen.run_main m g
  · hlo_run
    exact (Cert.KernelPleSIdeal.Value.final m c).symm

/-- Every claim of the certificate. -/
theorem claim : Cert.Claim :=
  ⟨Cert.KernelMlp.Gen.facts, Cert.KernelMlpIdeal.Gen.facts, Cert.ReferenceMlpIdeal.Gen.facts,
   Cert.KernelIn.Gen.facts, Cert.KernelInIdeal.Gen.facts, Cert.ReferenceInIdeal.Gen.facts,
   Cert.KernelOut.Gen.facts, Cert.KernelOutIdeal.Gen.facts, Cert.ReferenceOutIdeal.Gen.facts,
   Cert.KernelPle.Gen.facts, Cert.KernelPleIdeal.Gen.facts, Cert.ReferencePleIdeal.Gen.facts,
   Cert.KernelAttn.Gen.facts, Cert.KernelAttnIdeal.Gen.facts, Cert.ReferenceAttnIdeal.Gen.facts,
   Cert.KernelPool.Gen.facts, Cert.KernelPoolIdeal.Gen.facts, Cert.ReferencePoolIdeal.Gen.facts,
   Cert.KernelPoolS.Gen.facts, Cert.KernelPoolSIdeal.Gen.facts, Cert.ReferencePoolSIdeal.Gen.facts,
   Cert.KernelInS.Gen.facts, Cert.KernelInSIdeal.Gen.facts, Cert.ReferenceInSIdeal.Gen.facts,
   Cert.KernelPleS.Gen.facts, Cert.KernelPleSIdeal.Gen.facts, Cert.ReferencePleSIdeal.Gen.facts,
   Cert.Pre_finite_qk.Gen.facts, Cert.Pre_finite_u.Gen.facts, Cert.Pre_finite_u_prev.Gen.facts,
   fun m ρ _ => Cert.KernelMlp.Gen.frame m ρ, fun m ρ _ => Cert.KernelMlpIdeal.Gen.frame m ρ, frame_ReferenceMlpIdeal,
   fun m ρ _ => Cert.KernelIn.Gen.frame m ρ, fun m ρ _ => Cert.KernelInIdeal.Gen.frame m ρ, frame_ReferenceInIdeal,
   fun m ρ _ => Cert.KernelOut.Gen.frame m ρ, fun m ρ _ => Cert.KernelOutIdeal.Gen.frame m ρ, frame_ReferenceOutIdeal,
   fun m ρ _ => Cert.KernelPle.Gen.frame m ρ, fun m ρ _ => Cert.KernelPleIdeal.Gen.frame m ρ, frame_ReferencePleIdeal,
   fun m ρ _ => Cert.KernelAttn.Gen.frame m ρ, fun m ρ _ => Cert.KernelAttnIdeal.Gen.frame m ρ,
   fun m ρ _ => Cert.KernelAttnIdeal.Gen.frame m ρ, frame_ReferenceAttnIdeal, fun m ρ _ => frame_ReferenceAttnIdeal m ρ trivial,
   fun m ρ _ => Cert.KernelPool.Gen.frame m ρ, fun m ρ _ => Cert.KernelPoolIdeal.Gen.frame m ρ,
   fun m ρ _ => Cert.KernelPoolIdeal.Gen.frame m ρ, frame_ReferencePoolIdeal, fun m ρ _ => frame_ReferencePoolIdeal m ρ trivial,
   fun m ρ _ => Cert.KernelPoolS.Gen.frame m ρ, fun m ρ _ => Cert.KernelPoolSIdeal.Gen.frame m ρ,
   fun m ρ _ => Cert.KernelPoolSIdeal.Gen.frame m ρ, frame_ReferencePoolSIdeal, fun m ρ _ => frame_ReferencePoolSIdeal m ρ trivial,
   fun m ρ _ => Cert.KernelInS.Gen.frame m ρ, fun m ρ _ => Cert.KernelInSIdeal.Gen.frame m ρ, frame_ReferenceInSIdeal,
   fun m ρ _ => Cert.KernelPleS.Gen.frame m ρ, fun m ρ _ => Cert.KernelPleSIdeal.Gen.frame m ρ, frame_ReferencePleSIdeal,
   trivial, algebraic_Mlp,
   trivial, algebraic_In,
   trivial, algebraic_Out,
   trivial, algebraic_Ple,
   preserves_Attn, algebraic_Attn,
   trivial, algebraic_Pool,
   trivial, algebraic_PoolS,
   trivial, algebraic_InS,
   trivial, algebraic_PleS⟩

end Cert.Proof

end

end
